-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 1024, 128, 128]⟩ 2 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 1024, 128, 128]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v40) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x16384 : Shape := ⟨2, ![1024, 16384]⟩
abbrev S1x1024x8x128 : Shape := ⟨4, ![1, 1024, 8, 128]⟩
abbrev S16384x1024 : Shape := ⟨2, ![16384, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S1x1024x8x128 : S_.BroadcastsInDim S1x1024x8x128 (![] : Fin 0 → Fin S1x1024x8x128.rank)
  reducesTo_S1x1024x8x128_S_d0_1_2_3 : S1x1024x8x128.ReducesTo [0, 1, 2, 3] S_

variable [Facts]

def fn {F : FTy → Type} [FloatOps F] (main_arg0 : FVec F S1x1024x1024 .f32) (main_arg1 : FVec F S1024x16384 .f32) (main_arg2 : FVec F S1x1024x8x128 .f32) (main_arg3 : FVec F S1x1024x8x128 .f32) (main_arg4 : FVec F S16384x1024 .f32) : IVec S_ 1 × IVec S_ 1 × IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : FVec F S1x1024x8x128 .f32 := Host.absf main_arg2
  let main_cst_2 : FVec F S_ .f32 := constant S_ .f32 0x7F800000#32
  let main_v9 : FVec F S1x1024x8x128 .f32 := broadcastInDim S1x1024x8x128 ![] bcast_S_S1x1024x8x128 main_cst_2
  let main_v10 : IVec S1x1024x8x128 1 := cmpf .olt main_v8 main_v9
  let main_c_3 : IVec S_ 1 := constantI S_ 1 1#1
  let main_v11 : IVec S_ 1 := (fun x v => Host.reduce IntOp.andi x v reducesTo_S1x1024x8x128_S_d0_1_2_3 h_S_) main_v10 main_c_3
  (main_v3, main_v7, main_v11)
-- ==== Pre_finite_ReferenceIdeal.lean ====
abbrev S1x1024x1024 : Shape := ⟨3, ![1, 1024, 1024]⟩
abbrev S1024x16384 : Shape := ⟨2, ![1024, 16384]⟩
abbrev S1x1024x128x128 : Shape := ⟨4, ![1, 1024, 128, 128]⟩
abbrev S16384x1024 : Shape := ⟨2, ![16384, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S1x1024x128x128 : S_.BroadcastsInDim S1x1024x128x128 (![] : Fin 0 → Fin S1x1024x128x128.rank)
  reducesTo_S1x1024x128x128_S_d0_1_2_3 : S1x1024x128x128.ReducesTo [0, 1, 2, 3] S_

variable [Facts]

def fn {F : FTy → Type} [FloatOps F] (main_arg0 : FVec F S1x1024x1024 .f32) (main_arg1 : FVec F S1024x16384 .f32) (main_arg2 : FVec F S1x1024x128x128 .f32) (main_arg3 : FVec F S1x1024x128x128 .f32) (main_arg4 : FVec F S16384x1024 .f32) : IVec S_ 1 × IVec S_ 1 × IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : FVec F S1x1024x128x128 .f32 := Host.absf main_arg2
  let main_cst_2 : FVec F S_ .f32 := constant S_ .f32 0x7F800000#32
  let main_v9 : FVec F S1x1024x128x128 .f32 := broadcastInDim S1x1024x128x128 ![] bcast_S_S1x1024x128x128 main_cst_2
  let main_v10 : IVec S1x1024x128x128 1 := cmpf .olt main_v8 main_v9
  let main_c_3 : IVec S_ 1 := constantI S_ 1 1#1
  let main_v11 : IVec S_ 1 := (fun x v => Host.reduce IntOp.andi x v reducesTo_S1x1024x128x128_S_d0_1_2_3 h_S_) main_v10 main_c_3
  (main_v3, main_v7, main_v11)
-- ==== Kernel.lean ====
abbrev S1x1024x1024 : Shape := ⟨3, ![1, 1024, 1024]⟩
abbrev S1024x16384 : Shape := ⟨2, ![1024, 16384]⟩
abbrev S1x1024x8x128 : Shape := ⟨4, ![1, 1024, 8, 128]⟩
abbrev S16384x1024 : Shape := ⟨2, ![16384, 1024]⟩
abbrev S1024x1024 : Shape := ⟨2, ![1024, 1024]⟩
abbrev S1024x8x128 : Shape := ⟨3, ![1024, 8, 128]⟩
abbrev S16x64x1024 : Shape := ⟨3, ![16, 64, 1024]⟩
abbrev S64x1024 : Shape := ⟨2, ![64, 1024]⟩
abbrev S2 : Shape := ⟨1, ![2]⟩
abbrev S16 : Shape := ⟨1, ![16]⟩
abbrev S15 : Shape := ⟨1, ![15]⟩
abbrev S1 : Shape := ⟨1, ![1]⟩
abbrev S_ : Shape := ⟨0, ![]⟩
abbrev S1x64x1024 : Shape := ⟨3, ![1, 64, 1024]⟩
abbrev S1x64x8x128 : Shape := ⟨4, ![1, 64, 8, 128]⟩
abbrev S64x8x128 : Shape := ⟨3, ![64, 8, 128]⟩
abbrev S256x128 : Shape := ⟨2, ![256, 128]⟩
abbrev S256x1x128 : Shape := ⟨3, ![256, 1, 128]⟩
abbrev S256x256 : Shape := ⟨2, ![256, 256]⟩
abbrev S256 : Shape := ⟨1, ![256]⟩
abbrev S256x1 : Shape := ⟨2, ![256, 1]⟩

abbrev nBuf : Space → Nat
  | .hbm => 6
  | .vmem => 15
  | .smem => 0
  | _ => 0

abbrev bufTy : (tb : Table) → Fin (tcTables nBuf tb) → BufTy
  | .hbm, ⟨0, _⟩ => ⟨S1x1024x1024, .f32⟩
  | .hbm, ⟨1, _⟩ => ⟨S1024x16384, .f32⟩
  | .hbm, ⟨2, _⟩ => ⟨S1x1024x8x128, .f32⟩
  | .hbm, ⟨3, _⟩ => ⟨S1x1024x8x128, .f32⟩
  | .hbm, ⟨4, _⟩ => ⟨S16384x1024, .f32⟩
  | .hbm, ⟨5, _⟩ => ⟨S1x1024x1024, .bf16⟩
  | .local _ .vmem, ⟨0, _⟩ => ⟨S1x1024x1024, .f32⟩
  | .local _ .vmem, ⟨1, _⟩ => ⟨S1x1024x8x128, .f32⟩
  | .local _ .vmem, ⟨2, _⟩ => ⟨S1x1024x8x128, .f32⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x8x128, .bf16⟩
  | .local _ .vmem, ⟨8, _⟩ => ⟨S1024x8x128, .bf16⟩
  | .local _ .vmem, ⟨9, _⟩ => ⟨S1024x1024, .bf16⟩
  | .local _ .vmem, ⟨10, _⟩ => ⟨S1024x1024, .bf16⟩
  | .local _ .vmem, ⟨11, _⟩ => ⟨S16x64x1024, .bf16⟩
  | .local _ .vmem, ⟨12, _⟩ => ⟨S64x1024, .bf16⟩
  | .local _ .vmem, ⟨13, _⟩ => ⟨S16x64x1024, .bf16⟩
  | .local _ .vmem, ⟨14, _⟩ => ⟨S16x64x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let c0_i32_1 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1024_i32 : BitVec 32 := 1024#32
  let v3 : BitVec 32 := Scalar.muli v2 c1024_i32
  ![0, v3.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1024_i32_0 : BitVec 32 := 1024#32
  let v4 : BitVec 32 := Scalar.muli v2 c1024_i32_0
  let c0_i32_3 : BitVec 32 := 0#32
  ![v4.toNat, 0]
def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4 : BitVec 32 := 1#32
  let v12 : BitVec 32 := Scalar.addi v2 c1_i32_4
  let c16_i32_5 : BitVec 32 := 16#32
  let v13 : BitVec 32 := Scalar.remsi v12 c16_i32_5
  let c1_i32_7 : BitVec 32 := 1#32
  let v14 : BitVec 32 := Scalar.muli v13 c1_i32_7
  let v15 : BitVec 32 := Scalar.addi c0_i32_8 v14
  v15.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v16 : BitVec 32 := Scalar.addi v2 c2_i32
  let c16_i32_9 : BitVec 32 := 16#32
  let v17 : BitVec 32 := Scalar.remsi v16 c16_i32_9
  let c1_i32_11 : BitVec 32 := 1#32
  let v18 : BitVec 32 := Scalar.muli v17 c1_i32_11
  let v19 : BitVec 32 := Scalar.addi c0_i32_12 v18
  v19.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v20 : BitVec 32 := Scalar.addi v2 c3_i32
  let c16_i32_13 : BitVec 32 := 16#32
  let v21 : BitVec 32 := Scalar.remsi v20 c16_i32_13
  let c1_i32_15 : BitVec 32 := 1#32
  let v22 : BitVec 32 := Scalar.muli v21 c1_i32_15
  let v23 : BitVec 32 := Scalar.addi c0_i32_16 v22
  v23.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v24 : BitVec 32 := Scalar.addi v2 c4_i32
  let c16_i32_17 : BitVec 32 := 16#32
  let v25 : BitVec 32 := Scalar.remsi v24 c16_i32_17
  let c1_i32_19 : BitVec 32 := 1#32
  let v26 : BitVec 32 := Scalar.muli v25 c1_i32_19
  let v27 : BitVec 32 := Scalar.addi c0_i32_20 v26
  v27.toNat
def k0_dev5 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v28 : BitVec 32 := Scalar.addi v2 c5_i32
  let c16_i32_21 : BitVec 32 := 16#32
  let v29 : BitVec 32 := Scalar.remsi v28 c16_i32_21
  let c1_i32_23 : BitVec 32 := 1#32
  let v30 : BitVec 32 := Scalar.muli v29 c1_i32_23
  let v31 : BitVec 32 := Scalar.addi c0_i32_24 v30
  v31.toNat
def k0_dev6 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v32 : BitVec 32 := Scalar.addi v2 c6_i32
  let c16_i32_25 : BitVec 32 := 16#32
  let v33 : BitVec 32 := Scalar.remsi v32 c16_i32_25
  let c1_i32_27 : BitVec 32 := 1#32
  let v34 : BitVec 32 := Scalar.muli v33 c1_i32_27
  let v35 : BitVec 32 := Scalar.addi c0_i32_28 v34
  v35.toNat
def k0_dev7 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v36 : BitVec 32 := Scalar.addi v2 c7_i32
  let c16_i32_29 : BitVec 32 := 16#32
  let v37 : BitVec 32 := Scalar.remsi v36 c16_i32_29
  let c1_i32_31 : BitVec 32 := 1#32
  let v38 : BitVec 32 := Scalar.muli v37 c1_i32_31
  let v39 : BitVec 32 := Scalar.addi c0_i32_32 v38
  v39.toNat
def k0_dev8 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v40 : BitVec 32 := Scalar.addi v2 c8_i32
  let c16_i32_33 : BitVec 32 := 16#32
  let v41 : BitVec 32 := Scalar.remsi v40 c16_i32_33
  let c1_i32_35 : BitVec 32 := 1#32
  let v42 : BitVec 32 := Scalar.muli v41 c1_i32_35
  let v43 : BitVec 32 := Scalar.addi c0_i32_36 v42
  v43.toNat
def k0_dev9 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v44 : BitVec 32 := Scalar.addi v2 c9_i32
  let c16_i32_37 : BitVec 32 := 16#32
  let v45 : BitVec 32 := Scalar.remsi v44 c16_i32_37
  let c1_i32_39 : BitVec 32 := 1#32
  let v46 : BitVec 32 := Scalar.muli v45 c1_i32_39
  let v47 : BitVec 32 := Scalar.addi c0_i32_40 v46
  v47.toNat
def k0_dev10 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v48 : BitVec 32 := Scalar.addi v2 c10_i32
  let c16_i32_41 : BitVec 32 := 16#32
  let v49 : BitVec 32 := Scalar.remsi v48 c16_i32_41
  let c1_i32_43 : BitVec 32 := 1#32
  let v50 : BitVec 32 := Scalar.muli v49 c1_i32_43
  let v51 : BitVec 32 := Scalar.addi c0_i32_44 v50
  v51.toNat
def k0_dev11 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v52 : BitVec 32 := Scalar.addi v2 c11_i32
  let c16_i32_45 : BitVec 32 := 16#32
  let v53 : BitVec 32 := Scalar.remsi v52 c16_i32_45
  let c1_i32_47 : BitVec 32 := 1#32
  let v54 : BitVec 32 := Scalar.muli v53 c1_i32_47
  let v55 : BitVec 32 := Scalar.addi c0_i32_48 v54
  v55.toNat
def k0_dev12 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v56 : BitVec 32 := Scalar.addi v2 c12_i32
  let c16_i32_49 : BitVec 32 := 16#32
  let v57 : BitVec 32 := Scalar.remsi v56 c16_i32_49
  let c1_i32_51 : BitVec 32 := 1#32
  let v58 : BitVec 32 := Scalar.muli v57 c1_i32_51
  let v59 : BitVec 32 := Scalar.addi c0_i32_52 v58
  v59.toNat
def k0_dev13 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v60 : BitVec 32 := Scalar.addi v2 c13_i32
  let c16_i32_53 : BitVec 32 := 16#32
  let v61 : BitVec 32 := Scalar.remsi v60 c16_i32_53
  let c1_i32_55 : BitVec 32 := 1#32
  let v62 : BitVec 32 := Scalar.muli v61 c1_i32_55
  let v63 : BitVec 32 := Scalar.addi c0_i32_56 v62
  v63.toNat
def k0_dev14 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v64 : BitVec 32 := Scalar.addi v2 c14_i32
  let c16_i32_57 : BitVec 32 := 16#32
  let v65 : BitVec 32 := Scalar.remsi v64 c16_i32_57
  let c1_i32_59 : BitVec 32 := 1#32
  let v66 : BitVec 32 := Scalar.muli v65 c1_i32_59
  let v67 : BitVec 32 := Scalar.addi c0_i32_60 v66
  v67.toNat
def k0_dev15 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v68 : BitVec 32 := Scalar.addi v2 c15_i32
  let c16_i32_61 : BitVec 32 := 16#32
  let v69 : BitVec 32 := Scalar.remsi v68 c16_i32_61
  let c1_i32_63 : BitVec 32 := 1#32
  let v70 : BitVec 32 := Scalar.muli v69 c1_i32_63
  let v71 : BitVec 32 := Scalar.addi c0_i32_64 v70
  v71.toNat
def k0_off3 (d0 : Dev nD) (c0_i32_382 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v408 : BitVec 32 := Scalar.addi v2 c0_i32_382
  let c4_i32_383 : BitVec 32 := 4#32
  let v409 : BitVec 32 := Scalar.remsi v408 c4_i32_383
  let c256_i32 : BitVec 32 := 256#32
  let v410 : BitVec 32 := Scalar.muli v409 c256_i32
  let v411 : Index := Scalar.indexCast v410
  let c0_384 : Index := 0#32
  ![v411.toNat, 0]
def k0_off4 (d0 : Dev nD) (c0_i32_382 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v408 : BitVec 32 := Scalar.addi v2 c0_i32_382
  let c4_i32_383 : BitVec 32 := 4#32
  let v409 : BitVec 32 := Scalar.remsi v408 c4_i32_383
  let c256_i32 : BitVec 32 := 256#32
  let v410 : BitVec 32 := Scalar.muli v409 c256_i32
  let v413 : Index := Scalar.indexCast v410
  let c0_385 : Index := 0#32
  let c0_386 : Index := 0#32
  ![v413.toNat, 0, 0]
def k0_off5 (d0 : Dev nD) (c0_i32_382 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v408 : BitVec 32 := Scalar.addi v2 c0_i32_382
  let c4_i32_383 : BitVec 32 := 4#32
  let v409 : BitVec 32 := Scalar.remsi v408 c4_i32_383
  let c256_i32 : BitVec 32 := 256#32
  let v410 : BitVec 32 := Scalar.muli v409 c256_i32
  let v434 : Index := Scalar.indexCast v410
  let c128_394 : Index := 128#32
  ![v434.toNat, 128]
def k0_off6 (d0 : Dev nD) (c0_i32_382 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v408 : BitVec 32 := Scalar.addi v2 c0_i32_382
  let c4_i32_383 : BitVec 32 := 4#32
  let v409 : BitVec 32 := Scalar.remsi v408 c4_i32_383
  let c256_i32 : BitVec 32 := 256#32
  let v410 : BitVec 32 := Scalar.muli v409 c256_i32
  let v436 : Index := Scalar.indexCast v410
  let c1 : Index := 1#32
  let c0_395 : Index := 0#32
  ![v436.toNat, 1, 0]
def k0_off7 (d0 : Dev nD) (c0_i32_382 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v408 : BitVec 32 := Scalar.addi v2 c0_i32_382
  let c4_i32_383 : BitVec 32 := 4#32
  let v409 : BitVec 32 := Scalar.remsi v408 c4_i32_383
  let c256_i32 : BitVec 32 := 256#32
  let v410 : BitVec 32 := Scalar.muli v409 c256_i32
  let v457 : Index := Scalar.indexCast v410
  let c256_403 : Index := 256#32
  ![v457.toNat, 256]
def k0_off8 (d0 : Dev nD) (c0_i32_382 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v408 : BitVec 32 := Scalar.addi v2 c0_i32_382
  let c4_i32_383 : BitVec 32 := 4#32
  let v409 : BitVec 32 := Scalar.remsi v408 c4_i32_383
  let c256_i32 : BitVec 32 := 256#32
  let v410 : BitVec 32 := Scalar.muli v409 c256_i32
  let v459 : Index := Scalar.indexCast v410
  let c2 : Index := 2#32
  let c0_404 : Index := 0#32
  ![v459.toNat, 2, 0]
def k0_off9 (d0 : Dev nD) (c0_i32_382 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v408 : BitVec 32 := Scalar.addi v2 c0_i32_382
  let c4_i32_383 : BitVec 32 := 4#32
  let v409 : BitVec 32 := Scalar.remsi v408 c4_i32_383
  let c256_i32 : BitVec 32 := 256#32
  let v410 : BitVec 32 := Scalar.muli v409 c256_i32
  let v480 : Index := Scalar.indexCast v410
  let c384_412 : Index := 384#32
  ![v480.toNat, 384]
def k0_off10 (d0 : Dev nD) (c0_i32_382 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v408 : BitVec 32 := Scalar.addi v2 c0_i32_382
  let c4_i32_383 : BitVec 32 := 4#32
  let v409 : BitVec 32 := Scalar.remsi v408 c4_i32_383
  let c256_i32 : BitVec 32 := 256#32
  let v410 : BitVec 32 := Scalar.muli v409 c256_i32
  let v482 : Index := Scalar.indexCast v410
  let c3 : Index := 3#32
  let c0_413 : Index := 0#32
  ![v482.toNat, 3, 0]
def k0_off11 (d0 : Dev nD) (c0_i32_382 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v408 : BitVec 32 := Scalar.addi v2 c0_i32_382
  let c4_i32_383 : BitVec 32 := 4#32
  let v409 : BitVec 32 := Scalar.remsi v408 c4_i32_383
  let c256_i32 : BitVec 32 := 256#32
  let v410 : BitVec 32 := Scalar.muli v409 c256_i32
  let v503 : Index := Scalar.indexCast v410
  let c512_421 : Index := 512#32
  ![v503.toNat, 512]
def k0_off12 (d0 : Dev nD) (c0_i32_382 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v408 : BitVec 32 := Scalar.addi v2 c0_i32_382
  let c4_i32_383 : BitVec 32 := 4#32
  let v409 : BitVec 32 := Scalar.remsi v408 c4_i32_383
  let c256_i32 : BitVec 32 := 256#32
  let v410 : BitVec 32 := Scalar.muli v409 c256_i32
  let v505 : Index := Scalar.indexCast v410
  let c4 : Index := 4#32
  let c0_422 : Index := 0#32
  ![v505.toNat, 4, 0]
def k0_off13 (d0 : Dev nD) (c0_i32_382 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v408 : BitVec 32 := Scalar.addi v2 c0_i32_382
  let c4_i32_383 : BitVec 32 := 4#32
  let v409 : BitVec 32 := Scalar.remsi v408 c4_i32_383
  let c256_i32 : BitVec 32 := 256#32
  let v410 : BitVec 32 := Scalar.muli v409 c256_i32
  let v526 : Index := Scalar.indexCast v410
  let c640_430 : Index := 640#32
  ![v526.toNat, 640]
def k0_off14 (d0 : Dev nD) (c0_i32_382 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v408 : BitVec 32 := Scalar.addi v2 c0_i32_382
  let c4_i32_383 : BitVec 32 := 4#32
  let v409 : BitVec 32 := Scalar.remsi v408 c4_i32_383
  let c256_i32 : BitVec 32 := 256#32
  let v410 : BitVec 32 := Scalar.muli v409 c256_i32
  let v528 : Index := Scalar.indexCast v410
  let c5 : Index := 5#32
  let c0_431 : Index := 0#32
  ![v528.toNat, 5, 0]
def k0_off15 (d0 : Dev nD) (c0_i32_382 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v408 : BitVec 32 := Scalar.addi v2 c0_i32_382
  let c4_i32_383 : BitVec 32 := 4#32
  let v409 : BitVec 32 := Scalar.remsi v408 c4_i32_383
  let c256_i32 : BitVec 32 := 256#32
  let v410 : BitVec 32 := Scalar.muli v409 c256_i32
  let v549 : Index := Scalar.indexCast v410
  let c768_439 : Index := 768#32
  ![v549.toNat, 768]
def k0_off16 (d0 : Dev nD) (c0_i32_382 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v408 : BitVec 32 := Scalar.addi v2 c0_i32_382
  let c4_i32_383 : BitVec 32 := 4#32
  let v409 : BitVec 32 := Scalar.remsi v408 c4_i32_383
  let c256_i32 : BitVec 32 := 256#32
  let v410 : BitVec 32 := Scalar.muli v409 c256_i32
  let v551 : Index := Scalar.indexCast v410
  let c6 : Index := 6#32
  let c0_440 : Index := 0#32
  ![v551.toNat, 6, 0]
def k0_off17 (d0 : Dev nD) (c0_i32_382 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v408 : BitVec 32 := Scalar.addi v2 c0_i32_382
  let c4_i32_383 : BitVec 32 := 4#32
  let v409 : BitVec 32 := Scalar.remsi v408 c4_i32_383
  let c256_i32 : BitVec 32 := 256#32
  let v410 : BitVec 32 := Scalar.muli v409 c256_i32
  let v572 : Index := Scalar.indexCast v410
  let c896_448 : Index := 896#32
  ![v572.toNat, 896]
def k0_off18 (d0 : Dev nD) (c0_i32_382 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v408 : BitVec 32 := Scalar.addi v2 c0_i32_382
  let c4_i32_383 : BitVec 32 := 4#32
  let v409 : BitVec 32 := Scalar.remsi v408 c4_i32_383
  let c256_i32 : BitVec 32 := 256#32
  let v410 : BitVec 32 := Scalar.muli v409 c256_i32
  let v574 : Index := Scalar.indexCast v410
  let c7 : Index := 7#32
  let c0_449 : Index := 0#32
  ![v574.toNat, 7, 0]
def k0_off19 (d0 : Dev nD) (c0_i32_382 : BitVec 32) (c0_i32_457 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v408 : BitVec 32 := Scalar.addi v2 c0_i32_382
  let c4_i32_383 : BitVec 32 := 4#32
  let v409 : BitVec 32 := Scalar.remsi v408 c4_i32_383
  let c256_i32 : BitVec 32 := 256#32
  let v410 : BitVec 32 := Scalar.muli v409 c256_i32
  let v595 : BitVec 32 := Scalar.addi v410 c0_i32_457
  let v596 : Index := Scalar.indexCast v595
  let c0_458 : Index := 0#32
  ![v596.toNat, 0]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_463 : BitVec 32 := 0#32
  let v603 : BitVec 32 := Scalar.addi v2 c0_i32_463
  let c4_i32_464 : BitVec 32 := 4#32
  let v604 : BitVec 32 := Scalar.remsi v603 c4_i32_464
  let c0_i32_465 : BitVec 32 := 0#32
  let v605 : BitVec 32 := Scalar.addi v604 c0_i32_465
  let v606 : BitVec 1 := Scalar.cmpi .ne v605 v2
  let v607 : BitVec 32 := Scalar.extui v606
  let c0_i32_468 : BitVec 32 := 0#32
  let v608 : BitVec 1 := Scalar.cmpi .ne v607 c0_i32_468
  v608

def k0_off20 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1315 : BitVec 32 := 0#32
  let c0_i32_1316 : BitVec 32 := 0#32
  ![v2.toNat, 0, 0]
def k0_dev16 (d0 : Dev nD) : Nat :=
  let c0_i32_1314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_463 : BitVec 32 := 0#32
  let v603 : BitVec 32 := Scalar.addi v2 c0_i32_463
  let c4_i32_464 : BitVec 32 := 4#32
  let v604 : BitVec 32 := Scalar.remsi v603 c4_i32_464
  let c0_i32_465 : BitVec 32 := 0#32
  let v605 : BitVec 32 := Scalar.addi v604 c0_i32_465
  let c1_i32_1313 : BitVec 32 := 1#32
  let v1933 : BitVec 32 := Scalar.muli v605 c1_i32_1313
  let v1934 : BitVec 32 := Scalar.addi c0_i32_1314 v1933
  v1934.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_463 : BitVec 32 := 0#32
  let v603 : BitVec 32 := Scalar.addi v2 c0_i32_463
  let c4_i32_464 : BitVec 32 := 4#32
  let v604 : BitVec 32 := Scalar.remsi v603 c4_i32_464
  let c0_i32_465 : BitVec 32 := 0#32
  let v605 : BitVec 32 := Scalar.addi v604 c0_i32_465
  let v609 : BitVec 1 := Scalar.cmpi .eq v605 v2
  let v610 : BitVec 32 := Scalar.extui v609
  let c0_i32_469 : BitVec 32 := 0#32
  let v611 : BitVec 1 := Scalar.cmpi .ne v610 c0_i32_469
  v611

def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1935 : Index := Scalar.indexCast v2
  let c0_1316 : Index := 0#32
  let c0_1317 : Index := 0#32
  ![v1935.toNat, 0, 0]
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_475 : BitVec 32 := 0#32
  let v620 : BitVec 32 := Scalar.addi v2 c0_i32_475
  let c4_i32_476 : BitVec 32 := 4#32
  let v621 : BitVec 32 := Scalar.remsi v620 c4_i32_476
  let c4_i32_477 : BitVec 32 := 4#32
  let v622 : BitVec 32 := Scalar.addi v621 c4_i32_477
  let v623 : BitVec 1 := Scalar.cmpi .ne v622 v2
  let v624 : BitVec 32 := Scalar.extui v623
  let c0_i32_480 : BitVec 32 := 0#32
  let v625 : BitVec 1 := Scalar.cmpi .ne v624 c0_i32_480
  v625

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1315 : BitVec 32 := 0#32
  let c0_i32_1316 : BitVec 32 := 0#32
  ![v2.toNat, 0, 0]
def k0_dev17 (d0 : Dev nD) : Nat :=
  let c0_i32_1314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_475 : BitVec 32 := 0#32
  let v620 : BitVec 32 := Scalar.addi v2 c0_i32_475
  let c4_i32_476 : BitVec 32 := 4#32
  let v621 : BitVec 32 := Scalar.remsi v620 c4_i32_476
  let c4_i32_477 : BitVec 32 := 4#32
  let v622 : BitVec 32 := Scalar.addi v621 c4_i32_477
  let c1_i32_1313 : BitVec 32 := 1#32
  let v1933 : BitVec 32 := Scalar.muli v622 c1_i32_1313
  let v1934 : BitVec 32 := Scalar.addi c0_i32_1314 v1933
  v1934.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_475 : BitVec 32 := 0#32
  let v620 : BitVec 32 := Scalar.addi v2 c0_i32_475
  let c4_i32_476 : BitVec 32 := 4#32
  let v621 : BitVec 32 := Scalar.remsi v620 c4_i32_476
  let c4_i32_477 : BitVec 32 := 4#32
  let v622 : BitVec 32 := Scalar.addi v621 c4_i32_477
  let v626 : BitVec 1 := Scalar.cmpi .eq v622 v2
  let v627 : BitVec 32 := Scalar.extui v626
  let c0_i32_481 : BitVec 32 := 0#32
  let v628 : BitVec 1 := Scalar.cmpi .ne v627 c0_i32_481
  v628

def k0_off25 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1935 : Index := Scalar.indexCast v2
  let c0_1316 : Index := 0#32
  let c0_1317 : Index := 0#32
  ![v1935.toNat, 0, 0]
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_487 : BitVec 32 := 0#32
  let v637 : BitVec 32 := Scalar.addi v2 c0_i32_487
  let c4_i32_488 : BitVec 32 := 4#32
  let v638 : BitVec 32 := Scalar.remsi v637 c4_i32_488
  let c8_i32_489 : BitVec 32 := 8#32
  let v639 : BitVec 32 := Scalar.addi v638 c8_i32_489
  let v640 : BitVec 1 := Scalar.cmpi .ne v639 v2
  let v641 : BitVec 32 := Scalar.extui v640
  let c0_i32_492 : BitVec 32 := 0#32
  let v642 : BitVec 1 := Scalar.cmpi .ne v641 c0_i32_492
  v642

def k0_off26 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off27 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1315 : BitVec 32 := 0#32
  let c0_i32_1316 : BitVec 32 := 0#32
  ![v2.toNat, 0, 0]
def k0_dev18 (d0 : Dev nD) : Nat :=
  let c0_i32_1314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_487 : BitVec 32 := 0#32
  let v637 : BitVec 32 := Scalar.addi v2 c0_i32_487
  let c4_i32_488 : BitVec 32 := 4#32
  let v638 : BitVec 32 := Scalar.remsi v637 c4_i32_488
  let c8_i32_489 : BitVec 32 := 8#32
  let v639 : BitVec 32 := Scalar.addi v638 c8_i32_489
  let c1_i32_1313 : BitVec 32 := 1#32
  let v1933 : BitVec 32 := Scalar.muli v639 c1_i32_1313
  let v1934 : BitVec 32 := Scalar.addi c0_i32_1314 v1933
  v1934.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_487 : BitVec 32 := 0#32
  let v637 : BitVec 32 := Scalar.addi v2 c0_i32_487
  let c4_i32_488 : BitVec 32 := 4#32
  let v638 : BitVec 32 := Scalar.remsi v637 c4_i32_488
  let c8_i32_489 : BitVec 32 := 8#32
  let v639 : BitVec 32 := Scalar.addi v638 c8_i32_489
  let v643 : BitVec 1 := Scalar.cmpi .eq v639 v2
  let v644 : BitVec 32 := Scalar.extui v643
  let c0_i32_493 : BitVec 32 := 0#32
  let v645 : BitVec 1 := Scalar.cmpi .ne v644 c0_i32_493
  v645

def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1935 : Index := Scalar.indexCast v2
  let c0_1316 : Index := 0#32
  let c0_1317 : Index := 0#32
  ![v1935.toNat, 0, 0]
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_499 : BitVec 32 := 0#32
  let v654 : BitVec 32 := Scalar.addi v2 c0_i32_499
  let c4_i32_500 : BitVec 32 := 4#32
  let v655 : BitVec 32 := Scalar.remsi v654 c4_i32_500
  let c12_i32_501 : BitVec 32 := 12#32
  let v656 : BitVec 32 := Scalar.addi v655 c12_i32_501
  let v657 : BitVec 1 := Scalar.cmpi .ne v656 v2
  let v658 : BitVec 32 := Scalar.extui v657
  let c0_i32_504 : BitVec 32 := 0#32
  let v659 : BitVec 1 := Scalar.cmpi .ne v658 c0_i32_504
  v659

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1315 : BitVec 32 := 0#32
  let c0_i32_1316 : BitVec 32 := 0#32
  ![v2.toNat, 0, 0]
def k0_dev19 (d0 : Dev nD) : Nat :=
  let c0_i32_1314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_499 : BitVec 32 := 0#32
  let v654 : BitVec 32 := Scalar.addi v2 c0_i32_499
  let c4_i32_500 : BitVec 32 := 4#32
  let v655 : BitVec 32 := Scalar.remsi v654 c4_i32_500
  let c12_i32_501 : BitVec 32 := 12#32
  let v656 : BitVec 32 := Scalar.addi v655 c12_i32_501
  let c1_i32_1313 : BitVec 32 := 1#32
  let v1933 : BitVec 32 := Scalar.muli v656 c1_i32_1313
  let v1934 : BitVec 32 := Scalar.addi c0_i32_1314 v1933
  v1934.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_499 : BitVec 32 := 0#32
  let v654 : BitVec 32 := Scalar.addi v2 c0_i32_499
  let c4_i32_500 : BitVec 32 := 4#32
  let v655 : BitVec 32 := Scalar.remsi v654 c4_i32_500
  let c12_i32_501 : BitVec 32 := 12#32
  let v656 : BitVec 32 := Scalar.addi v655 c12_i32_501
  let v660 : BitVec 1 := Scalar.cmpi .eq v656 v2
  let v661 : BitVec 32 := Scalar.extui v660
  let c0_i32_505 : BitVec 32 := 0#32
  let v662 : BitVec 1 := Scalar.cmpi .ne v661 c0_i32_505
  v662

def k0_off31 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1935 : Index := Scalar.indexCast v2
  let c0_1316 : Index := 0#32
  let c0_1317 : Index := 0#32
  ![v1935.toNat, 0, 0]
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_595 : BitVec 32 := 1#32
  let v858 : BitVec 32 := Scalar.addi v2 c1_i32_595
  let c4_i32_596 : BitVec 32 := 4#32
  let v859 : BitVec 32 := Scalar.remsi v858 c4_i32_596
  let c0_i32_597 : BitVec 32 := 0#32
  let v860 : BitVec 32 := Scalar.addi v859 c0_i32_597
  let v861 : BitVec 1 := Scalar.cmpi .ne v860 v2
  let v862 : BitVec 32 := Scalar.extui v861
  let c0_i32_600 : BitVec 32 := 0#32
  let v863 : BitVec 1 := Scalar.cmpi .ne v862 c0_i32_600
  v863

def k0_off32 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1315 : BitVec 32 := 0#32
  let c0_i32_1316 : BitVec 32 := 0#32
  ![v2.toNat, 0, 0]
def k0_dev20 (d0 : Dev nD) : Nat :=
  let c0_i32_1314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_595 : BitVec 32 := 1#32
  let v858 : BitVec 32 := Scalar.addi v2 c1_i32_595
  let c4_i32_596 : BitVec 32 := 4#32
  let v859 : BitVec 32 := Scalar.remsi v858 c4_i32_596
  let c0_i32_597 : BitVec 32 := 0#32
  let v860 : BitVec 32 := Scalar.addi v859 c0_i32_597
  let c1_i32_1313 : BitVec 32 := 1#32
  let v1933 : BitVec 32 := Scalar.muli v860 c1_i32_1313
  let v1934 : BitVec 32 := Scalar.addi c0_i32_1314 v1933
  v1934.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_595 : BitVec 32 := 1#32
  let v858 : BitVec 32 := Scalar.addi v2 c1_i32_595
  let c4_i32_596 : BitVec 32 := 4#32
  let v859 : BitVec 32 := Scalar.remsi v858 c4_i32_596
  let c0_i32_597 : BitVec 32 := 0#32
  let v860 : BitVec 32 := Scalar.addi v859 c0_i32_597
  let v864 : BitVec 1 := Scalar.cmpi .eq v860 v2
  let v865 : BitVec 32 := Scalar.extui v864
  let c0_i32_601 : BitVec 32 := 0#32
  let v866 : BitVec 1 := Scalar.cmpi .ne v865 c0_i32_601
  v866

def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1935 : Index := Scalar.indexCast v2
  let c0_1316 : Index := 0#32
  let c0_1317 : Index := 0#32
  ![v1935.toNat, 0, 0]
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_608 : BitVec 32 := 1#32
  let v875 : BitVec 32 := Scalar.addi v2 c1_i32_608
  let c4_i32_609 : BitVec 32 := 4#32
  let v876 : BitVec 32 := Scalar.remsi v875 c4_i32_609
  let c4_i32_610 : BitVec 32 := 4#32
  let v877 : BitVec 32 := Scalar.addi v876 c4_i32_610
  let v878 : BitVec 1 := Scalar.cmpi .ne v877 v2
  let v879 : BitVec 32 := Scalar.extui v878
  let c0_i32_613 : BitVec 32 := 0#32
  let v880 : BitVec 1 := Scalar.cmpi .ne v879 c0_i32_613
  v880

def k0_off35 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1315 : BitVec 32 := 0#32
  let c0_i32_1316 : BitVec 32 := 0#32
  ![v2.toNat, 0, 0]
def k0_dev21 (d0 : Dev nD) : Nat :=
  let c0_i32_1314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_608 : BitVec 32 := 1#32
  let v875 : BitVec 32 := Scalar.addi v2 c1_i32_608
  let c4_i32_609 : BitVec 32 := 4#32
  let v876 : BitVec 32 := Scalar.remsi v875 c4_i32_609
  let c4_i32_610 : BitVec 32 := 4#32
  let v877 : BitVec 32 := Scalar.addi v876 c4_i32_610
  let c1_i32_1313 : BitVec 32 := 1#32
  let v1933 : BitVec 32 := Scalar.muli v877 c1_i32_1313
  let v1934 : BitVec 32 := Scalar.addi c0_i32_1314 v1933
  v1934.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_608 : BitVec 32 := 1#32
  let v875 : BitVec 32 := Scalar.addi v2 c1_i32_608
  let c4_i32_609 : BitVec 32 := 4#32
  let v876 : BitVec 32 := Scalar.remsi v875 c4_i32_609
  let c4_i32_610 : BitVec 32 := 4#32
  let v877 : BitVec 32 := Scalar.addi v876 c4_i32_610
  let v881 : BitVec 1 := Scalar.cmpi .eq v877 v2
  let v882 : BitVec 32 := Scalar.extui v881
  let c0_i32_614 : BitVec 32 := 0#32
  let v883 : BitVec 1 := Scalar.cmpi .ne v882 c0_i32_614
  v883

def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1935 : Index := Scalar.indexCast v2
  let c0_1316 : Index := 0#32
  let c0_1317 : Index := 0#32
  ![v1935.toNat, 0, 0]
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_621 : BitVec 32 := 1#32
  let v892 : BitVec 32 := Scalar.addi v2 c1_i32_621
  let c4_i32_622 : BitVec 32 := 4#32
  let v893 : BitVec 32 := Scalar.remsi v892 c4_i32_622
  let c8_i32_623 : BitVec 32 := 8#32
  let v894 : BitVec 32 := Scalar.addi v893 c8_i32_623
  let v895 : BitVec 1 := Scalar.cmpi .ne v894 v2
  let v896 : BitVec 32 := Scalar.extui v895
  let c0_i32_626 : BitVec 32 := 0#32
  let v897 : BitVec 1 := Scalar.cmpi .ne v896 c0_i32_626
  v897

def k0_off38 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1315 : BitVec 32 := 0#32
  let c0_i32_1316 : BitVec 32 := 0#32
  ![v2.toNat, 0, 0]
def k0_dev22 (d0 : Dev nD) : Nat :=
  let c0_i32_1314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_621 : BitVec 32 := 1#32
  let v892 : BitVec 32 := Scalar.addi v2 c1_i32_621
  let c4_i32_622 : BitVec 32 := 4#32
  let v893 : BitVec 32 := Scalar.remsi v892 c4_i32_622
  let c8_i32_623 : BitVec 32 := 8#32
  let v894 : BitVec 32 := Scalar.addi v893 c8_i32_623
  let c1_i32_1313 : BitVec 32 := 1#32
  let v1933 : BitVec 32 := Scalar.muli v894 c1_i32_1313
  let v1934 : BitVec 32 := Scalar.addi c0_i32_1314 v1933
  v1934.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_621 : BitVec 32 := 1#32
  let v892 : BitVec 32 := Scalar.addi v2 c1_i32_621
  let c4_i32_622 : BitVec 32 := 4#32
  let v893 : BitVec 32 := Scalar.remsi v892 c4_i32_622
  let c8_i32_623 : BitVec 32 := 8#32
  let v894 : BitVec 32 := Scalar.addi v893 c8_i32_623
  let v898 : BitVec 1 := Scalar.cmpi .eq v894 v2
  let v899 : BitVec 32 := Scalar.extui v898
  let c0_i32_627 : BitVec 32 := 0#32
  let v900 : BitVec 1 := Scalar.cmpi .ne v899 c0_i32_627
  v900

def k0_off40 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1935 : Index := Scalar.indexCast v2
  let c0_1316 : Index := 0#32
  let c0_1317 : Index := 0#32
  ![v1935.toNat, 0, 0]
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_634 : BitVec 32 := 1#32
  let v909 : BitVec 32 := Scalar.addi v2 c1_i32_634
  let c4_i32_635 : BitVec 32 := 4#32
  let v910 : BitVec 32 := Scalar.remsi v909 c4_i32_635
  let c12_i32_636 : BitVec 32 := 12#32
  let v911 : BitVec 32 := Scalar.addi v910 c12_i32_636
  let v912 : BitVec 1 := Scalar.cmpi .ne v911 v2
  let v913 : BitVec 32 := Scalar.extui v912
  let c0_i32_639 : BitVec 32 := 0#32
  let v914 : BitVec 1 := Scalar.cmpi .ne v913 c0_i32_639
  v914

def k0_off41 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1315 : BitVec 32 := 0#32
  let c0_i32_1316 : BitVec 32 := 0#32
  ![v2.toNat, 0, 0]
def k0_dev23 (d0 : Dev nD) : Nat :=
  let c0_i32_1314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_634 : BitVec 32 := 1#32
  let v909 : BitVec 32 := Scalar.addi v2 c1_i32_634
  let c4_i32_635 : BitVec 32 := 4#32
  let v910 : BitVec 32 := Scalar.remsi v909 c4_i32_635
  let c12_i32_636 : BitVec 32 := 12#32
  let v911 : BitVec 32 := Scalar.addi v910 c12_i32_636
  let c1_i32_1313 : BitVec 32 := 1#32
  let v1933 : BitVec 32 := Scalar.muli v911 c1_i32_1313
  let v1934 : BitVec 32 := Scalar.addi c0_i32_1314 v1933
  v1934.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_634 : BitVec 32 := 1#32
  let v909 : BitVec 32 := Scalar.addi v2 c1_i32_634
  let c4_i32_635 : BitVec 32 := 4#32
  let v910 : BitVec 32 := Scalar.remsi v909 c4_i32_635
  let c12_i32_636 : BitVec 32 := 12#32
  let v911 : BitVec 32 := Scalar.addi v910 c12_i32_636
  let v915 : BitVec 1 := Scalar.cmpi .eq v911 v2
  let v916 : BitVec 32 := Scalar.extui v915
  let c0_i32_640 : BitVec 32 := 0#32
  let v917 : BitVec 1 := Scalar.cmpi .ne v916 c0_i32_640
  v917

def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1935 : Index := Scalar.indexCast v2
  let c0_1316 : Index := 0#32
  let c0_1317 : Index := 0#32
  ![v1935.toNat, 0, 0]
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_729 : BitVec 32 := 2#32
  let v1113 : BitVec 32 := Scalar.addi v2 c2_i32_729
  let c4_i32_730 : BitVec 32 := 4#32
  let v1114 : BitVec 32 := Scalar.remsi v1113 c4_i32_730
  let c0_i32_731 : BitVec 32 := 0#32
  let v1115 : BitVec 32 := Scalar.addi v1114 c0_i32_731
  let v1116 : BitVec 1 := Scalar.cmpi .ne v1115 v2
  let v1117 : BitVec 32 := Scalar.extui v1116
  let c0_i32_734 : BitVec 32 := 0#32
  let v1118 : BitVec 1 := Scalar.cmpi .ne v1117 c0_i32_734
  v1118

def k0_off44 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1315 : BitVec 32 := 0#32
  let c0_i32_1316 : BitVec 32 := 0#32
  ![v2.toNat, 0, 0]
def k0_dev24 (d0 : Dev nD) : Nat :=
  let c0_i32_1314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_729 : BitVec 32 := 2#32
  let v1113 : BitVec 32 := Scalar.addi v2 c2_i32_729
  let c4_i32_730 : BitVec 32 := 4#32
  let v1114 : BitVec 32 := Scalar.remsi v1113 c4_i32_730
  let c0_i32_731 : BitVec 32 := 0#32
  let v1115 : BitVec 32 := Scalar.addi v1114 c0_i32_731
  let c1_i32_1313 : BitVec 32 := 1#32
  let v1933 : BitVec 32 := Scalar.muli v1115 c1_i32_1313
  let v1934 : BitVec 32 := Scalar.addi c0_i32_1314 v1933
  v1934.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_729 : BitVec 32 := 2#32
  let v1113 : BitVec 32 := Scalar.addi v2 c2_i32_729
  let c4_i32_730 : BitVec 32 := 4#32
  let v1114 : BitVec 32 := Scalar.remsi v1113 c4_i32_730
  let c0_i32_731 : BitVec 32 := 0#32
  let v1115 : BitVec 32 := Scalar.addi v1114 c0_i32_731
  let v1119 : BitVec 1 := Scalar.cmpi .eq v1115 v2
  let v1120 : BitVec 32 := Scalar.extui v1119
  let c0_i32_735 : BitVec 32 := 0#32
  let v1121 : BitVec 1 := Scalar.cmpi .ne v1120 c0_i32_735
  v1121

def k0_off46 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1935 : Index := Scalar.indexCast v2
  let c0_1316 : Index := 0#32
  let c0_1317 : Index := 0#32
  ![v1935.toNat, 0, 0]
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_741 : BitVec 32 := 2#32
  let v1130 : BitVec 32 := Scalar.addi v2 c2_i32_741
  let c4_i32_742 : BitVec 32 := 4#32
  let v1131 : BitVec 32 := Scalar.remsi v1130 c4_i32_742
  let c4_i32_743 : BitVec 32 := 4#32
  let v1132 : BitVec 32 := Scalar.addi v1131 c4_i32_743
  let v1133 : BitVec 1 := Scalar.cmpi .ne v1132 v2
  let v1134 : BitVec 32 := Scalar.extui v1133
  let c0_i32_746 : BitVec 32 := 0#32
  let v1135 : BitVec 1 := Scalar.cmpi .ne v1134 c0_i32_746
  v1135

def k0_off47 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1315 : BitVec 32 := 0#32
  let c0_i32_1316 : BitVec 32 := 0#32
  ![v2.toNat, 0, 0]
def k0_dev25 (d0 : Dev nD) : Nat :=
  let c0_i32_1314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_741 : BitVec 32 := 2#32
  let v1130 : BitVec 32 := Scalar.addi v2 c2_i32_741
  let c4_i32_742 : BitVec 32 := 4#32
  let v1131 : BitVec 32 := Scalar.remsi v1130 c4_i32_742
  let c4_i32_743 : BitVec 32 := 4#32
  let v1132 : BitVec 32 := Scalar.addi v1131 c4_i32_743
  let c1_i32_1313 : BitVec 32 := 1#32
  let v1933 : BitVec 32 := Scalar.muli v1132 c1_i32_1313
  let v1934 : BitVec 32 := Scalar.addi c0_i32_1314 v1933
  v1934.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_741 : BitVec 32 := 2#32
  let v1130 : BitVec 32 := Scalar.addi v2 c2_i32_741
  let c4_i32_742 : BitVec 32 := 4#32
  let v1131 : BitVec 32 := Scalar.remsi v1130 c4_i32_742
  let c4_i32_743 : BitVec 32 := 4#32
  let v1132 : BitVec 32 := Scalar.addi v1131 c4_i32_743
  let v1136 : BitVec 1 := Scalar.cmpi .eq v1132 v2
  let v1137 : BitVec 32 := Scalar.extui v1136
  let c0_i32_747 : BitVec 32 := 0#32
  let v1138 : BitVec 1 := Scalar.cmpi .ne v1137 c0_i32_747
  v1138

def k0_off49 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1935 : Index := Scalar.indexCast v2
  let c0_1316 : Index := 0#32
  let c0_1317 : Index := 0#32
  ![v1935.toNat, 0, 0]
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_753 : BitVec 32 := 2#32
  let v1147 : BitVec 32 := Scalar.addi v2 c2_i32_753
  let c4_i32_754 : BitVec 32 := 4#32
  let v1148 : BitVec 32 := Scalar.remsi v1147 c4_i32_754
  let c8_i32_755 : BitVec 32 := 8#32
  let v1149 : BitVec 32 := Scalar.addi v1148 c8_i32_755
  let v1150 : BitVec 1 := Scalar.cmpi .ne v1149 v2
  let v1151 : BitVec 32 := Scalar.extui v1150
  let c0_i32_758 : BitVec 32 := 0#32
  let v1152 : BitVec 1 := Scalar.cmpi .ne v1151 c0_i32_758
  v1152

def k0_off50 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off51 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1315 : BitVec 32 := 0#32
  let c0_i32_1316 : BitVec 32 := 0#32
  ![v2.toNat, 0, 0]
def k0_dev26 (d0 : Dev nD) : Nat :=
  let c0_i32_1314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_753 : BitVec 32 := 2#32
  let v1147 : BitVec 32 := Scalar.addi v2 c2_i32_753
  let c4_i32_754 : BitVec 32 := 4#32
  let v1148 : BitVec 32 := Scalar.remsi v1147 c4_i32_754
  let c8_i32_755 : BitVec 32 := 8#32
  let v1149 : BitVec 32 := Scalar.addi v1148 c8_i32_755
  let c1_i32_1313 : BitVec 32 := 1#32
  let v1933 : BitVec 32 := Scalar.muli v1149 c1_i32_1313
  let v1934 : BitVec 32 := Scalar.addi c0_i32_1314 v1933
  v1934.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_753 : BitVec 32 := 2#32
  let v1147 : BitVec 32 := Scalar.addi v2 c2_i32_753
  let c4_i32_754 : BitVec 32 := 4#32
  let v1148 : BitVec 32 := Scalar.remsi v1147 c4_i32_754
  let c8_i32_755 : BitVec 32 := 8#32
  let v1149 : BitVec 32 := Scalar.addi v1148 c8_i32_755
  let v1153 : BitVec 1 := Scalar.cmpi .eq v1149 v2
  let v1154 : BitVec 32 := Scalar.extui v1153
  let c0_i32_759 : BitVec 32 := 0#32
  let v1155 : BitVec 1 := Scalar.cmpi .ne v1154 c0_i32_759
  v1155

def k0_off52 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1935 : Index := Scalar.indexCast v2
  let c0_1316 : Index := 0#32
  let c0_1317 : Index := 0#32
  ![v1935.toNat, 0, 0]
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_765 : BitVec 32 := 2#32
  let v1164 : BitVec 32 := Scalar.addi v2 c2_i32_765
  let c4_i32_766 : BitVec 32 := 4#32
  let v1165 : BitVec 32 := Scalar.remsi v1164 c4_i32_766
  let c12_i32_767 : BitVec 32 := 12#32
  let v1166 : BitVec 32 := Scalar.addi v1165 c12_i32_767
  let v1167 : BitVec 1 := Scalar.cmpi .ne v1166 v2
  let v1168 : BitVec 32 := Scalar.extui v1167
  let c0_i32_770 : BitVec 32 := 0#32
  let v1169 : BitVec 1 := Scalar.cmpi .ne v1168 c0_i32_770
  v1169

def k0_off53 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1315 : BitVec 32 := 0#32
  let c0_i32_1316 : BitVec 32 := 0#32
  ![v2.toNat, 0, 0]
def k0_dev27 (d0 : Dev nD) : Nat :=
  let c0_i32_1314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_765 : BitVec 32 := 2#32
  let v1164 : BitVec 32 := Scalar.addi v2 c2_i32_765
  let c4_i32_766 : BitVec 32 := 4#32
  let v1165 : BitVec 32 := Scalar.remsi v1164 c4_i32_766
  let c12_i32_767 : BitVec 32 := 12#32
  let v1166 : BitVec 32 := Scalar.addi v1165 c12_i32_767
  let c1_i32_1313 : BitVec 32 := 1#32
  let v1933 : BitVec 32 := Scalar.muli v1166 c1_i32_1313
  let v1934 : BitVec 32 := Scalar.addi c0_i32_1314 v1933
  v1934.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_765 : BitVec 32 := 2#32
  let v1164 : BitVec 32 := Scalar.addi v2 c2_i32_765
  let c4_i32_766 : BitVec 32 := 4#32
  let v1165 : BitVec 32 := Scalar.remsi v1164 c4_i32_766
  let c12_i32_767 : BitVec 32 := 12#32
  let v1166 : BitVec 32 := Scalar.addi v1165 c12_i32_767
  let v1170 : BitVec 1 := Scalar.cmpi .eq v1166 v2
  let v1171 : BitVec 32 := Scalar.extui v1170
  let c0_i32_771 : BitVec 32 := 0#32
  let v1172 : BitVec 1 := Scalar.cmpi .ne v1171 c0_i32_771
  v1172

def k0_off55 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1935 : Index := Scalar.indexCast v2
  let c0_1316 : Index := 0#32
  let c0_1317 : Index := 0#32
  ![v1935.toNat, 0, 0]
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_860 : BitVec 32 := 3#32
  let v1368 : BitVec 32 := Scalar.addi v2 c3_i32_860
  let c4_i32_861 : BitVec 32 := 4#32
  let v1369 : BitVec 32 := Scalar.remsi v1368 c4_i32_861
  let c0_i32_862 : BitVec 32 := 0#32
  let v1370 : BitVec 32 := Scalar.addi v1369 c0_i32_862
  let v1371 : BitVec 1 := Scalar.cmpi .ne v1370 v2
  let v1372 : BitVec 32 := Scalar.extui v1371
  let c0_i32_865 : BitVec 32 := 0#32
  let v1373 : BitVec 1 := Scalar.cmpi .ne v1372 c0_i32_865
  v1373

def k0_off56 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off57 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1315 : BitVec 32 := 0#32
  let c0_i32_1316 : BitVec 32 := 0#32
  ![v2.toNat, 0, 0]
def k0_dev28 (d0 : Dev nD) : Nat :=
  let c0_i32_1314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_860 : BitVec 32 := 3#32
  let v1368 : BitVec 32 := Scalar.addi v2 c3_i32_860
  let c4_i32_861 : BitVec 32 := 4#32
  let v1369 : BitVec 32 := Scalar.remsi v1368 c4_i32_861
  let c0_i32_862 : BitVec 32 := 0#32
  let v1370 : BitVec 32 := Scalar.addi v1369 c0_i32_862
  let c1_i32_1313 : BitVec 32 := 1#32
  let v1933 : BitVec 32 := Scalar.muli v1370 c1_i32_1313
  let v1934 : BitVec 32 := Scalar.addi c0_i32_1314 v1933
  v1934.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_860 : BitVec 32 := 3#32
  let v1368 : BitVec 32 := Scalar.addi v2 c3_i32_860
  let c4_i32_861 : BitVec 32 := 4#32
  let v1369 : BitVec 32 := Scalar.remsi v1368 c4_i32_861
  let c0_i32_862 : BitVec 32 := 0#32
  let v1370 : BitVec 32 := Scalar.addi v1369 c0_i32_862
  let v1374 : BitVec 1 := Scalar.cmpi .eq v1370 v2
  let v1375 : BitVec 32 := Scalar.extui v1374
  let c0_i32_866 : BitVec 32 := 0#32
  let v1376 : BitVec 1 := Scalar.cmpi .ne v1375 c0_i32_866
  v1376

def k0_off58 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1935 : Index := Scalar.indexCast v2
  let c0_1316 : Index := 0#32
  let c0_1317 : Index := 0#32
  ![v1935.toNat, 0, 0]
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_872 : BitVec 32 := 3#32
  let v1385 : BitVec 32 := Scalar.addi v2 c3_i32_872
  let c4_i32_873 : BitVec 32 := 4#32
  let v1386 : BitVec 32 := Scalar.remsi v1385 c4_i32_873
  let c4_i32_874 : BitVec 32 := 4#32
  let v1387 : BitVec 32 := Scalar.addi v1386 c4_i32_874
  let v1388 : BitVec 1 := Scalar.cmpi .ne v1387 v2
  let v1389 : BitVec 32 := Scalar.extui v1388
  let c0_i32_877 : BitVec 32 := 0#32
  let v1390 : BitVec 1 := Scalar.cmpi .ne v1389 c0_i32_877
  v1390

def k0_off59 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1315 : BitVec 32 := 0#32
  let c0_i32_1316 : BitVec 32 := 0#32
  ![v2.toNat, 0, 0]
def k0_dev29 (d0 : Dev nD) : Nat :=
  let c0_i32_1314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_872 : BitVec 32 := 3#32
  let v1385 : BitVec 32 := Scalar.addi v2 c3_i32_872
  let c4_i32_873 : BitVec 32 := 4#32
  let v1386 : BitVec 32 := Scalar.remsi v1385 c4_i32_873
  let c4_i32_874 : BitVec 32 := 4#32
  let v1387 : BitVec 32 := Scalar.addi v1386 c4_i32_874
  let c1_i32_1313 : BitVec 32 := 1#32
  let v1933 : BitVec 32 := Scalar.muli v1387 c1_i32_1313
  let v1934 : BitVec 32 := Scalar.addi c0_i32_1314 v1933
  v1934.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_872 : BitVec 32 := 3#32
  let v1385 : BitVec 32 := Scalar.addi v2 c3_i32_872
  let c4_i32_873 : BitVec 32 := 4#32
  let v1386 : BitVec 32 := Scalar.remsi v1385 c4_i32_873
  let c4_i32_874 : BitVec 32 := 4#32
  let v1387 : BitVec 32 := Scalar.addi v1386 c4_i32_874
  let v1391 : BitVec 1 := Scalar.cmpi .eq v1387 v2
  let v1392 : BitVec 32 := Scalar.extui v1391
  let c0_i32_878 : BitVec 32 := 0#32
  let v1393 : BitVec 1 := Scalar.cmpi .ne v1392 c0_i32_878
  v1393

def k0_off61 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1935 : Index := Scalar.indexCast v2
  let c0_1316 : Index := 0#32
  let c0_1317 : Index := 0#32
  ![v1935.toNat, 0, 0]
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_884 : BitVec 32 := 3#32
  let v1402 : BitVec 32 := Scalar.addi v2 c3_i32_884
  let c4_i32_885 : BitVec 32 := 4#32
  let v1403 : BitVec 32 := Scalar.remsi v1402 c4_i32_885
  let c8_i32_886 : BitVec 32 := 8#32
  let v1404 : BitVec 32 := Scalar.addi v1403 c8_i32_886
  let v1405 : BitVec 1 := Scalar.cmpi .ne v1404 v2
  let v1406 : BitVec 32 := Scalar.extui v1405
  let c0_i32_889 : BitVec 32 := 0#32
  let v1407 : BitVec 1 := Scalar.cmpi .ne v1406 c0_i32_889
  v1407

def k0_off62 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off63 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1315 : BitVec 32 := 0#32
  let c0_i32_1316 : BitVec 32 := 0#32
  ![v2.toNat, 0, 0]
def k0_dev30 (d0 : Dev nD) : Nat :=
  let c0_i32_1314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_884 : BitVec 32 := 3#32
  let v1402 : BitVec 32 := Scalar.addi v2 c3_i32_884
  let c4_i32_885 : BitVec 32 := 4#32
  let v1403 : BitVec 32 := Scalar.remsi v1402 c4_i32_885
  let c8_i32_886 : BitVec 32 := 8#32
  let v1404 : BitVec 32 := Scalar.addi v1403 c8_i32_886
  let c1_i32_1313 : BitVec 32 := 1#32
  let v1933 : BitVec 32 := Scalar.muli v1404 c1_i32_1313
  let v1934 : BitVec 32 := Scalar.addi c0_i32_1314 v1933
  v1934.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_884 : BitVec 32 := 3#32
  let v1402 : BitVec 32 := Scalar.addi v2 c3_i32_884
  let c4_i32_885 : BitVec 32 := 4#32
  let v1403 : BitVec 32 := Scalar.remsi v1402 c4_i32_885
  let c8_i32_886 : BitVec 32 := 8#32
  let v1404 : BitVec 32 := Scalar.addi v1403 c8_i32_886
  let v1408 : BitVec 1 := Scalar.cmpi .eq v1404 v2
  let v1409 : BitVec 32 := Scalar.extui v1408
  let c0_i32_890 : BitVec 32 := 0#32
  let v1410 : BitVec 1 := Scalar.cmpi .ne v1409 c0_i32_890
  v1410

def k0_off64 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1935 : Index := Scalar.indexCast v2
  let c0_1316 : Index := 0#32
  let c0_1317 : Index := 0#32
  ![v1935.toNat, 0, 0]
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_896 : BitVec 32 := 3#32
  let v1419 : BitVec 32 := Scalar.addi v2 c3_i32_896
  let c4_i32_897 : BitVec 32 := 4#32
  let v1420 : BitVec 32 := Scalar.remsi v1419 c4_i32_897
  let c12_i32_898 : BitVec 32 := 12#32
  let v1421 : BitVec 32 := Scalar.addi v1420 c12_i32_898
  let v1422 : BitVec 1 := Scalar.cmpi .ne v1421 v2
  let v1423 : BitVec 32 := Scalar.extui v1422
  let c0_i32_901 : BitVec 32 := 0#32
  let v1424 : BitVec 1 := Scalar.cmpi .ne v1423 c0_i32_901
  v1424

def k0_off65 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off66 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1315 : BitVec 32 := 0#32
  let c0_i32_1316 : BitVec 32 := 0#32
  ![v2.toNat, 0, 0]
def k0_dev31 (d0 : Dev nD) : Nat :=
  let c0_i32_1314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_896 : BitVec 32 := 3#32
  let v1419 : BitVec 32 := Scalar.addi v2 c3_i32_896
  let c4_i32_897 : BitVec 32 := 4#32
  let v1420 : BitVec 32 := Scalar.remsi v1419 c4_i32_897
  let c12_i32_898 : BitVec 32 := 12#32
  let v1421 : BitVec 32 := Scalar.addi v1420 c12_i32_898
  let c1_i32_1313 : BitVec 32 := 1#32
  let v1933 : BitVec 32 := Scalar.muli v1421 c1_i32_1313
  let v1934 : BitVec 32 := Scalar.addi c0_i32_1314 v1933
  v1934.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_896 : BitVec 32 := 3#32
  let v1419 : BitVec 32 := Scalar.addi v2 c3_i32_896
  let c4_i32_897 : BitVec 32 := 4#32
  let v1420 : BitVec 32 := Scalar.remsi v1419 c4_i32_897
  let c12_i32_898 : BitVec 32 := 12#32
  let v1421 : BitVec 32 := Scalar.addi v1420 c12_i32_898
  let v1425 : BitVec 1 := Scalar.cmpi .eq v1421 v2
  let v1426 : BitVec 32 := Scalar.extui v1425
  let c0_i32_902 : BitVec 32 := 0#32
  let v1427 : BitVec 1 := Scalar.cmpi .ne v1426 c0_i32_902
  v1427

def k0_off67 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1935 : Index := Scalar.indexCast v2
  let c0_1316 : Index := 0#32
  let c0_1317 : Index := 0#32
  ![v1935.toNat, 0, 0]
def k0_off68 (d0 : Dev nD) : Fin 3 → Nat :=
  let c0_988 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_987 : BitVec 32 := 64#32
  let v1544 : BitVec 32 := Scalar.muli v2 c64_i32_987
  let v1545 : Index := Scalar.indexCast v1544
  let c0_989 : Index := 0#32
  ![0, v1545.toNat, 0]
def k0_off69 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off70 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_995 : BitVec 32 := 0#32
  let c0_i32_996 : BitVec 32 := 0#32
  ![v2.toNat, 0, 0]
def k0_dev32 (d0 : Dev nD) : Nat :=
  let c0_i32_994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_990 : BitVec 32 := 1#32
  let v1549 : BitVec 32 := Scalar.addi v2 c1_i32_990
  let c16_i32_991 : BitVec 32 := 16#32
  let v1550 : BitVec 32 := Scalar.remsi v1549 c16_i32_991
  let c1_i32_993 : BitVec 32 := 1#32
  let v1551 : BitVec 32 := Scalar.muli v1550 c1_i32_993
  let v1552 : BitVec 32 := Scalar.addi c0_i32_994 v1551
  v1552.toNat
def k0_dev33 (d0 : Dev nD) : Nat :=
  let c0_i32_1001 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_997 : BitVec 32 := 2#32
  let v1559 : BitVec 32 := Scalar.addi v2 c2_i32_997
  let c16_i32_998 : BitVec 32 := 16#32
  let v1560 : BitVec 32 := Scalar.remsi v1559 c16_i32_998
  let c1_i32_1000 : BitVec 32 := 1#32
  let v1561 : BitVec 32 := Scalar.muli v1560 c1_i32_1000
  let v1562 : BitVec 32 := Scalar.addi c0_i32_1001 v1561
  v1562.toNat
def k0_dev34 (d0 : Dev nD) : Nat :=
  let c0_i32_1008 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1004 : BitVec 32 := 3#32
  let v1569 : BitVec 32 := Scalar.addi v2 c3_i32_1004
  let c16_i32_1005 : BitVec 32 := 16#32
  let v1570 : BitVec 32 := Scalar.remsi v1569 c16_i32_1005
  let c1_i32_1007 : BitVec 32 := 1#32
  let v1571 : BitVec 32 := Scalar.muli v1570 c1_i32_1007
  let v1572 : BitVec 32 := Scalar.addi c0_i32_1008 v1571
  v1572.toNat
def k0_dev35 (d0 : Dev nD) : Nat :=
  let c0_i32_1015 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1011 : BitVec 32 := 4#32
  let v1579 : BitVec 32 := Scalar.addi v2 c4_i32_1011
  let c16_i32_1012 : BitVec 32 := 16#32
  let v1580 : BitVec 32 := Scalar.remsi v1579 c16_i32_1012
  let c1_i32_1014 : BitVec 32 := 1#32
  let v1581 : BitVec 32 := Scalar.muli v1580 c1_i32_1014
  let v1582 : BitVec 32 := Scalar.addi c0_i32_1015 v1581
  v1582.toNat
def k0_dev36 (d0 : Dev nD) : Nat :=
  let c0_i32_1022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1018 : BitVec 32 := 5#32
  let v1589 : BitVec 32 := Scalar.addi v2 c5_i32_1018
  let c16_i32_1019 : BitVec 32 := 16#32
  let v1590 : BitVec 32 := Scalar.remsi v1589 c16_i32_1019
  let c1_i32_1021 : BitVec 32 := 1#32
  let v1591 : BitVec 32 := Scalar.muli v1590 c1_i32_1021
  let v1592 : BitVec 32 := Scalar.addi c0_i32_1022 v1591
  v1592.toNat
def k0_dev37 (d0 : Dev nD) : Nat :=
  let c0_i32_1029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1025 : BitVec 32 := 6#32
  let v1599 : BitVec 32 := Scalar.addi v2 c6_i32_1025
  let c16_i32_1026 : BitVec 32 := 16#32
  let v1600 : BitVec 32 := Scalar.remsi v1599 c16_i32_1026
  let c1_i32_1028 : BitVec 32 := 1#32
  let v1601 : BitVec 32 := Scalar.muli v1600 c1_i32_1028
  let v1602 : BitVec 32 := Scalar.addi c0_i32_1029 v1601
  v1602.toNat
def k0_dev38 (d0 : Dev nD) : Nat :=
  let c0_i32_1036 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1032 : BitVec 32 := 7#32
  let v1609 : BitVec 32 := Scalar.addi v2 c7_i32_1032
  let c16_i32_1033 : BitVec 32 := 16#32
  let v1610 : BitVec 32 := Scalar.remsi v1609 c16_i32_1033
  let c1_i32_1035 : BitVec 32 := 1#32
  let v1611 : BitVec 32 := Scalar.muli v1610 c1_i32_1035
  let v1612 : BitVec 32 := Scalar.addi c0_i32_1036 v1611
  v1612.toNat
def k0_dev39 (d0 : Dev nD) : Nat :=
  let c0_i32_1043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1039 : BitVec 32 := 8#32
  let v1619 : BitVec 32 := Scalar.addi v2 c8_i32_1039
  let c16_i32_1040 : BitVec 32 := 16#32
  let v1620 : BitVec 32 := Scalar.remsi v1619 c16_i32_1040
  let c1_i32_1042 : BitVec 32 := 1#32
  let v1621 : BitVec 32 := Scalar.muli v1620 c1_i32_1042
  let v1622 : BitVec 32 := Scalar.addi c0_i32_1043 v1621
  v1622.toNat
def k0_dev40 (d0 : Dev nD) : Nat :=
  let c0_i32_1050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1046 : BitVec 32 := 9#32
  let v1629 : BitVec 32 := Scalar.addi v2 c9_i32_1046
  let c16_i32_1047 : BitVec 32 := 16#32
  let v1630 : BitVec 32 := Scalar.remsi v1629 c16_i32_1047
  let c1_i32_1049 : BitVec 32 := 1#32
  let v1631 : BitVec 32 := Scalar.muli v1630 c1_i32_1049
  let v1632 : BitVec 32 := Scalar.addi c0_i32_1050 v1631
  v1632.toNat
def k0_dev41 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1053 : BitVec 32 := 10#32
  let v1639 : BitVec 32 := Scalar.addi v2 c10_i32_1053
  let c16_i32_1054 : BitVec 32 := 16#32
  let v1640 : BitVec 32 := Scalar.remsi v1639 c16_i32_1054
  let c1_i32_1056 : BitVec 32 := 1#32
  let v1641 : BitVec 32 := Scalar.muli v1640 c1_i32_1056
  let v1642 : BitVec 32 := Scalar.addi c0_i32_1057 v1641
  v1642.toNat
def k0_dev42 (d0 : Dev nD) : Nat :=
  let c0_i32_1064 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1060 : BitVec 32 := 11#32
  let v1649 : BitVec 32 := Scalar.addi v2 c11_i32_1060
  let c16_i32_1061 : BitVec 32 := 16#32
  let v1650 : BitVec 32 := Scalar.remsi v1649 c16_i32_1061
  let c1_i32_1063 : BitVec 32 := 1#32
  let v1651 : BitVec 32 := Scalar.muli v1650 c1_i32_1063
  let v1652 : BitVec 32 := Scalar.addi c0_i32_1064 v1651
  v1652.toNat
def k0_dev43 (d0 : Dev nD) : Nat :=
  let c0_i32_1071 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1067 : BitVec 32 := 12#32
  let v1659 : BitVec 32 := Scalar.addi v2 c12_i32_1067
  let c16_i32_1068 : BitVec 32 := 16#32
  let v1660 : BitVec 32 := Scalar.remsi v1659 c16_i32_1068
  let c1_i32_1070 : BitVec 32 := 1#32
  let v1661 : BitVec 32 := Scalar.muli v1660 c1_i32_1070
  let v1662 : BitVec 32 := Scalar.addi c0_i32_1071 v1661
  v1662.toNat
def k0_dev44 (d0 : Dev nD) : Nat :=
  let c0_i32_1078 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1074 : BitVec 32 := 13#32
  let v1669 : BitVec 32 := Scalar.addi v2 c13_i32_1074
  let c16_i32_1075 : BitVec 32 := 16#32
  let v1670 : BitVec 32 := Scalar.remsi v1669 c16_i32_1075
  let c1_i32_1077 : BitVec 32 := 1#32
  let v1671 : BitVec 32 := Scalar.muli v1670 c1_i32_1077
  let v1672 : BitVec 32 := Scalar.addi c0_i32_1078 v1671
  v1672.toNat
def k0_dev45 (d0 : Dev nD) : Nat :=
  let c0_i32_1085 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1081 : BitVec 32 := 14#32
  let v1679 : BitVec 32 := Scalar.addi v2 c14_i32_1081
  let c16_i32_1082 : BitVec 32 := 16#32
  let v1680 : BitVec 32 := Scalar.remsi v1679 c16_i32_1082
  let c1_i32_1084 : BitVec 32 := 1#32
  let v1681 : BitVec 32 := Scalar.muli v1680 c1_i32_1084
  let v1682 : BitVec 32 := Scalar.addi c0_i32_1085 v1681
  v1682.toNat
def k0_dev46 (d0 : Dev nD) : Nat :=
  let c0_i32_1092 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1088 : BitVec 32 := 15#32
  let v1689 : BitVec 32 := Scalar.addi v2 c15_i32_1088
  let c16_i32_1089 : BitVec 32 := 16#32
  let v1690 : BitVec 32 := Scalar.remsi v1689 c16_i32_1089
  let c1_i32_1091 : BitVec 32 := 1#32
  let v1691 : BitVec 32 := Scalar.muli v1690 c1_i32_1091
  let v1692 : BitVec 32 := Scalar.addi c0_i32_1092 v1691
  v1692.toNat
def k0_cond65 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1127 : BitVec 32 := 0#32
  let v1747 : BitVec 32 := Scalar.addi v2 c0_i32_1127
  let c4_i32_1128 : BitVec 32 := 4#32
  let v1748 : BitVec 32 := Scalar.remsi v1747 c4_i32_1128
  let c0_i32_1129 : BitVec 32 := 0#32
  let v1749 : BitVec 32 := Scalar.addi v1748 c0_i32_1129
  let v1750 : BitVec 1 := Scalar.cmpi .ne v1749 v2
  let v1751 : BitVec 32 := Scalar.extui v1750
  let c0_i32_1132 : BitVec 32 := 0#32
  let v1752 : BitVec 1 := Scalar.cmpi .ne v1751 c0_i32_1132
  v1752

def k0_off71 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1316 : BitVec 32 := 0#32
  let c0_i32_1317 : BitVec 32 := 0#32
  ![v2.toNat, 0, 0]
def k0_cond66 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1133 : BitVec 32 := 0#32
  let v1753 : BitVec 32 := Scalar.addi v2 c0_i32_1133
  let c4_i32_1134 : BitVec 32 := 4#32
  let v1754 : BitVec 32 := Scalar.remsi v1753 c4_i32_1134
  let c4_i32_1135 : BitVec 32 := 4#32
  let v1755 : BitVec 32 := Scalar.addi v1754 c4_i32_1135
  let v1756 : BitVec 1 := Scalar.cmpi .ne v1755 v2
  let v1757 : BitVec 32 := Scalar.extui v1756
  let c0_i32_1138 : BitVec 32 := 0#32
  let v1758 : BitVec 1 := Scalar.cmpi .ne v1757 c0_i32_1138
  v1758

def k0_off72 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1316 : BitVec 32 := 0#32
  let c0_i32_1317 : BitVec 32 := 0#32
  ![v2.toNat, 0, 0]
def k0_cond67 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1139 : BitVec 32 := 0#32
  let v1759 : BitVec 32 := Scalar.addi v2 c0_i32_1139
  let c4_i32_1140 : BitVec 32 := 4#32
  let v1760 : BitVec 32 := Scalar.remsi v1759 c4_i32_1140
  let c8_i32_1141 : BitVec 32 := 8#32
  let v1761 : BitVec 32 := Scalar.addi v1760 c8_i32_1141
  let v1762 : BitVec 1 := Scalar.cmpi .ne v1761 v2
  let v1763 : BitVec 32 := Scalar.extui v1762
  let c0_i32_1144 : BitVec 32 := 0#32
  let v1764 : BitVec 1 := Scalar.cmpi .ne v1763 c0_i32_1144
  v1764

def k0_off73 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1316 : BitVec 32 := 0#32
  let c0_i32_1317 : BitVec 32 := 0#32
  ![v2.toNat, 0, 0]
def k0_cond68 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1145 : BitVec 32 := 0#32
  let v1765 : BitVec 32 := Scalar.addi v2 c0_i32_1145
  let c4_i32_1146 : BitVec 32 := 4#32
  let v1766 : BitVec 32 := Scalar.remsi v1765 c4_i32_1146
  let c12_i32_1147 : BitVec 32 := 12#32
  let v1767 : BitVec 32 := Scalar.addi v1766 c12_i32_1147
  let v1768 : BitVec 1 := Scalar.cmpi .ne v1767 v2
  let v1769 : BitVec 32 := Scalar.extui v1768
  let c0_i32_1150 : BitVec 32 := 0#32
  let v1770 : BitVec 1 := Scalar.cmpi .ne v1769 c0_i32_1150
  v1770

def k0_off74 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1316 : BitVec 32 := 0#32
  let c0_i32_1317 : BitVec 32 := 0#32
  ![v2.toNat, 0, 0]
def k0_cond69 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1151 : BitVec 32 := 1#32
  let v1771 : BitVec 32 := Scalar.addi v2 c1_i32_1151
  let c4_i32_1152 : BitVec 32 := 4#32
  let v1772 : BitVec 32 := Scalar.remsi v1771 c4_i32_1152
  let c0_i32_1153 : BitVec 32 := 0#32
  let v1773 : BitVec 32 := Scalar.addi v1772 c0_i32_1153
  let v1774 : BitVec 1 := Scalar.cmpi .ne v1773 v2
  let v1775 : BitVec 32 := Scalar.extui v1774
  let c0_i32_1156 : BitVec 32 := 0#32
  let v1776 : BitVec 1 := Scalar.cmpi .ne v1775 c0_i32_1156
  v1776

def k0_off75 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1316 : BitVec 32 := 0#32
  let c0_i32_1317 : BitVec 32 := 0#32
  ![v2.toNat, 0, 0]
def k0_cond70 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1157 : BitVec 32 := 1#32
  let v1777 : BitVec 32 := Scalar.addi v2 c1_i32_1157
  let c4_i32_1158 : BitVec 32 := 4#32
  let v1778 : BitVec 32 := Scalar.remsi v1777 c4_i32_1158
  let c4_i32_1159 : BitVec 32 := 4#32
  let v1779 : BitVec 32 := Scalar.addi v1778 c4_i32_1159
  let v1780 : BitVec 1 := Scalar.cmpi .ne v1779 v2
  let v1781 : BitVec 32 := Scalar.extui v1780
  let c0_i32_1162 : BitVec 32 := 0#32
  let v1782 : BitVec 1 := Scalar.cmpi .ne v1781 c0_i32_1162
  v1782

def k0_off76 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1316 : BitVec 32 := 0#32
  let c0_i32_1317 : BitVec 32 := 0#32
  ![v2.toNat, 0, 0]
def k0_cond71 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1163 : BitVec 32 := 1#32
  let v1783 : BitVec 32 := Scalar.addi v2 c1_i32_1163
  let c4_i32_1164 : BitVec 32 := 4#32
  let v1784 : BitVec 32 := Scalar.remsi v1783 c4_i32_1164
  let c8_i32_1165 : BitVec 32 := 8#32
  let v1785 : BitVec 32 := Scalar.addi v1784 c8_i32_1165
  let v1786 : BitVec 1 := Scalar.cmpi .ne v1785 v2
  let v1787 : BitVec 32 := Scalar.extui v1786
  let c0_i32_1168 : BitVec 32 := 0#32
  let v1788 : BitVec 1 := Scalar.cmpi .ne v1787 c0_i32_1168
  v1788

def k0_off77 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1316 : BitVec 32 := 0#32
  let c0_i32_1317 : BitVec 32 := 0#32
  ![v2.toNat, 0, 0]
def k0_cond72 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1169 : BitVec 32 := 1#32
  let v1789 : BitVec 32 := Scalar.addi v2 c1_i32_1169
  let c4_i32_1170 : BitVec 32 := 4#32
  let v1790 : BitVec 32 := Scalar.remsi v1789 c4_i32_1170
  let c12_i32_1171 : BitVec 32 := 12#32
  let v1791 : BitVec 32 := Scalar.addi v1790 c12_i32_1171
  let v1792 : BitVec 1 := Scalar.cmpi .ne v1791 v2
  let v1793 : BitVec 32 := Scalar.extui v1792
  let c0_i32_1174 : BitVec 32 := 0#32
  let v1794 : BitVec 1 := Scalar.cmpi .ne v1793 c0_i32_1174
  v1794

def k0_off78 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1316 : BitVec 32 := 0#32
  let c0_i32_1317 : BitVec 32 := 0#32
  ![v2.toNat, 0, 0]
def k0_cond73 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1175 : BitVec 32 := 2#32
  let v1795 : BitVec 32 := Scalar.addi v2 c2_i32_1175
  let c4_i32_1176 : BitVec 32 := 4#32
  let v1796 : BitVec 32 := Scalar.remsi v1795 c4_i32_1176
  let c0_i32_1177 : BitVec 32 := 0#32
  let v1797 : BitVec 32 := Scalar.addi v1796 c0_i32_1177
  let v1798 : BitVec 1 := Scalar.cmpi .ne v1797 v2
  let v1799 : BitVec 32 := Scalar.extui v1798
  let c0_i32_1180 : BitVec 32 := 0#32
  let v1800 : BitVec 1 := Scalar.cmpi .ne v1799 c0_i32_1180
  v1800

def k0_off79 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1316 : BitVec 32 := 0#32
  let c0_i32_1317 : BitVec 32 := 0#32
  ![v2.toNat, 0, 0]
def k0_cond74 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1181 : BitVec 32 := 2#32
  let v1801 : BitVec 32 := Scalar.addi v2 c2_i32_1181
  let c4_i32_1182 : BitVec 32 := 4#32
  let v1802 : BitVec 32 := Scalar.remsi v1801 c4_i32_1182
  let c4_i32_1183 : BitVec 32 := 4#32
  let v1803 : BitVec 32 := Scalar.addi v1802 c4_i32_1183
  let v1804 : BitVec 1 := Scalar.cmpi .ne v1803 v2
  let v1805 : BitVec 32 := Scalar.extui v1804
  let c0_i32_1186 : BitVec 32 := 0#32
  let v1806 : BitVec 1 := Scalar.cmpi .ne v1805 c0_i32_1186
  v1806

def k0_off80 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1316 : BitVec 32 := 0#32
  let c0_i32_1317 : BitVec 32 := 0#32
  ![v2.toNat, 0, 0]
def k0_cond75 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1187 : BitVec 32 := 2#32
  let v1807 : BitVec 32 := Scalar.addi v2 c2_i32_1187
  let c4_i32_1188 : BitVec 32 := 4#32
  let v1808 : BitVec 32 := Scalar.remsi v1807 c4_i32_1188
  let c8_i32_1189 : BitVec 32 := 8#32
  let v1809 : BitVec 32 := Scalar.addi v1808 c8_i32_1189
  let v1810 : BitVec 1 := Scalar.cmpi .ne v1809 v2
  let v1811 : BitVec 32 := Scalar.extui v1810
  let c0_i32_1192 : BitVec 32 := 0#32
  let v1812 : BitVec 1 := Scalar.cmpi .ne v1811 c0_i32_1192
  v1812

def k0_off81 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1316 : BitVec 32 := 0#32
  let c0_i32_1317 : BitVec 32 := 0#32
  ![v2.toNat, 0, 0]
def k0_cond76 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1193 : BitVec 32 := 2#32
  let v1813 : BitVec 32 := Scalar.addi v2 c2_i32_1193
  let c4_i32_1194 : BitVec 32 := 4#32
  let v1814 : BitVec 32 := Scalar.remsi v1813 c4_i32_1194
  let c12_i32_1195 : BitVec 32 := 12#32
  let v1815 : BitVec 32 := Scalar.addi v1814 c12_i32_1195
  let v1816 : BitVec 1 := Scalar.cmpi .ne v1815 v2
  let v1817 : BitVec 32 := Scalar.extui v1816
  let c0_i32_1198 : BitVec 32 := 0#32
  let v1818 : BitVec 1 := Scalar.cmpi .ne v1817 c0_i32_1198
  v1818

def k0_off82 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1316 : BitVec 32 := 0#32
  let c0_i32_1317 : BitVec 32 := 0#32
  ![v2.toNat, 0, 0]
def k0_cond77 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1199 : BitVec 32 := 3#32
  let v1819 : BitVec 32 := Scalar.addi v2 c3_i32_1199
  let c4_i32_1200 : BitVec 32 := 4#32
  let v1820 : BitVec 32 := Scalar.remsi v1819 c4_i32_1200
  let c0_i32_1201 : BitVec 32 := 0#32
  let v1821 : BitVec 32 := Scalar.addi v1820 c0_i32_1201
  let v1822 : BitVec 1 := Scalar.cmpi .ne v1821 v2
  let v1823 : BitVec 32 := Scalar.extui v1822
  let c0_i32_1204 : BitVec 32 := 0#32
  let v1824 : BitVec 1 := Scalar.cmpi .ne v1823 c0_i32_1204
  v1824

def k0_off83 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1316 : BitVec 32 := 0#32
  let c0_i32_1317 : BitVec 32 := 0#32
  ![v2.toNat, 0, 0]
def k0_cond78 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1205 : BitVec 32 := 3#32
  let v1825 : BitVec 32 := Scalar.addi v2 c3_i32_1205
  let c4_i32_1206 : BitVec 32 := 4#32
  let v1826 : BitVec 32 := Scalar.remsi v1825 c4_i32_1206
  let c4_i32_1207 : BitVec 32 := 4#32
  let v1827 : BitVec 32 := Scalar.addi v1826 c4_i32_1207
  let v1828 : BitVec 1 := Scalar.cmpi .ne v1827 v2
  let v1829 : BitVec 32 := Scalar.extui v1828
  let c0_i32_1210 : BitVec 32 := 0#32
  let v1830 : BitVec 1 := Scalar.cmpi .ne v1829 c0_i32_1210
  v1830

def k0_off84 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1316 : BitVec 32 := 0#32
  let c0_i32_1317 : BitVec 32 := 0#32
  ![v2.toNat, 0, 0]
def k0_cond79 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1211 : BitVec 32 := 3#32
  let v1831 : BitVec 32 := Scalar.addi v2 c3_i32_1211
  let c4_i32_1212 : BitVec 32 := 4#32
  let v1832 : BitVec 32 := Scalar.remsi v1831 c4_i32_1212
  let c8_i32_1213 : BitVec 32 := 8#32
  let v1833 : BitVec 32 := Scalar.addi v1832 c8_i32_1213
  let v1834 : BitVec 1 := Scalar.cmpi .ne v1833 v2
  let v1835 : BitVec 32 := Scalar.extui v1834
  let c0_i32_1216 : BitVec 32 := 0#32
  let v1836 : BitVec 1 := Scalar.cmpi .ne v1835 c0_i32_1216
  v1836

def k0_off85 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1316 : BitVec 32 := 0#32
  let c0_i32_1317 : BitVec 32 := 0#32
  ![v2.toNat, 0, 0]
def k0_cond80 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1217 : BitVec 32 := 3#32
  let v1837 : BitVec 32 := Scalar.addi v2 c3_i32_1217
  let c4_i32_1218 : BitVec 32 := 4#32
  let v1838 : BitVec 32 := Scalar.remsi v1837 c4_i32_1218
  let c12_i32_1219 : BitVec 32 := 12#32
  let v1839 : BitVec 32 := Scalar.addi v1838 c12_i32_1219
  let v1840 : BitVec 1 := Scalar.cmpi .ne v1839 v2
  let v1841 : BitVec 32 := Scalar.extui v1840
  let c0_i32_1222 : BitVec 32 := 0#32
  let v1842 : BitVec 1 := Scalar.cmpi .ne v1841 c0_i32_1222
  v1842

def k0_off86 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1316 : BitVec 32 := 0#32
  let c0_i32_1317 : BitVec 32 := 0#32
  ![v2.toNat, 0, 0]
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x1024x1024 : Shape := ⟨3, ![1, 1024, 1024]⟩
abbrev S1024x16384 : Shape := ⟨2, ![1024, 16384]⟩
abbrev S1x1024x128x128 : Shape := ⟨4, ![1, 1024, 128, 128]⟩
abbrev S16384x1024 : Shape := ⟨2, ![16384, 1024]⟩
abbrev S1x1024x16384 : Shape := ⟨3, ![1, 1024, 16384]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1x128x1024x1024 : Shape := ⟨4, ![1, 128, 1024, 1024]⟩
abbrev S1x1x1024x1024 : Shape := ⟨4, ![1, 1, 1024, 1024]⟩
abbrev S1x128x1024 : Shape := ⟨3, ![1, 128, 1024]⟩
abbrev S1x128x1024x1 : Shape := ⟨4, ![1, 128, 1024, 1]⟩
abbrev S1x1x1024x1 : Shape := ⟨4, ![1, 1, 1024, 1]⟩
abbrev S1x128x128x1024 : Shape := ⟨4, ![1, 128, 128, 1024]⟩

abbrev nBuf : Space → Nat
  | .hbm => 138
  | .vmem => 0
  | .smem => 0
  | _ => 0

abbrev hbmTy0_0 (i : Nat) : BufTy := match i % 128 with
  | 0 => ⟨S1x1024x1024, .f32⟩
  | 1 => ⟨S1024x16384, .f32⟩
  | 2 => ⟨S1x1024x128x128, .f32⟩
  | 3 => ⟨S1x1024x128x128, .f32⟩
  | 4 => ⟨S16384x1024, .f32⟩
  | 5 => ⟨S1x1024x16384, .f32⟩
  | 6 => ⟨S1x1024x128x128, .f32⟩
  | 7 => ⟨S1024, .i32⟩
  | 8 => ⟨S_, .i32⟩
  | 9 => ⟨S_, .i32⟩
  | 10 => ⟨S1024, .i32⟩
  | 11 => ⟨S1024, .i32⟩
  | 12 => ⟨S1024, .i32⟩
  | 13 => ⟨S_, .i32⟩
  | 14 => ⟨S1024, .i32⟩
  | 15 => ⟨S1024, .i1⟩
  | 16 => ⟨S1024, .i32⟩
  | 17 => ⟨S1024, .i32⟩
  | 18 => ⟨S_, .i32⟩
  | 19 => ⟨S1024, .i32⟩
  | 20 => ⟨S1024, .i1⟩
  | 21 => ⟨S1024, .i1⟩
  | 22 => ⟨S_, .i32⟩
  | 23 => ⟨S1024, .i32⟩
  | 24 => ⟨S1024, .i32⟩
  | 25 => ⟨S1024, .i32⟩
  | 26 => ⟨S1024x1, .i32⟩
  | 27 => ⟨S1024, .i32⟩
  | 28 => ⟨S_, .i32⟩
  | 29 => ⟨S_, .i32⟩
  | 30 => ⟨S1024, .i32⟩
  | 31 => ⟨S1024, .i32⟩
  | 32 => ⟨S1024, .i32⟩
  | 33 => ⟨S_, .i32⟩
  | 34 => ⟨S1024, .i32⟩
  | 35 => ⟨S1024, .i1⟩
  | 36 => ⟨S1024, .i32⟩
  | 37 => ⟨S1024, .i32⟩
  | 38 => ⟨S_, .i32⟩
  | 39 => ⟨S1024, .i32⟩
  | 40 => ⟨S1024, .i1⟩
  | 41 => ⟨S1024, .i1⟩
  | 42 => ⟨S_, .i32⟩
  | 43 => ⟨S1024, .i32⟩
  | 44 => ⟨S1024, .i32⟩
  | 45 => ⟨S1024, .i32⟩
  | 46 => ⟨S1x1024, .i32⟩
  | 47 => ⟨S1024x1024, .i32⟩
  | 48 => ⟨S1024x1024, .i32⟩
  | 49 => ⟨S1024x1024, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x1024, .i32⟩
  | 57 => ⟨S1x1024, .i32⟩
  | 58 => ⟨S_, .i32⟩
  | 59 => ⟨S1x1024, .i32⟩
  | 60 => ⟨S1x1024, .i1⟩
  | 61 => ⟨S_, .i32⟩
  | 62 => ⟨S1x1024, .i32⟩
  | 63 => ⟨S1x1024, .i1⟩
  | 64 => ⟨S_, .i32⟩
  | 65 => ⟨S_, .i1⟩
  | 66 => ⟨S1x1024, .i1⟩
  | 67 => ⟨S1x1024, .i1⟩
  | 68 => ⟨S1x1024, .i1⟩
  | 69 => ⟨S1x1024, .i32⟩
  | 70 => ⟨S1x1024, .i32⟩
  | 71 => ⟨S1x1024, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S1024x1, .i32⟩
  | 79 => ⟨S1024x1, .i32⟩
  | 80 => ⟨S_, .i32⟩
  | 81 => ⟨S1024x1, .i32⟩
  | 82 => ⟨S1024x1, .i1⟩
  | 83 => ⟨S_, .i32⟩
  | 84 => ⟨S1024x1, .i32⟩
  | 85 => ⟨S1024x1, .i1⟩
  | 86 => ⟨S_, .i32⟩
  | 87 => ⟨S_, .i1⟩
  | 88 => ⟨S1024x1, .i1⟩
  | 89 => ⟨S1024x1, .i1⟩
  | 90 => ⟨S1024x1, .i1⟩
  | 91 => ⟨S1024x1, .i32⟩
  | 92 => ⟨S1024x1, .i32⟩
  | 93 => ⟨S1024x1, .i32⟩
  | 94 => ⟨S1024x1024, .i32⟩
  | 95 => ⟨S1024x1024, .i32⟩
  | 96 => ⟨S1024x1024, .i1⟩
  | 97 => ⟨S1024x1024, .i1⟩
  | 98 => ⟨S1x128x1024x1024, .f32⟩
  | 99 => ⟨S_, .f32⟩
  | 100 => ⟨S1x128x1024x1024, .f32⟩
  | 101 => ⟨S1x128x1024x1024, .f32⟩
  | 102 => ⟨S1x1x1024x1024, .i1⟩
  | 103 => ⟨S_, .f32⟩
  | 104 => ⟨S_, .f32⟩
  | 105 => ⟨S1x128x1024x1024, .i1⟩
  | 106 => ⟨S1x128x1024x1024, .f32⟩
  | 107 => ⟨S1x128x1024x1024, .f32⟩
  | 108 => ⟨S_, .f32⟩
  | 109 => ⟨S1x128x1024, .f32⟩
  | 110 => ⟨S1x128x1024x1, .f32⟩
  | 111 => ⟨S1x128x1024x1024, .f32⟩
  | 112 => ⟨S1x128x1024x1024, .f32⟩
  | 113 => ⟨S1x128x1024x1024, .f32⟩
  | 114 => ⟨S_, .i1⟩
  | 115 => ⟨S1024, .i1⟩
  | 116 => ⟨S1x1x1024x1, .i1⟩
  | 117 => ⟨S_, .f32⟩
  | 118 => ⟨S1x128x1024, .f32⟩
  | 119 => ⟨S1x128x1024x1, .f32⟩
  | 120 => ⟨S_, .f32⟩
  | 121 => ⟨S_, .f32⟩
  | 122 => ⟨S1x128x1024x1, .i1⟩
  | 123 => ⟨S1x128x1024x1, .f32⟩
  | 124 => ⟨S1x128x1024x1, .f32⟩
  | 125 => ⟨S1x128x1024x1024, .f32⟩
  | 126 => ⟨S1x128x1024x1024, .f32⟩
  | 127 => ⟨S1x1x1024x1, .i1⟩
  | _ => ⟨S1x1024x1024, .f32⟩

abbrev hbmTy0_1 (i : Nat) : BufTy := match i % 128 with
  | 0 => ⟨S_, .f32⟩
  | 1 => ⟨S_, .f32⟩
  | 2 => ⟨S1x128x1024x1024, .i1⟩
  | 3 => ⟨S1x128x1024x1024, .f32⟩
  | 4 => ⟨S1x128x1024x1024, .f32⟩
  | 5 => ⟨S1x128x128x1024, .f32⟩
  | 6 => ⟨S1x1024x128x128, .f32⟩
  | 7 => ⟨S1x1024x16384, .f32⟩
  | 8 => ⟨S1x1024x1024, .f32⟩
  | 9 => ⟨S1x1024x1024, .bf16⟩
  | _ => ⟨S1x1024x1024, .f32⟩

abbrev hbmTy (i : Nat) : BufTy := match i / 128 with
  | 0 => hbmTy0_0 i
  | 1 => hbmTy0_1 i
  | _ => ⟨S1x1024x1024, .f32⟩

abbrev bufTy : (tb : Table) → Fin (tcTables nBuf tb) → BufTy
  | .hbm, ⟨i, _⟩ => hbmTy i
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩

abbrev nD : Nat := 1
abbrev τ : Topo := Topo.v7x

variable {F : FTy → Type} [FloatOps F]
-- ==== Proof.Base.lean ====
/-
  The resource algebra, the buffers and the semaphore arrays of the attention kernel, named once for every
  module of this proof.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ShareLeaves
public import Idealize.ShloMosaic.Lib.Ring.FamCut

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The rounds library's component: cells of the machine, duties named by the device that pays them. -/
abbrev UB : Type := URounds (GSem nD τ sig) (Dev nD)
/-- Beside the pipeline library's component. -/
abbrev UU : Type := UR sig nD τ × UB
/-- The resources of a proof over the elements `F`. -/
abbrev MM (F : FTy → Type) : Type := MT nD τ sig Unit (Elt F) ℕ UU ℕ

abbrev EP {F : FTy → Type} : Emb (UR sig nD τ) (MM F) := embL
abbrev ER {F : FTy → Type} : Emb UB (MM F) := embR

abbrev 𝒱₀ : Variants := Variants.none

/-! ## The kernel's operands, in order -/

abbrev a0 : Memref sig .tc .vmem S1x1024x1024 .f32 := Memref.whole cc0_stg0_0
abbrev a1 : Memref sig .tc .hbm S1024x16384 .f32 := Memref.whole main_arg1
abbrev a2 : Memref sig .tc .vmem S1x1024x8x128 .f32 := Memref.whole cc0_stg1_0
abbrev a3 : Memref sig .tc .vmem S1x1024x8x128 .f32 := Memref.whole cc0_stg2_0
abbrev a4 : Memref sig .tc .hbm S16384x1024 .f32 := Memref.whole main_arg4
abbrev a5 : Memref sig .tc .vmem S1x1024x1024 .bf16 := Memref.whole cc0_stg3_0
abbrev a6 : Memref sig .tc .vmem S1024x1024 .f32 := Memref.whole cc0_scratch0
abbrev a7 : Memref sig .tc .vmem S1024x1024 .f32 := Memref.whole cc0_scratch1
abbrev a8 : Memref sig .tc .vmem S1024x1024 .bf16 := Memref.whole cc0_scratch2
abbrev a9 : Memref sig .tc .vmem S1024x8x128 .bf16 := Memref.whole cc0_scratch3
abbrev a10 : Memref sig .tc .vmem S1024x8x128 .bf16 := Memref.whole cc0_scratch4
abbrev a11 : Memref sig .tc .vmem S1024x1024 .bf16 := Memref.whole cc0_scratch5
abbrev a12 : Memref sig .tc .vmem S1024x1024 .bf16 := Memref.whole cc0_scratch6
abbrev a13 : Memref sig .tc .vmem S16x64x1024 .bf16 := Memref.whole cc0_scratch7
abbrev a14 : Memref sig .tc .vmem S64x1024 .bf16 := Memref.whole cc0_scratch8
abbrev a15 : Memref sig .tc .vmem S16x64x1024 .bf16 := Memref.whole cc0_scratch9
abbrev a16 : Memref sig .tc .vmem S16x64x1024 .bf16 := Memref.whole cc0_scratch10
abbrev s0 : DmaSems sig S2 := cc0_scratch11
abbrev s1 : DmaSems sig S16 := cc0_scratch12
abbrev s2 : DmaSems sig S16 := cc0_scratch13
abbrev s3 : DmaSems sig S15 := cc0_scratch14
abbrev s4 : DmaSems sig S16 := cc0_scratch15

theorem h0 : a0.IsWhole := Memref.isWhole_whole _
theorem h1 : a1.IsWhole := Memref.isWhole_whole _
theorem h2 : a2.IsWhole := Memref.isWhole_whole _
theorem h3 : a3.IsWhole := Memref.isWhole_whole _
theorem h4 : a4.IsWhole := Memref.isWhole_whole _
theorem h5 : a5.IsWhole := Memref.isWhole_whole _
theorem h6 : a6.IsWhole := Memref.isWhole_whole _
theorem h7 : a7.IsWhole := Memref.isWhole_whole _
theorem h8 : a8.IsWhole := Memref.isWhole_whole _
theorem h9 : a9.IsWhole := Memref.isWhole_whole _
theorem h10 : a10.IsWhole := Memref.isWhole_whole _
theorem h11 : a11.IsWhole := Memref.isWhole_whole _
theorem h12 : a12.IsWhole := Memref.isWhole_whole _
theorem h13 : a13.IsWhole := Memref.isWhole_whole _
theorem h14 : a14.IsWhole := Memref.isWhole_whole _
theorem h15 : a15.IsWhole := Memref.isWhole_whole _
theorem h16 : a16.IsWhole := Memref.isWhole_whole _

end Cert.Attn

end
-- ==== Proof.Spec.lean ====
/-
  What every buffer of the attention kernel holds, as functions of the arguments: the gathered rows, the queries,
  one head of one group, the context, the part of one output block that a device computes, the block summed over the
  devices, and the result.
-/
module

public import proofs.«01_k».proof.Proof.Base
public import Idealize.ShloMosaic.Lib.ValueIdxCore

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)

variable {F : FTy → Type} [FloatOps F]

/-- The five arguments, on every device. -/
structure In (F : FTy → Type) where
  x : Dev nD → FVec F S1x1024x1024 .f32
  wq : Dev nD → FVec F S1024x16384 .f32
  k : Dev nD → FVec F S1x1024x8x128 .f32
  v : Dev nD → FVec F S1x1024x8x128 .f32
  wo : Dev nD → FVec F S16384x1024 .f32

/-- The row of the sequence that gathered row `p` comes from: the blocks of 64 rows are taken by residue modulo four. -/
def srcRow (p : Fin 1024) : Fin 1024 := ⟨64 * (p.val / 256 + 4 * (p.val / 64 % 4)) + p.val % 64, by omega⟩

/-- The gathered rows of `x`, scaled. -/
def xgV (x : FVec F S1x1024x1024 .f32) : FVec F S1024x1024 .bf16 :=
  truncf .bf16 (mulf (fun i : S1024x1024.Idx => x (ix3 0 (srcRow (i 0)) (i 1)))
    (broadcast S1024x1024 (Scalar.ofBits .f32 0x3DB504F3#32))) bitsLt_bf16_f32

/-- The gathered rows of the keys, or of the values. -/
def kgV (k : FVec F S1x1024x8x128 .f32) : FVec F S1024x8x128 .bf16 :=
  truncf .bf16 (fun i : S1024x8x128.Idx => k (ix4 0 (srcRow (i 0)) (i 1) (i 2))) bitsLt_bf16_f32

/-- Device `c`'s columns of the query weights. -/
def wqV (c : Dev nD) (w : FVec F S1024x16384 .f32) : FVec F S1024x1024 .f32 :=
  fun i => w (ix2 (i 0) ⟨1024 * c.val + (i 1).val, by have : c.val < 16 := c.isLt; have : (i 1).val < 1024 := (i 1).isLt; omega⟩)

/-- Device `c`'s rows of the output weights. -/
def woV (c : Dev nD) (w : FVec F S16384x1024 .f32) : FVec F S1024x1024 .f32 :=
  fun i => w (ix2 ⟨1024 * c.val + (i 0).val, by have : c.val < 16 := c.isLt; have : (i 0).val < 1024 := (i 0).isLt; omega⟩ (i 1))

/-- The queries of device `c`'s heads. -/
def qV (I : In F) (c : Dev nD) : FVec F S1024x1024 .bf16 := k0_pay58 (wqV c (I.wq c)) (xgV (I.x c))

/-- The window of the queries of group `g`, head `h`. -/
def qWin (q : FVec F S1024x1024 .bf16) (g : Fin 4) (h : Fin 8) : FVec F S256x128 .bf16 :=
  fun i => q (ix2 ⟨256 * g.val + (i 0).val, by have : (i 0).val < 256 := (i 0).isLt; omega⟩
    ⟨128 * h.val + (i 1).val, by have : (i 1).val < 128 := (i 1).isLt; omega⟩)

/-- The window of the gathered keys, or values, of group `g`, head `h`. -/
def kWin (k : FVec F S1024x8x128 .bf16) (g : Fin 4) (h : Fin 8) : FVec F S256x1x128 .bf16 :=
  fun i => k (ix3 ⟨256 * g.val + (i 0).val, by have : (i 0).val < 256 := (i 0).isLt; omega⟩ h (i 2))

/-- The context of group `g`, head `h`. -/
def headV (q : FVec F S1024x1024 .bf16) (k v : FVec F S1024x8x128 .bf16) (g : Fin 4) (h : Fin 8) : FVec F S256x128 .bf16 :=
  k0_pay60 (qWin q g h) (kWin k g h) (kWin v g h)

/-- The context of every group and head, as device `c` lays it out. -/
def ctxV (I : In F) (c : Dev nD) : FVec F S1024x1024 .bf16 := fun i =>
  headV (qV I c) (kgV (I.k c)) (kgV (I.v c))
    ⟨(i 0).val / 256, by have : (i 0).val < 1024 := (i 0).isLt; omega⟩ ⟨(i 1).val / 128, by have : (i 1).val < 1024 := (i 1).isLt; omega⟩
    (ix2 ⟨(i 0).val % 256, Nat.mod_lt _ (by decide)⟩ ⟨(i 1).val % 128, Nat.mod_lt _ (by decide)⟩)

/-- The 64 rows of the context that belong to the output block of device `d`. -/
def rowsV (ctx : FVec F S1024x1024 .bf16) (d : Dev nD) : FVec F S64x1024 .bf16 := fun i =>
  ctx (ix2 ⟨256 * (d.val % 4) + 64 * (d.val / 4) + (i 0).val, by
    have := d.isLt; have : (i 0).val < 64 := (i 0).isLt; simp only [nD] at *; omega⟩ (i 1))

/-- 64 rows of a context times a device's rows of the output weights. -/
def projV (wo : FVec F S1024x1024 .bf16) (rows : FVec F S64x1024 .bf16) : FVec F S64x1024 .bf16 :=
  truncf .bf16 (matmul dot_S64x1024_S1024x1024_S64x1024_1_0_0_1_n_n none rows wo (constant S64x1024 .f32 0x00000000#32)) bitsLt_bf16_f32

/-- Device `s`'s part of the output block of device `d`. -/
def chunkV (I : In F) (s d : Dev nD) : FVec F S64x1024 .bf16 :=
  projV (k0_pay59 (woV s (I.wo s))) (rowsV (ctxV I s) d)

/-- The parts of devices `0, …, n` summed in that order. -/
def accV (p : Dev nD → FVec F S64x1024 .bf16) : (n : ℕ) → n < 16 → FVec F S64x1024 .f32
  | 0, h => extf .f32 (p ⟨0, h⟩) bitsLt_bf16_f32
  | n + 1, h => addf (accV p n (by omega)) (extf .f32 (p ⟨n + 1, h⟩) bitsLt_bf16_f32)

/-- The sum of sixteen parts. -/
def sumV (p : Dev nD → FVec F S64x1024 .bf16) : FVec F S64x1024 .bf16 := truncf .bf16 (accV p 15 (by decide)) bitsLt_bf16_f32

/-- The output block of device `d`. -/
def redV (I : In F) (d : Dev nD) : FVec F S64x1024 .bf16 := sumV fun s => chunkV I s d

/-- The result, the same on every device. -/
def outV (I : In F) : FVec F S1x1024x1024 .bf16 := fun i =>
  redV I ⟨(i 1).val / 64, by have : (i 1).val < 1024 := (i 1).isLt; simp only [nD]; omega⟩
    (ix2 ⟨(i 1).val % 64, Nat.mod_lt _ (by decide)⟩ (i 2))

end Cert.Attn

end
-- ==== Proof.Protocol.lean ====
/-
  The protocol of the attention kernel: the semaphore cells, who pays each of them, how much, and what the payment
  hands over.
-/
module

public import proofs.«01_k».proof.Proof.Spec

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]

local notation "𝕄" => MT nD τ sig Unit (Elt F) ℕ UU ℕ

/-! ## Devices -/

/-- The device whose output block device `c` computes at step `i`. -/
def tgt (c : Dev nD) (i : Fin 16) : Dev nD := ⟨(c.val + i.val / 4) % 4 + 4 * (i.val % 4), by simp only [nD]; omega⟩

/-- The device `j` places after `c`. -/
def peer (c : Dev nD) (j : Fin 16) : Dev nD := ⟨(c.val + j.val) % 16, Nat.mod_lt _ (by decide)⟩

/-! ## Slots and semaphores -/

theorem inbSlot (i : Fin 16) : ∀ a, (![i.val, 0, 0] : Fin 3 → ℕ) a + S1x64x1024.size a ≤ S16x64x1024.size a := by
  revert i; decide

/-- Slot `i` of a buffer of sixteen blocks. -/
abbrev slot (b : Memref sig .tc .vmem S16x64x1024 .bf16) (i : Fin 16) : Memref sig .tc .vmem S64x1024 .bf16 :=
  (b.slice (Rect.unit (s := S16x64x1024) ![i.val, 0, 0] S1x64x1024.size (inbSlot i)) (fun _ => rfl)).squeeze S64x1024 squeezes_S1x64x1024_S64x1024

/-- The part of the query weights that device `c` copies. -/
abbrev wqSrc (c : Dev nD) : Memref sig .tc .hbm S1024x1024 .f32 :=
  a1.slice (Rect.unit (s := S1024x16384) (k0_off1 c) S1024x1024.size (k0_off1_inb c)) (fun _ => rfl)
/-- The part of the output weights that device `c` copies. -/
abbrev woSrc (c : Dev nD) : Memref sig .tc .hbm S1024x1024 .f32 :=
  a4.slice (Rect.unit (s := S16384x1024) (k0_off2 c) S1024x1024.size (k0_off2_inb c)) (fun _ => rfl)

/-- The barrier's semaphore. -/
abbrev barS : Sem sig := (SemArray.scalar (sig.barrier 0 rfl) : Sems sig S_).sem

/-- The kernel's own semaphores in order: two for the local copies, sixteen for the sends of parts, sixteen for their
    arrivals, fifteen for the sends of sums, sixteen for their arrivals. -/
abbrev osem (i : Fin 65) : SemLoc sig := .dma ⟨4 + i.val, by have := i.isLt; show 4 + i.val < 69; omega⟩

inductive Cell
  | bar
  | loc (i : Fin 2)
  | rsS (i : Fin 16)
  | rsR (s : Fin 16)
  | agS (j : Fin 15)
  | agR (s : Fin 16)
  deriving DecidableEq

/-- Which of the kernel's own semaphores a cell is. -/
abbrev iLoc (i : Fin 2) : Fin 65 := ⟨i.val, by omega⟩
abbrev iRsS (i : Fin 16) : Fin 65 := ⟨2 + i.val, by omega⟩
abbrev iRsR (i : Fin 16) : Fin 65 := ⟨18 + i.val, by omega⟩
abbrev iAgS (i : Fin 15) : Fin 65 := ⟨34 + i.val, by omega⟩
abbrev iAgR (i : Fin 16) : Fin 65 := ⟨49 + i.val, by omega⟩

/-- The kind of a semaphore of this kernel. -/
def ownCell (i : Fin 65) : Cell :=
  if h : i.val < 2 then .loc ⟨i.val, h⟩
  else if h : i.val < 18 then .rsS ⟨i.val - 2, by omega⟩
  else if h : i.val < 34 then .rsR ⟨i.val - 18, by omega⟩
  else if h : i.val < 49 then .agS ⟨i.val - 34, by omega⟩
  else .agR ⟨i.val - 49, by omega⟩

def decode : SemLoc sig → Option Cell
  | .reg _ => some .bar
  | .dma n => if h : 4 ≤ n.val ∧ n.val < 69 then some (ownCell ⟨n.val - 4, by omega⟩) else none

@[simp] theorem decode_bar (s : Sem sig) : decode (.reg s) = some .bar := rfl
theorem decode_osem (i : Fin 65) : decode (osem i) = some (ownCell i) := by revert i; decide

theorem decode_loc (i : Fin 2) : decode (osem (iLoc i)) = some (.loc i) := by revert i; decide
theorem decode_rsS (i : Fin 16) : decode (osem (iRsS i)) = some (.rsS i) := by revert i; decide
theorem decode_rsR (i : Fin 16) : decode (osem (iRsR i)) = some (.rsR i) := by revert i; decide
theorem decode_agS (i : Fin 15) : decode (osem (iAgS i)) = some (.agS i) := by revert i; decide
theorem decode_agR (i : Fin 16) : decode (osem (iAgR i)) = some (.agR i) := by revert i; decide

/-! ## The schedule -/

/-- The device whose core a cell belongs to. -/
abbrev dv (g : GSem nD τ sig) : Dev nD := g.1.1

/-- What a copy of 64 rows credits. -/
def NB : ℕ := (slot a15 0).view.dmaCredit
/-- What a copy of a device's weights credits. -/
def NW : ℕ := a6.view.dmaCredit

/-- Who pays a cell. -/
def dutiesC (c : Dev nD) : Cell → Finset (Dev nD)
  | .bar => Finset.univ.erase c
  | .loc _ => {c}
  | .rsS i => if tgt c i = c then ∅ else {c}
  | .rsR s => if s = c then ∅ else {s}
  | .agS _ => {c}
  | .agR s => if s = c then ∅ else {s}

/-- How much each payment is. -/
def amtC : Cell → ℕ
  | .bar => 1
  | .loc _ => NW
  | _ => NB

/-- Slot `i` of a buffer of blocks on device `d`, at any contents. -/
def slotAny (b : Memref sig .tc .vmem S16x64x1024 .bf16) (d : Dev nD) (i : Fin 16) : sProp 𝕄 :=
  iprop(∃ f, (slot b i).view.loc (d : Thread nD τ) ↦[(slot b i).view.set]{fullShare} f)

/-- Slot `i` of a buffer of blocks on device `d`, holding `v`. -/
def slotIs (b : Memref sig .tc .vmem S16x64x1024 .bf16) (d : Dev nD) (i : Fin 16) (v : FVec F S64x1024 .bf16) : sProp 𝕄 :=
  iprop(∃ f, ⌜(slot b i).view.read (Elt F) f = v⌝ ∗ (slot b i).view.loc (d : Thread nD τ) ↦[(slot b i).view.set]{fullShare} f)

/-- The share of the sum's buffer that the send to the peer `j` places on holds. -/
abbrev redLeaf (j : Fin 16) : PosShare TreeShare := ShareLeaves.leaf 4 fullShare j

/-- What a payment hands over. -/
def payC (I : In F) (d : Dev nD) (p : Dev nD) : Cell → sProp 𝕄
  | .bar => iprop(slotAny a15 p d ∗ slotAny a16 p d)
  | .loc i => if i = 0
      then iprop((a6.view.loc (d : Thread nD τ) ↦{fullShare} (wqV d (I.wq d) : Buf (Elt F) (a6.view.loc (d : Thread nD τ))))
        ∗ ((wqSrc d).view.loc (d : Thread nD τ) ↦[(wqSrc d).view.set]{fullShare} (I.wq d : Buf (Elt F) ((wqSrc d).view.loc (d : Thread nD τ)))))
      else iprop((a7.view.loc (d : Thread nD τ) ↦{fullShare} (woV d (I.wo d) : Buf (Elt F) (a7.view.loc (d : Thread nD τ))))
        ∗ ((woSrc d).view.loc (d : Thread nD τ) ↦[(woSrc d).view.set]{fullShare} (I.wo d : Buf (Elt F) ((woSrc d).view.loc (d : Thread nD τ)))))
  | .rsS i => slotAny a13 d i
  | .rsR s => slotIs a15 d s (chunkV I s d)
  | .agS j => iprop(a14.view.loc (d : Thread nD τ) ↦{redLeaf j.succ} (redV I d : Buf (Elt F) (a14.view.loc (d : Thread nD τ))))
  | .agR s => slotIs a16 d s (redV I s)

theorem NB_pos : 0 < NB := View.dmaCredit_pos _ h_S64x1024
theorem NW_pos : 0 < NW := View.dmaCredit_pos _ h_S1024x1024
theorem credit15 (i : Fin 16) : (slot a15 i).view.dmaCredit = NB := rfl
theorem credit16 (i : Fin 16) : (slot a16 i).view.dmaCredit = NB := rfl
theorem credit13 (i : Fin 16) : (slot a13 i).view.dmaCredit = NB := rfl
theorem credit14 : a14.view.dmaCredit = NB := rfl
theorem credit6 : a6.view.dmaCredit = NW := rfl
theorem credit7 : a7.view.dmaCredit = NW := rfl
attribute [irreducible] NB NW

theorem amtC_pos (x : Cell) : 0 < amtC x := by
  cases x <;> first | exact Nat.one_pos | exact NW_pos | exact NB_pos

/-- The duties of a semaphore of core `c`, by its kind. -/
def dutiesO (c : Dev nD) : Option Cell → Finset (Dev nD)
  | some x => dutiesC c x
  | none => ∅
def amtO : Option Cell → ℕ
  | some x => amtC x
  | none => 1
def payO (I : In F) (d p : Dev nD) : Option Cell → sProp 𝕄
  | some x => payC I d p x
  | none => iprop(emp)

/-- The whole schedule: every cell has one round. -/
def Rd (I : In F) : Schedule (GSem nD τ sig) (Dev nD) 𝕄 where
  duties g r := if r = 0 then dutiesO (dv g) (decode g.2) else ∅
  amount g _ _ := amtO (decode g.2)
  payload g _ p := payO I (dv g) p (decode g.2)
  amount_pos g _ _ _ := by
    show 0 < amtO (decode g.2)
    cases decode g.2 with
    | none => exact Nat.one_pos
    | some x => exact amtC_pos x

section Storable
variable {ℓ ℓ' : Loc nD τ sig}
theorem storable_any (S : Finset (Idx ℓ)) : BI.Storable (upEmb : UEmb _ 𝕄) iprop(∃ f : Buf (Elt F) ℓ, ℓ ↦[S]{fullShare} f) := inferInstance
theorem storable_is (S : Finset (Idx ℓ)) (P : Buf (Elt F) ℓ → Prop) :
    BI.Storable (upEmb : UEmb _ 𝕄) iprop(∃ f : Buf (Elt F) ℓ, ⌜P f⌝ ∗ ℓ ↦[S]{fullShare} f) := inferInstance
theorem storable_pts (S : Finset (Idx ℓ)) (q : PosShare TreeShare) (f : Buf (Elt F) ℓ) :
    BI.Storable (upEmb : UEmb _ 𝕄) iprop(ℓ ↦[S]{q} f) := inferInstance
theorem storable_sep (P Q : sProp 𝕄) (hP : BI.Storable (upEmb : UEmb _ 𝕄) P) (hQ : BI.Storable (upEmb : UEmb _ 𝕄) Q) :
    BI.Storable (upEmb : UEmb _ 𝕄) iprop(P ∗ Q) := inferInstance
end Storable

theorem slotAny_storable (b : Memref sig .tc .vmem S16x64x1024 .bf16) (d : Dev nD) (i : Fin 16) :
    BI.Storable (upEmb : UEmb _ 𝕄) (slotAny (F := F) b d i) := storable_any _
theorem slotIs_storable (b : Memref sig .tc .vmem S16x64x1024 .bf16) (d : Dev nD) (i : Fin 16) (v : FVec F S64x1024 .bf16) :
    BI.Storable (upEmb : UEmb _ 𝕄) (slotIs b d i v) :=
  storable_is (ℓ := (slot b i).view.loc (d : Thread nD τ)) _ fun f => (slot b i).view.read (Elt F) f = v

instance payC_storable (I : In F) (d p : Dev nD) (x : Cell) : BI.Storable (upEmb : UEmb _ 𝕄) (payC I d p x) := by
  match x with
  | .bar => exact storable_sep _ _ (slotAny_storable _ _ _) (slotAny_storable _ _ _)
  | .loc i =>
    show BI.Storable upEmb (if i = 0 then _ else _)
    by_cases h : i = 0
    · rw [if_pos h]; exact storable_sep _ _ (storable_pts _ _ _) (storable_pts _ _ _)
    · rw [if_neg h]; exact storable_sep _ _ (storable_pts _ _ _) (storable_pts _ _ _)
  | .rsS _ => exact slotAny_storable _ _ _
  | .rsR _ => exact slotIs_storable _ _ _ _
  | .agS _ => exact storable_pts _ _ _
  | .agR _ => exact slotIs_storable _ _ _ _

instance Rd_storable (I : In F) (g : GSem nD τ sig) (r : ℕ) (d : Dev nD) : BI.Storable (upEmb : UEmb _ 𝕄) ((Rd I).payload g r d) := by
  show BI.Storable upEmb (payO I (dv g) d (decode g.2))
  cases decode g.2 with
  | none => unfold payO; infer_instance
  | some x => exact payC_storable I (dv g) d x

/-! ## The cells -/

/-- The barrier's cell of device `c`. -/
abbrev barCell (c : Dev nD) : GSem nD τ sig := ((c : Thread nD τ), .reg barS)
/-- Own cell `i` of device `c`. -/
abbrev ownC (c : Dev nD) (i : Fin 65) : GSem nD τ sig := ((c : Thread nD τ), osem i)

section Tables
variable (I : In F) (c : Dev nD)

theorem duties_later (g : GSem nD τ sig) (r : ℕ) (hr : 1 ≤ r) : (Rd I).duties g r = ∅ := if_neg (by omega)

theorem duties_bar : (Rd I).duties (barCell c) 0 = Finset.univ.erase c := rfl
theorem duties_own (i : Fin 65) : (Rd I).duties (ownC c i) 0 = dutiesC c (ownCell i) := by
  show dutiesO c (decode (osem i)) = _; rw [decode_osem]; rfl
theorem duties_loc (i : Fin 2) : (Rd I).duties (ownC c (iLoc i)) 0 = {c} := by
  show dutiesO c (decode (osem _)) = _; rw [decode_loc]; rfl
theorem duties_rsS (i : Fin 16) : (Rd I).duties (ownC c (iRsS i)) 0 = if tgt c i = c then ∅ else {c} := by
  show dutiesO c (decode (osem _)) = _; rw [decode_rsS]; rfl
theorem duties_rsR (s : Fin 16) : (Rd I).duties (ownC c (iRsR s)) 0 = if s = c then ∅ else {s} := by
  show dutiesO c (decode (osem _)) = _; rw [decode_rsR]; rfl
theorem duties_agS (j : Fin 15) : (Rd I).duties (ownC c (iAgS j)) 0 = {c} := by
  show dutiesO c (decode (osem _)) = _; rw [decode_agS]; rfl
theorem duties_agR (s : Fin 16) : (Rd I).duties (ownC c (iAgR s)) 0 = if s = c then ∅ else {s} := by
  show dutiesO c (decode (osem _)) = _; rw [decode_agR]; rfl

theorem amount_bar (r : ℕ) (d : Dev nD) : (Rd I).amount (barCell c) r d = 1 := rfl
theorem amount_loc (i : Fin 2) (r : ℕ) (d : Dev nD) : (Rd I).amount (ownC c (iLoc i)) r d = NW := by
  show amtO (decode (osem _)) = _; rw [decode_loc]; rfl
theorem amount_rsS (i : Fin 16) (r : ℕ) (d : Dev nD) : (Rd I).amount (ownC c (iRsS i)) r d = NB := by
  show amtO (decode (osem _)) = _; rw [decode_rsS]; rfl
theorem amount_rsR (i : Fin 16) (r : ℕ) (d : Dev nD) : (Rd I).amount (ownC c (iRsR i)) r d = NB := by
  show amtO (decode (osem _)) = _; rw [decode_rsR]; rfl
theorem amount_agS (i : Fin 15) (r : ℕ) (d : Dev nD) : (Rd I).amount (ownC c (iAgS i)) r d = NB := by
  show amtO (decode (osem _)) = _; rw [decode_agS]; rfl
theorem amount_agR (i : Fin 16) (r : ℕ) (d : Dev nD) : (Rd I).amount (ownC c (iAgR i)) r d = NB := by
  show amtO (decode (osem _)) = _; rw [decode_agR]; rfl

theorem payload_bar (r : ℕ) (p : Dev nD) : (Rd I).payload (barCell c) r p = iprop(slotAny a15 p c ∗ slotAny a16 p c) := rfl
theorem payload_loc (i : Fin 2) (r : ℕ) (p : Dev nD) : (Rd I).payload (ownC c (iLoc i)) r p = payC I c p (.loc i) := by
  show payO I c p (decode (osem _)) = _; rw [decode_loc]; rfl
theorem payload_rsS (i : Fin 16) (r : ℕ) (p : Dev nD) : (Rd I).payload (ownC c (iRsS i)) r p = slotAny a13 c i := by
  show payO I c p (decode (osem _)) = _; rw [decode_rsS]; rfl
theorem payload_rsR (s : Fin 16) (r : ℕ) (p : Dev nD) : (Rd I).payload (ownC c (iRsR s)) r p = slotIs a15 c s (chunkV I s c) := by
  show payO I c p (decode (osem _)) = _; rw [decode_rsR]; rfl
theorem payload_agS (j : Fin 15) (r : ℕ) (p : Dev nD) : (Rd I).payload (ownC c (iAgS j)) r p =
    iprop(a14.view.loc (c : Thread nD τ) ↦{redLeaf j.succ} (redV I c : Buf (Elt F) (a14.view.loc (c : Thread nD τ)))) := by
  show payO I c p (decode (osem _)) = _; rw [decode_agS]; rfl
theorem payload_agR (s : Fin 16) (r : ℕ) (p : Dev nD) : (Rd I).payload (ownC c (iAgR s)) r p = slotIs a16 c s (redV I s) := by
  show payO I c p (decode (osem _)) = _; rw [decode_agR]; rfl

/-- One payment fills a cell that has one payer. -/
theorem expect_of_single {g : GSem nD τ sig} {d : Dev nD} {n : ℕ} (hd : (Rd I).duties g 0 = {d}) (ha : (Rd I).amount g 0 d = n) :
    (Rd I).expect g 0 = n := by
  rw [Rounds.Schedule.expect, hd]; simp [Rounds.Schedule.amountOf, ha]

theorem expect_bar : (Rd I).expect (barCell c) 0 = 15 := by
  rw [Rounds.Schedule.expect, duties_bar]
  show ∑ d ∈ Finset.univ.erase c, 1 = 15
  rw [Finset.sum_const, Finset.card_erase_of_mem (Finset.mem_univ _)]; rfl
theorem expect_loc (i : Fin 2) : (Rd I).expect (ownC c (iLoc i)) 0 = NW := expect_of_single I (duties_loc I c i) (amount_loc I c i 0 c)
theorem expect_rsS (i : Fin 16) (h : tgt c i ≠ c) : (Rd I).expect (ownC c (iRsS i)) 0 = NB :=
  expect_of_single I ((duties_rsS I c i).trans (if_neg h)) (amount_rsS I c i 0 c)
theorem expect_rsR (s : Fin 16) (h : s ≠ c) : (Rd I).expect (ownC c (iRsR s)) 0 = NB :=
  expect_of_single I ((duties_rsR I c s).trans (if_neg h)) (amount_rsR I c s 0 s)
theorem expect_agS (j : Fin 15) : (Rd I).expect (ownC c (iAgS j)) 0 = NB := expect_of_single I (duties_agS I c j) (amount_agS I c j 0 c)
theorem expect_agR (s : Fin 16) (h : s ≠ c) : (Rd I).expect (ownC c (iAgR s)) 0 = NB :=
  expect_of_single I ((duties_agR I c s).trans (if_neg h)) (amount_agR I c s 0 s)

end Tables

/-! ## What is owed -/

abbrev Tallies : Type := CellTallies nD τ sig Unit

/-- What device `c` owes of the last `n` sends of its sum. -/
def agO (c : Dev nD) : ℕ → Tallies
  | 0 => 0
  | n + 1 => agO c n + tallyAt (ownC (peer c ⟨(15 - n) % 16, Nat.mod_lt _ (by decide)⟩) (iAgR c)) () NB

/-- What device `c` owes once `n` of its sends of parts are still to come. -/
def rsO (c : Dev nD) : ℕ → Tallies
  | 0 => agO c 15
  | n + 1 => rsO c n + (if tgt c ⟨(15 - n) % 16, Nat.mod_lt _ (by decide)⟩ = c then 0
      else tallyAt (ownC (tgt c ⟨(15 - n) % 16, Nat.mod_lt _ (by decide)⟩) (iRsR c)) () NB)

/-- What device `c` owes once `n` of its barrier signals are still to come. -/
def barO (c : Dev nD) : ℕ → Tallies
  | 0 => rsO c 16
  | n + 1 => barO c n + tallyAt (barCell (peer c ⟨(15 - n) % 16, Nat.mod_lt _ (by decide)⟩)) () 1

def lvC : Option Cell → ℕ
  | some .bar => 1
  | some (.rsR _) => 2
  | some (.agR _) => 3
  | _ => 0

/-- The level of a cell: a device waits on a cell only while everything it owes lies above it. -/
def lv (g : GSem nD τ sig) (_ : Unit) : ℕ := lvC (decode g.2)
def LL (g : GSem nD τ sig) : Finset Unit := if g.1.2 = .tc then {()} else ∅
theorem LL_of_ne (g : GSem nD τ sig) (h : g.1.2 ≠ .tc) : LL g = ∅ := if_neg h
theorem LL_tc (c : Dev nD) (sm : SemLoc sig) : LL ((c : Thread nD τ), sm) = {()} := if_pos rfl

theorem add_pos' {A B : Tallies} {g : GSem nD τ sig} {u : Unit} (h : 0 < (A + B) g u) : 0 < A g u ∨ 0 < B g u := by
  rw [Pi.add_apply, Finsupp.add_apply] at h; omega
theorem tallyAt_pos {x g : GSem nD τ sig} {u : Unit} {n : ℕ} (h : 0 < (tallyAt x () n : Tallies) g u) : g = x := by
  rw [tallyAt_apply] at h
  by_contra hn
  rw [if_neg fun h' => hn h'.1] at h; exact Nat.lt_irrefl 0 h

theorem agO_pos {c : Dev nD} {n : ℕ} {g : GSem nD τ sig} {u : Unit} (h : 0 < agO c n g u) : ∃ d, g = ownC d (iAgR c) := by
  induction n with
  | zero => exact absurd h (by simp [agO])
  | succ n ih =>
    rcases add_pos' h with h | h
    · exact ih h
    · exact ⟨_, tallyAt_pos h⟩

theorem rsO_pos {c : Dev nD} {n : ℕ} {g : GSem nD τ sig} {u : Unit} (h : 0 < rsO c n g u) :
    ∃ d, g = ownC d (iAgR c) ∨ g = ownC d (iRsR c) := by
  induction n with
  | zero => obtain ⟨d, hd⟩ := agO_pos h; exact ⟨d, .inl hd⟩
  | succ n ih =>
    rcases add_pos' h with h | h
    · exact ih h
    · split at h
      · exact absurd h (by simp)
      · exact ⟨_, .inr (tallyAt_pos h)⟩

theorem barO_pos {c : Dev nD} {n : ℕ} {g : GSem nD τ sig} {u : Unit} (h : 0 < barO c n g u) :
    ∃ d, g = ownC d (iAgR c) ∨ g = ownC d (iRsR c) ∨ g = barCell d := by
  induction n with
  | zero => obtain ⟨d, hd | hd⟩ := rsO_pos h; exacts [⟨d, .inl hd⟩, ⟨d, .inr (.inl hd)⟩]
  | succ n ih =>
    rcases add_pos' h with h | h
    · exact ih h
    · exact ⟨_, .inr (.inr (tallyAt_pos h))⟩

end Cert.Attn

end
-- ==== Proof.Steps.lean ====
/-
  The kernel's steps that touch the protocol, each proved once: a barrier signal, the send of a part, the wait for a
  part, the send of a sum, the wait for a sum, and the waits for the sends.
-/
module

public import proofs.«01_k».proof.Proof.Protocol

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]

local notation "𝕄" => MT nD τ sig Unit (Elt F) ℕ UU ℕ

/-- The weakest precondition of a program of device `c`'s core. -/
abbrev W1 (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows of every cell -/

/-- The cells: of each device its barrier's and its own. -/
abbrev gc : Dev nD × Option (Fin 65) → GSem nD τ sig
  | (c, none) => barCell c
  | (c, some i) => ownC c i

/-- Every cell's invariant, and that its round has begun. -/
def records (I : In F) (K : Dev nD × Option (Fin 65) → ℕ) : sProp 𝕄 :=
  iprop((bigSep Finset.univ fun x => cellInv ER (Rd I) (K x) (gc x)) ∗ bigSep Finset.univ fun x => reached ER (gc x) 0)

instance records_persistent (I : In F) (K : Dev nD × Option (Fin 65) → ℕ) : BI.Persistent (records I K) := by unfold records; infer_instance

theorem inv_at' (I : In F) (K : Dev nD × Option (Fin 65) → ℕ) (x : Dev nD × Option (Fin 65)) :
    (bigSep Finset.univ fun x => (cellInv ER (Rd I) (K x) (gc x) : sProp 𝕄)) ⊢ cellInv ER (Rd I) (K x) (gc x) :=
  bigSep_elim (Finset.mem_univ x)
theorem reached_at' (x : Dev nD × Option (Fin 65)) :
    (bigSep Finset.univ fun x => (reached ER (gc x) 0 : sProp 𝕄)) ⊢ reached ER (gc x) 0 :=
  bigSep_elim (Finset.mem_univ x)
theorem inv_at (I : In F) (K : Dev nD × Option (Fin 65) → ℕ) (x : Dev nD × Option (Fin 65)) :
    records I K ⊢ cellInv ER (Rd I) (K x) (gc x) := by
  unfold records; iintro ⟨H, -⟩; iapply (inv_at' I K x); iexact H
theorem reached_at (I : In F) (K : Dev nD × Option (Fin 65) → ℕ) (x : Dev nD × Option (Fin 65)) :
    records I K ⊢ (reached ER (gc x) 0 : sProp 𝕄) := by
  unfold records; iintro ⟨-, H⟩; iapply (reached_at' x); iexact H

theorem inv_own (I : In F) (K : Dev nD × Option (Fin 65) → ℕ) (c : Dev nD) (i : Fin 65) :
    records I K ⊢ cellInv ER (Rd I) (K (c, some i)) (ownC c i) := inv_at I K (c, some i)
theorem reached_own (I : In F) (K : Dev nD × Option (Fin 65) → ℕ) (c : Dev nD) (i : Fin 65) :
    records I K ⊢ (reached ER (ownC c i) 0 : sProp 𝕄) := reached_at I K (c, some i)
theorem inv_bar (I : In F) (K : Dev nD × Option (Fin 65) → ℕ) (c : Dev nD) :
    records I K ⊢ cellInv ER (Rd I) (K (c, none)) (barCell c) := inv_at I K (c, none)
theorem reached_bar (I : In F) (K : Dev nD × Option (Fin 65) → ℕ) (c : Dev nD) :
    records I K ⊢ (reached ER (barCell c) 0 : sProp 𝕄) := reached_at I K (c, none)

/-! ## A step that one branch of a conditional makes -/

/-- A conditional whose branches meet at `J`: what each branch makes of `P` is enough for `J`. -/
theorem dite_join {c : Dev nD} {C : Prop} {dC : Decidable C} {α : Type} {A : C → Prog (TpuEff nD τ sig (Elt F) Λ₀ .tc) α}
    {J : Prog (TpuEff nD τ sig (Elt F) Λ₀ .tc) α} {Q : α → sProp 𝕄} {P R : sProp 𝕄}
    (ht : ∀ h, P ⊢ iprop((R -∗ W1 c J Q) -∗ W1 c (A h) Q)) (he : ¬C → P ⊢ R) :
    P ⊢ iprop((R -∗ W1 c J Q) -∗ W1 c (if h : C then A h else J) Q) := by
  by_cases h : C
  · rw [dif_pos h]; exact ht h
  · rw [dif_neg h]; iintro HP Hk; iapply Hk; iapply (he h) $$ HP

/-! ## The send of a part -/

section RS
variable (I : In F) (K : Dev nD × Option (Fin 65) → ℕ) (c : Dev nD)

/-- What a send of step `i` spends: its two duties' tokens and the slot at the target, when the target is another device. -/
def sendTok (i : Fin 16) : sProp 𝕄 :=
  if tgt c i = c then iprop(emp)
  else iprop(dutyTok ER (ownC c (iRsS i)) 0 c ∗ dutyTok ER (ownC (tgt c i) (iRsR c)) 0 c ∗ slotAny a15 (tgt c i) c)

/-- After step `i`'s send: its credit, or the part itself when it is the device's own. -/
def sent (i : Fin 16) : sProp 𝕄 :=
  if tgt c i = c then slotIs a13 c i (chunkV I c (tgt c i)) else cred (tallyAt (ownC c (iRsS i)) () NB)

/-- Reading the 64 rows of one slot back after writing them. -/
theorem read_write_slot (b : Memref sig .tc .vmem S16x64x1024 .bf16) (i : Fin 16) (f) (v : FVec F S64x1024 .bf16) :
    (slot b i).view.read (Elt F) ((slot b i).view.write (Elt F) f v Finset.univ) = v :=
  View.read_write_univ f v

theorem send_core (i : Fin 16) (n : ℕ) (hi : (⟨(15 - n) % 16, Nat.mod_lt _ (by decide)⟩ : Fin 16) = i) (ht : tgt c i ≠ c)
    (src dst : Memref sig .tc .vmem S64x1024 .bf16) (hsrc : src = slot a13 i) (hdst : dst = slot a15 c)
    (nd : Dev nD) (hnd : nd = tgt c i) (sS sR : DmaSem sig) (hsS : (.dma sS : SemLoc sig) = osem (iRsS i)) (hsR : (.dma sR : SemLoc sig) = osem (iRsR c))
    {hsc : dst.view.ref.isScScratch = false}
    {p1 : src.view.WordExact} {p2 : dst.view.WordExact} {p3 : DmaTarget.Typed .vmem (.dma sR) (.remote (Dev.tc nd : Thread nD τ) dst (.dma sS) hsc)}
    {α : Type} {Q : α → sProp 𝕄} {k : PUnit → Prog (TpuEff nD τ sig (Elt F) Λ₀ .tc) α} (W : Waits sig Unit) :
    iprop(records I K ∗ slotIs a13 c i (chunkV I c (tgt c i)) ∗ owes (c : Thread nD τ) (rsO c (n + 1)) W
        ∗ dutyTok ER (ownC c (iRsS i)) 0 c ∗ dutyTok ER (ownC (tgt c i) (iRsR c)) 0 c ∗ slotAny a15 (tgt c i) c)
      ⊢ iprop(((cred (tallyAt (ownC c (iRsS i)) () NB) ∗ owes (c : Thread nD τ) (rsO c n) W) -∗ W1 c (k ⟨⟩) Q)
          -∗ W1 c (.op (.enqueueDma src (.remote (Dev.tc nd : Thread nD τ) dst (.dma sS) hsc) (.dma sR) p1 p2 p3) k) Q) := by
  subst hnd hsrc hdst
  cases hsS; cases hsR
  unfold slotIs slotAny
  iintro ⟨#HR, ⟨%f, %hf, Hs⟩, HO, Ht1, Ht2, %g, Hd⟩ Hk
  have hO : rsO c (n + 1) = rsO c n + tallyAt (ownC (tgt c i) (iRsR c)) () NB := by
    show rsO c n + (if _ then _ else _) = _
    rw [hi, if_neg ht]
  iapply (Rounds.wp_send_pointsTo 𝒱₀ ER (Rd I) (c : Thread nD τ) none (κ₁ := K (c, some (iRsS i))) (κ₂ := K (tgt c i, some (iRsR c)))
    (sS := osem (iRsS i)) (sem := osem (iRsR c)) (r₁ := 0) (r₂ := 0) (d₁ := c) (d₂ := c) (fs := f) (fd := g)
    (by rw [duties_rsS I c i, if_neg ht]; exact Finset.mem_singleton_self _)
    (by rw [duties_rsR I (tgt c i) c, if_neg (Ne.symm ht)]; exact Finset.mem_singleton_self _)
    () () NB (credit15 c) (amount_rsS I c i 0 c) (amount_rsR I (tgt c i) c 0 c) (rsO c n) hO (W := W)
    (by rw [payload_rsS I c i]; unfold slotAny; iintro H; iexists _; iexact H)
    (by
      rw [payload_rsR I (tgt c i) c]; unfold slotIs; iintro H
      iexists ((slot a15 c).view.write (Elt F) g ((slot a13 i).view.read (Elt F) f) Finset.univ)
      isplitr; · ipureintro; exact (read_write_slot a15 c _ _).trans hf
      iexact H)) $$ [HO Ht1 Ht2 Hs Hd]
  · isplitr; · iapply (inv_own I K c (iRsS i)); iexact HR
    isplitr; · iapply (inv_own I K (tgt c i) (iRsR c)); iexact HR
    isplitl [Hs]; · iexact Hs
    isplitl [Hd]; · iexact Hd
    isplitl [HO]; · iexact HO
    isplitl [Ht1]; · iexact Ht1
    isplitr; · iapply (reached_own I K c (iRsS i)); iexact HR
    isplitl [Ht2]; · iexact Ht2
    iapply (reached_own I K (tgt c i) (iRsR c)); iexact HR
  iexact Hk

end RS

end Cert.Attn

end
-- ==== Proof.Steps2.lean ====
/-
  The remaining steps of the kernel that touch the protocol: the copy of a device's own part, the signals, the sends and
  every wait.
-/
module

public import proofs.«01_k».proof.Proof.Steps

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (I : In F) (K : Dev nD × Option (Fin 65) → ℕ) (c : Dev nD)

theorem slot_read (b : Memref sig .tc .vmem S16x64x1024 .bf16) (i : Fin 16) (f) :
    (slot b i).view.read (Elt F) f = shapeCast S64x1024 ((b.access (Rect.unit (s := S16x64x1024) ![i.val, 0, 0] S1x64x1024.size (inbSlot i))).read (Elt F) f) shapeCasts_S1x64x1024_S64x1024 := rfl

/-- One slot read through its window and the unit axis dropped is the slot read. -/
theorem slot_readAt (b : Memref sig .tc .vmem S16x64x1024 .bf16) (i : Fin 16) (f)
    (inb : ∀ a, (![i.val, 0, 0] : Fin 3 → ℕ) a + S1x64x1024.size a ≤ S16x64x1024.size a) :
    shapeCast S64x1024 (b.view.readAt (Elt F) (Rect.unit (s := S16x64x1024) ![i.val, 0, 0] S1x64x1024.size inb).toLoadRect f)
      shapeCasts_S1x64x1024_S64x1024 = (slot b i).view.read (Elt F) f := rfl

/-- A slot read after a store to its window. -/
theorem slot_read_write (b : Memref sig .tc .vmem S16x64x1024 .bf16) (i : Fin 16)
    (inb : ∀ a, (![i.val, 0, 0] : Fin 3 → ℕ) a + S1x64x1024.size a ≤ S16x64x1024.size a)
    (f : (b.access (Rect.unit (s := S16x64x1024) ![i.val, 0, 0] S1x64x1024.size inb)).ty.Contents (Elt F)) (w : FVec F S1x64x1024 .bf16) :
    (slot b i).view.read (Elt F) ((b.access (Rect.unit (s := S16x64x1024) ![i.val, 0, 0] S1x64x1024.size inb)).write (Elt F) f w Finset.univ)
      = shapeCast S64x1024 w shapeCasts_S1x64x1024_S64x1024 := by
  rw [slot_read]
  congr 1
  exact View.read_write_univ f w

theorem own_core (i : Fin 16) (off1 : Fin 3 → ℕ) (h1 : off1 = ![i.val, 0, 0]) (inb1 : ∀ a, off1 a + S1x64x1024.size a ≤ S16x64x1024.size a)
    (off : Fin 3 → ℕ) (hoff : off = ![c.val, 0, 0]) (inb : ∀ a, off a + S1x64x1024.size a ≤ S16x64x1024.size a)
    (pay : Vec F S1x64x1024 .bf16 → FVec F S1x64x1024 .bf16) (hpay : ∀ v, pay v = v)
    {lp1 lp2 sp1 sp2} {α : Type} {Q : α → sProp 𝕄} {J : Prog (TpuEff nD τ sig (Elt F) Λ₀ .tc) α} (v : FVec F S64x1024 .bf16) :
    iprop(slotIs a13 c i v ∗ slotAny a15 c c)
      ⊢ iprop(((slotIs a13 c i v ∗ slotIs a15 c c v) -∗ W1 c J Q)
          -∗ W1 c (Prog.lift (.load a13 (Rect.unit (s := S16x64x1024) off1 S1x64x1024.size inb1).toLoadRect lp1) >>= fun w =>
            Prog.lift (.load a15 (Rect.unit (s := S16x64x1024) off S1x64x1024.size inb).toLoadRect lp2) >>= fun _ =>
            Prog.lift (.store a15 (Rect.unit (s := S16x64x1024) off S1x64x1024.size inb) (pay w) Finset.univ sp1 sp2) >>= fun _ => J) Q) := by
  subst h1 hoff
  unfold slotIs slotAny
  iintro ⟨⟨%f, %hf, H13⟩, %g, H15⟩ Hk
  unfold W1
  sl_exec
  iapply Hk
  isplitl [H13]
  · iexists f; isplitr; · ipureintro; exact hf
    iexact H13
  iexists _
  isplitr
  rotate_left
  · iexact H15
  ipureintro
  unfold own_core.sl.H15_w1
  rw [hpay, slot_read_write]
  exact (slot_readAt a13 i f inb1).trans hf

/-! ## Own copies and sends -/

theorem tgt_eq_iff (c : Dev nD) (i : Fin 16) : tgt c i = c ↔ i.val = c.val / 4 := by revert c i; decide

/-- A device's own slot before step `n`: filled once the step that computes its own rows is past. -/
def ownSt (n : ℕ) : sProp 𝕄 := if c.val / 4 < n then slotIs a15 c c (chunkV I c c) else slotAny a15 c c

/-- What device `c` owes, whatever it has waited for. -/
def owesX (O : Tallies) : sProp 𝕄 := iprop(∃ W, owes (c : Thread nD τ) O W)

theorem send1 (i : Fin 16) (n : ℕ) (hi : (⟨(15 - n) % 16, Nat.mod_lt _ (by decide)⟩ : Fin 16) = i) {C : Prop} {dC : Decidable C} (hC : C ↔ tgt c i ≠ c)
    (src : C → Memref sig .tc .vmem S64x1024 .bf16) (dst : C → Memref sig .tc .vmem S64x1024 .bf16)
    (hsrc : ∀ h, src h = slot a13 i) (hdst : ∀ h, dst h = slot a15 c)
    (nd : C → Dev nD) (hnd : ∀ h, nd h = tgt c i) (sS sR : C → DmaSem sig)
    (hsS : ∀ h, (.dma (sS h) : SemLoc sig) = osem (iRsS i)) (hsR : ∀ h, (.dma (sR h) : SemLoc sig) = osem (iRsR c))
    {hsc : ∀ h, (dst h).view.ref.isScScratch = false}
    {p1 : ∀ h, (src h).view.WordExact} {p2 : ∀ h, (dst h).view.WordExact}
    {p3 : ∀ h, DmaTarget.Typed .vmem (.dma (sR h)) (.remote (Dev.tc (nd h) : Thread nD τ) (dst h) (.dma (sS h)) (hsc h))}
    {α : Type} {Q : α → sProp 𝕄} {J : Prog (TpuEff nD τ sig (Elt F) Λ₀ .tc) α} :
    iprop(records I K ∗ slotIs a13 c i (chunkV I c (tgt c i)) ∗ owesX c (rsO c (n + 1)) ∗ sendTok c i)
      ⊢ iprop(((sent I c i ∗ owesX c (rsO c n)) -∗ W1 c J Q)
          -∗ W1 c (if h : C then (Prog.lift (.enqueueDma (src h) (.remote (Dev.tc (nd h) : Thread nD τ) (dst h) (.dma (sS h)) (hsc h)) (.dma (sR h)) (p1 h) (p2 h) (p3 h)) >>= fun _ => J) else J) Q) := by
  refine dite_join (fun h => ?_) fun h => ?_
  · have ht := hC.1 h
    unfold sent sendTok owesX
    rw [if_neg ht, if_neg ht]
    iintro ⟨HR, Hs, ⟨%W, HO⟩, Ht⟩ Hk
    iapply (send_core I K c i n hi ht (src h) (dst h) (hsrc h) (hdst h) (nd h) (hnd h) (sS h) (sR h) (hsS h) (hsR h) (Q := Q) (k := fun _ => J) W) $$ [HR Hs HO Ht]
    · isplitl [HR]; · iexact HR
      isplitl [Hs]; · iexact Hs
      isplitl [HO]; · iexact HO
      iexact Ht
    iintro ⟨Hc, HO⟩
    iapply Hk
    isplitl [Hc]; · iexact Hc
    iexists W; iexact HO
  · have ht : tgt c i = c := Classical.not_not.1 fun h' => h (hC.2 h')
    unfold sent sendTok
    rw [if_pos ht, if_pos ht]
    have hO : rsO c (n + 1) = rsO c n := by
      show rsO c n + (if _ then _ else _) = _
      rw [hi, if_pos ht, add_zero]
    rw [hO]
    iintro ⟨-, H, HO, -⟩
    isplitl [H]; · iexact H
    iexact HO

theorem send2 (i : Fin 16) {C : Prop} {dC : Decidable C} (hC : C ↔ tgt c i = c)
    (off1 : Fin 3 → ℕ) (h1 : off1 = ![i.val, 0, 0]) (inb1 : ∀ a, off1 a + S1x64x1024.size a ≤ S16x64x1024.size a)
    (off : Fin 3 → ℕ) (hoff : off = ![c.val, 0, 0]) (inb : C → ∀ a, off a + S1x64x1024.size a ≤ S16x64x1024.size a)
    (pay : Vec F S1x64x1024 .bf16 → FVec F S1x64x1024 .bf16) (hpay : ∀ v, pay v = v)
    {lp1} {lp2 : ∀ h : C, a15.view.LoadsAt (Rect.unit (s := S16x64x1024) off S1x64x1024.size (inb h)).toLoadRect}
    {sp1 : ∀ h : C, (a15.access (Rect.unit (s := S16x64x1024) off S1x64x1024.size (inb h))).Stores Finset.univ}
    {sp2 : ∀ h : C, Finset.univ = Finset.univ ∨ ∀ a, (Rect.unit (s := S16x64x1024) off S1x64x1024.size (inb h)).stride a = 1} {α : Type} {Q : α → sProp 𝕄} {J : Prog (TpuEff nD τ sig (Elt F) Λ₀ .tc) α} :
    iprop(sent I c i ∗ ownSt I c i.val)
      ⊢ iprop(((sent I c i ∗ ownSt I c (i.val + 1)) -∗ W1 c J Q)
          -∗ W1 c (if h : C then (Prog.lift (.load a13 (Rect.unit (s := S16x64x1024) off1 S1x64x1024.size inb1).toLoadRect lp1) >>= fun w =>
            Prog.lift (.load a15 (Rect.unit (s := S16x64x1024) off S1x64x1024.size (inb h)).toLoadRect (lp2 h)) >>= fun _ =>
            Prog.lift (.store a15 (Rect.unit (s := S16x64x1024) off S1x64x1024.size (inb h)) (pay w) Finset.univ (sp1 h) (sp2 h)) >>= fun _ => J) else J) Q) := by
  refine dite_join (fun h => ?_) fun h => ?_
  · have ht := hC.1 h
    have hc := (tgt_eq_iff c i).1 ht
    unfold sent ownSt
    rw [if_pos ht, if_neg (by omega), if_pos (by omega), ht]
    exact own_core c i off1 h1 inb1 off hoff (inb h) pay hpay _
  · have ht : ¬ tgt c i = c := fun h' => h (hC.2 h')
    have hc : ¬ i.val = c.val / 4 := fun h' => ht ((tgt_eq_iff c i).2 h')
    unfold ownSt
    by_cases hl : c.val / 4 < i.val
    · rw [if_pos hl, if_pos (by omega)]
    · rw [if_neg hl, if_neg (by omega)]

/-! ## What a wait needs -/

theorem mayWait_cell (sm : SemLoc sig) (O : Tallies)
    (h : ∀ g u, 0 < O g u → ∃ d i, g = ownC d i ∧ lvC (decode sm) < lvC (decode (osem i))) :
    (levAts LL lv : sProp 𝕄) ⊢ MayWait (c : Thread nD τ) sm () O := by
  refine Pipeline.mayWait_of_levAts (by rw [LL_tc]; exact Finset.mem_singleton_self _) fun g u hg => ?_
  obtain ⟨d, i, rfl, hl⟩ := h g u hg
  exact ⟨by rw [LL_tc]; exact Finset.mem_singleton_self _, hl⟩

theorem mayWait_bar : (levAts LL lv : sProp 𝕄) ⊢ MayWait (c : Thread nD τ) (.reg barS) () (barO c 0) :=
  mayWait_cell c _ _ fun g u hg => by
    obtain ⟨d, hd | hd⟩ := rsO_pos hg
    · exact ⟨d, _, hd, by rw [decode_agR]; show 1 < 3; decide⟩
    · exact ⟨d, _, hd, by rw [decode_rsR]; show 1 < 2; decide⟩
theorem mayWait_loc (i : Fin 2) : (levAts LL lv : sProp 𝕄) ⊢ MayWait (c : Thread nD τ) (osem (iLoc i)) () (barO c 0) :=
  mayWait_cell c _ _ fun g u hg => by
    obtain ⟨d, hd | hd⟩ := rsO_pos hg
    · exact ⟨d, _, hd, by rw [decode_agR, decode_loc]; show 0 < 3; decide⟩
    · exact ⟨d, _, hd, by rw [decode_rsR, decode_loc]; show 0 < 2; decide⟩
theorem mayWait_rsR (s : Fin 16) : (levAts LL lv : sProp 𝕄) ⊢ MayWait (c : Thread nD τ) (osem (iRsR s)) () (rsO c 0) :=
  mayWait_cell c _ _ fun g u hg => by
    obtain ⟨d, hd⟩ := agO_pos hg
    exact ⟨d, _, hd, by rw [decode_agR, decode_rsR]; show 2 < 3; decide⟩

/-! ## Waits -/

/-- A wait for the one payment of an own cell. -/
theorem wait_core (i : Fin 65) (p : Dev nD) (N : ℕ) (hd : (Rd I).duties (ownC c i) 0 = {p}) (hN : (Rd I).expect (ownC c i) 0 = N)
    {O : Tallies} (hO : (levAts LL lv : sProp 𝕄) ⊢ MayWait (c : Thread nD τ) (osem i) () O)
    (sm : DmaSem sig) (hsm : (.dma sm : SemLoc sig) = osem i)
    {sp sp' : Space} {sh sh' : Shape} {e e' : EltTy} {src : Memref sig .tc sp' sh' e'} {dst : Memref sig .tc sp sh e}
    {hs : src.view.WordExact} {hw : dst.view.WordExact} (hcr : dst.view.dmaCredit = N)
    {α : Type} {Q : α → sProp 𝕄} {k : PUnit → Prog (TpuEff nD τ sig (Elt F) Λ₀ .tc) α} :
    iprop(records I K ∗ levAts LL lv ∗ cred (tallyAt (ownC c i) () N) ∗ owesX c O ∗ atPos ER (ownC c i) 0 ∅ 0)
      ⊢ iprop(((owesX c O ∗ atPos ER (ownC c i) 1 ∅ 0 ∗ (Rd I).payload (ownC c i) 0 p) -∗ W1 c (k ⟨⟩) Q)
          -∗ W1 c (.op (.waitDma2 sm src dst hs hw) k) Q) := by
  cases hsm
  subst hcr
  unfold owesX
  iintro ⟨#HR, #HL, Hc, ⟨%W, HO⟩, Ha⟩ Hk
  iapply (Rounds.wp_wait_rest_token 𝒱₀ ER (Rd I) (c : Thread nD τ) none (κ := K (c, some i))
      (wpE_waitDma2_eq 𝒱₀ (c : Thread nD τ) none Set.univ) (Set.mem_univ _) () (O := O) (W := W) (R := 0) (m := 0) (T := ∅)
      (by rw [Nat.zero_add]; exact hN.symm)) $$ [Hc HO Ha]
  · isplitr; · iapply (inv_own I K c i); iexact HR
    isplitl [Hc]; · iexact Hc
    isplitl [HO]; · iexact HO
    isplitr; · iapply hO; iexact HL
    iexact Ha
  iintro ⟨HO, Ha, -, Hp⟩
  iapply Hk
  isplitl [HO]; · iexists _; iexact HO
  isplitl [Ha]; · iexact Ha
  have e : bigSep ((Rd I).duties (ownC c i) 0 \ ∅) (fun d => (Rd I).payload (ownC c i) 0 d) = (Rd I).payload (ownC c i) 0 p := by
    rw [Finset.sdiff_empty, hd, bigSep_singleton]
  iapply (Entails.of_eq e); iexact Hp

theorem levAts_zero (sm : SemLoc sig) : (levAts LL lv : sProp 𝕄) ⊢ MayWait (c : Thread nD τ) sm () 0 := by
  rw [MayWait_zero]; iintro -; iempintro

/-- The part of device `s`: what device `c` needs to wait for it. -/
def rsIn (s : Fin 16) : sProp 𝕄 :=
  if s = c then atPos ER (ownC c (iRsR s)) 0 ∅ 0
  else iprop(atPos ER (ownC c (iRsR s)) 0 ∅ 0 ∗ cred (tallyAt (ownC c (iRsR s)) () NB))
/-- And what it has afterwards. -/
def rsGot (s : Fin 16) : sProp 𝕄 :=
  if s = c then atPos ER (ownC c (iRsR s)) 0 ∅ 0
  else iprop(atPos ER (ownC c (iRsR s)) 1 ∅ 0 ∗ slotIs a15 c s (chunkV I s c))

theorem rsWait (s : Fin 16) {C : Prop} {dC : Decidable C} (hC : C ↔ s ≠ c)
    (sm : DmaSem sig) (hsm : (.dma sm : SemLoc sig) = osem (iRsR s))
    (src : Memref sig .tc .vmem S64x1024 .bf16) (dst : Memref sig .tc .vmem S64x1024 .bf16) (hdst : dst = slot a15 s)
    {hs : src.view.WordExact} {hw : dst.view.WordExact}
    {α : Type} {Q : α → sProp 𝕄} {J : Prog (TpuEff nD τ sig (Elt F) Λ₀ .tc) α} :
    iprop(records I K ∗ levAts LL lv ∗ owesX c (rsO c 0) ∗ rsIn c s)
      ⊢ iprop(((owesX c (rsO c 0) ∗ rsGot I c s) -∗ W1 c J Q)
          -∗ W1 c (if h : C then (Prog.lift (.waitDma2 sm src dst hs hw) >>= fun _ => J) else J) Q) := by
  subst hdst
  refine dite_join (fun h => ?_) fun h => ?_
  · have ht := hC.1 h
    unfold rsIn rsGot
    rw [if_neg ht, if_neg ht]
    iintro ⟨HR, HL, HO, Ha, Hc⟩ Hk
    iapply (wait_core I K c (iRsR s) s NB ((duties_rsR I c s).trans (if_neg ht)) (expect_rsR I c s ht) (mayWait_rsR c s) sm hsm
      (dst := slot a15 s) (src := src) (hs := hs) (hw := hw) (credit15 s) (Q := Q) (k := fun _ => J)) $$ [HR HL HO Ha Hc]
    · isplitl [HR]; · iexact HR
      isplitl [HL]; · iexact HL
      isplitl [Hc]; · iexact Hc
      isplitl [HO] <;> iassumption
    rw [payload_rsR]
    iintro ⟨HO, Ha, Hp⟩
    iapply Hk
    isplitl [HO]; · iexact HO
    isplitl [Ha] <;> iassumption
  · have ht : s = c := Classical.not_not.1 fun h' => h (hC.2 h')
    unfold rsIn rsGot
    rw [if_pos ht, if_pos ht]
    iintro ⟨-, -, HO, Ha⟩
    isplitl [HO] <;> iassumption

/-- What device `c` has once the send of step `i` is waited for. -/
def rsBack (i : Fin 16) : sProp 𝕄 :=
  if tgt c i = c then iprop(atPos ER (ownC c (iRsS i)) 0 ∅ 0 ∗ slotAny a13 c i)
  else iprop(atPos ER (ownC c (iRsS i)) 1 ∅ 0 ∗ slotAny a13 c i)

theorem slotIs_any (b : Memref sig .tc .vmem S16x64x1024 .bf16) (d : Dev nD) (i : Fin 16) (v : FVec F S64x1024 .bf16) :
    slotIs b d i v ⊢ slotAny b d i := by
  unfold slotIs slotAny; iintro ⟨%f, -, H⟩; iexists f; iexact H

theorem rsSWait (i : Fin 16) {C : Prop} {dC : Decidable C} (hC : C ↔ tgt c i ≠ c)
    (sm : DmaSem sig) (hsm : (.dma sm : SemLoc sig) = osem (iRsS i))
    (src : C → Memref sig .tc .vmem S64x1024 .bf16) (dst : Memref sig .tc .vmem S64x1024 .bf16) (hdst : dst = slot a13 i)
    {hs : ∀ h, (src h).view.WordExact} {hw : dst.view.WordExact}
    {α : Type} {Q : α → sProp 𝕄} {J : Prog (TpuEff nD τ sig (Elt F) Λ₀ .tc) α} :
    iprop(records I K ∗ levAts LL lv ∗ owesX c 0 ∗ atPos ER (ownC c (iRsS i)) 0 ∅ 0 ∗ sent I c i)
      ⊢ iprop(((owesX c 0 ∗ rsBack c i) -∗ W1 c J Q)
          -∗ W1 c (if h : C then (Prog.lift (.waitDma2 sm (src h) dst (hs h) hw) >>= fun _ => J) else J) Q) := by
  subst hdst
  refine dite_join (fun h => ?_) fun h => ?_
  · have ht := hC.1 h
    unfold sent rsBack
    rw [if_neg ht, if_neg ht]
    iintro ⟨HR, HL, HO, Ha, Hc⟩ Hk
    iapply (wait_core I K c (iRsS i) c NB ((duties_rsS I c i).trans (if_neg ht)) (expect_rsS I c i ht) (levAts_zero c _) sm hsm
      (dst := slot a13 i) (src := src h) (hs := hs h) (hw := hw) (credit13 i) (Q := Q) (k := fun _ => J)) $$ [HR HL HO Ha Hc]
    · isplitl [HR]; · iexact HR
      isplitl [HL]; · iexact HL
      isplitl [Hc]; · iexact Hc
      isplitl [HO] <;> iassumption
    rw [payload_rsS]
    iintro ⟨HO, Ha, Hp⟩
    iapply Hk
    isplitl [HO]; · iexact HO
    isplitl [Ha] <;> iassumption
  · have ht : tgt c i = c := Classical.not_not.1 fun h' => h (hC.2 h')
    unfold sent rsBack
    rw [if_pos ht, if_pos ht]
    iintro ⟨-, -, HO, Ha, H⟩
    isplitl [HO]; · iexact HO
    isplitl [Ha]; · iexact Ha
    iapply (slotIs_any a13 c i _); iexact H

/-! ## The sum's sends -/

/-- The share of the sum's buffer that send `j` holds, at the sum. -/
def redPiece (j : Fin 16) : sProp 𝕄 := iprop(a14.view.loc (c : Thread nD τ) ↦{redLeaf j} (redV I c : Buf (Elt F) (a14.view.loc (c : Thread nD τ))))

/-- What the send of the sum to the peer `j + 1` places on spends. -/
def agTok (j : Fin 15) : sProp 𝕄 :=
  iprop(dutyTok ER (ownC c (iAgS j)) 0 c ∗ dutyTok ER (ownC (peer c j.succ) (iAgR c)) 0 c ∗ slotAny a16 (peer c j.succ) c)

theorem peer_ne (j : Fin 15) : peer c j.succ ≠ c := by revert c j; decide

theorem agSend (j : Fin 15) (n : ℕ) (hj : (⟨(15 - n) % 16, Nat.mod_lt _ (by decide)⟩ : Fin 16) = j.succ)
    (dst : Memref sig .tc .vmem S64x1024 .bf16) (hdst : dst = slot a16 c)
    (nd : Dev nD) (hnd : nd = peer c j.succ) (sS sR : DmaSem sig) (hsS : (.dma sS : SemLoc sig) = osem (iAgS j)) (hsR : (.dma sR : SemLoc sig) = osem (iAgR c))
    {hsc : dst.view.ref.isScScratch = false}
    {p1 : a14.view.WordExact} {p2 : dst.view.WordExact} {p3 : DmaTarget.Typed .vmem (.dma sR) (.remote (Dev.tc nd : Thread nD τ) dst (.dma sS) hsc)}
    {α : Type} {Q : α → sProp 𝕄} {k : PUnit → Prog (TpuEff nD τ sig (Elt F) Λ₀ .tc) α} :
    iprop(records I K ∗ redPiece I c j.succ ∗ owesX c (agO c (n + 1)) ∗ agTok c j)
      ⊢ iprop(((cred (tallyAt (ownC c (iAgS j)) () NB) ∗ owesX c (agO c n)) -∗ W1 c (k ⟨⟩) Q)
          -∗ W1 c (.op (.enqueueDma a14 (.remote (Dev.tc nd : Thread nD τ) dst (.dma sS) hsc) (.dma sR) p1 p2 p3) k) Q) := by
  subst hnd hdst
  cases hsS; cases hsR
  unfold redPiece agTok slotAny owesX
  iintro ⟨#HR, Hs, ⟨%W, HO⟩, Ht1, Ht2, %g, Hd⟩ Hk
  have hO : agO c (n + 1) = agO c n + tallyAt (ownC (peer c j.succ) (iAgR c)) () NB := by
    show agO c n + _ = _
    rw [hj]
  iapply (Rounds.wp_send_pointsTo 𝒱₀ ER (Rd I) (c : Thread nD τ) none (κ₁ := K (c, some (iAgS j))) (κ₂ := K (peer c j.succ, some (iAgR c)))
    (sS := osem (iAgS j)) (sem := osem (iAgR c)) (r₁ := 0) (r₂ := 0) (d₁ := c) (d₂ := c) (fs := (redV I c : Buf (Elt F) (a14.view.loc (c : Thread nD τ)))) (fd := g)
    (by rw [duties_agS I c j]; exact Finset.mem_singleton_self _)
    (by rw [duties_agR I (peer c j.succ) c, if_neg (Ne.symm (peer_ne c j))]; exact Finset.mem_singleton_self _)
    () () NB (credit16 c) (amount_agS I c j 0 c) (amount_agR I (peer c j.succ) c 0 c) (agO c n) hO (W := W) (q := redLeaf j.succ)
    (by rw [payload_agS I c j]; rw [show a14.view.set = Finset.univ from View.set_whole _])
    (by
      rw [payload_agR I (peer c j.succ) c]; unfold slotIs; iintro H
      iexists ((slot a16 c).view.write (Elt F) g (a14.view.read (Elt F) (redV I c)) Finset.univ)
      isplitr; · ipureintro; exact (read_write_slot a16 c _ _)
      iexact H)) $$ [HO Ht1 Ht2 Hs Hd]
  · isplitr; · iapply (inv_own I K c (iAgS j)); iexact HR
    isplitr; · iapply (inv_own I K (peer c j.succ) (iAgR c)); iexact HR
    isplitl [Hs]; · rw [show a14.view.set = Finset.univ from View.set_whole _]; iexact Hs
    isplitl [Hd]; · iexact Hd
    isplitl [HO]; · iexact HO
    isplitl [Ht1]; · iexact Ht1
    isplitr; · iapply (reached_own I K c (iAgS j)); iexact HR
    isplitl [Ht2]; · iexact Ht2
    iapply (reached_own I K (peer c j.succ) (iAgR c)); iexact HR
  iintro ⟨Hc, HO⟩
  iapply Hk
  isplitl [Hc]; · iexact Hc
  iexists W; iexact HO

theorem agSWait (j : Fin 15)
    (sm : DmaSem sig) (hsm : (.dma sm : SemLoc sig) = osem (iAgS j))
    {src : Memref sig .tc .vmem S64x1024 .bf16}
    {hs : src.view.WordExact} {hw : a14.view.WordExact}
    {α : Type} {Q : α → sProp 𝕄} {k : PUnit → Prog (TpuEff nD τ sig (Elt F) Λ₀ .tc) α} :
    iprop(records I K ∗ levAts LL lv ∗ owesX c 0 ∗ atPos ER (ownC c (iAgS j)) 0 ∅ 0 ∗ cred (tallyAt (ownC c (iAgS j)) () NB))
      ⊢ iprop(((owesX c 0 ∗ atPos ER (ownC c (iAgS j)) 1 ∅ 0 ∗ redPiece I c j.succ) -∗ W1 c (k ⟨⟩) Q)
          -∗ W1 c (.op (.waitDma2 sm src a14 hs hw) k) Q) := by
  unfold redPiece
  iintro ⟨HR, HL, HO, Ha, Hc⟩ Hk
  iapply (wait_core I K c (iAgS j) c NB (duties_agS I c j) (expect_agS I c j) (levAts_zero c _) sm hsm
      (dst := a14) (src := src) (hs := hs) (hw := hw) credit14 (Q := Q) (k := k)) $$ [HR HL HO Ha Hc]
  · isplitl [HR]; · iexact HR
    isplitl [HL]; · iexact HL
    isplitl [Hc]; · iexact Hc
    isplitl [HO] <;> iassumption
  rw [payload_agS]
  iexact Hk

/-! ## The barrier -/

/-- What the signal to the peer `j` places on spends: its duty's token and the two slots the peer sends to. -/
def barTok (j : Fin 16) : sProp 𝕄 :=
  iprop(dutyTok ER (barCell (peer c j)) 0 c ∗ slotAny a15 c (peer c j) ∗ slotAny a16 c (peer c j))

theorem signal_step (j : Fin 15) (n : ℕ) (hj : (⟨(15 - n) % 16, Nat.mod_lt _ (by decide)⟩ : Fin 16) = j.succ)
    (nd : Dev nD) (hnd : nd = peer c j.succ)
    {α : Type} {Q : α → sProp 𝕄} {k : PUnit → Prog (TpuEff nD τ sig (Elt F) Λ₀ .tc) α} :
    iprop(records I K ∗ owesX c (barO c (n + 1)) ∗ barTok c j.succ)
      ⊢ iprop((owesX c (barO c n) -∗ W1 c (k ⟨⟩) Q)
          -∗ W1 c (semSignalWord nd barS 1#32 >>= k) Q) := by
  subst hnd
  show _ ⊢ iprop(_ -∗ W1 c (.op (.semSignal (Dev.tc (peer c j.succ)) barS 1) k) Q)
  unfold barTok owesX
  iintro ⟨#HR, ⟨%W, HO⟩, Ht, H15, H16⟩ Hk
  have hO : barO c (n + 1) = barO c n + tallyAt (barCell (peer c j.succ)) () 1 := by
    show barO c n + _ = _
    rw [hj]
  iapply (Rounds.wp_signal 𝒱₀ ER (Rd I) (c : Thread nD τ) none (dst := (Dev.tc (peer c j.succ) : Thread nD τ)) (κ := K (peer c j.succ, none)) (d := c) (r := 0)
    (by
      show c ∈ (Rd I).duties (barCell (peer c j.succ)) 0
      rw [duties_bar]; exact Finset.mem_erase.2 ⟨Ne.symm (peer_ne c j), Finset.mem_univ _⟩)
    (amount_bar I (peer c j.succ) 0 c) () (O₀ := barO c (n + 1)) (barO c n) hO (W := W)) $$ [HO Ht H15 H16]
  · isplitr; · iapply (inv_bar I K (peer c j.succ)); iexact HR
    isplitl [HO]; · iexact HO
    isplitl [Ht]; · iexact Ht
    isplitl [H15 H16]
    · iapply (Entails.of_eq (payload_bar I (peer c j.succ) 0 c).symm)
      isplitl [H15] <;> iassumption
    iapply (reached_bar I K (peer c j.succ)); iexact HR
  iintro HO
  iapply Hk
  iexists W; iexact HO

theorem bar_wait {α : Type} {Q : α → sProp 𝕄} {k : PUnit → Prog (TpuEff nD τ sig (Elt F) Λ₀ .tc) α} :
    iprop(records I K ∗ levAts LL lv ∗ cred (tallyAt (barCell c) () 15) ∗ owesX c (barO c 0) ∗ atPos ER (barCell c) 0 ∅ 0)
      ⊢ iprop(((owesX c (barO c 0) ∗ atPos ER (barCell c) 1 ∅ 0
            ∗ bigSep (Finset.univ.erase c) fun p => iprop(slotAny a15 p c ∗ slotAny a16 p c)) -∗ W1 c (k ⟨⟩) Q)
          -∗ W1 c (semWaitWord barS 15#32 >>= k) Q) := by
  show _ ⊢ iprop(_ -∗ W1 c (.op (.semWait barS 15) k) Q)
  unfold owesX
  iintro ⟨#HR, #HL, Hc, ⟨%W, HO⟩, Ha⟩ Hk
  iapply (Rounds.wp_wait_rest_token 𝒱₀ ER (Rd I) (c : Thread nD τ) none (κ := K (c, none))
      (wpE_semWait_eq 𝒱₀ (c : Thread nD τ) none Set.univ) (Set.mem_univ _) () (O := barO c 0) (W := W) (R := 0) (m := 0) (T := ∅)
      (by rw [Nat.zero_add]; exact (expect_bar I c).symm)) $$ [Hc HO Ha]
  · isplitr; · iapply (inv_bar I K c); iexact HR
    isplitl [Hc]; · iexact Hc
    isplitl [HO]; · iexact HO
    isplitr; · iapply (mayWait_bar c); iexact HL
    iexact Ha
  iintro ⟨HO, Ha, -, Hp⟩
  iapply Hk
  isplitl [HO]; · iexists _; iexact HO
  isplitl [Ha]; · iexact Ha
  have e : bigSep ((Rd I).duties (barCell c) 0 \ ∅) (fun d => (Rd I).payload (barCell c) 0 d) = bigSep (Finset.univ.erase c) fun p => iprop(slotAny a15 p c ∗ slotAny a16 p c) := by
    rw [Finset.sdiff_empty]; rfl
  iapply (Entails.of_eq e); iexact Hp

/-! ## The weights' copies -/

theorem payC_loc0 : payC I c c (.loc 0) = iprop((a6.view.loc (c : Thread nD τ) ↦{fullShare} (wqV c (I.wq c) : Buf (Elt F) (a6.view.loc (c : Thread nD τ))))
    ∗ ((wqSrc c).view.loc (c : Thread nD τ) ↦[(wqSrc c).view.set]{fullShare} (I.wq c : Buf (Elt F) ((wqSrc c).view.loc (c : Thread nD τ))))) := by
  unfold payC
  exact if_pos rfl
theorem payC_loc1 : payC I c c (.loc 1) = iprop((a7.view.loc (c : Thread nD τ) ↦{fullShare} (woV c (I.wo c) : Buf (Elt F) (a7.view.loc (c : Thread nD τ))))
    ∗ ((woSrc c).view.loc (c : Thread nD τ) ↦[(woSrc c).view.set]{fullShare} (I.wo c : Buf (Elt F) ((woSrc c).view.loc (c : Thread nD τ))))) := by
  unfold payC
  exact if_neg (by decide)

theorem read_wqSrc (w : FVec F S1024x16384 .f32) : (wqSrc c).view.read (Elt F) w = wqV c w := by
  funext i
  refine congrArg w ?_
  funext a
  apply Fin.ext
  show (k0_off1 c) a + 1 * (i a).val = _
  rw [k0_off1_eq]
  fin_cases a
  · show 0 + 1 * (i 0).val = (i 0).val; omega
  · show 1024 * c.val + 1 * (i 1).val = 1024 * c.val + (i 1).val; omega

theorem read_woSrc (w : FVec F S16384x1024 .f32) : (woSrc c).view.read (Elt F) w = woV c w := by
  funext i
  refine congrArg w ?_
  funext a
  apply Fin.ext
  show (k0_off2 c) a + 1 * (i a).val = _
  rw [k0_off2_eq]
  fin_cases a
  · show 1024 * c.val + 1 * (i 0).val = 1024 * c.val + (i 0).val; omega
  · show 0 + 1 * (i 1).val = (i 1).val; omega

theorem loc_copy0 (sm : DmaSem sig) (hsm : (.dma sm : SemLoc sig) = osem (iLoc 0)) (src : Memref sig .tc .hbm S1024x1024 .f32) (hsrc : src = wqSrc c)
    {p1 : src.view.WordExact} {p2 : a6.view.WordExact} {p3 : DmaTarget.Typed (nD := nD) (τ := τ) (p := Proc.tc) .hbm (.dma sm) (.here a6)}
    {α : Type} {Q : α → sProp 𝕄} {k : PUnit → Prog (TpuEff nD τ sig (Elt F) Λ₀ .tc) α} :
    iprop(records I K ∗ ((wqSrc c).view.loc (c : Thread nD τ) ↦[(wqSrc c).view.set]{fullShare} (I.wq c : Buf (Elt F) ((wqSrc c).view.loc (c : Thread nD τ))))
        ∗ (∃ f : Buf (Elt F) (a6.view.loc (c : Thread nD τ)), a6.view.loc (c : Thread nD τ) ↦{fullShare} f) ∗ dutyTok ER (ownC c (iLoc 0)) 0 c)
      ⊢ iprop((cred (tallyAt (ownC c (iLoc 0)) () NW) -∗ W1 c (k ⟨⟩) Q)
          -∗ W1 c (.op (.enqueueDma src (.here a6) (.dma sm) p1 p2 p3) k) Q) := by
  subst hsrc
  cases hsm
  iintro ⟨#HR, Hs, ⟨%f, Hd⟩, Ht⟩ Hk
  iapply (Rounds.wp_copy_pointsTo 𝒱₀ ER (Rd I) (c : Thread nD τ) none (κ := K (c, some (iLoc 0))) (r := 0) (d := c)
    (sem := osem (iLoc 0)) (fs := (I.wq c : Buf (Elt F) ((wqSrc c).view.loc (c : Thread nD τ)))) (fd := f)
    (by rw [duties_loc I c 0]; exact Finset.mem_singleton_self _) () NW credit6 (amount_loc I c 0 0 c)
    (by
      rw [payload_loc, payC_loc0, show a6.view.set = Finset.univ from View.set_whole _]
      rw [show a6.view.write (Elt F) f ((wqSrc c).view.read (Elt F) (I.wq c)) Finset.univ = wqV c (I.wq c) from
        (View.write_whole_univ _ _ _).trans (read_wqSrc c _)])) $$ [Hs Hd Ht]
  · isplitr; · iapply (inv_own I K c (iLoc 0)); iexact HR
    isplitl [Hs]; · iexact Hs
    isplitl [Hd]; · rw [show a6.view.set = Finset.univ from View.set_whole _]; iexact Hd
    isplitl [Ht]; · iexact Ht
    iapply (reached_own I K c (iLoc 0)); iexact HR
  iexact Hk

theorem loc_copy1 (sm : DmaSem sig) (hsm : (.dma sm : SemLoc sig) = osem (iLoc 1)) (src : Memref sig .tc .hbm S1024x1024 .f32) (hsrc : src = woSrc c)
    {p1 : src.view.WordExact} {p2 : a7.view.WordExact} {p3 : DmaTarget.Typed (nD := nD) (τ := τ) (p := Proc.tc) .hbm (.dma sm) (.here a7)}
    {α : Type} {Q : α → sProp 𝕄} {k : PUnit → Prog (TpuEff nD τ sig (Elt F) Λ₀ .tc) α} :
    iprop(records I K ∗ ((woSrc c).view.loc (c : Thread nD τ) ↦[(woSrc c).view.set]{fullShare} (I.wo c : Buf (Elt F) ((woSrc c).view.loc (c : Thread nD τ))))
        ∗ (∃ f : Buf (Elt F) (a7.view.loc (c : Thread nD τ)), a7.view.loc (c : Thread nD τ) ↦{fullShare} f) ∗ dutyTok ER (ownC c (iLoc 1)) 0 c)
      ⊢ iprop((cred (tallyAt (ownC c (iLoc 1)) () NW) -∗ W1 c (k ⟨⟩) Q)
          -∗ W1 c (.op (.enqueueDma src (.here a7) (.dma sm) p1 p2 p3) k) Q) := by
  subst hsrc
  cases hsm
  iintro ⟨#HR, Hs, ⟨%f, Hd⟩, Ht⟩ Hk
  iapply (Rounds.wp_copy_pointsTo 𝒱₀ ER (Rd I) (c : Thread nD τ) none (κ := K (c, some (iLoc 1))) (r := 0) (d := c)
    (sem := osem (iLoc 1)) (fs := (I.wo c : Buf (Elt F) ((woSrc c).view.loc (c : Thread nD τ)))) (fd := f)
    (by rw [duties_loc I c 1]; exact Finset.mem_singleton_self _) () NW credit7 (amount_loc I c 1 0 c)
    (by
      rw [payload_loc, payC_loc1, show a7.view.set = Finset.univ from View.set_whole _]
      rw [show a7.view.write (Elt F) f ((woSrc c).view.read (Elt F) (I.wo c)) Finset.univ = woV c (I.wo c) from
        (View.write_whole_univ _ _ _).trans (read_woSrc c _)])) $$ [Hs Hd Ht]
  · isplitr; · iapply (inv_own I K c (iLoc 1)); iexact HR
    isplitl [Hs]; · iexact Hs
    isplitl [Hd]; · rw [show a7.view.set = Finset.univ from View.set_whole _]; iexact Hd
    isplitl [Ht]; · iexact Ht
    iapply (reached_own I K c (iLoc 1)); iexact HR
  iexact Hk

theorem loc_wait (i : Fin 2) (sm : DmaSem sig) (hsm : (.dma sm : SemLoc sig) = osem (iLoc i))
    {src : Memref sig .tc .hbm S1024x1024 .f32} {dst : Memref sig .tc .vmem S1024x1024 .f32} (hcr : dst.view.dmaCredit = NW)
    {hs : src.view.WordExact} {hw : dst.view.WordExact}
    {α : Type} {Q : α → sProp 𝕄} {k : PUnit → Prog (TpuEff nD τ sig (Elt F) Λ₀ .tc) α} :
    iprop(records I K ∗ levAts LL lv ∗ owesX c (barO c 0) ∗ atPos ER (ownC c (iLoc i)) 0 ∅ 0 ∗ cred (tallyAt (ownC c (iLoc i)) () NW))
      ⊢ iprop(((owesX c (barO c 0) ∗ atPos ER (ownC c (iLoc i)) 1 ∅ 0 ∗ payC I c c (.loc i)) -∗ W1 c (k ⟨⟩) Q)
          -∗ W1 c (.op (.waitDma2 sm src dst hs hw) k) Q) := by
  iintro ⟨HR, HL, HO, Ha, Hc⟩ Hk
  iapply (wait_core I K c (iLoc i) c NW (duties_loc I c i) (expect_loc I c i) (mayWait_loc c i) sm hsm
      (dst := dst) (src := src) (hs := hs) (hw := hw) hcr (Q := Q) (k := k)) $$ [HR HL HO Ha Hc]
  · isplitl [HR]; · iexact HR
    isplitl [HL]; · iexact HL
    isplitl [Hc]; · iexact Hc
    isplitl [HO] <;> iassumption
  rw [payload_loc]
  iexact Hk

end Cert.Attn

end
-- ==== Proof.Steps3.lean ====
/-
  The last phase's step: the wait for another device's sum and its copy to the result.
-/
module

public import proofs.«01_k».proof.Proof.Steps2
public import Idealize.ShloMosaic.Lib.Pipeline.Value
public import Idealize.ShloMosaic.Lib.Writes

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
variable {F : FTy → Type} [FloatOps F]
local notation "𝕄" => MT nD τ sig Unit (Elt F) ℕ UU ℕ
variable (I : In F) (K : Dev nD × Option (Fin 65) → ℕ) (c : Dev nD)

/-- A buffer of the result's shape after a store of 64 rows. -/
theorem rows_write {Val : EltTy → Type} (m : Memref sig .tc .vmem S1x1024x1024 .bf16) (s : ℕ)
    (inb : ∀ a, (![0, 64 * s, 0] : Fin 3 → ℕ) a + S1x64x1024.size a ≤ S1x1024x1024.size a)
    (f : m.view.ty.Contents Val) (w : S1x64x1024.Idx → Val .bf16) (i : S1x1024x1024.Idx) :
    m.view.read Val (m.view.writes Val f [⟨Rect.unit (s := S1x1024x1024) ![0, 64 * s, 0] S1x64x1024.size inb, w⟩]) i
      = if (i 1).val / 64 = s then w (ix3 0 ⟨(i 1).val % 64, Nat.mod_lt _ (by decide)⟩ (i 2)) else m.view.read Val f i := by
  have hm : (i 1).val = 64 * ((i 1).val / 64) + (i 1).val % 64 := (Nat.div_add_mod _ _).symm
  by_cases h : (i 1).val / 64 = s
  · refine Eq.trans ?_ (if_pos h).symm
    refine View.read_writes_cons_hit_of_coords m.view f (Rect.unit (s := S1x1024x1024) ![0, 64 * s, 0] S1x64x1024.size inb) w []
      (ix3 0 ⟨(i 1).val % 64, Nat.mod_lt _ (by decide)⟩ (i 2)) i fun a => ?_
    match a with
    | 0 => exact Nat.lt_one_iff.1 (i 0).isLt
    | 1 =>
      show (i 1).val = 64 * s + 1 * ((i 1).val % 64)
      rw [h] at hm; rw [one_mul]; exact hm
    | 2 =>
      show (i 2).val = 0 + 1 * (i 2).val
      rw [one_mul, zero_add]
  · refine Eq.trans ?_ (if_neg h).symm
    refine (View.read_writes_cons_miss_of_axis m.view f ⟨Rect.unit (s := S1x1024x1024) ![0, 64 * s, 0] S1x64x1024.size inb, w⟩ [] i 1 (64 * s) 64 rfl rfl rfl ?_)
    generalize (i 1).val = n at h
    omega

/-- The result's buffer after a store of 64 rows. -/
theorem out_write (s : Fin 16) (inb : ∀ a, (![0, 64 * s.val, 0] : Fin 3 → ℕ) a + S1x64x1024.size a ≤ S1x1024x1024.size a)
    (f : a5.view.ty.Contents (Elt F)) (w : FVec F S1x64x1024 .bf16) (i : S1x1024x1024.Idx) :
    a5.view.read (Elt F) (a5.view.writes (Elt F) f [⟨Rect.unit (s := S1x1024x1024) ![0, 64 * s.val, 0] S1x64x1024.size inb, w⟩]) i
      = if (i 1).val / 64 = s.val then w (ix3 0 ⟨(i 1).val % 64, Nat.mod_lt _ (by decide)⟩ (i 2)) else a5.view.read (Elt F) f i :=
  rows_write a5 s.val inb f w i

/-- The result's buffer with the device's own rows and those of the first `n` devices written. -/
def outSt (n : ℕ) : sProp 𝕄 :=
  iprop(∃ f : Buf (Elt F) (a5.view.loc (c : Thread nD τ)), ⌜∀ i : S1x1024x1024.Idx, ((i 1).val / 64 = c.val ∨ (i 1).val / 64 < n) → a5.view.read (Elt F) f i = outV I i⌝
    ∗ a5.view.loc (c : Thread nD τ) ↦{fullShare} f)

/-- What device `c` needs to wait for the sum of device `s`. -/
def agIn (s : Fin 16) : sProp 𝕄 :=
  if s = c then atPos ER (ownC c (iAgR s)) 0 ∅ 0
  else iprop(atPos ER (ownC c (iAgR s)) 0 ∅ 0 ∗ cred (tallyAt (ownC c (iAgR s)) () NB))
/-- And what it has afterwards. -/
def agGot (s : Fin 16) : sProp 𝕄 :=
  if s = c then atPos ER (ownC c (iAgR s)) 0 ∅ 0
  else iprop(atPos ER (ownC c (iAgR s)) 1 ∅ 0 ∗ slotAny a16 c s)

/-- A store of the sum of device `s` to its rows of the result. -/
theorem out_rows (s : Fin 16) (inb : ∀ a, (![0, 64 * s.val, 0] : Fin 3 → ℕ) a + S1x64x1024.size a ≤ S1x1024x1024.size a)
    (f : a5.view.ty.Contents (Elt F)) (w : FVec F S1x64x1024 .bf16) (hw : ∀ r j, w (ix3 0 r j) = redV I s (ix2 r j))
    (i : S1x1024x1024.Idx) (h : (i 1).val / 64 = s.val ∨ a5.view.read (Elt F) f i = outV I i) :
    a5.view.read (Elt F) (a5.view.writes (Elt F) f [⟨Rect.unit (s := S1x1024x1024) ![0, 64 * s.val, 0] S1x64x1024.size inb, w⟩]) i = outV I i := by
  rw [out_write]
  by_cases hs : (i 1).val / 64 = s.val
  · rw [if_pos hs]
    refine (hw _ _).trans ?_
    unfold outV
    congr 2
    exact Fin.ext hs.symm
  · rw [if_neg hs]
    exact h.resolve_left hs

theorem dropUnit_at (w : FVec F S1x64x1024 .bf16) (v : FVec F S64x1024 .bf16)
    (h : shapeCast S64x1024 w shapeCasts_S1x64x1024_S64x1024 = v) (r : Fin 64) (j : Fin 1024) : w (ix3 0 r j) = v (ix2 r j) := by
  rw [← h]
  refine Eq.trans ?_ (shapeCast_dropUnit_apply ![64, 1024] w _ (ix2 r j)).symm
  congr 1
  funext a
  fin_cases a <;> rfl

theorem agWait_core (s : Fin 16) (ht : s ≠ c)
    (sm : DmaSem sig) (hsm : (.dma sm : SemLoc sig) = osem (iAgR s))
    (dst : Memref sig .tc .vmem S64x1024 .bf16) (hdst : dst = slot a16 s)
    {hs : a14.view.WordExact} {hw : dst.view.WordExact}
    (off1 : Fin 3 → ℕ) (h1 : off1 = ![s.val, 0, 0]) (inb1 : ∀ a, off1 a + S1x64x1024.size a ≤ S16x64x1024.size a)
    (off2 : Fin 3 → ℕ) (h2 : off2 = ![0, 64 * s.val, 0]) (inb2 : ∀ a, off2 a + S1x64x1024.size a ≤ S1x1024x1024.size a)
    (pay : Vec F S1x64x1024 .bf16 → FVec F S1x64x1024 .bf16) (hpay : ∀ v, pay v = v)
    {lp1 lp2 sp1 sp2}
    {α : Type} {Q : α → sProp 𝕄} {J : Prog (TpuEff nD τ sig (Elt F) Λ₀ .tc) α} :
    iprop(records I K ∗ levAts LL lv ∗ owesX c 0 ∗ outSt I c s.val ∗ atPos ER (ownC c (iAgR s)) 0 ∅ 0 ∗ cred (tallyAt (ownC c (iAgR s)) () NB))
      ⊢ iprop(((owesX c 0 ∗ outSt I c (s.val + 1) ∗ atPos ER (ownC c (iAgR s)) 1 ∅ 0 ∗ slotAny a16 c s) -∗ W1 c J Q)
          -∗ W1 c (.op (.waitDma2 sm a14 dst hs hw) fun _ =>
            Prog.lift (.load a16 (Rect.unit (s := S16x64x1024) off1 S1x64x1024.size inb1).toLoadRect lp1) >>= fun w =>
            Prog.lift (.load a5 (Rect.unit (s := S1x1024x1024) off2 S1x64x1024.size inb2).toLoadRect lp2) >>= fun _ =>
            Prog.lift (.store a5 (Rect.unit (s := S1x1024x1024) off2 S1x64x1024.size inb2) (pay w) Finset.univ sp1 sp2) >>= fun _ => J) Q) := by
  subst h1 h2 hdst
  iintro ⟨HR, HL, HO, Hout, Ha, Hc⟩ Hk
  iapply (wait_core I K c (iAgR s) s NB ((duties_agR I c s).trans (if_neg ht)) (expect_agR I c s ht) (levAts_zero c _) sm hsm
    (dst := slot a16 s) (src := a14) (hs := hs) (hw := hw) (credit16 s)) $$ [HR HL HO Ha Hc]
  · isplitl [HR]; · iexact HR
    isplitl [HL]; · iexact HL
    isplitl [Hc]; · iexact Hc
    isplitl [HO] <;> iassumption
  rw [payload_agR]
  unfold slotIs slotAny outSt
  iintro ⟨HO, Ha, %g, %hg, H16⟩
  icases Hout with ⟨%f, %hf, Hout⟩
  unfold W1
  sl_exec
  iapply Hk
  isplitl [HO]; · iexact HO
  isplitl [Hout]
  · iexists _
    isplitr
    rotate_left
    · iexact Hout
    ipureintro
    intro i hi
    rw [hpay]
    refine out_rows I s inb2 f _ (dropUnit_at _ _ ((slot_readAt a16 s g inb1).trans hg)) i ?_
    by_cases he : (i 1).val / 64 = s.val
    · exact .inl he
    · exact .inr (hf i (hi.imp id fun h => by omega))
  isplitl [Ha]; · iexact Ha
  iexists g; iexact H16

theorem agWait (s : Fin 16) {C : Prop} {dC : Decidable C} (hC : C ↔ s ≠ c)
    (sm : DmaSem sig) (hsm : (.dma sm : SemLoc sig) = osem (iAgR s))
    (dst : Memref sig .tc .vmem S64x1024 .bf16) (hdst : dst = slot a16 s)
    {hs : a14.view.WordExact} {hw : dst.view.WordExact}
    (off1 : Fin 3 → ℕ) (h1 : off1 = ![s.val, 0, 0]) (inb1 : ∀ a, off1 a + S1x64x1024.size a ≤ S16x64x1024.size a)
    (off2 : Fin 3 → ℕ) (h2 : off2 = ![0, 64 * s.val, 0]) (inb2 : ∀ a, off2 a + S1x64x1024.size a ≤ S1x1024x1024.size a)
    (pay : Vec F S1x64x1024 .bf16 → FVec F S1x64x1024 .bf16) (hpay : ∀ v, pay v = v)
    {lp1 lp2 sp1 sp2}
    {α : Type} {Q : α → sProp 𝕄} {J : Prog (TpuEff nD τ sig (Elt F) Λ₀ .tc) α} :
    iprop(records I K ∗ levAts LL lv ∗ owesX c 0 ∗ outSt I c s.val ∗ agIn c s)
      ⊢ iprop(((owesX c 0 ∗ outSt I c (s.val + 1) ∗ agGot c s) -∗ W1 c J Q)
          -∗ W1 c (if h : C then (Prog.lift (.waitDma2 sm a14 dst hs hw) >>= fun _ =>
            Prog.lift (.load a16 (Rect.unit (s := S16x64x1024) off1 S1x64x1024.size inb1).toLoadRect lp1) >>= fun w =>
            Prog.lift (.load a5 (Rect.unit (s := S1x1024x1024) off2 S1x64x1024.size inb2).toLoadRect lp2) >>= fun _ =>
            Prog.lift (.store a5 (Rect.unit (s := S1x1024x1024) off2 S1x64x1024.size inb2) (pay w) Finset.univ sp1 sp2) >>= fun _ => J) else J) Q) := by
  refine dite_join (fun h => ?_) fun h => ?_
  · have ht := hC.1 h
    unfold agIn agGot
    rw [if_neg ht, if_neg ht]
    exact agWait_core I K c s ht sm hsm dst hdst off1 h1 inb1 off2 h2 inb2 pay hpay
  · have ht : s = c := Classical.not_not.1 fun h' => h (hC.2 h')
    unfold agIn agGot outSt
    rw [if_pos ht, if_pos ht]
    iintro ⟨-, -, HO, ⟨%f, %hf, Hout⟩, Ha⟩
    isplitl [HO]; · iexact HO
    isplitl [Hout]
    · iexists f
      isplitr
      · ipureintro
        intro i hi
        refine hf i ?_
        have : s.val = c.val := by rw [ht]
        omega
      iexact Hout
    iexact Ha

end Cert.Attn

end
-- ==== Proof.GatherFacts.lean ====
/-
  The contents of the buffers of regrouped rows while their sixteen blocks of 64 rows are stored.
-/
module

public import proofs.«01_k».proof.Proof.Steps3
public import Idealize.ShloMosaic.Lib.Pipeline.Value
public import Idealize.ShloMosaic.Lib.Writes

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
variable {F : FTy → Type} [FloatOps F]
local notation "𝕄" => MT nD τ sig Unit (Elt F) ℕ UU ℕ
variable (I : In F) (K : Dev nD × Option (Fin 65) → ℕ) (c : Dev nD)

/-- A buffer of 1024 rows after one more store of a block of 64 rows. -/
theorem block_rows {Val : EltTy → Type} (m : Memref sig .tc .vmem S1024x1024 .bf16) (p : ℕ)
    (inb : ∀ a, (![64 * p, 0] : Fin 2 → ℕ) a + S64x1024.size a ≤ S1024x1024.size a)
    (f : m.view.ty.Contents Val) (w : S64x1024.Idx → Val .bf16) (L : List (View.Piece Val S1024x1024 .bf16)) (i : S1024x1024.Idx) :
    m.view.read Val (m.view.writes Val f (⟨Rect.unit (s := S1024x1024) ![64 * p, 0] S64x1024.size inb, w⟩ :: L)) i
      = if (i 0).val / 64 = p then w (ix2 ⟨(i 0).val % 64, Nat.mod_lt _ (by decide)⟩ (i 1)) else m.view.read Val (m.view.writes Val f L) i := by
  have h0 : (i 0).val = 64 * ((i 0).val / 64) + (i 0).val % 64 := (Nat.div_add_mod _ _).symm
  by_cases hh : (i 0).val / 64 = p
  · refine Eq.trans ?_ (if_pos hh).symm
    refine View.read_writes_cons_hit_of_coords m.view f (Rect.unit (s := S1024x1024) ![64 * p, 0] S64x1024.size inb) w L
      (ix2 ⟨(i 0).val % 64, Nat.mod_lt _ (by decide)⟩ (i 1)) i fun a => ?_
    match a with
    | 0 =>
      show (i 0).val = 64 * p + 1 * ((i 0).val % 64)
      rw [hh] at h0; rw [one_mul]; exact h0
    | 1 => show (i 1).val = 0 + 1 * (i 1).val; rw [one_mul, zero_add]
  · refine Eq.trans ?_ (if_neg hh).symm
    refine View.read_writes_cons_miss_of_axis m.view f ⟨Rect.unit (s := S1024x1024) ![64 * p, 0] S64x1024.size inb, w⟩ L i 0 (64 * p) 64 rfl rfl rfl ?_
    generalize (i 0).val = n at hh
    omega

/-- The same of a buffer of 1024 rows of eight heads. -/
theorem block_rows3 {Val : EltTy → Type} (m : Memref sig .tc .vmem S1024x8x128 .bf16) (p : ℕ)
    (inb : ∀ a, (![64 * p, 0, 0] : Fin 3 → ℕ) a + S64x8x128.size a ≤ S1024x8x128.size a)
    (f : m.view.ty.Contents Val) (w : S64x8x128.Idx → Val .bf16) (L : List (View.Piece Val S1024x8x128 .bf16)) (i : S1024x8x128.Idx) :
    m.view.read Val (m.view.writes Val f (⟨Rect.unit (s := S1024x8x128) ![64 * p, 0, 0] S64x8x128.size inb, w⟩ :: L)) i
      = if (i 0).val / 64 = p then w (ix3 ⟨(i 0).val % 64, Nat.mod_lt _ (by decide)⟩ (i 1) (i 2)) else m.view.read Val (m.view.writes Val f L) i := by
  have h0 : (i 0).val = 64 * ((i 0).val / 64) + (i 0).val % 64 := (Nat.div_add_mod _ _).symm
  by_cases hh : (i 0).val / 64 = p
  · refine Eq.trans ?_ (if_pos hh).symm
    refine View.read_writes_cons_hit_of_coords m.view f (Rect.unit (s := S1024x8x128) ![64 * p, 0, 0] S64x8x128.size inb) w L
      (ix3 ⟨(i 0).val % 64, Nat.mod_lt _ (by decide)⟩ (i 1) (i 2)) i fun a => ?_
    match a with
    | 0 =>
      show (i 0).val = 64 * p + 1 * ((i 0).val % 64)
      rw [hh] at h0; rw [one_mul]; exact h0
    | 1 => show (i 1).val = 0 + 1 * (i 1).val; rw [one_mul, zero_add]
    | 2 => show (i 2).val = 0 + 1 * (i 2).val; rw [one_mul, zero_add]
  · refine Eq.trans ?_ (if_neg hh).symm
    refine View.read_writes_cons_miss_of_axis m.view f ⟨Rect.unit (s := S1024x8x128) ![64 * p, 0, 0] S64x8x128.size inb, w⟩ L i 0 (64 * p) 64 rfl rfl rfl ?_
    generalize (i 0).val = n at hh
    omega

/-- The first `n` blocks of rows of a buffer hold those of `v`. -/
def RowsOk {Val : EltTy → Type} (m : Memref sig .tc .vmem S1024x1024 .bf16) (v : S1024x1024.Idx → Val .bf16) (n : ℕ) (f : m.view.ty.Contents Val) : Prop :=
  ∀ i : S1024x1024.Idx, (i 0).val / 64 < n → m.view.read Val f i = v i
def RowsOk3 {Val : EltTy → Type} (m : Memref sig .tc .vmem S1024x8x128 .bf16) (v : S1024x8x128.Idx → Val .bf16) (n : ℕ) (f : m.view.ty.Contents Val) : Prop :=
  ∀ i : S1024x8x128.Idx, (i 0).val / 64 < n → m.view.read Val f i = v i

/-- One row of a block of `x`, and of the keys or values. -/
theorem read_x (m : Memref sig .tc .vmem S1x1024x1024 .f32) (f : m.view.ty.Contents (Elt F)) (q : ℕ)
    (inb : ∀ a, (![0, 64 * q, 0] : Fin 3 → ℕ) a + S1x64x1024.size a ≤ S1x1024x1024.size a) (r : Fin 64) (j : Fin 1024) (hq : 64 * q + r.val < 1024) :
    shapeCast S64x1024 (m.view.readAt (Elt F) (Rect.unit (s := S1x1024x1024) ![0, 64 * q, 0] S1x64x1024.size inb).toLoadRect f) shapeCasts_S1x64x1024_S64x1024 (ix2 r j)
      = m.view.read (Elt F) f (ix3 0 ⟨64 * q + r.val, hq⟩ j) := by
  refine (shapeCast_dropUnit_apply _ _ _ _).trans ?_
  show m.view.read (Elt F) f _ = m.view.read (Elt F) f _
  congr 1
  funext a
  apply Fin.ext
  match a with
  | 0 => rfl
  | 1 => show 64 * q + 1 * r.val = 64 * q + r.val; rw [one_mul]
  | 2 => show 0 + 1 * j.val = j.val; rw [one_mul, zero_add]
theorem read_kv (m : Memref sig .tc .vmem S1x1024x8x128 .f32) (f : m.view.ty.Contents (Elt F)) (q : ℕ)
    (inb : ∀ a, (![0, 64 * q, 0, 0] : Fin 4 → ℕ) a + S1x64x8x128.size a ≤ S1x1024x8x128.size a) (r : Fin 64) (h : Fin 8) (j : Fin 128) (hq : 64 * q + r.val < 1024) :
    shapeCast S64x8x128 (m.view.readAt (Elt F) (Rect.unit (s := S1x1024x8x128) ![0, 64 * q, 0, 0] S1x64x8x128.size inb).toLoadRect f) shapeCasts_S1x64x8x128_S64x8x128 (ix3 r h j)
      = m.view.read (Elt F) f (ix4 0 ⟨64 * q + r.val, hq⟩ h j) := by
  refine (shapeCast_dropUnit_apply _ _ _ _).trans ?_
  show m.view.read (Elt F) f _ = m.view.read (Elt F) f _
  congr 1
  funext a
  apply Fin.ext
  match a with
  | 0 => rfl
  | 1 => show 64 * q + 1 * r.val = 64 * q + r.val; rw [one_mul]
  | 2 => show 0 + 1 * h.val = h.val; rw [one_mul, zero_add]
  | 3 => show 0 + 1 * j.val = j.val; rw [one_mul, zero_add]

/-- The scaled rows of one block of `x`. -/
def xRow (v : Vec F S1x64x1024 .f32) : FVec F S64x1024 .bf16 :=
  truncf .bf16 (mulf (shapeCast S64x1024 v shapeCasts_S1x64x1024_S64x1024) (broadcast S64x1024 (Scalar.ofBits .f32 0x3DB504F3#32))) bitsLt_bf16_f32
/-- The rows of one block of the keys or values. -/
def kRow (v : Vec F S1x64x8x128 .f32) : FVec F S64x8x128 .bf16 :=
  truncf .bf16 (shapeCast S64x8x128 v shapeCasts_S1x64x8x128_S64x8x128) bitsLt_bf16_f32

/-- The store of one more block of the scaled rows. -/
theorem x_step (m : Memref sig .tc .vmem S1024x1024 .bf16) (b : Memref sig .tc .vmem S1x1024x1024 .f32) (x : b.view.ty.Contents (Elt F)) (p q : ℕ) (hp : p < 16) (hq : q = p / 4 + 4 * (p % 4))
    (inb : ∀ a, (![64 * p, 0] : Fin 2 → ℕ) a + S64x1024.size a ≤ S1024x1024.size a)
    (inbx : ∀ a, (![0, 64 * q, 0] : Fin 3 → ℕ) a + S1x64x1024.size a ≤ S1x1024x1024.size a)
    (f : m.view.ty.Contents (Elt F)) (L : List (View.Piece (Elt F) S1024x1024 .bf16)) (w : FVec F S64x1024 .bf16)
    (hw : w = shapeCast S64x1024 (xRow (b.view.readAt (Elt F) (Rect.unit (s := S1x1024x1024) ![0, 64 * q, 0] S1x64x1024.size inbx).toLoadRect x)) shapeCasts_S64x1024_S64x1024)
    (H : RowsOk (Val := Elt F) m (xgV (b.view.read (Elt F) x)) p (m.view.writes (Elt F) f L)) :
    RowsOk (Val := Elt F) m (xgV (b.view.read (Elt F) x)) (p + 1) (m.view.writes (Elt F) f (⟨Rect.unit (s := S1024x1024) ![64 * p, 0] S64x1024.size inb, w⟩ :: L)) := by
  rw [shapeCast_self] at hw
  intro i hi
  refine (block_rows m p inb f w L i).trans ?_
  by_cases hh : (i 0).val / 64 = p
  · rw [if_pos hh, hw]
    have hlt : (i 0).val < 1024 := (i 0).isLt
    have hr : 64 * q + (i 0).val % 64 < 1024 := by omega
    have e := read_x b x q inbx ⟨(i 0).val % 64, Nat.mod_lt _ (by decide)⟩ (i 1) hr
    have es : srcRow (i 0) = ⟨64 * q + (i 0).val % 64, hr⟩ := Fin.ext (by
      show 64 * ((i 0).val / 256 + 4 * ((i 0).val / 64 % 4)) + (i 0).val % 64 = 64 * q + (i 0).val % 64
      have h1 : (i 0).val / 256 = p / 4 := by omega
      rw [h1, hh, hq])
    refine (congrArg (fun y : F .f32 => (FloatOps.truncf .bf16 bitsLt_bf16_f32 (FloatOps.mulf y (Scalar.ofBits .f32 0x3DB504F3#32)) : F .bf16)) e).trans ?_
    rw [← es]
    rfl
  · rw [if_neg hh]
    exact H i (by omega)

/-- The store of one more block of the keys or values. -/
theorem kv_step (m : Memref sig .tc .vmem S1024x8x128 .bf16) (b : Memref sig .tc .vmem S1x1024x8x128 .f32) (x : b.view.ty.Contents (Elt F)) (p q : ℕ) (hp : p < 16) (hq : q = p / 4 + 4 * (p % 4))
    (inb : ∀ a, (![64 * p, 0, 0] : Fin 3 → ℕ) a + S64x8x128.size a ≤ S1024x8x128.size a)
    (inbx : ∀ a, (![0, 64 * q, 0, 0] : Fin 4 → ℕ) a + S1x64x8x128.size a ≤ S1x1024x8x128.size a)
    (f : m.view.ty.Contents (Elt F)) (L : List (View.Piece (Elt F) S1024x8x128 .bf16)) (w : FVec F S64x8x128 .bf16)
    (hw : w = shapeCast S64x8x128 (kRow (b.view.readAt (Elt F) (Rect.unit (s := S1x1024x8x128) ![0, 64 * q, 0, 0] S1x64x8x128.size inbx).toLoadRect x)) shapeCasts_S64x8x128_S64x8x128)
    (H : RowsOk3 (Val := Elt F) m (kgV (b.view.read (Elt F) x)) p (m.view.writes (Elt F) f L)) :
    RowsOk3 (Val := Elt F) m (kgV (b.view.read (Elt F) x)) (p + 1) (m.view.writes (Elt F) f (⟨Rect.unit (s := S1024x8x128) ![64 * p, 0, 0] S64x8x128.size inb, w⟩ :: L)) := by
  rw [shapeCast_self] at hw
  intro i hi
  refine (block_rows3 m p inb f w L i).trans ?_
  by_cases hh : (i 0).val / 64 = p
  · rw [if_pos hh, hw]
    have hlt : (i 0).val < 1024 := (i 0).isLt
    have hr : 64 * q + (i 0).val % 64 < 1024 := by omega
    have e := read_kv b x q inbx ⟨(i 0).val % 64, Nat.mod_lt _ (by decide)⟩ (i 1) (i 2) hr
    have es : srcRow (i 0) = ⟨64 * q + (i 0).val % 64, hr⟩ := Fin.ext (by
      show 64 * ((i 0).val / 256 + 4 * ((i 0).val / 64 % 4)) + (i 0).val % 64 = 64 * q + (i 0).val % 64
      have h1 : (i 0).val / 256 = p / 4 := by omega
      rw [h1, hh, hq])
    refine (congrArg (fun y : F .f32 => (FloatOps.truncf .bf16 bitsLt_bf16_f32 y : F .bf16)) e).trans ?_
    rw [← es]
    rfl
  · rw [if_neg hh]
    exact H i (by omega)

theorem rows_zero {Val : EltTy → Type} (m : Memref sig .tc .vmem S1024x1024 .bf16) (v : S1024x1024.Idx → Val .bf16) (f : m.view.ty.Contents Val) : RowsOk m v 0 f :=
  fun _ h => absurd h (Nat.not_lt_zero _)
theorem rows_zero3 {Val : EltTy → Type} (m : Memref sig .tc .vmem S1024x8x128 .bf16) (v : S1024x8x128.Idx → Val .bf16) (f : m.view.ty.Contents Val) : RowsOk3 m v 0 f :=
  fun _ h => absurd h (Nat.not_lt_zero _)
theorem rows_all {Val : EltTy → Type} (m : Memref sig .tc .vmem S1024x1024 .bf16) (v : S1024x1024.Idx → Val .bf16) (f : m.view.ty.Contents Val) (H : RowsOk m v 16 f) :
    m.view.read Val f = v := funext fun i => H i (by have : (i 0).val < 1024 := (i 0).isLt; omega)
theorem rows_all3 {Val : EltTy → Type} (m : Memref sig .tc .vmem S1024x8x128 .bf16) (v : S1024x8x128.Idx → Val .bf16) (f : m.view.ty.Contents Val) (H : RowsOk3 m v 16 f) :
    m.view.read Val f = v := funext fun i => H i (by have : (i 0).val < 1024 := (i 0).isLt; omega)

end Cert.Attn

end
-- ==== Proof.Heads.lean ====
/-
  The contents of the context's buffer while the eight heads of a group are stored.
-/
module

public import proofs.«01_k».proof.Proof.Steps3
public import Idealize.ShloMosaic.Lib.Pipeline.Value
public import Idealize.ShloMosaic.Lib.Writes

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
variable {F : FTy → Type} [FloatOps F]
local notation "𝕄" => MT nD τ sig Unit (Elt F) ℕ UU ℕ
variable (I : In F) (K : Dev nD × Option (Fin 65) → ℕ) (c : Dev nD)

/-- A window of one block at a slot's offset is the slot. -/
theorem slot_of_off (b : Memref sig .tc .vmem S16x64x1024 .bf16) (i : Fin 16) (off : Fin 3 → ℕ) (hoff : off = ![i.val, 0, 0])
    (inb : ∀ a, off a + S1x64x1024.size a ≤ S16x64x1024.size a) :
    (b.slice (Rect.unit (s := S16x64x1024) off S1x64x1024.size inb) (fun _ => rfl)).squeeze S64x1024 squeezes_S1x64x1024_S64x1024 = slot b i := by
  subst hoff; rfl

/-- The semaphores of each kind, taken from their arrays. -/
theorem sem_rsS (i : Fin 16) (off : Fin 1 → ℕ) (hoff : off = ![i.val]) (inb : ∀ a, off a + S1.size a ≤ S16.size a) :
    (.dma ((s1.slice (Rect.unit (s := S16) off S1.size inb)).squeeze S_ squeezes_S1_S_).sem : SemLoc sig) = osem (iRsS i) := by
  subst hoff; revert i; decide
theorem sem_rsR (i : Fin 16) (off : Fin 1 → ℕ) (hoff : off = ![i.val]) (inb : ∀ a, off a + S1.size a ≤ S16.size a) :
    (.dma ((s2.slice (Rect.unit (s := S16) off S1.size inb)).squeeze S_ squeezes_S1_S_).sem : SemLoc sig) = osem (iRsR i) := by
  subst hoff; revert i; decide
theorem sem_agR (i : Fin 16) (off : Fin 1 → ℕ) (hoff : off = ![i.val]) (inb : ∀ a, off a + S1.size a ≤ S16.size a) :
    (.dma ((s4.slice (Rect.unit (s := S16) off S1.size inb)).squeeze S_ squeezes_S1_S_).sem : SemLoc sig) = osem (iAgR i) := by
  subst hoff; revert i; decide

/-- A 1024 × 1024 buffer after one more store of a 256 × 128 block. -/
theorem block_write {Val : EltTy → Type} (m : Memref sig .tc .vmem S1024x1024 .bf16) (g h : ℕ)
    (inb : ∀ a, (![256 * g, 128 * h] : Fin 2 → ℕ) a + S256x128.size a ≤ S1024x1024.size a)
    (f : m.view.ty.Contents Val) (w : S256x128.Idx → Val .bf16) (L : List (View.Piece Val S1024x1024 .bf16)) (i : S1024x1024.Idx) :
    m.view.read Val (m.view.writes Val f (⟨Rect.unit (s := S1024x1024) ![256 * g, 128 * h] S256x128.size inb, w⟩ :: L)) i
      = if (i 0).val / 256 = g ∧ (i 1).val / 128 = h
        then w (ix2 ⟨(i 0).val % 256, Nat.mod_lt _ (by decide)⟩ ⟨(i 1).val % 128, Nat.mod_lt _ (by decide)⟩)
        else m.view.read Val (m.view.writes Val f L) i := by
  have h0 : (i 0).val = 256 * ((i 0).val / 256) + (i 0).val % 256 := (Nat.div_add_mod _ _).symm
  have h1 : (i 1).val = 128 * ((i 1).val / 128) + (i 1).val % 128 := (Nat.div_add_mod _ _).symm
  by_cases hh : (i 0).val / 256 = g ∧ (i 1).val / 128 = h
  · refine Eq.trans ?_ (if_pos hh).symm
    refine View.read_writes_cons_hit_of_coords m.view f (Rect.unit (s := S1024x1024) ![256 * g, 128 * h] S256x128.size inb) w L
      (ix2 ⟨(i 0).val % 256, Nat.mod_lt _ (by decide)⟩ ⟨(i 1).val % 128, Nat.mod_lt _ (by decide)⟩) i fun a => ?_
    match a with
    | 0 =>
      show (i 0).val = 256 * g + 1 * ((i 0).val % 256)
      rw [hh.1] at h0; rw [one_mul]; exact h0
    | 1 =>
      show (i 1).val = 128 * h + 1 * ((i 1).val % 128)
      rw [hh.2] at h1; rw [one_mul]; exact h1
  · refine Eq.trans ?_ (if_neg hh).symm
    by_cases hg : (i 0).val / 256 = g
    · have hn : ¬ (i 1).val / 128 = h := fun h' => hh ⟨hg, h'⟩
      refine View.read_writes_cons_miss_of_axis m.view f ⟨Rect.unit (s := S1024x1024) ![256 * g, 128 * h] S256x128.size inb, w⟩ L i 1 (128 * h) 128 rfl rfl rfl ?_
      generalize (i 1).val = n at hn
      omega
    · refine View.read_writes_cons_miss_of_axis m.view f ⟨Rect.unit (s := S1024x1024) ![256 * g, 128 * h] S256x128.size inb, w⟩ L i 0 (256 * g) 256 rfl rfl rfl ?_
      generalize (i 0).val = n at hg
      omega

/-- The context's buffer holds the first `n` heads of group `g`. -/
def HeadsOk (g : Fin 4) (n : ℕ) (f : a12.view.ty.Contents (Elt F)) : Prop :=
  ∀ i : S1024x1024.Idx, (i 0).val / 256 = g.val → (i 1).val / 128 < n → a12.view.read (Elt F) f i = ctxV I c i

theorem heads_zero (g : Fin 4) (f : a12.view.ty.Contents (Elt F)) : HeadsOk I c g 0 f := fun _ _ h => absurd h (Nat.not_lt_zero _)

/-- One window of the queries. -/
theorem read_qWin (q : FVec F S1024x1024 .bf16) (g : Fin 4) (h : Fin 8) (off : Fin 2 → ℕ) (hoff : off = ![256 * g.val, 128 * h.val])
    (inb : ∀ a, off a + S256x128.size a ≤ S1024x1024.size a) :
    (a11.view.readAt (Elt F) (Rect.unit (s := S1024x1024) off S256x128.size inb).toLoadRect q : FVec F S256x128 .bf16) = qWin q g h := by
  subst hoff
  funext i
  show q _ = q _
  congr 1
  funext a
  match a with
  | 0 => exact Fin.ext (show 256 * g.val + 1 * (i 0).val = _ by rw [one_mul]; rfl)
  | 1 => exact Fin.ext (show 128 * h.val + 1 * (i 1).val = _ by rw [one_mul]; rfl)

/-- One window of the gathered keys. -/
theorem read_kWin9 (q : FVec F S1024x8x128 .bf16) (g : Fin 4) (h : Fin 8) (off : Fin 3 → ℕ) (hoff : off = ![256 * g.val, h.val, 0])
    (inb : ∀ a, off a + S256x1x128.size a ≤ S1024x8x128.size a) :
    (a9.view.readAt (Elt F) (Rect.unit (s := S1024x8x128) off S256x1x128.size inb).toLoadRect q : FVec F S256x1x128 .bf16) = kWin q g h := by
  subst hoff
  funext i
  show q _ = q _
  congr 1
  funext a
  match a with
  | 0 => exact Fin.ext (show 256 * g.val + 1 * (i 0).val = _ by rw [one_mul]; rfl)
  | 1 => exact Fin.ext (show h.val + 1 * (i 1).val = h.val by have : (i 1).val < 1 := (i 1).isLt; omega)
  | 2 => exact Fin.ext (show 0 + 1 * (i 2).val = (i 2).val by rw [one_mul, zero_add])

/-- One window of the gathered values. -/
theorem read_kWin10 (q : FVec F S1024x8x128 .bf16) (g : Fin 4) (h : Fin 8) (off : Fin 3 → ℕ) (hoff : off = ![256 * g.val, h.val, 0])
    (inb : ∀ a, off a + S256x1x128.size a ≤ S1024x8x128.size a) :
    (a10.view.readAt (Elt F) (Rect.unit (s := S1024x8x128) off S256x1x128.size inb).toLoadRect q : FVec F S256x1x128 .bf16) = kWin q g h := by
  subst hoff
  funext i
  show q _ = q _
  congr 1
  funext a
  match a with
  | 0 => exact Fin.ext (show 256 * g.val + 1 * (i 0).val = _ by rw [one_mul]; rfl)
  | 1 => exact Fin.ext (show h.val + 1 * (i 1).val = h.val by have : (i 1).val < 1 := (i 1).isLt; omega)
  | 2 => exact Fin.ext (show 0 + 1 * (i 2).val = (i 2).val by rw [one_mul, zero_add])

/-- The store of one more head of the group. -/
theorem heads_step (g : Fin 4) (h : Fin 8) (off : Fin 2 → ℕ) (hoff : off = ![256 * g.val, 128 * h.val])
    (inb : ∀ a, off a + S256x128.size a ≤ S1024x1024.size a)
    (offk : Fin 3 → ℕ) (hoffk : offk = ![256 * g.val, h.val, 0]) (inbk : ∀ a, offk a + S256x1x128.size a ≤ S1024x8x128.size a)
    (f : a12.view.ty.Contents (Elt F)) (L : List (View.Piece (Elt F) S1024x1024 .bf16)) (w : FVec F S256x128 .bf16)
    (hw : w = k0_pay60 (a11.view.readAt (Elt F) (Rect.unit (s := S1024x1024) off S256x128.size inb).toLoadRect (qV I c))
      (a9.view.readAt (Elt F) (Rect.unit (s := S1024x8x128) offk S256x1x128.size inbk).toLoadRect (kgV (I.k c)))
      (a10.view.readAt (Elt F) (Rect.unit (s := S1024x8x128) offk S256x1x128.size inbk).toLoadRect (kgV (I.v c))))
    (H : HeadsOk I c g h.val (a12.view.writes (Elt F) f L)) :
    HeadsOk I c g (h.val + 1) (a12.view.writes (Elt F) f (⟨Rect.unit (s := S1024x1024) off S256x128.size inb, w⟩ :: L)) := by
  rw [read_qWin (qV I c) g h off hoff, read_kWin9 _ g h offk hoffk, read_kWin10 _ g h offk hoffk] at hw
  subst hoff
  intro i hg hn
  refine (block_write a12 g.val h.val inb f w L i).trans ?_
  by_cases hh : (i 0).val / 256 = g.val ∧ (i 1).val / 128 = h.val
  · rw [if_pos hh, hw]
    have e1 : g = ⟨(i 0).val / 256, by have : (i 0).val < 1024 := (i 0).isLt; omega⟩ := Fin.ext hh.1.symm
    have e2 : h = ⟨(i 1).val / 128, by have : (i 1).val < 1024 := (i 1).isLt; omega⟩ := Fin.ext hh.2.symm
    rw [e1, e2]
    rfl
  · rw [if_neg hh]
    exact H i hg (by have : ¬ (i 1).val / 128 = h.val := fun h' => hh ⟨hg, h'⟩; omega)

/-- The rows that belong to one device's output block, read from the context's buffer. -/
theorem read_rows (g : Fin 4) (f : a12.view.ty.Contents (Elt F)) (H : HeadsOk I c g 8 f) (d : Dev nD) (hd : d.val % 4 = g.val)
    (off : Fin 2 → ℕ) (hoff : off = ![256 * g.val + 64 * (d.val / 4), 0]) (inb : ∀ a, off a + S64x1024.size a ≤ S1024x1024.size a) :
    (a12.view.readAt (Elt F) (Rect.unit (s := S1024x1024) off S64x1024.size inb).toLoadRect f : FVec F S64x1024 .bf16) = rowsV (ctxV I c) d := by
  subst hoff
  refine funext fun (i : S64x1024.Idx) => ?_
  have hi : (i 0).val < 64 := (i 0).isLt
  have hj : (i 1).val < 1024 := (i 1).isLt
  have hd16 : d.val < 16 := d.isLt
  have e : (Rect.unit (s := S1024x1024) ![256 * g.val + 64 * (d.val / 4), 0] S64x1024.size inb).toLoadRect.idx i
      = (ix2 (⟨256 * (d.val % 4) + 64 * (d.val / 4) + (i 0).val, by omega⟩ : Fin 1024) (i 1 : Fin 1024) : S1024x1024.Idx) := by
    funext a
    match a with
    | 0 => exact Fin.ext (show 256 * g.val + 64 * (d.val / 4) + 1 * (i 0).val = 256 * (d.val % 4) + 64 * (d.val / 4) + (i 0).val by rw [one_mul, hd])
    | 1 => exact Fin.ext (show 0 + 1 * (i 1).val = (i 1).val by rw [one_mul, zero_add])
  refine (congrArg (a12.view.read (Elt F) f) e).trans ?_
  refine H _ ?_ ?_
  · show (256 * (d.val % 4) + 64 * (d.val / 4) + (i 0).val) / 256 = g.val
    omega
  · show (i 1).val / 128 < 8
    omega

/-- The slot that a step's store of its part leaves. -/
theorem slot_chunk (i : Fin 16) (inb : ∀ a, (![i.val, 0, 0] : Fin 3 → ℕ) a + S1x64x1024.size a ≤ S16x64x1024.size a)
    (f0 : (a13.access (Rect.unit (s := S16x64x1024) ![i.val, 0, 0] S1x64x1024.size inb)).ty.Contents (Elt F))
    (g : Fin 4) (f : a12.view.ty.Contents (Elt F)) (H : HeadsOk I c g 8 f) (hd : (tgt c i).val % 4 = g.val)
    (off : Fin 2 → ℕ) (hoff : off = ![256 * g.val + 64 * ((tgt c i).val / 4), 0]) (inbo : ∀ a, off a + S64x1024.size a ≤ S1024x1024.size a)
    (pay : FVec F S1024x1024 .bf16 → FVec F S64x1024 .bf16 → FVec F S1x64x1024 .bf16)
    (hpay : ∀ v w, shapeCast S64x1024 (pay v w) shapeCasts_S1x64x1024_S64x1024 = projV v w) :
    iprop((slot a13 i).view.loc (c : Thread nD τ) ↦[(slot a13 i).view.set]{fullShare}
        ((a13.access (Rect.unit (s := S16x64x1024) ![i.val, 0, 0] S1x64x1024.size inb)).write (Elt F) f0
          (pay (k0_pay59 (woV c (I.wo c))) (a12.view.readAt (Elt F) (Rect.unit (s := S1024x1024) off S64x1024.size inbo).toLoadRect f)) Finset.univ))
      ⊢ (slotIs a13 c i (chunkV I c (tgt c i)) : sProp 𝕄) := by
  have e := (slot_read_write a13 i inb f0 (pay (k0_pay59 (woV c (I.wo c)))
    (a12.view.readAt (Elt F) (Rect.unit (s := S1024x1024) off S64x1024.size inbo).toLoadRect f))).trans
    ((congrArg (fun r : FVec F S64x1024 .bf16 => shapeCast S64x1024 (pay (k0_pay59 (woV c (I.wo c))) r) shapeCasts_S1x64x1024_S64x1024)
      (read_rows I c g f H (tgt c i) hd off hoff inbo)).trans (hpay _ _))
  unfold slotIs
  iintro Hs
  iexists _
  isplitr
  · ipureintro
    exact e
  · iexact Hs

/-- The group a device works on in its `k`-th turn. -/
abbrev grp (k : Fin 4) : Fin 4 := ⟨(c.val + k.val) % 4, Nat.mod_lt _ (by decide)⟩
/-- The step of turn `k` and part `j`. -/
abbrev stp (k j : Fin 4) : Fin 16 := ⟨4 * k.val + j.val, by omega⟩

theorem tgt_mod (c : Dev nD) (k j : Fin 4) : (tgt c (stp k j)).val % 4 = (grp c k).val := by revert c k j; decide
theorem tgt_div (c : Dev nD) (k j : Fin 4) : (tgt c (stp k j)).val / 4 = j.val := by revert c k j; decide

theorem slot_step (k j : Fin 4) (inb : ∀ a, (![(stp k j).val, 0, 0] : Fin 3 → ℕ) a + S1x64x1024.size a ≤ S16x64x1024.size a)
    (f0 : (a13.access (Rect.unit (s := S16x64x1024) ![(stp k j).val, 0, 0] S1x64x1024.size inb)).ty.Contents (Elt F))
    (f : a12.view.ty.Contents (Elt F)) (H : HeadsOk I c (grp c k) 8 f)
    (off : Fin 2 → ℕ) (hoff : off = ![256 * ((c.val + k.val) % 4) + 64 * j.val, 0]) (inbo : ∀ a, off a + S64x1024.size a ≤ S1024x1024.size a)
    (pay : FVec F S1024x1024 .bf16 → FVec F S64x1024 .bf16 → FVec F S1x64x1024 .bf16)
    (hpay : ∀ v w, shapeCast S64x1024 (pay v w) shapeCasts_S1x64x1024_S64x1024 = projV v w) :
    iprop((slot a13 (stp k j)).view.loc (c : Thread nD τ) ↦[(slot a13 (stp k j)).view.set]{fullShare}
        ((a13.access (Rect.unit (s := S16x64x1024) ![(stp k j).val, 0, 0] S1x64x1024.size inb)).write (Elt F) f0
          (pay (k0_pay59 (woV c (I.wo c))) (a12.view.readAt (Elt F) (Rect.unit (s := S1024x1024) off S64x1024.size inbo).toLoadRect f)) Finset.univ))
      ⊢ (slotIs a13 c (stp k j) (chunkV I c (tgt c (stp k j))) : sProp 𝕄) := by
  refine slot_chunk I c (stp k j) inb f0 (grp c k) f H ?_ off (hoff.trans ?_) inbo pay hpay
  · exact tgt_mod c k j
  · rw [tgt_div c k j]

end Cert.Attn

end
-- ==== Proof.Facts.lean ====
/-
  Which device each send of a part goes to, and on which device each conditional is taken.
-/
module

public import proofs.«01_k».proof.Proof.Steps3
public import Idealize.ShloMosaic.Lib.Pipeline.Value
public import Idealize.ShloMosaic.Lib.Writes

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
variable (c : Dev nD)

theorem cond_send0 : k0_cond1 c = 1#1 ↔ tgt c 0 ≠ c := by revert c; decide
theorem cond_own0 : k0_cond2 c = 1#1 ↔ tgt c 0 = c := by revert c; decide
theorem cond_sent0 : k0_cond65 c = 1#1 ↔ tgt c 0 ≠ c := by revert c; decide
theorem dev_send0 : k0_dev16 c = (tgt c 0).val := by revert c; decide
theorem cond_send1 : k0_cond3 c = 1#1 ↔ tgt c 1 ≠ c := by revert c; decide
theorem cond_own1 : k0_cond4 c = 1#1 ↔ tgt c 1 = c := by revert c; decide
theorem cond_sent1 : k0_cond66 c = 1#1 ↔ tgt c 1 ≠ c := by revert c; decide
theorem dev_send1 : k0_dev17 c = (tgt c 1).val := by revert c; decide
theorem cond_send2 : k0_cond5 c = 1#1 ↔ tgt c 2 ≠ c := by revert c; decide
theorem cond_own2 : k0_cond6 c = 1#1 ↔ tgt c 2 = c := by revert c; decide
theorem cond_sent2 : k0_cond67 c = 1#1 ↔ tgt c 2 ≠ c := by revert c; decide
theorem dev_send2 : k0_dev18 c = (tgt c 2).val := by revert c; decide
theorem cond_send3 : k0_cond7 c = 1#1 ↔ tgt c 3 ≠ c := by revert c; decide
theorem cond_own3 : k0_cond8 c = 1#1 ↔ tgt c 3 = c := by revert c; decide
theorem cond_sent3 : k0_cond68 c = 1#1 ↔ tgt c 3 ≠ c := by revert c; decide
theorem dev_send3 : k0_dev19 c = (tgt c 3).val := by revert c; decide
theorem cond_send4 : k0_cond9 c = 1#1 ↔ tgt c 4 ≠ c := by revert c; decide
theorem cond_own4 : k0_cond10 c = 1#1 ↔ tgt c 4 = c := by revert c; decide
theorem cond_sent4 : k0_cond69 c = 1#1 ↔ tgt c 4 ≠ c := by revert c; decide
theorem dev_send4 : k0_dev20 c = (tgt c 4).val := by revert c; decide
theorem cond_send5 : k0_cond11 c = 1#1 ↔ tgt c 5 ≠ c := by revert c; decide
theorem cond_own5 : k0_cond12 c = 1#1 ↔ tgt c 5 = c := by revert c; decide
theorem cond_sent5 : k0_cond70 c = 1#1 ↔ tgt c 5 ≠ c := by revert c; decide
theorem dev_send5 : k0_dev21 c = (tgt c 5).val := by revert c; decide
theorem cond_send6 : k0_cond13 c = 1#1 ↔ tgt c 6 ≠ c := by revert c; decide
theorem cond_own6 : k0_cond14 c = 1#1 ↔ tgt c 6 = c := by revert c; decide
theorem cond_sent6 : k0_cond71 c = 1#1 ↔ tgt c 6 ≠ c := by revert c; decide
theorem dev_send6 : k0_dev22 c = (tgt c 6).val := by revert c; decide
theorem cond_send7 : k0_cond15 c = 1#1 ↔ tgt c 7 ≠ c := by revert c; decide
theorem cond_own7 : k0_cond16 c = 1#1 ↔ tgt c 7 = c := by revert c; decide
theorem cond_sent7 : k0_cond72 c = 1#1 ↔ tgt c 7 ≠ c := by revert c; decide
theorem dev_send7 : k0_dev23 c = (tgt c 7).val := by revert c; decide
theorem cond_send8 : k0_cond17 c = 1#1 ↔ tgt c 8 ≠ c := by revert c; decide
theorem cond_own8 : k0_cond18 c = 1#1 ↔ tgt c 8 = c := by revert c; decide
theorem cond_sent8 : k0_cond73 c = 1#1 ↔ tgt c 8 ≠ c := by revert c; decide
theorem dev_send8 : k0_dev24 c = (tgt c 8).val := by revert c; decide
theorem cond_send9 : k0_cond19 c = 1#1 ↔ tgt c 9 ≠ c := by revert c; decide
theorem cond_own9 : k0_cond20 c = 1#1 ↔ tgt c 9 = c := by revert c; decide
theorem cond_sent9 : k0_cond74 c = 1#1 ↔ tgt c 9 ≠ c := by revert c; decide
theorem dev_send9 : k0_dev25 c = (tgt c 9).val := by revert c; decide
theorem cond_send10 : k0_cond21 c = 1#1 ↔ tgt c 10 ≠ c := by revert c; decide
theorem cond_own10 : k0_cond22 c = 1#1 ↔ tgt c 10 = c := by revert c; decide
theorem cond_sent10 : k0_cond75 c = 1#1 ↔ tgt c 10 ≠ c := by revert c; decide
theorem dev_send10 : k0_dev26 c = (tgt c 10).val := by revert c; decide
theorem cond_send11 : k0_cond23 c = 1#1 ↔ tgt c 11 ≠ c := by revert c; decide
theorem cond_own11 : k0_cond24 c = 1#1 ↔ tgt c 11 = c := by revert c; decide
theorem cond_sent11 : k0_cond76 c = 1#1 ↔ tgt c 11 ≠ c := by revert c; decide
theorem dev_send11 : k0_dev27 c = (tgt c 11).val := by revert c; decide
theorem cond_send12 : k0_cond25 c = 1#1 ↔ tgt c 12 ≠ c := by revert c; decide
theorem cond_own12 : k0_cond26 c = 1#1 ↔ tgt c 12 = c := by revert c; decide
theorem cond_sent12 : k0_cond77 c = 1#1 ↔ tgt c 12 ≠ c := by revert c; decide
theorem dev_send12 : k0_dev28 c = (tgt c 12).val := by revert c; decide
theorem cond_send13 : k0_cond27 c = 1#1 ↔ tgt c 13 ≠ c := by revert c; decide
theorem cond_own13 : k0_cond28 c = 1#1 ↔ tgt c 13 = c := by revert c; decide
theorem cond_sent13 : k0_cond78 c = 1#1 ↔ tgt c 13 ≠ c := by revert c; decide
theorem dev_send13 : k0_dev29 c = (tgt c 13).val := by revert c; decide
theorem cond_send14 : k0_cond29 c = 1#1 ↔ tgt c 14 ≠ c := by revert c; decide
theorem cond_own14 : k0_cond30 c = 1#1 ↔ tgt c 14 = c := by revert c; decide
theorem cond_sent14 : k0_cond79 c = 1#1 ↔ tgt c 14 ≠ c := by revert c; decide
theorem dev_send14 : k0_dev30 c = (tgt c 14).val := by revert c; decide
theorem cond_send15 : k0_cond31 c = 1#1 ↔ tgt c 15 ≠ c := by revert c; decide
theorem cond_own15 : k0_cond32 c = 1#1 ↔ tgt c 15 = c := by revert c; decide
theorem cond_sent15 : k0_cond80 c = 1#1 ↔ tgt c 15 ≠ c := by revert c; decide
theorem dev_send15 : k0_dev31 c = (tgt c 15).val := by revert c; decide
theorem dev_bar0 : k0_dev1 c = (peer c (0 : Fin 15).succ).val := by revert c; decide
theorem dev_sum0 : k0_dev32 c = (peer c (0 : Fin 15).succ).val := by revert c; decide
theorem dev_bar1 : k0_dev2 c = (peer c (1 : Fin 15).succ).val := by revert c; decide
theorem dev_sum1 : k0_dev33 c = (peer c (1 : Fin 15).succ).val := by revert c; decide
theorem dev_bar2 : k0_dev3 c = (peer c (2 : Fin 15).succ).val := by revert c; decide
theorem dev_sum2 : k0_dev34 c = (peer c (2 : Fin 15).succ).val := by revert c; decide
theorem dev_bar3 : k0_dev4 c = (peer c (3 : Fin 15).succ).val := by revert c; decide
theorem dev_sum3 : k0_dev35 c = (peer c (3 : Fin 15).succ).val := by revert c; decide
theorem dev_bar4 : k0_dev5 c = (peer c (4 : Fin 15).succ).val := by revert c; decide
theorem dev_sum4 : k0_dev36 c = (peer c (4 : Fin 15).succ).val := by revert c; decide
theorem dev_bar5 : k0_dev6 c = (peer c (5 : Fin 15).succ).val := by revert c; decide
theorem dev_sum5 : k0_dev37 c = (peer c (5 : Fin 15).succ).val := by revert c; decide
theorem dev_bar6 : k0_dev7 c = (peer c (6 : Fin 15).succ).val := by revert c; decide
theorem dev_sum6 : k0_dev38 c = (peer c (6 : Fin 15).succ).val := by revert c; decide
theorem dev_bar7 : k0_dev8 c = (peer c (7 : Fin 15).succ).val := by revert c; decide
theorem dev_sum7 : k0_dev39 c = (peer c (7 : Fin 15).succ).val := by revert c; decide
theorem dev_bar8 : k0_dev9 c = (peer c (8 : Fin 15).succ).val := by revert c; decide
theorem dev_sum8 : k0_dev40 c = (peer c (8 : Fin 15).succ).val := by revert c; decide
theorem dev_bar9 : k0_dev10 c = (peer c (9 : Fin 15).succ).val := by revert c; decide
theorem dev_sum9 : k0_dev41 c = (peer c (9 : Fin 15).succ).val := by revert c; decide
theorem dev_bar10 : k0_dev11 c = (peer c (10 : Fin 15).succ).val := by revert c; decide
theorem dev_sum10 : k0_dev42 c = (peer c (10 : Fin 15).succ).val := by revert c; decide
theorem dev_bar11 : k0_dev12 c = (peer c (11 : Fin 15).succ).val := by revert c; decide
theorem dev_sum11 : k0_dev43 c = (peer c (11 : Fin 15).succ).val := by revert c; decide
theorem dev_bar12 : k0_dev13 c = (peer c (12 : Fin 15).succ).val := by revert c; decide
theorem dev_sum12 : k0_dev44 c = (peer c (12 : Fin 15).succ).val := by revert c; decide
theorem dev_bar13 : k0_dev14 c = (peer c (13 : Fin 15).succ).val := by revert c; decide
theorem dev_sum13 : k0_dev45 c = (peer c (13 : Fin 15).succ).val := by revert c; decide
theorem dev_bar14 : k0_dev15 c = (peer c (14 : Fin 15).succ).val := by revert c; decide
theorem dev_sum14 : k0_dev46 c = (peer c (14 : Fin 15).succ).val := by revert c; decide

end Cert.Attn

end
-- ==== Proof.Reduce.lean ====
/-
  The sum of the sixteen parts of a device's output block, once all of them have arrived.
-/
module

public import proofs.«01_k».proof.Proof.Heads
public import proofs.«01_k».proof.Proof.Facts
public import Idealize.ShloMosaic.Lib.Pipeline.Value
public import Idealize.ShloMosaic.Lib.Writes

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
variable {F : FTy → Type} [FloatOps F]
local notation "𝕄" => MT nD τ sig Unit (Elt F) ℕ UU ℕ
variable (I : In F) (K : Dev nD × Option (Fin 65) → ℕ) (c : Dev nD)

attribute [local irreducible] k0_cond1 k0_cond2 k0_cond3 k0_cond4 k0_cond5 k0_cond6 k0_cond7 k0_cond8 k0_cond9 k0_cond10 k0_cond11 k0_cond12 k0_cond13 k0_cond14 k0_cond15 k0_cond16 k0_cond17 k0_cond18 k0_cond19 k0_cond20 k0_cond21 k0_cond22 k0_cond23 k0_cond24 k0_cond25 k0_cond26 k0_cond27 k0_cond28 k0_cond29 k0_cond30 k0_cond31 k0_cond32 k0_cond65 k0_cond66 k0_cond67 k0_cond68 k0_cond69 k0_cond70 k0_cond71 k0_cond72 k0_cond73 k0_cond74 k0_cond75 k0_cond76 k0_cond77 k0_cond78 k0_cond79 k0_cond80 k0_dev1 k0_dev2 k0_dev3 k0_dev4 k0_dev5 k0_dev6 k0_dev7 k0_dev8 k0_dev9 k0_dev10 k0_dev11 k0_dev12 k0_dev13 k0_dev14 k0_dev15 k0_dev16 k0_dev17 k0_dev18 k0_dev19 k0_dev20 k0_dev21 k0_dev22 k0_dev23 k0_dev24 k0_dev25 k0_dev26 k0_dev27 k0_dev28 k0_dev29 k0_dev30 k0_dev31 k0_dev32 k0_dev33 k0_dev34 k0_dev35 k0_dev36 k0_dev37 k0_dev38 k0_dev39 k0_dev40 k0_dev41 k0_dev42 k0_dev43 k0_dev44 k0_dev45 k0_dev46 k0_off1 k0_off2 k0_off3 k0_off4 k0_off5 k0_off6 k0_off7 k0_off8 k0_off9 k0_off10 k0_off11 k0_off12 k0_off13 k0_off14 k0_off15 k0_off16 k0_off17 k0_off18 k0_off19 k0_off20 k0_off21 k0_off22 k0_off23 k0_off24 k0_off25 k0_off26 k0_off27 k0_off28 k0_off29 k0_off30 k0_off31 k0_off32 k0_off33 k0_off34 k0_off35 k0_off36 k0_off37 k0_off38 k0_off39 k0_off40 k0_off41 k0_off42 k0_off43 k0_off44 k0_off45 k0_off46 k0_off47 k0_off48 k0_off49 k0_off50 k0_off51 k0_off52 k0_off53 k0_off54 k0_off55 k0_off56 k0_off57 k0_off58 k0_off59 k0_off60 k0_off61 k0_off62 k0_off63 k0_off64 k0_off65 k0_off66 k0_off67 k0_off68 k0_off69 k0_off70 k0_off71 k0_off72 k0_off73 k0_off74 k0_off75 k0_off76 k0_off77 k0_off78 k0_off79 k0_off80 k0_off81 k0_off82 k0_off83 k0_off84 k0_off85 k0_off86

theorem univ16 : (Finset.univ : Finset (Fin 16)) = [0, 1, 2, 3, 4, 5, 6, 7, 8, 9, 10, 11, 12, 13, 14, 15].toFinset := by decide
theorem nodup16 : ([0, 1, 2, 3, 4, 5, 6, 7, 8, 9, 10, 11, 12, 13, 14, 15] : List (Fin 16)).Nodup := by decide
/-- A family over sixteen, one by one. -/
theorem bigSep16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] univ16 nodup16 Φ
theorem univ15 : (Finset.univ : Finset (Fin 15)) = [0, 1, 2, 3, 4, 5, 6, 7, 8, 9, 10, 11, 12, 13, 14].toFinset := by decide
theorem nodup15 : ([0, 1, 2, 3, 4, 5, 6, 7, 8, 9, 10, 11, 12, 13, 14] : List (Fin 15)).Nodup := by decide
theorem bigSep15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] univ15 nodup15 Φ

/-- A word that stands for the device's own number. -/
def IsOwn (v : BitVec 32) : Prop :=
  ∀ s : Fin 16, (Scalar.cmpi .ne (Scalar.extui (Scalar.cmpi .ne v (BitVec.ofNat 32 s.val)) : BitVec 32) 0#32 = 1#1) ↔ s ≠ c

theorem isOwn : IsOwn c (Scalar.remsi (Scalar.divsi (Dev.word c) 1#32) 16#32) := by
  unfold IsOwn; revert c; decide

/-- The arrival's position once every part is in. -/
def rsEnd (s : Fin 16) : sProp 𝕄 := if s = c then atPos ER (ownC c (iRsR s)) 0 ∅ 0 else atPos ER (ownC c (iRsR s)) 1 ∅ 0

theorem fill_one (s : Fin 16) (h : s ≠ c) : rsGot I c s ⊢ iprop(rsEnd c s ∗ slotIs a15 c s (chunkV I s c)) := by
  unfold rsGot rsEnd
  rw [if_neg h, if_neg h]

theorem fill_rest : bigSep (Finset.univ.erase c) (rsGot I c) ⊢ bigSep (Finset.univ.erase c) fun s => iprop(rsEnd c s ∗ slotIs a15 c s (chunkV I s c)) :=
  bigSep_mono fun s hs => fill_one I c s (Finset.ne_of_mem_erase hs)

/-- The device's own part fills the slot no arrival fills. -/
theorem fill : iprop(ownSt I c 16 ∗ bigSep Finset.univ (rsGot I c)) ⊢ bigSep Finset.univ fun s => iprop(rsEnd c s ∗ slotIs a15 c s (chunkV I s c)) := by
  have hc : c.val / 4 < 16 := by have : c.val < 16 := c.isLt; omega
  rw [bigSep_univ_at (rsGot I c) c, bigSep_univ_at _ c]
  iintro ⟨Ho, Hg, Hr⟩
  isplitl [Ho Hg]
  · isplitl [Hg]
    · iapply (show rsGot I c c ⊢ rsEnd c c by unfold rsGot rsEnd; rw [if_pos rfl, if_pos rfl]); iexact Hg
    iapply (show ownSt I c 16 ⊢ slotIs a15 c c (chunkV I c c) by unfold ownSt; rw [if_pos hc]); iexact Ho
  ihave Hr := (fill_rest I c) $$ Hr
  iexact Hr

/-- The sixteen parts as loaded, summed as the kernel sums them. -/
theorem red_eq (w : Fin 16 → Vec F S1x64x1024 .bf16) (hw : ∀ s, shapeCast S64x1024 (w s) shapeCasts_S1x64x1024_S64x1024 = chunkV I s c) :
    k0_pay159 (k0_pay157 (k0_pay156 (w 0)) (w 1) (w 2) (w 3) (w 4) (w 5) (w 6) (w 7) (w 8)) (k0_pay158 (w 9)) (w 10) (w 11) (w 12) (w 13) (w 14) (w 15) = redV I c := by
  unfold k0_pay159 k0_pay157 k0_pay156 k0_pay158
  simp only [hw]
  refine (shapeCast_self _ _).trans ?_
  rfl

/-- A store to the whole of a buffer leaves what is stored. -/
theorem whole_write {Val : EltTy → Type} (m : Memref sig .tc .vmem S64x1024 .bf16) (inb : ∀ a, (![0, 0] : Fin 2 → ℕ) a + S64x1024.size a ≤ S64x1024.size a)
    (f : m.view.ty.Contents Val) (w : S64x1024.Idx → Val .bf16) (i : S64x1024.Idx) :
    m.view.read Val (m.view.writes Val f [⟨Rect.unit (s := S64x1024) ![0, 0] S64x1024.size inb, w⟩]) i = w i := by
  refine View.read_writes_cons_hit_of_coords m.view f (Rect.unit (s := S64x1024) ![0, 0] S64x1024.size inb) w [] i i fun a => ?_
  match a with
  | 0 => show (i 0).val = 0 + 1 * (i 0).val; rw [one_mul, zero_add]
  | 1 => show (i 1).val = 0 + 1 * (i 1).val; rw [one_mul, zero_add]

/-- A load of the whole of a buffer reads it. -/
theorem whole_read {Val : EltTy → Type} (m : Memref sig .tc .vmem S64x1024 .bf16) (inb : ∀ a, (![0, 0] : Fin 2 → ℕ) a + S64x1024.size a ≤ S64x1024.size a)
    (f : m.view.ty.Contents Val) :
    m.view.readAt Val (Rect.unit (s := S64x1024) ![0, 0] S64x1024.size inb).toLoadRect f = m.view.read Val f := by
  funext i
  show m.view.read Val f _ = m.view.read Val f i
  congr 1
  funext a
  apply Fin.ext
  match a with
  | 0 => show 0 + 1 * (i 0).val = (i 0).val; rw [one_mul, zero_add]
  | 1 => show 0 + 1 * (i 1).val = (i 1).val; rw [one_mul, zero_add]

theorem red_store (inb : ∀ a, (![0, 0] : Fin 2 → ℕ) a + S64x1024.size a ≤ S64x1024.size a) (f : a14.view.ty.Contents (Elt F)) (w v : FVec F S64x1024 .bf16) (h : w = v) :
    a14.view.writes (Elt F) f [⟨Rect.unit (s := S64x1024) ![0, 0] S64x1024.size inb, w⟩] = v := by
  subst h
  have h := funext (whole_write (Val := Elt F) a14 inb f w)
  rw [View.read_whole] at h
  exact h
theorem red_load (inb inb' : ∀ a, (![0, 0] : Fin 2 → ℕ) a + S64x1024.size a ≤ S64x1024.size a) (f : a14.view.ty.Contents (Elt F)) (w v : FVec F S64x1024 .bf16) (h : w = v) :
    a14.view.readAt (Elt F) (Rect.unit (s := S64x1024) ![0, 0] S64x1024.size inb').toLoadRect
      (a14.view.writes (Elt F) f [⟨Rect.unit (s := S64x1024) ![0, 0] S64x1024.size inb, w⟩]) = v := by
  subst h
  exact (whole_read (Val := Elt F) a14 inb' _).trans (funext (whole_write (Val := Elt F) a14 inb f w))

set_option maxHeartbeats 0 in
set_option maxRecDepth 100000 in
/-- The last part sent, the arrivals waited for, and the sum taken. -/
theorem reduce_run (g5 : Buf (Elt F) (a5.view.loc (c : Thread nD τ))) (g14 : Buf (Elt F) (a14.view.loc (c : Thread nD τ)))
    {α : Type} (v2 v1419 : BitVec 32) (hv : IsOwn c v2) (k : Vec F S64x1024 .bf16 → Prog (TpuEff nD τ sig (Elt F) Λ₀ .tc) α) (Q : α → sProp 𝕄) (R : sProp 𝕄)
    (hk : ∀ v, v = redV I c → iprop(records I K ∗ levAts LL lv ∗ owesX c (rsO c 0) ∗ sent I c 15 ∗ (bigSep Finset.univ fun s => iprop(rsEnd c s ∗ slotAny a15 c s))
      ∗ (a14.view.loc (c : Thread nD τ) ↦{fullShare} (redV I c : Buf (Elt F) (a14.view.loc (c : Thread nD τ)))) ∗ (a5.view.loc (c : Thread nD τ) ↦{fullShare} g5) ∗ R) ⊢ W1 c (k v) Q) :
    iprop(records I K ∗ levAts LL lv ∗ owesX c (rsO c 1) ∗ ownSt I c 15 ∗ slotIs a13 c 15 (chunkV I c (tgt c 15)) ∗ sendTok c 15 ∗ bigSep Finset.univ (rsIn (F := F) c)
      ∗ (a14.view.loc (c : Thread nD τ) ↦{fullShare} g14) ∗ (a5.view.loc (c : Thread nD τ) ↦{fullShare} g5) ∗ R)
      ⊢ W1 c (do
    let v1449 : BitVec 1 ← k0_part43 a0 h0 a1 h1 a2 h2 a3 h3 a4 h4 a5 h5 a6 h6 a7 h7 a8 h8 a9 h9 a10 h10 a11 h11 a12 h12 a13 h13 a14 h14 a15 h15 a16 h16 s0 s1 s2 s3 s4 c v2 v1419
    let v1478 : FVec F S64x1024 .f32 ← k0_part44 a0 h0 a1 h1 a2 h2 a3 h3 a4 h4 a5 h5 a6 h6 a7 h7 a8 h8 a9 h9 a10 h10 a11 h11 a12 h12 a13 h13 a14 h14 a15 h15 a16 h16 s0 s1 s2 s3 s4 v2 v1449
    let ⟨v1510, v1513⟩ : Σ' (v1510 : FVec F S64x1024 .f32), FVec F S64x1024 .f32 ← k0_part45 a0 h0 a1 h1 a2 h2 a3 h3 a4 h4 a5 h5 a6 h6 a7 h7 a8 h8 a9 h9 a10 h10 a11 h11 a12 h12 a13 h13 a14 h14 a15 h15 a16 h16 s0 s1 s2 s3 s4 v1478
    let v1543 : Vec F S64x1024 .bf16 ← k0_part46 a0 h0 a1 h1 a2 h2 a3 h3 a4 h4 a5 h5 a6 h6 a7 h7 a8 h8 a9 h9 a10 h10 a11 h11 a12 h12 a13 h13 a14 h14 a15 h15 a16 h16 s0 s1 s2 s3 s4 c v2 v1510 v1513
    k v1543) Q := by
  rw [bigSep16 (rsIn (F := F) c)]
  iintro ⟨#HR, #HL, HO, HW, Hs, HT15, ⟨HI0, HI1, HI2, HI3, HI4, HI5, HI6, HI7, HI8, HI9, HI10, HI11, HI12, HI13, HI14, HI15⟩, H14, H5, HF⟩
  unfold W1
  sl_exec_parts
  iapply (send1 I K c 15 0 rfl (cond_send15 c) _ _ (fun _ => slot_of_off a13 15 _ rfl _) (fun h => slot_of_off a15 c _ (k0_off66_eq c) _) _ (fun h => Fin.ext (dev_send15 c)) _ _ (fun _ => sem_rsS 15 _ rfl _) (fun h => sem_rsR c _ (k0_off65_eq c) _)) $$ [Hs HO HT15]
  · isplitr; · iexact HR
    isplitl [Hs]; · iexact Hs
    isplitl [HO]; · iexact HO
    iexact HT15
  iintro ⟨HS, HO⟩
  unfold W1
  sl_exec_parts
  iapply (send2 I c 15 (cond_own15 c) _ rfl _ _ (k0_off67_eq c) _ _ (fun _ => shapeCast_shapeCast _ _ _)) $$ [HS HW]
  · isplitl [HS]; · iexact HS
    iexact HW
  iintro ⟨HS15, HW⟩
  unfold W1
  sl_exec_parts
  iapply (rsWait I K c 0 (hv 0) _ rfl _ _ rfl) $$ [HO HI0]
  · isplitr; · iexact HR
    isplitr; · iexact HL
    isplitl [HO]; · iexact HO
    iexact HI0
  iintro ⟨HO, HI0⟩
  unfold W1
  sl_exec_parts
  iapply (rsWait I K c 1 (hv 1) _ rfl _ _ rfl) $$ [HO HI1]
  · isplitr; · iexact HR
    isplitr; · iexact HL
    isplitl [HO]; · iexact HO
    iexact HI1
  iintro ⟨HO, HI1⟩
  unfold W1
  sl_exec_parts
  iapply (rsWait I K c 2 (hv 2) _ rfl _ _ rfl) $$ [HO HI2]
  · isplitr; · iexact HR
    isplitr; · iexact HL
    isplitl [HO]; · iexact HO
    iexact HI2
  iintro ⟨HO, HI2⟩
  unfold W1
  sl_exec_parts
  iapply (rsWait I K c 3 (hv 3) _ rfl _ _ rfl) $$ [HO HI3]
  · isplitr; · iexact HR
    isplitr; · iexact HL
    isplitl [HO]; · iexact HO
    iexact HI3
  iintro ⟨HO, HI3⟩
  unfold W1
  sl_exec_parts
  iapply (rsWait I K c 4 (hv 4) _ rfl _ _ rfl) $$ [HO HI4]
  · isplitr; · iexact HR
    isplitr; · iexact HL
    isplitl [HO]; · iexact HO
    iexact HI4
  iintro ⟨HO, HI4⟩
  unfold W1
  sl_exec_parts
  iapply (rsWait I K c 5 (hv 5) _ rfl _ _ rfl) $$ [HO HI5]
  · isplitr; · iexact HR
    isplitr; · iexact HL
    isplitl [HO]; · iexact HO
    iexact HI5
  iintro ⟨HO, HI5⟩
  unfold W1
  sl_exec_parts
  iapply (rsWait I K c 6 (hv 6) _ rfl _ _ rfl) $$ [HO HI6]
  · isplitr; · iexact HR
    isplitr; · iexact HL
    isplitl [HO]; · iexact HO
    iexact HI6
  iintro ⟨HO, HI6⟩
  unfold W1
  sl_exec_parts
  iapply (rsWait I K c 7 (hv 7) _ rfl _ _ rfl) $$ [HO HI7]
  · isplitr; · iexact HR
    isplitr; · iexact HL
    isplitl [HO]; · iexact HO
    iexact HI7
  iintro ⟨HO, HI7⟩
  unfold W1
  sl_exec_parts
  iapply (rsWait I K c 8 (hv 8) _ rfl _ _ rfl) $$ [HO HI8]
  · isplitr; · iexact HR
    isplitr; · iexact HL
    isplitl [HO]; · iexact HO
    iexact HI8
  iintro ⟨HO, HI8⟩
  unfold W1
  sl_exec_parts
  iapply (rsWait I K c 9 (hv 9) _ rfl _ _ rfl) $$ [HO HI9]
  · isplitr; · iexact HR
    isplitr; · iexact HL
    isplitl [HO]; · iexact HO
    iexact HI9
  iintro ⟨HO, HI9⟩
  unfold W1
  sl_exec_parts
  iapply (rsWait I K c 10 (hv 10) _ rfl _ _ rfl) $$ [HO HI10]
  · isplitr; · iexact HR
    isplitr; · iexact HL
    isplitl [HO]; · iexact HO
    iexact HI10
  iintro ⟨HO, HI10⟩
  unfold W1
  sl_exec_parts
  iapply (rsWait I K c 11 (hv 11) _ rfl _ _ rfl) $$ [HO HI11]
  · isplitr; · iexact HR
    isplitr; · iexact HL
    isplitl [HO]; · iexact HO
    iexact HI11
  iintro ⟨HO, HI11⟩
  unfold W1
  sl_exec_parts
  iapply (rsWait I K c 12 (hv 12) _ rfl _ _ rfl) $$ [HO HI12]
  · isplitr; · iexact HR
    isplitr; · iexact HL
    isplitl [HO]; · iexact HO
    iexact HI12
  iintro ⟨HO, HI12⟩
  unfold W1
  sl_exec_parts
  iapply (rsWait I K c 13 (hv 13) _ rfl _ _ rfl) $$ [HO HI13]
  · isplitr; · iexact HR
    isplitr; · iexact HL
    isplitl [HO]; · iexact HO
    iexact HI13
  iintro ⟨HO, HI13⟩
  unfold W1
  sl_exec_parts
  iapply (rsWait I K c 14 (hv 14) _ rfl _ _ rfl) $$ [HO HI14]
  · isplitr; · iexact HR
    isplitr; · iexact HL
    isplitl [HO]; · iexact HO
    iexact HI14
  iintro ⟨HO, HI14⟩
  unfold W1
  sl_exec_parts
  iapply (rsWait I K c 15 (hv 15) _ rfl _ _ rfl) $$ [HO HI15]
  · isplitr; · iexact HR
    isplitr; · iexact HL
    isplitl [HO]; · iexact HO
    iexact HI15
  iintro ⟨HO, HI15⟩
  unfold W1
  ihave Hf := (fill I c) $$ [HW HI0 HI1 HI2 HI3 HI4 HI5 HI6 HI7 HI8 HI9 HI10 HI11 HI12 HI13 HI14 HI15]
  · isplitl [HW]; · iexact HW
    rw [bigSep16 (rsGot I c)]
    isplitl [HI0]; · iexact HI0
    isplitl [HI1]; · iexact HI1
    isplitl [HI2]; · iexact HI2
    isplitl [HI3]; · iexact HI3
    isplitl [HI4]; · iexact HI4
    isplitl [HI5]; · iexact HI5
    isplitl [HI6]; · iexact HI6
    isplitl [HI7]; · iexact HI7
    isplitl [HI8]; · iexact HI8
    isplitl [HI9]; · iexact HI9
    isplitl [HI10]; · iexact HI10
    isplitl [HI11]; · iexact HI11
    isplitl [HI12]; · iexact HI12
    isplitl [HI13]; · iexact HI13
    isplitl [HI14]; · iexact HI14
    iexact HI15
  ihave Hf := (Entails.of_eq (bigSep16 (fun s => iprop(rsEnd c s ∗ slotIs a15 c s (chunkV I s c))))) $$ Hf
  unfold slotIs
  icases Hf with ⟨⟨HE0, %f0, %hf0, HB0⟩, ⟨HE1, %f1, %hf1, HB1⟩, ⟨HE2, %f2, %hf2, HB2⟩, ⟨HE3, %f3, %hf3, HB3⟩, ⟨HE4, %f4, %hf4, HB4⟩, ⟨HE5, %f5, %hf5, HB5⟩, ⟨HE6, %f6, %hf6, HB6⟩, ⟨HE7, %f7, %hf7, HB7⟩, ⟨HE8, %f8, %hf8, HB8⟩, ⟨HE9, %f9, %hf9, HB9⟩, ⟨HE10, %f10, %hf10, HB10⟩, ⟨HE11, %f11, %hf11, HB11⟩, ⟨HE12, %f12, %hf12, HB12⟩, ⟨HE13, %f13, %hf13, HB13⟩, ⟨HE14, %f14, %hf14, HB14⟩, ⟨HE15, %f15, %hf15, HB15⟩⟩
  sl_exec_parts
  have hr := red_eq I c ![(a15.view.readAt (Elt F) (Rect.unit (s := S16x64x1024) ![0, 0, 0] S1x64x1024.size (inbSlot 0)).toLoadRect f0), (a15.view.readAt (Elt F) (Rect.unit (s := S16x64x1024) ![1, 0, 0] S1x64x1024.size (inbSlot 1)).toLoadRect f1), (a15.view.readAt (Elt F) (Rect.unit (s := S16x64x1024) ![2, 0, 0] S1x64x1024.size (inbSlot 2)).toLoadRect f2), (a15.view.readAt (Elt F) (Rect.unit (s := S16x64x1024) ![3, 0, 0] S1x64x1024.size (inbSlot 3)).toLoadRect f3), (a15.view.readAt (Elt F) (Rect.unit (s := S16x64x1024) ![4, 0, 0] S1x64x1024.size (inbSlot 4)).toLoadRect f4), (a15.view.readAt (Elt F) (Rect.unit (s := S16x64x1024) ![5, 0, 0] S1x64x1024.size (inbSlot 5)).toLoadRect f5), (a15.view.readAt (Elt F) (Rect.unit (s := S16x64x1024) ![6, 0, 0] S1x64x1024.size (inbSlot 6)).toLoadRect f6), (a15.view.readAt (Elt F) (Rect.unit (s := S16x64x1024) ![7, 0, 0] S1x64x1024.size (inbSlot 7)).toLoadRect f7), (a15.view.readAt (Elt F) (Rect.unit (s := S16x64x1024) ![8, 0, 0] S1x64x1024.size (inbSlot 8)).toLoadRect f8), (a15.view.readAt (Elt F) (Rect.unit (s := S16x64x1024) ![9, 0, 0] S1x64x1024.size (inbSlot 9)).toLoadRect f9), (a15.view.readAt (Elt F) (Rect.unit (s := S16x64x1024) ![10, 0, 0] S1x64x1024.size (inbSlot 10)).toLoadRect f10), (a15.view.readAt (Elt F) (Rect.unit (s := S16x64x1024) ![11, 0, 0] S1x64x1024.size (inbSlot 11)).toLoadRect f11), (a15.view.readAt (Elt F) (Rect.unit (s := S16x64x1024) ![12, 0, 0] S1x64x1024.size (inbSlot 12)).toLoadRect f12), (a15.view.readAt (Elt F) (Rect.unit (s := S16x64x1024) ![13, 0, 0] S1x64x1024.size (inbSlot 13)).toLoadRect f13), (a15.view.readAt (Elt F) (Rect.unit (s := S16x64x1024) ![14, 0, 0] S1x64x1024.size (inbSlot 14)).toLoadRect f14), (a15.view.readAt (Elt F) (Rect.unit (s := S16x64x1024) ![15, 0, 0] S1x64x1024.size (inbSlot 15)).toLoadRect f15)] (by
    intro s
    fin_cases s
    · exact (slot_readAt a15 0 f0 (inbSlot 0)).trans hf0
    · exact (slot_readAt a15 1 f1 (inbSlot 1)).trans hf1
    · exact (slot_readAt a15 2 f2 (inbSlot 2)).trans hf2
    · exact (slot_readAt a15 3 f3 (inbSlot 3)).trans hf3
    · exact (slot_readAt a15 4 f4 (inbSlot 4)).trans hf4
    · exact (slot_readAt a15 5 f5 (inbSlot 5)).trans hf5
    · exact (slot_readAt a15 6 f6 (inbSlot 6)).trans hf6
    · exact (slot_readAt a15 7 f7 (inbSlot 7)).trans hf7
    · exact (slot_readAt a15 8 f8 (inbSlot 8)).trans hf8
    · exact (slot_readAt a15 9 f9 (inbSlot 9)).trans hf9
    · exact (slot_readAt a15 10 f10 (inbSlot 10)).trans hf10
    · exact (slot_readAt a15 11 f11 (inbSlot 11)).trans hf11
    · exact (slot_readAt a15 12 f12 (inbSlot 12)).trans hf12
    · exact (slot_readAt a15 13 f13 (inbSlot 13)).trans hf13
    · exact (slot_readAt a15 14 f14 (inbSlot 14)).trans hf14
    · exact (slot_readAt a15 15 f15 (inbSlot 15)).trans hf15
    )
  have h14 : a14.view.writes (Elt F) g14 (reduce_run.sl.H14_1 f0 f1 f2 f3 f4 f5 f6 f7 f8 f9 f10 f11 f12 f13 f14 f15) = redV I c := red_store _ g14 _ _ hr
  have hv : reduce_run.sl.v1543 f0 f1 f2 f3 f4 f5 f6 f7 f8 f9 f10 f11 f12 f13 f14 f15 = redV I c := red_load _ _ _ _ _ hr
  rw [h14]
  iapply (hk _ hv)
  isplitr; · iexact HR
  isplitr; · iexact HL
  isplitl [HO]; · iexact HO
  isplitl [HS15]; · iexact HS15
  isplitl [HE0 HB0 HE1 HB1 HE2 HB2 HE3 HB3 HE4 HB4 HE5 HB5 HE6 HB6 HE7 HB7 HE8 HB8 HE9 HB9 HE10 HB10 HE11 HB11 HE12 HB12 HE13 HB13 HE14 HB14 HE15 HB15]
  · rw [bigSep16 (fun s => iprop(rsEnd c s ∗ slotAny a15 c s))]
    unfold slotAny
    isplitl [HE0 HB0]
    · isplitl [HE0]; · iexact HE0
      iexists f0; iexact HB0
    isplitl [HE1 HB1]
    · isplitl [HE1]; · iexact HE1
      iexists f1; iexact HB1
    isplitl [HE2 HB2]
    · isplitl [HE2]; · iexact HE2
      iexists f2; iexact HB2
    isplitl [HE3 HB3]
    · isplitl [HE3]; · iexact HE3
      iexists f3; iexact HB3
    isplitl [HE4 HB4]
    · isplitl [HE4]; · iexact HE4
      iexists f4; iexact HB4
    isplitl [HE5 HB5]
    · isplitl [HE5]; · iexact HE5
      iexists f5; iexact HB5
    isplitl [HE6 HB6]
    · isplitl [HE6]; · iexact HE6
      iexists f6; iexact HB6
    isplitl [HE7 HB7]
    · isplitl [HE7]; · iexact HE7
      iexists f7; iexact HB7
    isplitl [HE8 HB8]
    · isplitl [HE8]; · iexact HE8
      iexists f8; iexact HB8
    isplitl [HE9 HB9]
    · isplitl [HE9]; · iexact HE9
      iexists f9; iexact HB9
    isplitl [HE10 HB10]
    · isplitl [HE10]; · iexact HE10
      iexists f10; iexact HB10
    isplitl [HE11 HB11]
    · isplitl [HE11]; · iexact HE11
      iexists f11; iexact HB11
    isplitl [HE12 HB12]
    · isplitl [HE12]; · iexact HE12
      iexists f12; iexact HB12
    isplitl [HE13 HB13]
    · isplitl [HE13]; · iexact HE13
      iexists f13; iexact HB13
    isplitl [HE14 HB14]
    · isplitl [HE14]; · iexact HE14
      iexists f14; iexact HB14
    isplitl [HE15]; · iexact HE15
    iexists f15; iexact HB15
  isplitl [H14]; · iexact H14
  isplitl [H5]; · iexact H5
  iexact HF

end Cert.Attn

end
-- ==== Proof.Gather.lean ====
/-
  The start of the kernel: the copies of the weights, the signals to the other devices, and the rows regrouped.
-/
module

public import proofs.«01_k».proof.Proof.GatherFacts
public import proofs.«01_k».proof.Proof.Reduce
public import proofs.«01_k».proof.Proof.Facts
public import Idealize.ShloMosaic.Lib.Pipeline.Value
public import Idealize.ShloMosaic.Lib.Writes

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
variable {F : FTy → Type} [FloatOps F]
local notation "𝕄" => MT nD τ sig Unit (Elt F) ℕ UU ℕ
variable (I : In F) (K : Dev nD × Option (Fin 65) → ℕ) (c : Dev nD)

attribute [local irreducible] k0_cond1 k0_cond2 k0_cond3 k0_cond4 k0_cond5 k0_cond6 k0_cond7 k0_cond8 k0_cond9 k0_cond10 k0_cond11 k0_cond12 k0_cond13 k0_cond14 k0_cond15 k0_cond16 k0_cond17 k0_cond18 k0_cond19 k0_cond20 k0_cond21 k0_cond22 k0_cond23 k0_cond24 k0_cond25 k0_cond26 k0_cond27 k0_cond28 k0_cond29 k0_cond30 k0_cond31 k0_cond32 k0_cond65 k0_cond66 k0_cond67 k0_cond68 k0_cond69 k0_cond70 k0_cond71 k0_cond72 k0_cond73 k0_cond74 k0_cond75 k0_cond76 k0_cond77 k0_cond78 k0_cond79 k0_cond80 k0_dev1 k0_dev2 k0_dev3 k0_dev4 k0_dev5 k0_dev6 k0_dev7 k0_dev8 k0_dev9 k0_dev10 k0_dev11 k0_dev12 k0_dev13 k0_dev14 k0_dev15 k0_dev16 k0_dev17 k0_dev18 k0_dev19 k0_dev20 k0_dev21 k0_dev22 k0_dev23 k0_dev24 k0_dev25 k0_dev26 k0_dev27 k0_dev28 k0_dev29 k0_dev30 k0_dev31 k0_dev32 k0_dev33 k0_dev34 k0_dev35 k0_dev36 k0_dev37 k0_dev38 k0_dev39 k0_dev40 k0_dev41 k0_dev42 k0_dev43 k0_dev44 k0_dev45 k0_dev46 k0_off1 k0_off2 k0_off3 k0_off4 k0_off5 k0_off6 k0_off7 k0_off8 k0_off9 k0_off10 k0_off11 k0_off12 k0_off13 k0_off14 k0_off15 k0_off16 k0_off17 k0_off18 k0_off19 k0_off20 k0_off21 k0_off22 k0_off23 k0_off24 k0_off25 k0_off26 k0_off27 k0_off28 k0_off29 k0_off30 k0_off31 k0_off32 k0_off33 k0_off34 k0_off35 k0_off36 k0_off37 k0_off38 k0_off39 k0_off40 k0_off41 k0_off42 k0_off43 k0_off44 k0_off45 k0_off46 k0_off47 k0_off48 k0_off49 k0_off50 k0_off51 k0_off52 k0_off53 k0_off54 k0_off55 k0_off56 k0_off57 k0_off58 k0_off59 k0_off60 k0_off61 k0_off62 k0_off63 k0_off64 k0_off65 k0_off66 k0_off67 k0_off68 k0_off69 k0_off70 k0_off71 k0_off72 k0_off73 k0_off74 k0_off75 k0_off76 k0_off77 k0_off78 k0_off79 k0_off80 k0_off81 k0_off82 k0_off83 k0_off84 k0_off85 k0_off86

/-- A store to the whole of a buffer leaves what is stored. -/
theorem big_write {Val : EltTy → Type} (m : Memref sig .tc .vmem S1024x1024 .bf16) (inb : ∀ a, (![0, 0] : Fin 2 → ℕ) a + S1024x1024.size a ≤ S1024x1024.size a)
    (f : m.view.ty.Contents Val) (w : S1024x1024.Idx → Val .bf16) (i : S1024x1024.Idx) :
    m.view.read Val (m.view.writes Val f [⟨Rect.unit (s := S1024x1024) ![0, 0] S1024x1024.size inb, w⟩]) i = w i := by
  refine View.read_writes_cons_hit_of_coords m.view f (Rect.unit (s := S1024x1024) ![0, 0] S1024x1024.size inb) w [] i i fun a => ?_
  match a with
  | 0 => show (i 0).val = 0 + 1 * (i 0).val; rw [one_mul, zero_add]
  | 1 => show (i 1).val = 0 + 1 * (i 1).val; rw [one_mul, zero_add]
/-- A load of the whole of a buffer reads it. -/
theorem big_read {Val : EltTy → Type} {e : EltTy} (m : Memref sig .tc .vmem S1024x1024 e) (inb : ∀ a, (![0, 0] : Fin 2 → ℕ) a + S1024x1024.size a ≤ S1024x1024.size a)
    (f : m.view.ty.Contents Val) :
    m.view.readAt Val (Rect.unit (s := S1024x1024) ![0, 0] S1024x1024.size inb).toLoadRect f = m.view.read Val f := by
  funext i
  show m.view.read Val f _ = m.view.read Val f i
  congr 1
  funext a
  apply Fin.ext
  match a with
  | 0 => show 0 + 1 * (i 0).val = (i 0).val; rw [one_mul, zero_add]
  | 1 => show 0 + 1 * (i 1).val = (i 1).val; rw [one_mul, zero_add]

theorem all8 (g : Buf (Elt F) (a8.view.loc (c : Thread nD τ))) (L : List (View.Piece (Elt F) S1024x1024 .bf16)) (x : FVec F S1x1024x1024 .f32)
    (H : RowsOk (Val := Elt F) a8 (xgV (a0.view.read (Elt F) x)) 16 (a8.view.writes (Elt F) g L)) :
    iprop(a8.view.loc (c : Thread nD τ) ↦{fullShare} (a8.view.writes (Elt F) g L : Buf (Elt F) (a8.view.loc (c : Thread nD τ))))
      ⊢ (iprop(a8.view.loc (c : Thread nD τ) ↦{fullShare} (xgV x : Buf (Elt F) (a8.view.loc (c : Thread nD τ)))) : sProp 𝕄) := by
  have h := rows_all a8 _ _ H
  rw [View.read_whole] at h
  rw [h, View.read_whole]
theorem all9 (g : Buf (Elt F) (a9.view.loc (c : Thread nD τ))) (L : List (View.Piece (Elt F) S1024x8x128 .bf16)) (x : FVec F S1x1024x8x128 .f32)
    (H : RowsOk3 (Val := Elt F) a9 (kgV (a2.view.read (Elt F) x)) 16 (a9.view.writes (Elt F) g L)) :
    iprop(a9.view.loc (c : Thread nD τ) ↦{fullShare} (a9.view.writes (Elt F) g L : Buf (Elt F) (a9.view.loc (c : Thread nD τ))))
      ⊢ (iprop(a9.view.loc (c : Thread nD τ) ↦{fullShare} (kgV x : Buf (Elt F) (a9.view.loc (c : Thread nD τ)))) : sProp 𝕄) := by
  have h := rows_all3 a9 _ _ H
  rw [View.read_whole] at h
  rw [h, View.read_whole]
theorem all10 (g : Buf (Elt F) (a10.view.loc (c : Thread nD τ))) (L : List (View.Piece (Elt F) S1024x8x128 .bf16)) (x : FVec F S1x1024x8x128 .f32)
    (H : RowsOk3 (Val := Elt F) a10 (kgV (a3.view.read (Elt F) x)) 16 (a10.view.writes (Elt F) g L)) :
    iprop(a10.view.loc (c : Thread nD τ) ↦{fullShare} (a10.view.writes (Elt F) g L : Buf (Elt F) (a10.view.loc (c : Thread nD τ))))
      ⊢ (iprop(a10.view.loc (c : Thread nD τ) ↦{fullShare} (kgV x : Buf (Elt F) (a10.view.loc (c : Thread nD τ)))) : sProp 𝕄) := by
  have h := rows_all3 a10 _ _ H
  rw [View.read_whole] at h
  rw [h, View.read_whole]

/-- The queries, once stored. -/
theorem q_store (inb inb6 inb8 : ∀ a, (![0, 0] : Fin 2 → ℕ) a + S1024x1024.size a ≤ S1024x1024.size a) (g : Buf (Elt F) (a11.view.loc (c : Thread nD τ)))
    (w : FVec F S1024x1024 .bf16)
    (hw : w = k0_pay58 (a6.view.readAt (Elt F) (Rect.unit (s := S1024x1024) ![0, 0] S1024x1024.size inb6).toLoadRect (wqV c (I.wq c)))
      (a8.view.readAt (Elt F) (Rect.unit (s := S1024x1024) ![0, 0] S1024x1024.size inb8).toLoadRect (xgV (I.x c)))) :
    iprop(a11.view.loc (c : Thread nD τ) ↦{fullShare} (a11.view.writes (Elt F) g [⟨Rect.unit (s := S1024x1024) ![0, 0] S1024x1024.size inb, w⟩] : Buf (Elt F) (a11.view.loc (c : Thread nD τ))))
      ⊢ (iprop(a11.view.loc (c : Thread nD τ) ↦{fullShare} (qV I c : Buf (Elt F) (a11.view.loc (c : Thread nD τ)))) : sProp 𝕄) := by
  rw [big_read a6 inb6, big_read a8 inb8, View.read_whole, View.read_whole] at hw
  subst hw
  have h := funext (big_write (Val := Elt F) a11 inb g (k0_pay58 (wqV c (I.wq c)) (xgV (I.x c))))
  rw [View.read_whole] at h
  rw [h]
  rfl
theorem wo_read (inb : ∀ a, (![0, 0] : Fin 2 → ℕ) a + S1024x1024.size a ≤ S1024x1024.size a) (w : FVec F S1024x1024 .f32)
    (hw : w = a7.view.readAt (Elt F) (Rect.unit (s := S1024x1024) ![0, 0] S1024x1024.size inb).toLoadRect (woV c (I.wo c))) :
    k0_pay59 w = k0_pay59 (woV c (I.wo c)) := by
  rw [big_read a7 inb, View.read_whole] at hw
  rw [hw]

theorem bigSep2 (Φ : Fin 2 → sProp 𝕄) : bigSep Finset.univ Φ = iprop(Φ 0 ∗ Φ 1) :=
  (bigSep_univ_eq_bigSepL [0, 1] (by decide) (by decide) Φ)

set_option maxHeartbeats 0 in
set_option maxRecDepth 100000 in
/-- The start of the kernel. -/
theorem gather_run (g8 : Buf (Elt F) (a8.view.loc (c : Thread nD τ))) (g9 : Buf (Elt F) (a9.view.loc (c : Thread nD τ))) (g10 : Buf (Elt F) (a10.view.loc (c : Thread nD τ))) (g11 : Buf (Elt F) (a11.view.loc (c : Thread nD τ)))
    {α : Type} (k : BitVec 32 → FVec F S1024x1024 .bf16 → BitVec 32 → Prog (TpuEff nD τ sig (Elt F) Λ₀ .tc) α) (Q : α → sProp 𝕄) (R : sProp 𝕄)
    (hk : ∀ v2 v407 v409, v2 = Scalar.remsi (Scalar.divsi (Dev.word c) 1#32) 16#32 → v407 = k0_pay59 (woV c (I.wo c)) → iprop(records I K ∗ levAts LL lv ∗ owesX c (barO c 0) ∗ (a0.view.loc (c : Thread nD τ) ↦{fullShare} (I.x c : Buf (Elt F) (a0.view.loc (c : Thread nD τ)))) ∗ (a2.view.loc (c : Thread nD τ) ↦{fullShare} (I.k c : Buf (Elt F) (a2.view.loc (c : Thread nD τ)))) ∗ (a3.view.loc (c : Thread nD τ) ↦{fullShare} (I.v c : Buf (Elt F) (a3.view.loc (c : Thread nD τ))))
      ∗ (a8.view.loc (c : Thread nD τ) ↦{fullShare} (xgV (I.x c) : Buf (Elt F) (a8.view.loc (c : Thread nD τ)))) ∗ (a9.view.loc (c : Thread nD τ) ↦{fullShare} (kgV (I.k c) : Buf (Elt F) (a9.view.loc (c : Thread nD τ)))) ∗ (a10.view.loc (c : Thread nD τ) ↦{fullShare} (kgV (I.v c) : Buf (Elt F) (a10.view.loc (c : Thread nD τ)))) ∗ (a11.view.loc (c : Thread nD τ) ↦{fullShare} (qV I c : Buf (Elt F) (a11.view.loc (c : Thread nD τ))))
      ∗ payC I c c (.loc 0) ∗ payC I c c (.loc 1) ∗ (bigSep Finset.univ fun i : Fin 2 => atPos ER (ownC c (iLoc i)) 1 ∅ 0)
      ∗ atPos ER (barCell c) 1 ∅ 0 ∗ (bigSep (Finset.univ.erase c) fun p => iprop(slotAny a15 p c ∗ slotAny a16 p c)) ∗ R) ⊢ W1 c (k v2 v407 v409) Q) :
    iprop(records I K ∗ levAts LL lv ∗ owesX c (barO c 15) ∗ (bigSep Finset.univ fun j : Fin 15 => barTok c j.succ) ∗ (a0.view.loc (c : Thread nD τ) ↦{fullShare} (I.x c : Buf (Elt F) (a0.view.loc (c : Thread nD τ)))) ∗ (a2.view.loc (c : Thread nD τ) ↦{fullShare} (I.k c : Buf (Elt F) (a2.view.loc (c : Thread nD τ)))) ∗ (a3.view.loc (c : Thread nD τ) ↦{fullShare} (I.v c : Buf (Elt F) (a3.view.loc (c : Thread nD τ))))
      ∗ (a8.view.loc (c : Thread nD τ) ↦{fullShare} (g8 : Buf (Elt F) (a8.view.loc (c : Thread nD τ)))) ∗ (a9.view.loc (c : Thread nD τ) ↦{fullShare} (g9 : Buf (Elt F) (a9.view.loc (c : Thread nD τ)))) ∗ (a10.view.loc (c : Thread nD τ) ↦{fullShare} (g10 : Buf (Elt F) (a10.view.loc (c : Thread nD τ)))) ∗ (a11.view.loc (c : Thread nD τ) ↦{fullShare} (g11 : Buf (Elt F) (a11.view.loc (c : Thread nD τ)))) ∗ (∃ f : Buf (Elt F) (a6.view.loc (c : Thread nD τ)), a6.view.loc (c : Thread nD τ) ↦{fullShare} f)
      ∗ (∃ f : Buf (Elt F) (a7.view.loc (c : Thread nD τ)), a7.view.loc (c : Thread nD τ) ↦{fullShare} f)
      ∗ ((wqSrc c).view.loc (c : Thread nD τ) ↦[(wqSrc c).view.set]{fullShare} (I.wq c : Buf (Elt F) ((wqSrc c).view.loc (c : Thread nD τ)))) ∗ ((woSrc c).view.loc (c : Thread nD τ) ↦[(woSrc c).view.set]{fullShare} (I.wo c : Buf (Elt F) ((woSrc c).view.loc (c : Thread nD τ)))) ∗ dutyTok ER (ownC c (iLoc 0)) 0 c ∗ dutyTok ER (ownC c (iLoc 1)) 0 c
      ∗ (bigSep Finset.univ fun i : Fin 2 => atPos ER (ownC c (iLoc i)) 0 ∅ 0) ∗ cred (tallyAt (barCell c) () 15) ∗ atPos ER (barCell c) 0 ∅ 0 ∗ R)
      ⊢ W1 c (do
    let ⟨c0, v2, v11, v26⟩ : Σ' (d0 : Dev nD) (v2 : BitVec 32) (v11 : Sems sig S_), BitVec 32 ← k0_part1 a0 h0 a1 h1 a2 h2 a3 h3 a4 h4 a5 h5 a6 h6 a7 h7 a8 h8 a9 h9 a10 h10 a11 h11 a12 h12 a13 h13 a14 h14 a15 h15 a16 h16 s0 s1 s2 s3 s4
    let v50 : BitVec 32 ← k0_part2 a0 h0 a1 h1 a2 h2 a3 h3 a4 h4 a5 h5 a6 h6 a7 h7 a8 h8 a9 h9 a10 h10 a11 h11 a12 h12 a13 h13 a14 h14 a15 h15 a16 h16 s0 s1 s2 s3 s4 c v2 v11 v26
    let ⟨v73, v74⟩ : Σ' (v73 : FVec F S64x1024 .f32), FVec F S64x1024 .f32 ← k0_part3 a0 h0 a1 h1 a2 h2 a3 h3 a4 h4 a5 h5 a6 h6 a7 h7 a8 h8 a9 h9 a10 h10 a11 h11 a12 h12 a13 h13 a14 h14 a15 h15 a16 h16 s0 s1 s2 s3 s4 c v2 v11 v50
    let v102 : FVec F S64x8x128 .bf16 ← k0_part4 a0 h0 a1 h1 a2 h2 a3 h3 a4 h4 a5 h5 a6 h6 a7 h7 a8 h8 a9 h9 a10 h10 a11 h11 a12 h12 a13 h13 a14 h14 a15 h15 a16 h16 s0 s1 s2 s3 s4 v73 v74
    let v128 : FVec F S64x8x128 .bf16 ← k0_part5 a0 h0 a1 h1 a2 h2 a3 h3 a4 h4 a5 h5 a6 h6 a7 h7 a8 h8 a9 h9 a10 h10 a11 h11 a12 h12 a13 h13 a14 h14 a15 h15 a16 h16 s0 s1 s2 s3 s4 v102
    k0_part6 a0 h0 a1 h1 a2 h2 a3 h3 a4 h4 a5 h5 a6 h6 a7 h7 a8 h8 a9 h9 a10 h10 a11 h11 a12 h12 a13 h13 a14 h14 a15 h15 a16 h16 s0 s1 s2 s3 s4 v128
    k0_part7 a0 h0 a1 h1 a2 h2 a3 h3 a4 h4 a5 h5 a6 h6 a7 h7 a8 h8 a9 h9 a10 h10 a11 h11 a12 h12 a13 h13 a14 h14 a15 h15 a16 h16 s0 s1 s2 s3 s4
    let ⟨v213, cst_196⟩ : Σ' (v213 : FVec F S64x1024 .f32), F .f32 ← k0_part8 a0 h0 a1 h1 a2 h2 a3 h3 a4 h4 a5 h5 a6 h6 a7 h7 a8 h8 a9 h9 a10 h10 a11 h11 a12 h12 a13 h13 a14 h14 a15 h15 a16 h16 s0 s1 s2 s3 s4
    let v242 : FVec F S64x8x128 .bf16 ← k0_part9 a0 h0 a1 h1 a2 h2 a3 h3 a4 h4 a5 h5 a6 h6 a7 h7 a8 h8 a9 h9 a10 h10 a11 h11 a12 h12 a13 h13 a14 h14 a15 h15 a16 h16 s0 s1 s2 s3 s4 v213 cst_196
    let ⟨v268, v269⟩ : Σ' (v268 : FVec F S64x8x128 .bf16), Vec F S64x8x128 .bf16 ← k0_part10 a0 h0 a1 h1 a2 h2 a3 h3 a4 h4 a5 h5 a6 h6 a7 h7 a8 h8 a9 h9 a10 h10 a11 h11 a12 h12 a13 h13 a14 h14 a15 h15 a16 h16 s0 s1 s2 s3 s4 v242
    let v299 : FVec F S64x1024 .bf16 ← k0_part11 a0 h0 a1 h1 a2 h2 a3 h3 a4 h4 a5 h5 a6 h6 a7 h7 a8 h8 a9 h9 a10 h10 a11 h11 a12 h12 a13 h13 a14 h14 a15 h15 a16 h16 s0 s1 s2 s3 s4 v268 v269
    k0_part12 a0 h0 a1 h1 a2 h2 a3 h3 a4 h4 a5 h5 a6 h6 a7 h7 a8 h8 a9 h9 a10 h10 a11 h11 a12 h12 a13 h13 a14 h14 a15 h15 a16 h16 s0 s1 s2 s3 s4 v299
    let v353 : FVec F S64x1024 .f32 ← k0_part13 a0 h0 a1 h1 a2 h2 a3 h3 a4 h4 a5 h5 a6 h6 a7 h7 a8 h8 a9 h9 a10 h10 a11 h11 a12 h12 a13 h13 a14 h14 a15 h15 a16 h16 s0 s1 s2 s3 s4
    let v382 : FVec F S64x8x128 .bf16 ← k0_part14 a0 h0 a1 h1 a2 h2 a3 h3 a4 h4 a5 h5 a6 h6 a7 h7 a8 h8 a9 h9 a10 h10 a11 h11 a12 h12 a13 h13 a14 h14 a15 h15 a16 h16 s0 s1 s2 s3 s4 v353
    let ⟨v407, v409⟩ : Σ' (v407 : FVec F S1024x1024 .bf16), BitVec 32 ← k0_part15 a0 h0 a1 h1 a2 h2 a3 h3 a4 h4 a5 h5 a6 h6 a7 h7 a8 h8 a9 h9 a10 h10 a11 h11 a12 h12 a13 h13 a14 h14 a15 h15 a16 h16 s0 s1 s2 s3 s4 c v2 v11 v382
    k v2 v407 v409) Q := by
  rw [bigSep15 (fun j : Fin 15 => (barTok c j.succ : sProp 𝕄)), bigSep2 (fun i : Fin 2 => (atPos ER (ownC c (iLoc i)) 0 ∅ 0 : sProp 𝕄))]
  iintro ⟨#HR, #HL, HO, ⟨HT0, HT1, HT2, HT3, HT4, HT5, HT6, HT7, HT8, HT9, HT10, HT11, HT12, HT13, HT14⟩, H0, H2, H3, H8, H9, H10, H11, H6, H7, HS0, HS1, HD0, HD1, ⟨HP0, HP1⟩, HC, HB, HF⟩
  unfold W1
  sl_exec_parts
  iapply (loc_copy0 I K c _ rfl _ rfl) $$ [HS0 H6 HD0]
  · isplitr; · iexact HR
    isplitl [HS0]; · iexact HS0
    isplitl [H6]; · iexact H6
    iexact HD0
  iintro HC0
  unfold W1
  sl_exec_parts
  iapply (loc_copy1 I K c _ rfl _ rfl) $$ [HS1 H7 HD1]
  · isplitr; · iexact HR
    isplitl [HS1]; · iexact HS1
    isplitl [H7]; · iexact H7
    iexact HD1
  iintro HC1
  unfold W1
  sl_exec_parts
  iapply (signal_step I K c 0 14 rfl _ (Fin.ext (dev_bar0 c))) $$ [HO HT0]
  · isplitr; · iexact HR
    isplitl [HO]; · iexact HO
    iexact HT0
  iintro HO
  unfold W1
  sl_exec_parts
  iapply (signal_step I K c 1 13 rfl _ (Fin.ext (dev_bar1 c))) $$ [HO HT1]
  · isplitr; · iexact HR
    isplitl [HO]; · iexact HO
    iexact HT1
  iintro HO
  unfold W1
  sl_exec_parts
  iapply (signal_step I K c 2 12 rfl _ (Fin.ext (dev_bar2 c))) $$ [HO HT2]
  · isplitr; · iexact HR
    isplitl [HO]; · iexact HO
    iexact HT2
  iintro HO
  unfold W1
  sl_exec_parts
  iapply (signal_step I K c 3 11 rfl _ (Fin.ext (dev_bar3 c))) $$ [HO HT3]
  · isplitr; · iexact HR
    isplitl [HO]; · iexact HO
    iexact HT3
  iintro HO
  unfold W1
  sl_exec_parts
  iapply (signal_step I K c 4 10 rfl _ (Fin.ext (dev_bar4 c))) $$ [HO HT4]
  · isplitr; · iexact HR
    isplitl [HO]; · iexact HO
    iexact HT4
  iintro HO
  unfold W1
  sl_exec_parts
  iapply (signal_step I K c 5 9 rfl _ (Fin.ext (dev_bar5 c))) $$ [HO HT5]
  · isplitr; · iexact HR
    isplitl [HO]; · iexact HO
    iexact HT5
  iintro HO
  unfold W1
  sl_exec_parts
  iapply (signal_step I K c 6 8 rfl _ (Fin.ext (dev_bar6 c))) $$ [HO HT6]
  · isplitr; · iexact HR
    isplitl [HO]; · iexact HO
    iexact HT6
  iintro HO
  unfold W1
  sl_exec_parts
  iapply (signal_step I K c 7 7 rfl _ (Fin.ext (dev_bar7 c))) $$ [HO HT7]
  · isplitr; · iexact HR
    isplitl [HO]; · iexact HO
    iexact HT7
  iintro HO
  unfold W1
  sl_exec_parts
  iapply (signal_step I K c 8 6 rfl _ (Fin.ext (dev_bar8 c))) $$ [HO HT8]
  · isplitr; · iexact HR
    isplitl [HO]; · iexact HO
    iexact HT8
  iintro HO
  unfold W1
  sl_exec_parts
  iapply (signal_step I K c 9 5 rfl _ (Fin.ext (dev_bar9 c))) $$ [HO HT9]
  · isplitr; · iexact HR
    isplitl [HO]; · iexact HO
    iexact HT9
  iintro HO
  unfold W1
  sl_exec_parts
  iapply (signal_step I K c 10 4 rfl _ (Fin.ext (dev_bar10 c))) $$ [HO HT10]
  · isplitr; · iexact HR
    isplitl [HO]; · iexact HO
    iexact HT10
  iintro HO
  unfold W1
  sl_exec_parts
  iapply (signal_step I K c 11 3 rfl _ (Fin.ext (dev_bar11 c))) $$ [HO HT11]
  · isplitr; · iexact HR
    isplitl [HO]; · iexact HO
    iexact HT11
  iintro HO
  unfold W1
  sl_exec_parts
  iapply (signal_step I K c 12 2 rfl _ (Fin.ext (dev_bar12 c))) $$ [HO HT12]
  · isplitr; · iexact HR
    isplitl [HO]; · iexact HO
    iexact HT12
  iintro HO
  unfold W1
  sl_exec_parts
  iapply (signal_step I K c 13 1 rfl _ (Fin.ext (dev_bar13 c))) $$ [HO HT13]
  · isplitr; · iexact HR
    isplitl [HO]; · iexact HO
    iexact HT13
  iintro HO
  unfold W1
  sl_exec_parts
  iapply (signal_step I K c 14 0 rfl _ (Fin.ext (dev_bar14 c))) $$ [HO HT14]
  · isplitr; · iexact HR
    isplitl [HO]; · iexact HO
    iexact HT14
  iintro HO
  unfold W1
  sl_exec_parts
  have h8 := all8 c g8 (gather_run.sl.H8_16 I c) (I.x c) (x_step a8 a0 (I.x c) 15 15 (by decide) rfl _ _ _ _ _ rfl (x_step a8 a0 (I.x c) 14 11 (by decide) rfl _ _ _ _ _ rfl (x_step a8 a0 (I.x c) 13 7 (by decide) rfl _ _ _ _ _ rfl (x_step a8 a0 (I.x c) 12 3 (by decide) rfl _ _ _ _ _ rfl (x_step a8 a0 (I.x c) 11 14 (by decide) rfl _ _ _ _ _ rfl (x_step a8 a0 (I.x c) 10 10 (by decide) rfl _ _ _ _ _ rfl (x_step a8 a0 (I.x c) 9 6 (by decide) rfl _ _ _ _ _ rfl (x_step a8 a0 (I.x c) 8 2 (by decide) rfl _ _ _ _ _ rfl (x_step a8 a0 (I.x c) 7 13 (by decide) rfl _ _ _ _ _ rfl (x_step a8 a0 (I.x c) 6 9 (by decide) rfl _ _ _ _ _ rfl (x_step a8 a0 (I.x c) 5 5 (by decide) rfl _ _ _ _ _ rfl (x_step a8 a0 (I.x c) 4 1 (by decide) rfl _ _ _ _ _ rfl (x_step a8 a0 (I.x c) 3 12 (by decide) rfl _ _ _ _ _ rfl (x_step a8 a0 (I.x c) 2 8 (by decide) rfl _ _ _ _ _ rfl (x_step a8 a0 (I.x c) 1 4 (by decide) rfl _ _ _ _ _ rfl (x_step a8 a0 (I.x c) 0 0 (by decide) rfl _ _ _ _ _ rfl (rows_zero a8 _ _)))))))))))))))))
  ihave H8 := h8 $$ H8
  have h9 := all9 c g9 ((⟨Rect.unit (s := S1024x8x128) ![960, 0, 0] S64x8x128.size inb_S1024x8x128_S64x8x128_960_0_0, k0_pay56 (gather_run.sl.r_8 I c)⟩ : View.Piece (Elt F) S1024x8x128 .bf16) :: gather_run.sl.H9_15 I c) (I.k c) (kv_step a9 a2 (I.k c) 15 15 (by decide) rfl _ _ _ _ _ rfl (kv_step a9 a2 (I.k c) 14 11 (by decide) rfl _ _ _ _ _ rfl (kv_step a9 a2 (I.k c) 13 7 (by decide) rfl _ _ _ _ _ rfl (kv_step a9 a2 (I.k c) 12 3 (by decide) rfl _ _ _ _ _ rfl (kv_step a9 a2 (I.k c) 11 14 (by decide) rfl _ _ _ _ _ rfl (kv_step a9 a2 (I.k c) 10 10 (by decide) rfl _ _ _ _ _ rfl (kv_step a9 a2 (I.k c) 9 6 (by decide) rfl _ _ _ _ _ rfl (kv_step a9 a2 (I.k c) 8 2 (by decide) rfl _ _ _ _ _ rfl (kv_step a9 a2 (I.k c) 7 13 (by decide) rfl _ _ _ _ _ rfl (kv_step a9 a2 (I.k c) 6 9 (by decide) rfl _ _ _ _ _ rfl (kv_step a9 a2 (I.k c) 5 5 (by decide) rfl _ _ _ _ _ rfl (kv_step a9 a2 (I.k c) 4 1 (by decide) rfl _ _ _ _ _ rfl (kv_step a9 a2 (I.k c) 3 12 (by decide) rfl _ _ _ _ _ rfl (kv_step a9 a2 (I.k c) 2 8 (by decide) rfl _ _ _ _ _ rfl (kv_step a9 a2 (I.k c) 1 4 (by decide) rfl _ _ _ _ _ rfl (kv_step a9 a2 (I.k c) 0 0 (by decide) rfl _ _ _ _ _ rfl (rows_zero3 a9 _ _)))))))))))))))))
  ihave H9 := h9 $$ H9
  have h10 := all10 c g10 ((⟨Rect.unit (s := S1024x8x128) ![960, 0, 0] S64x8x128.size inb_S1024x8x128_S64x8x128_960_0_0, k0_pay57 (View.readAt (Elt F) a3.view (Rect.unit (s := S1x1024x8x128) ![0, 960, 0, 0] S1x64x8x128.size inb_S1x1024x8x128_S1x64x8x128_0_960_0_0).toLoadRect (I.v c))⟩ : View.Piece (Elt F) S1024x8x128 .bf16) :: gather_run.sl.H10_15 I c) (I.v c) (kv_step a10 a3 (I.v c) 15 15 (by decide) rfl _ _ _ _ _ rfl (kv_step a10 a3 (I.v c) 14 11 (by decide) rfl _ _ _ _ _ rfl (kv_step a10 a3 (I.v c) 13 7 (by decide) rfl _ _ _ _ _ rfl (kv_step a10 a3 (I.v c) 12 3 (by decide) rfl _ _ _ _ _ rfl (kv_step a10 a3 (I.v c) 11 14 (by decide) rfl _ _ _ _ _ rfl (kv_step a10 a3 (I.v c) 10 10 (by decide) rfl _ _ _ _ _ rfl (kv_step a10 a3 (I.v c) 9 6 (by decide) rfl _ _ _ _ _ rfl (kv_step a10 a3 (I.v c) 8 2 (by decide) rfl _ _ _ _ _ rfl (kv_step a10 a3 (I.v c) 7 13 (by decide) rfl _ _ _ _ _ rfl (kv_step a10 a3 (I.v c) 6 9 (by decide) rfl _ _ _ _ _ rfl (kv_step a10 a3 (I.v c) 5 5 (by decide) rfl _ _ _ _ _ rfl (kv_step a10 a3 (I.v c) 4 1 (by decide) rfl _ _ _ _ _ rfl (kv_step a10 a3 (I.v c) 3 12 (by decide) rfl _ _ _ _ _ rfl (kv_step a10 a3 (I.v c) 2 8 (by decide) rfl _ _ _ _ _ rfl (kv_step a10 a3 (I.v c) 1 4 (by decide) rfl _ _ _ _ _ rfl (kv_step a10 a3 (I.v c) 0 0 (by decide) rfl _ _ _ _ _ rfl (rows_zero3 a10 _ _)))))))))))))))))
  ihave H10 := h10 $$ H10
  iapply (loc_wait I K c 0 _ rfl credit6) $$ [HO HP0 HC0]
  · isplitr; · iexact HR
    isplitr; · iexact HL
    isplitl [HO]; · iexact HO
    isplitl [HP0]; · iexact HP0
    iexact HC0
  iintro ⟨HO, HP0, HY0⟩
  ihave HY0 := (Entails.of_eq (payC_loc0 I c)) $$ HY0
  icases HY0 with ⟨H6, HS0⟩
  unfold W1
  sl_exec_parts
  have h11 := q_store I c inb_S1024x1024_S1024x1024_0_0 inb_S1024x1024_S1024x1024_0_0 inb_S1024x1024_S1024x1024_0_0 g11 (k0_pay58 (a6.view.readAt (Elt F) (Rect.unit (s := S1024x1024) ![0, 0] S1024x1024.size inb_S1024x1024_S1024x1024_0_0).toLoadRect (wqV c (I.wq c))) (a8.view.readAt (Elt F) (Rect.unit (s := S1024x1024) ![0, 0] S1024x1024.size inb_S1024x1024_S1024x1024_0_0).toLoadRect (xgV (I.x c)))) rfl
  ihave H11 := h11 $$ H11
  iapply (loc_wait I K c 1 _ rfl credit7) $$ [HO HP1 HC1]
  · isplitr; · iexact HR
    isplitr; · iexact HL
    isplitl [HO]; · iexact HO
    isplitl [HP1]; · iexact HP1
    iexact HC1
  iintro ⟨HO, HP1, HY1⟩
  ihave HY1 := (Entails.of_eq (payC_loc1 I c)) $$ HY1
  icases HY1 with ⟨H7, HS1⟩
  unfold W1
  sl_exec_parts
  iapply (bar_wait I K c) $$ [HO HB HC]
  · isplitr; · iexact HR
    isplitr; · iexact HL
    isplitl [HC]; · iexact HC
    isplitl [HO]; · iexact HO
    iexact HB
  iintro ⟨HO, HB, HA⟩
  unfold W1
  sl_exec_parts
  iapply (hk _ _ _ rfl (wo_read I c _ _ rfl))
  isplitr; · iexact HR
  isplitr; · iexact HL
  isplitl [HO]; · iexact HO
  isplitl [H0]; · iexact H0
  isplitl [H2]; · iexact H2
  isplitl [H3]; · iexact H3
  isplitl [H8]; · iexact H8
  isplitl [H9]; · iexact H9
  isplitl [H10]; · iexact H10
  isplitl [H11]; · iexact H11
  isplitl [H6 HS0]
  · iapply (Entails.of_eq (payC_loc0 I c).symm)
    isplitl [H6] <;> iassumption
  isplitl [H7 HS1]
  · iapply (Entails.of_eq (payC_loc1 I c).symm)
    isplitl [H7] <;> iassumption
  isplitl [HP0 HP1]
  · iapply (Entails.of_eq (bigSep2 (fun i : Fin 2 => (atPos ER (ownC c (iLoc i)) 1 ∅ 0 : sProp 𝕄))).symm)
    isplitl [HP0] <;> iassumption
  isplitl [HB]; · iexact HB
  isplitl [HA]; · iexact HA
  iexact HF

end Cert.Attn

end
-- ==== Proof.Deal.lean ====
/-
  How what a device starts with is dealt out to the stages of its run, and how what it ends with is put together again.
-/
module

public import proofs.«01_k».proof.Proof.Gather
public import proofs.«01_k».proof.Proof.Reduce

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]

local notation "𝕄" => MT nD τ sig Unit (Elt F) ℕ UU ℕ

theorem emp_left (P : sProp 𝕄) : iprop(emp ∗ P) = P := BI.equiv_iff.mp BI.emp_sep

/-! ## Sums over the semaphores and over the devices -/

/-- The index of each own semaphore, by its family. -/
def five : Fin 2 ⊕ Fin 16 ⊕ Fin 16 ⊕ Fin 15 ⊕ Fin 16 → Fin 65
  | .inl i => iLoc i
  | .inr (.inl i) => iRsS i
  | .inr (.inr (.inl i)) => iRsR i
  | .inr (.inr (.inr (.inl i))) => iAgS i
  | .inr (.inr (.inr (.inr i))) => iAgR i

theorem five_inj : Function.Injective five := by
  rintro (a | a | a | a | a) (b | b | b | b | b) h <;>
    (have h' := congrArg Fin.val h; simp only [five] at h'
     have ha := a.isLt; have hb := b.isLt
     first
       | (exfalso; omega)
       | (have : a = b := Fin.ext (by omega); rw [this]))

def fiveE : (Fin 2 ⊕ Fin 16 ⊕ Fin 16 ⊕ Fin 15 ⊕ Fin 16) ≃ Fin 65 :=
  Equiv.ofBijective five ((Fintype.bijective_iff_injective_and_card five).2 ⟨five_inj, by simp⟩)

/-- A sum over the own semaphores is one over each family. -/
theorem split65 (Φ : Fin 65 → sProp 𝕄) : bigSep Finset.univ Φ
    = iprop((bigSep Finset.univ fun i : Fin 2 => Φ (iLoc i)) ∗ (bigSep Finset.univ fun i : Fin 16 => Φ (iRsS i))
      ∗ (bigSep Finset.univ fun i : Fin 16 => Φ (iRsR i)) ∗ (bigSep Finset.univ fun i : Fin 15 => Φ (iAgS i))
      ∗ bigSep Finset.univ fun i : Fin 16 => Φ (iAgR i)) := by
  rw [bigSep_univ_equiv fiveE, bigSep_univ_sum, bigSep_univ_sum, bigSep_univ_sum, bigSep_univ_sum]
  rfl

theorem bigSep_option {X : Type} [Fintype X] [DecidableEq X] (Φ : Option X → sProp 𝕄) :
    bigSep Finset.univ Φ = iprop((bigSep Finset.univ fun x : X => Φ (some x)) ∗ Φ none) := by
  rw [bigSep_univ_equiv (Equiv.optionEquivSumPUnit X).symm, bigSep_univ_sum]
  rw [show (Finset.univ : Finset PUnit.{1}) = {PUnit.unit} from rfl, bigSep_singleton]
  rfl

theorem peer_inj (c : Dev nD) : Function.Injective (peer c) := by
  intro i j h
  have h' := congrArg Fin.val h
  simp only [peer] at h'
  have := i.isLt; have := j.isLt
  exact Fin.ext (by omega)
theorem tgt_inj (c : Dev nD) : Function.Injective (tgt c) := by
  intro i j h
  have h' := congrArg Fin.val h
  simp only [tgt] at h'
  have := i.isLt; have := j.isLt
  exact Fin.ext (by omega)
def peerE (c : Dev nD) : Fin 16 ≃ Dev nD :=
  Equiv.ofBijective (peer c) ((Fintype.bijective_iff_injective_and_card _).2 ⟨peer_inj c, rfl⟩)
def tgtE (c : Dev nD) : Fin 16 ≃ Dev nD :=
  Equiv.ofBijective (tgt c) ((Fintype.bijective_iff_injective_and_card _).2 ⟨tgt_inj c, rfl⟩)

theorem peer_zero (c : Dev nD) : peer c 0 = c := Fin.ext (Nat.mod_eq_of_lt c.isLt)

/-- A sum over the devices: the device itself and its fifteen peers. -/
theorem peers (c : Dev nD) (Φ : Dev nD → sProp 𝕄) :
    bigSep Finset.univ Φ = iprop(Φ c ∗ bigSep Finset.univ fun j : Fin 15 => Φ (peer c j.succ)) := by
  rw [bigSep_univ_equiv (peerE c), Fin.univ_succ, Finset.cons_eq_insert, BI.bigSep_insert (by simp), BI.bigSep_map]
  show iprop(Φ (peer c 0) ∗ _) = _
  rw [peer_zero]; rfl

/-- A sum over the devices in the order of the sends. -/
theorem targets (c : Dev nD) (Φ : Dev nD → sProp 𝕄) :
    bigSep Finset.univ Φ = bigSep Finset.univ fun i : Fin 16 => Φ (tgt c i) :=
  bigSep_univ_equiv (tgtE c) Φ

/-- A sum over the other devices, with nothing at the device itself. -/
theorem erase_ite (c : Dev nD) (Φ : Dev nD → sProp 𝕄) :
    bigSep (Finset.univ.erase c) Φ = bigSep Finset.univ fun d => if d = c then iprop(emp) else Φ d := by
  rw [bigSep_univ_at (fun d => if d = c then iprop(emp) else Φ d) c, if_pos rfl, emp_left]
  exact bigSep_congr fun d hd => (if_neg (Finset.ne_of_mem_erase hd)).symm

theorem erase_peers (c : Dev nD) (Φ : Dev nD → sProp 𝕄) :
    bigSep (Finset.univ.erase c) Φ = bigSep Finset.univ fun j : Fin 15 => Φ (peer c j.succ) := by
  rw [erase_ite, peers c, if_pos rfl, emp_left]
  exact bigSep_congr fun j _ => if_neg (peer_ne c j)

theorem erase_targets (c : Dev nD) (Φ : Dev nD → sProp 𝕄) :
    bigSep (Finset.univ.erase c) Φ = bigSep Finset.univ fun i : Fin 16 => if tgt c i = c then iprop(emp) else Φ (tgt c i) := by
  rw [erase_ite, targets c]

/-- A persistent assertion is at hand in every term of a sum. -/
theorem bigSep_with {X : Type} [DecidableEq X] (S : Finset X) (R : sProp 𝕄) [BI.Persistent R] {Φ Ψ : X → sProp 𝕄}
    (h : ∀ x ∈ S, iprop(R ∗ Φ x) ⊢ Ψ x) : iprop(R ∗ bigSep S Φ) ⊢ bigSep S Ψ :=
  (sep_mono_left (BI.bigSep_of_persistent S R)).trans (by rw [← bigSep_sep']; exact bigSep_mono h)

theorem at_one {X : Type} [Fintype X] [DecidableEq X] (Φ : X → sProp 𝕄) (x : X) : bigSep Finset.univ Φ ⊢ Φ x := bigSep_elim (Finset.mem_univ x)
theorem at_each {X : Type} (S : Finset X) (Φ Ψ : X → sProp 𝕄) (h : ∀ x ∈ S, Φ x ⊢ Ψ x) : bigSep S Φ ⊢ bigSep S Ψ := bigSep_mono h
theorem at_each2 {X : Type} [Fintype X] [DecidableEq X] (Φ Φ' Ψ : X → sProp 𝕄) (h : ∀ x, iprop(Φ x ∗ Φ' x) ⊢ Ψ x) :
    iprop(bigSep Finset.univ Φ ∗ bigSep Finset.univ Φ') ⊢ bigSep Finset.univ Ψ := by
  rw [← bigSep_sep']; exact bigSep_mono fun x _ => h x

/-! ## The slots -/

theorem slot_disj (b : Memref sig .tc .vmem S16x64x1024 .bf16) (i j : Fin 16) (h : i ≠ j) :
    Disjoint (slot b i).view.set (slot b j).view.set := by
  have hv : i.val ≠ j.val := fun e => h (Fin.ext e)
  simp only [Memref.view, View.set_reshape, View.set_slice]
  exact (Finset.disjoint_map _).mpr (Rect.unit_disjoint (a := 0) (by
    show i.val + 1 ≤ j.val ∨ j.val + 1 ≤ i.val; omega))

/-- What the sixteen slots of a buffer leave of it. -/
def slotRest (b : Memref sig .tc .vmem S16x64x1024 .bf16) (d : Dev nD) : sProp 𝕄 :=
  iprop(∃ f : Buf (Elt F) (b.view.loc (d : Thread nD τ)), b.view.loc (d : Thread nD τ) ↦[Ring.restOf (fun i : Fin 16 => (slot b i).view.set)]{fullShare} f)

theorem slotAny_fam (b : Memref sig .tc .vmem S16x64x1024 .bf16) (d : Dev nD) : slotAny (F := F) b d
    = fun i : Fin 16 => iprop(∃ f : Buf (Elt F) (b.view.loc (d : Thread nD τ)), b.view.loc (d : Thread nD τ) ↦[(slot b i).view.set]{fullShare} f) := by
  funext i; unfold slotAny; rfl

theorem slots_split (b : Memref sig .tc .vmem S16x64x1024 .bf16) (d : Dev nD) :
    iprop(∃ f : Buf (Elt F) (b.view.loc (d : Thread nD τ)), b.view.loc (d : Thread nD τ) ↦{fullShare} f)
      ⊢ iprop(bigSep Finset.univ (slotAny (F := F) b d) ∗ slotRest b d) := by
  rw [slotAny_fam]; unfold slotRest
  exact Ring.fam_split_ex (ℓ := b.view.loc (d : Thread nD τ)) (fun i : Fin 16 => (slot b i).view.set) (slot_disj b)

theorem slots_join (b : Memref sig .tc .vmem S16x64x1024 .bf16) (d : Dev nD) (f₀ : Buf (Elt F) (b.view.loc (d : Thread nD τ))) :
    iprop(bigSep Finset.univ (slotAny (F := F) b d) ∗ slotRest b d)
      ⊢ iprop(∃ f : Buf (Elt F) (b.view.loc (d : Thread nD τ)), b.view.loc (d : Thread nD τ) ↦{fullShare} f) := by
  rw [slotAny_fam]; unfold slotRest
  exact Ring.fam_join (ℓ := b.view.loc (d : Thread nD τ)) (fun i : Fin 16 => (slot b i).view.set) (slot_disj b) f₀

/-! ## The tokens -/

section Deal
variable (I : In F) (K : Dev nD × Option (Fin 65) → ℕ) (c : Dev nD)

/-- Every token of which device `c` is the payer. -/
def toksOf : sProp 𝕄 := bigSep Finset.univ fun x : Dev nD × Option (Fin 65) => dutyTok ER (gc x) 0 c

def tokBar : sProp 𝕄 := bigSep Finset.univ fun j : Fin 15 => dutyTok ER (barCell (peer c j.succ)) 0 c
def tokRs : sProp 𝕄 := bigSep Finset.univ fun i : Fin 16 => iprop(dutyTok ER (ownC c (iRsS i)) 0 c ∗ dutyTok ER (ownC (tgt c i) (iRsR c)) 0 c)
def tokAg : sProp 𝕄 := bigSep Finset.univ fun j : Fin 15 => iprop(dutyTok ER (ownC c (iAgS j)) 0 c ∗ dutyTok ER (ownC (peer c j.succ) (iAgR c)) 0 c)

/-- The tokens a device's run spends, out of those it is dealt. -/
theorem toks_deal : toksOf (F := F) c ⊢ iprop(tokBar c ∗ (dutyTok ER (ownC c (iLoc 0)) 0 c ∗ dutyTok ER (ownC c (iLoc 1)) 0 c) ∗ tokRs c ∗ tokAg c) := by
  unfold toksOf
  rw [bigSep_univ_prod, show (fun d : Dev nD => bigSep Finset.univ fun o : Option (Fin 65) => (dutyTok ER (gc (d, o)) 0 c : sProp 𝕄))
      = fun d => iprop(((bigSep Finset.univ fun i : Fin 2 => dutyTok ER (ownC d (iLoc i)) 0 c) ∗ (bigSep Finset.univ fun i : Fin 16 => dutyTok ER (ownC d (iRsS i)) 0 c)
        ∗ (bigSep Finset.univ fun i : Fin 16 => dutyTok ER (ownC d (iRsR i)) 0 c) ∗ (bigSep Finset.univ fun i : Fin 15 => dutyTok ER (ownC d (iAgS i)) 0 c)
        ∗ bigSep Finset.univ fun i : Fin 16 => dutyTok ER (ownC d (iAgR i)) 0 c) ∗ dutyTok ER (barCell d) 0 c) from
    funext fun d => by rw [bigSep_option, split65]]
  rw [bigSep_sep', bigSep_sep', bigSep_sep', bigSep_sep', bigSep_sep']
  unfold tokBar tokRs tokAg
  rw [bigSep_sep', bigSep_sep']
  iintro ⟨⟨H0, H1, H2, H3, H4⟩, H5⟩
  isplitl [H5]
  · ihave H := (Entails.of_eq (peers c fun d => (dutyTok ER (barCell d) 0 c : sProp 𝕄))) $$ H5
    icases H with ⟨-, H⟩; iexact H
  isplitl [H0]
  · iapply (Entails.of_eq (bigSep2 fun i : Fin 2 => (dutyTok ER (ownC c (iLoc i)) 0 c : sProp 𝕄)))
    iapply (at_one (fun d : Dev nD => bigSep Finset.univ fun i : Fin 2 => (dutyTok ER (ownC d (iLoc i)) 0 c : sProp 𝕄)) c); iexact H0
  isplitl [H1 H2]
  · isplitl [H1]
    · iapply (at_one (fun d : Dev nD => bigSep Finset.univ fun i : Fin 16 => (dutyTok ER (ownC d (iRsS i)) 0 c : sProp 𝕄)) c); iexact H1
    · iapply (Entails.of_eq (targets c fun d => (dutyTok ER (ownC d (iRsR c)) 0 c : sProp 𝕄)))
      iapply (at_each Finset.univ (fun d : Dev nD => bigSep Finset.univ fun s : Fin 16 => (dutyTok ER (ownC d (iRsR s)) 0 c : sProp 𝕄)) (fun d => dutyTok ER (ownC d (iRsR c)) 0 c) fun d _ => at_one (fun s : Fin 16 => (dutyTok ER (ownC d (iRsR s)) 0 c : sProp 𝕄)) c); iexact H2
  · isplitl [H3]
    · iapply (at_one (fun d : Dev nD => bigSep Finset.univ fun i : Fin 15 => (dutyTok ER (ownC d (iAgS i)) 0 c : sProp 𝕄)) c); iexact H3
    · ihave H := (at_each Finset.univ (fun d : Dev nD => bigSep Finset.univ fun s : Fin 16 => (dutyTok ER (ownC d (iAgR s)) 0 c : sProp 𝕄)) (fun d => dutyTok ER (ownC d (iAgR c)) 0 c) fun d _ => at_one (fun s : Fin 16 => (dutyTok ER (ownC d (iAgR s)) 0 c : sProp 𝕄)) c) $$ H4
      ihave H := (Entails.of_eq (peers c fun d => (dutyTok ER (ownC d (iAgR c)) 0 c : sProp 𝕄))) $$ H
      icases H with ⟨-, H⟩; iexact H

/-- The barrier's payments: a token and the two slots for each peer. -/
theorem bar_toks : iprop(tokBar c ∗ (bigSep Finset.univ (slotAny (F := F) a15 c)) ∗ bigSep Finset.univ (slotAny (F := F) a16 c))
    ⊢ iprop((bigSep Finset.univ fun j : Fin 15 => barTok c j.succ) ∗ slotAny a15 c c ∗ slotAny a16 c c) := by
  unfold tokBar barTok
  rw [bigSep_sep', bigSep_sep', peers c (slotAny a15 c), peers c (slotAny a16 c)]
  iintro ⟨H, ⟨H0, H1⟩, H2, H3⟩
  isplitl [H H1 H3]
  · isplitl [H]; · iexact H
    isplitl [H1]; · iexact H1
    iexact H3
  isplitl [H0]; · iexact H0
  iexact H2

theorem send_tok (i : Fin 16) : iprop((dutyTok ER (ownC c (iRsS i)) 0 c ∗ dutyTok ER (ownC (tgt c i) (iRsR c)) 0 c) ∗ (if tgt c i = c then iprop(emp) else slotAny (F := F) a15 (tgt c i) c))
    ⊢ sendTok c i := by
  unfold sendTok
  by_cases h : tgt c i = c
  · rw [if_pos h, if_pos h]; iintro -; iempintro
  · rw [if_neg h, if_neg h]; iintro ⟨⟨H0, H1⟩, H2⟩
    isplitl [H0]; · iexact H0
    isplitl [H1] <;> iassumption
theorem ag_tok (j : Fin 15) : iprop((dutyTok ER (ownC c (iAgS j)) 0 c ∗ dutyTok ER (ownC (peer c j.succ) (iAgR c)) 0 c) ∗ slotAny (F := F) a16 (peer c j.succ) c) ⊢ agTok c j := by
  unfold agTok; iintro ⟨⟨H0, H1⟩, H2⟩
  isplitl [H0]; · iexact H0
  isplitl [H1] <;> iassumption

/-- With the slots the barrier brought, the sends' tokens are complete. -/
theorem send_toks : iprop(tokRs c ∗ tokAg c ∗ bigSep (Finset.univ.erase c) fun p => iprop(slotAny (F := F) a15 p c ∗ slotAny (F := F) a16 p c))
    ⊢ iprop((bigSep Finset.univ (sendTok c)) ∗ bigSep Finset.univ (agTok c)) := by
  rw [bigSep_sep', erase_targets c (fun p => slotAny a15 p c), erase_peers c (fun p => slotAny a16 p c)]
  unfold tokRs tokAg
  iintro ⟨H0, H1, H2, H3⟩
  isplitl [H0 H2]
  · iapply (at_each2 _ _ (sendTok c) (send_tok c)); isplitl [H0] <;> iassumption
  · iapply (at_each2 _ _ (agTok c) (ag_tok c)); isplitl [H1] <;> iassumption

/-- The credits a device's waits spend: one for each other device's part and one for each other device's sum. -/
def credOf : sProp 𝕄 := bigSep (Finset.univ.erase c) fun s : Fin 16 =>
  iprop(cred (tallyAt (ownC c (iRsR s)) () NB) ∗ cred (tallyAt (ownC c (iAgR s)) () NB))

theorem rs_in (s : Fin 16) : iprop(atPos ER (ownC c (iRsR s)) 0 ∅ 0 ∗ (if s = c then iprop(emp) else cred (tallyAt (ownC c (iRsR s)) () NB))) ⊢ rsIn (F := F) c s := by
  unfold rsIn
  by_cases h : s = c
  · rw [if_pos h, if_pos h]; iintro ⟨H, -⟩; iexact H
  · rw [if_neg h, if_neg h]
theorem ag_in (s : Fin 16) : iprop(atPos ER (ownC c (iAgR s)) 0 ∅ 0 ∗ (if s = c then iprop(emp) else cred (tallyAt (ownC c (iAgR s)) () NB))) ⊢ agIn (F := F) c s := by
  unfold agIn
  by_cases h : s = c
  · rw [if_pos h, if_pos h]; iintro ⟨H, -⟩; iexact H
  · rw [if_neg h, if_neg h]

theorem cred_deal : iprop((bigSep Finset.univ fun s : Fin 16 => atPos ER (ownC c (iRsR s)) 0 ∅ 0) ∗ (bigSep Finset.univ fun s : Fin 16 => atPos ER (ownC c (iAgR s)) 0 ∅ 0) ∗ credOf c)
    ⊢ (iprop((bigSep Finset.univ (rsIn (F := F) c)) ∗ bigSep Finset.univ (agIn (F := F) c)) : sProp 𝕄) := by
  unfold credOf
  rw [bigSep_sep', erase_ite c (fun s => cred (tallyAt (ownC c (iRsR s)) () NB)), erase_ite c (fun s => cred (tallyAt (ownC c (iAgR s)) () NB))]
  iintro ⟨H0, H1, H2, H3⟩
  isplitl [H0 H2]
  · iapply (at_each2 _ _ (rsIn c) (rs_in c)); isplitl [H0] <;> iassumption
  · iapply (at_each2 _ _ (agIn c) (ag_in c)); isplitl [H1] <;> iassumption

/-! ## The cells closed -/

theorem close_own (i : Fin 65) (R : ℕ) (hR : ∀ r, R ≤ r → (Rd I).duties (ownC c i) r = ∅) :
    iprop(records I K ∗ atPos ER (ownC c i) R ∅ 0) ⊢ iprop(|={Set.univ}=> semVal (ownC c i) 0) := by
  iintro ⟨#HR, H⟩
  iapply (Rounds.cell_close ER (Rd I) (Set.mem_univ (K (c, some i))) (fun h => h) (R := R) hR) $$ [H]
  isplitr; · iapply (inv_own I K c i); iexact HR
  iexact H

theorem close_bar : iprop(records I K ∗ atPos ER (barCell c) 1 ∅ 0) ⊢ iprop(|={Set.univ}=> semVal (barCell c) 0) := by
  iintro ⟨#HR, H⟩
  iapply (Rounds.cell_close ER (Rd I) (Set.mem_univ (K (c, none))) (fun h => h) (R := 1) (duties_later I (barCell c))) $$ [H]
  isplitr; · iapply (inv_bar I K c); iexact HR
  iexact H

/-- A cell that nobody pays can be closed in its first round, any other in its second. -/
theorem close_at (i : Fin 65) (P : Prop) [Decidable P] (h0 : P → (Rd I).duties (ownC c i) 0 = ∅) :
    iprop(records I K ∗ (if P then atPos ER (ownC c i) 0 ∅ 0 else atPos ER (ownC c i) 1 ∅ 0)) ⊢ iprop(|={Set.univ}=> semVal (ownC c i) 0) := by
  by_cases h : P
  · rw [if_pos h]
    exact close_own I K c i 0 fun r _ => by
      cases r with
      | zero => exact h0 h
      | succ r => exact duties_later I _ _ (Nat.succ_pos r)
  · rw [if_neg h]; exact close_own I K c i 1 (duties_later I _)

/-- A family of cells closed. -/
theorem close_fam {J : Type} [Fintype J] [DecidableEq J] (ix : J → Fin 65) (P : J → sProp 𝕄)
    (h : ∀ j, iprop(records I K ∗ P j) ⊢ iprop(|={Set.univ}=> semVal (ownC c (ix j)) 0)) :
    iprop(records I K ∗ bigSep Finset.univ P) ⊢ iprop(|={Set.univ}=> bigSep Finset.univ fun j => semVal (ownC c (ix j)) 0) :=
  (bigSep_with Finset.univ (records I K) fun j _ => h j).trans (bigSep_fupd _ _)

theorem rsBack_eq (i : Fin 16) : rsBack (F := F) c i = iprop((if tgt c i = c then atPos ER (ownC c (iRsS i)) 0 ∅ 0 else atPos ER (ownC c (iRsS i)) 1 ∅ 0) ∗ slotAny a13 c i) := by
  unfold rsBack; split <;> rfl

/-- The position of the cell a sum arrives on, once everything is over. -/
def agEnd (s : Fin 16) : sProp 𝕄 := if s = c then atPos ER (ownC c (iAgR s)) 0 ∅ 0 else atPos ER (ownC c (iAgR s)) 1 ∅ 0

theorem agGot_own : agGot (F := F) c c ⊢ agEnd c c := by
  unfold agGot agEnd; rw [if_pos rfl, if_pos rfl]
theorem agGot_ne (s : Fin 16) (h : s ≠ c) : agGot (F := F) c s ⊢ iprop(agEnd c s ∗ slotAny a16 c s) := by
  unfold agGot agEnd; rw [if_neg h, if_neg h]

theorem agGot_end : iprop((bigSep Finset.univ (agGot (F := F) c)) ∗ slotAny a16 c c) ⊢ iprop((bigSep Finset.univ (agEnd (F := F) c)) ∗ bigSep Finset.univ (slotAny (F := F) a16 c)) := by
  rw [← bigSep_sep', bigSep_univ_at (agGot c) c, bigSep_univ_at (fun s => iprop(agEnd c s ∗ slotAny a16 c s)) c]
  iintro ⟨⟨H0, H1⟩, H2⟩
  isplitl [H0 H2]
  · isplitl [H0]
    · iapply (agGot_own c); iexact H0
    iexact H2
  · iapply (at_each (Finset.univ.erase c) (agGot (F := F) c) (fun s => iprop(agEnd c s ∗ slotAny a16 c s)) fun s hs => agGot_ne c s (Finset.ne_of_mem_erase hs))
    iexact H1

/-- All of a device's own cells closed. -/
theorem close_all : iprop(records I K ∗ (bigSep Finset.univ fun i : Fin 2 => atPos ER (ownC c (iLoc i)) 1 ∅ 0)
      ∗ (bigSep Finset.univ fun i : Fin 16 => if tgt c i = c then atPos ER (ownC c (iRsS i)) 0 ∅ 0 else atPos ER (ownC c (iRsS i)) 1 ∅ 0)
      ∗ (bigSep Finset.univ (rsEnd (F := F) c)) ∗ (bigSep Finset.univ fun j : Fin 15 => atPos ER (ownC c (iAgS j)) 1 ∅ 0) ∗ bigSep Finset.univ (agEnd (F := F) c))
    ⊢ iprop(|={Set.univ}=> bigSep Finset.univ fun i : Fin 65 => semVal (ownC c i) 0) := by
  rw [split65]
  iintro ⟨#HR, H0, H1, H2, H3, H4⟩
  imod (close_fam I K c iLoc _ fun i => close_own I K c (iLoc i) 1 (duties_later I _)) $$ [H0] with H0
  · isplitr; · iexact HR
    iexact H0
  imod (close_fam I K c iRsS _ fun i => close_at I K c (iRsS i) (tgt c i = c) fun h => (duties_rsS I c i).trans (if_pos h)) $$ [H1] with H1
  · isplitr; · iexact HR
    iexact H1
  imod (close_fam I K c iRsR _ fun i => close_at I K c (iRsR i) (i = c) fun h => (duties_rsR I c i).trans (if_pos h)) $$ [H2] with H2
  · isplitr; · iexact HR
    iexact H2
  imod (close_fam I K c iAgS _ fun i => close_own I K c (iAgS i) 1 (duties_later I _)) $$ [H3] with H3
  · isplitr; · iexact HR
    iexact H3
  imod (close_fam I K c iAgR _ fun i => close_at I K c (iAgR i) (i = c) fun h => (duties_agR I c i).trans (if_pos h)) $$ [H4] with H4
  · isplitr; · iexact HR
    iexact H4
  imodintro
  isplitl [H0]; · iexact H0
  isplitl [H1]; · iexact H1
  isplitl [H2]; · iexact H2
  isplitl [H3] <;> iassumption

end Deal

end Cert.Attn

end
-- ==== Proof.AttnRun.lean ====
/-
  The attention of the four groups: every head's context, and the sixteen parts of it sent to the devices they belong to.
-/
module

public import proofs.«01_k».proof.Proof.Heads
public import proofs.«01_k».proof.Proof.Facts
public import Idealize.ShloMosaic.Lib.Pipeline.Value
public import Idealize.ShloMosaic.Lib.Writes

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
variable {F : FTy → Type} [FloatOps F]
local notation "𝕄" => MT nD τ sig Unit (Elt F) ℕ UU ℕ
variable (I : In F) (K : Dev nD × Option (Fin 65) → ℕ) (c : Dev nD)

attribute [local irreducible] k0_cond1 k0_cond2 k0_cond3 k0_cond4 k0_cond5 k0_cond6 k0_cond7 k0_cond8 k0_cond9 k0_cond10 k0_cond11 k0_cond12 k0_cond13 k0_cond14 k0_cond15 k0_cond16 k0_cond17 k0_cond18 k0_cond19 k0_cond20 k0_cond21 k0_cond22 k0_cond23 k0_cond24 k0_cond25 k0_cond26 k0_cond27 k0_cond28 k0_cond29 k0_cond30 k0_cond31 k0_cond32 k0_cond65 k0_cond66 k0_cond67 k0_cond68 k0_cond69 k0_cond70 k0_cond71 k0_cond72 k0_cond73 k0_cond74 k0_cond75 k0_cond76 k0_cond77 k0_cond78 k0_cond79 k0_cond80 k0_dev1 k0_dev2 k0_dev3 k0_dev4 k0_dev5 k0_dev6 k0_dev7 k0_dev8 k0_dev9 k0_dev10 k0_dev11 k0_dev12 k0_dev13 k0_dev14 k0_dev15 k0_dev16 k0_dev17 k0_dev18 k0_dev19 k0_dev20 k0_dev21 k0_dev22 k0_dev23 k0_dev24 k0_dev25 k0_dev26 k0_dev27 k0_dev28 k0_dev29 k0_dev30 k0_dev31 k0_dev32 k0_dev33 k0_dev34 k0_dev35 k0_dev36 k0_dev37 k0_dev38 k0_dev39 k0_dev40 k0_dev41 k0_dev42 k0_dev43 k0_dev44 k0_dev45 k0_dev46 k0_off1 k0_off2 k0_off3 k0_off4 k0_off5 k0_off6 k0_off7 k0_off8 k0_off9 k0_off10 k0_off11 k0_off12 k0_off13 k0_off14 k0_off15 k0_off16 k0_off17 k0_off18 k0_off19 k0_off20 k0_off21 k0_off22 k0_off23 k0_off24 k0_off25 k0_off26 k0_off27 k0_off28 k0_off29 k0_off30 k0_off31 k0_off32 k0_off33 k0_off34 k0_off35 k0_off36 k0_off37 k0_off38 k0_off39 k0_off40 k0_off41 k0_off42 k0_off43 k0_off44 k0_off45 k0_off46 k0_off47 k0_off48 k0_off49 k0_off50 k0_off51 k0_off52 k0_off53 k0_off54 k0_off55 k0_off56 k0_off57 k0_off58 k0_off59 k0_off60 k0_off61 k0_off62 k0_off63 k0_off64 k0_off65 k0_off66 k0_off67 k0_off68 k0_off69 k0_off70 k0_off71 k0_off72 k0_off73 k0_off74 k0_off75 k0_off76 k0_off77 k0_off78 k0_off79 k0_off80 k0_off81 k0_off82 k0_off83 k0_off84 k0_off85 k0_off86

set_option maxHeartbeats 0 in
set_option maxRecDepth 100000 in
/-- The attention of the four groups, with fifteen of the parts sent and the last one computed. -/
theorem attn_run (g12 : Buf (Elt F) (a12.view.loc (c : Thread nD τ)))
    {α : Type} (v2 v409 : BitVec 32) (k : BitVec 32 → Prog (TpuEff nD τ sig (Elt F) Λ₀ .tc) α) (Q : α → sProp 𝕄) (R : sProp 𝕄)
    (hk : ∀ v1419 g, iprop(records I K ∗ owesX c (rsO c 1) ∗ ownSt I c 15 ∗ (a11.view.loc (c : Thread nD τ) ↦{fullShare} (qV I c : Buf (Elt F) (a11.view.loc (c : Thread nD τ))))
      ∗ (a9.view.loc (c : Thread nD τ) ↦{fullShare} (kgV (I.k c) : Buf (Elt F) (a9.view.loc (c : Thread nD τ))))
      ∗ (a10.view.loc (c : Thread nD τ) ↦{fullShare} (kgV (I.v c) : Buf (Elt F) (a10.view.loc (c : Thread nD τ))))
      ∗ (a12.view.loc (c : Thread nD τ) ↦{fullShare} g) ∗ sent I c 0 ∗ sent I c 1 ∗ sent I c 2 ∗ sent I c 3 ∗ sent I c 4 ∗ sent I c 5 ∗ sent I c 6 ∗ sent I c 7 ∗ sent I c 8 ∗ sent I c 9 ∗ sent I c 10 ∗ sent I c 11 ∗ sent I c 12 ∗ sent I c 13 ∗ sent I c 14 ∗ slotIs a13 c 15 (chunkV I c (tgt c 15)) ∗ sendTok c 15 ∗ R) ⊢ W1 c (k v1419) Q) :
    iprop(records I K ∗ owesX c (rsO c 16) ∗ ownSt I c 0 ∗ (a11.view.loc (c : Thread nD τ) ↦{fullShare} (qV I c : Buf (Elt F) (a11.view.loc (c : Thread nD τ))))
      ∗ (a9.view.loc (c : Thread nD τ) ↦{fullShare} (kgV (I.k c) : Buf (Elt F) (a9.view.loc (c : Thread nD τ))))
      ∗ (a10.view.loc (c : Thread nD τ) ↦{fullShare} (kgV (I.v c) : Buf (Elt F) (a10.view.loc (c : Thread nD τ))))
      ∗ (a12.view.loc (c : Thread nD τ) ↦{fullShare} g12) ∗ slotAny a13 c 0 ∗ sendTok c 0 ∗ slotAny a13 c 1 ∗ sendTok c 1 ∗ slotAny a13 c 2 ∗ sendTok c 2 ∗ slotAny a13 c 3 ∗ sendTok c 3 ∗ slotAny a13 c 4 ∗ sendTok c 4 ∗ slotAny a13 c 5 ∗ sendTok c 5 ∗ slotAny a13 c 6 ∗ sendTok c 6 ∗ slotAny a13 c 7 ∗ sendTok c 7 ∗ slotAny a13 c 8 ∗ sendTok c 8 ∗ slotAny a13 c 9 ∗ sendTok c 9 ∗ slotAny a13 c 10 ∗ sendTok c 10 ∗ slotAny a13 c 11 ∗ sendTok c 11 ∗ slotAny a13 c 12 ∗ sendTok c 12 ∗ slotAny a13 c 13 ∗ sendTok c 13 ∗ slotAny a13 c 14 ∗ sendTok c 14 ∗ slotAny a13 c 15 ∗ sendTok c 15 ∗ R)
      ⊢ W1 c (do
    let v407 := k0_pay59 (woV c (I.wo c))
    let ⟨v410, v444, v445, v448, cst_401⟩ : Σ' (v410 : BitVec 32) (v444 : FVec F S256x1 .f32) (v445 : FVec F S256x256 .bf16) (v448 : FVec F S256x128 .bf16), FVec F S256x128 .f32 ← k0_part16 a0 h0 a1 h1 a2 h2 a3 h3 a4 h4 a5 h5 a6 h6 a7 h7 a8 h8 a9 h9 a10 h10 a11 h11 a12 h12 a13 h13 a14 h14 a15 h15 a16 h16 s0 s1 s2 s3 s4 c v409
    let ⟨v486, v488, v489⟩ : Σ' (v486 : FVec F S256x256 .f32) (v488 : FVec F S256x1 .f32), FVec F S256x1 .f32 ← k0_part17 a0 h0 a1 h1 a2 h2 a3 h3 a4 h4 a5 h5 a6 h6 a7 h7 a8 h8 a9 h9 a10 h10 a11 h11 a12 h12 a13 h13 a14 h14 a15 h15 a16 h16 s0 s1 s2 s3 s4 c v410 v444 v445 v448 cst_401
    let ⟨v527, v530⟩ : Σ' (v527 : Vec F S256x128 .bf16), FVec F S256x128 .bf16 ← k0_part18 a0 h0 a1 h1 a2 h2 a3 h3 a4 h4 a5 h5 a6 h6 a7 h7 a8 h8 a9 h9 a10 h10 a11 h11 a12 h12 a13 h13 a14 h14 a15 h15 a16 h16 s0 s1 s2 s3 s4 c v410 v486 v488 v489
    k0_part19 a0 h0 a1 h1 a2 h2 a3 h3 a4 h4 a5 h5 a6 h6 a7 h7 a8 h8 a9 h9 a10 h10 a11 h11 a12 h12 a13 h13 a14 h14 a15 h15 a16 h16 s0 s1 s2 s3 s4 c v410 v527 v530
    let ⟨v605, v607, c0_i32_468⟩ : Σ' (v605 : BitVec 32) (v607 : BitVec 32), BitVec 32 ← k0_part20 a0 h0 a1 h1 a2 h2 a3 h3 a4 h4 a5 h5 a6 h6 a7 h7 a8 h8 a9 h9 a10 h10 a11 h11 a12 h12 a13 h13 a14 h14 a15 h15 a16 h16 s0 s1 s2 s3 s4 c v2 v407 v410
    let ⟨v638, c8_i32_489⟩ : Σ' (v638 : BitVec 32), BitVec 32 ← k0_part21 a0 h0 a1 h1 a2 h2 a3 h3 a4 h4 a5 h5 a6 h6 a7 h7 a8 h8 a9 h9 a10 h10 a11 h11 a12 h12 a13 h13 a14 h14 a15 h15 a16 h16 s0 s1 s2 s3 s4 c v2 v407 v410 v605 v607 c0_i32_468
    let ⟨v665, v667, v670⟩ : Σ' (v665 : BitVec 32) (v667 : Vec F S256x128 .bf16), FVec F S256x128 .bf16 ← k0_part22 a0 h0 a1 h1 a2 h2 a3 h3 a4 h4 a5 h5 a6 h6 a7 h7 a8 h8 a9 h9 a10 h10 a11 h11 a12 h12 a13 h13 a14 h14 a15 h15 a16 h16 s0 s1 s2 s3 s4 c v2 v407 v410 v638 c8_i32_489
    k0_part23 a0 h0 a1 h1 a2 h2 a3 h3 a4 h4 a5 h5 a6 h6 a7 h7 a8 h8 a9 h9 a10 h10 a11 h11 a12 h12 a13 h13 a14 h14 a15 h15 a16 h16 s0 s1 s2 s3 s4 c v665 v667 v670
    let ⟨v750, v751⟩ : Σ' (v750 : FVec F S256x128 .f32), FVec F S256x128 .f32 ← k0_part24 a0 h0 a1 h1 a2 h2 a3 h3 a4 h4 a5 h5 a6 h6 a7 h7 a8 h8 a9 h9 a10 h10 a11 h11 a12 h12 a13 h13 a14 h14 a15 h15 a16 h16 s0 s1 s2 s3 s4 c v665
    let ⟨v791, v792⟩ : Σ' (v791 : FVec F S256x1 .f32), FVec F S256x256 .bf16 ← k0_part25 a0 h0 a1 h1 a2 h2 a3 h3 a4 h4 a5 h5 a6 h6 a7 h7 a8 h8 a9 h9 a10 h10 a11 h11 a12 h12 a13 h13 a14 h14 a15 h15 a16 h16 s0 s1 s2 s3 s4 c v665 v750 v751
    let v832 : FVec F S256x256 .f32 ← k0_part26 a0 h0 a1 h1 a2 h2 a3 h3 a4 h4 a5 h5 a6 h6 a7 h7 a8 h8 a9 h9 a10 h10 a11 h11 a12 h12 a13 h13 a14 h14 a15 h15 a16 h16 s0 s1 s2 s3 s4 c v665 v791 v792
    k0_part27 a0 h0 a1 h1 a2 h2 a3 h3 a4 h4 a5 h5 a6 h6 a7 h7 a8 h8 a9 h9 a10 h10 a11 h11 a12 h12 a13 h13 a14 h14 a15 h15 a16 h16 s0 s1 s2 s3 s4 c v2 v407 v665 v832
    let v899 : BitVec 32 ← k0_part28 a0 h0 a1 h1 a2 h2 a3 h3 a4 h4 a5 h5 a6 h6 a7 h7 a8 h8 a9 h9 a10 h10 a11 h11 a12 h12 a13 h13 a14 h14 a15 h15 a16 h16 s0 s1 s2 s3 s4 c v2 v407 v665
    let ⟨v920, v931, v932⟩ : Σ' (v920 : BitVec 32) (v931 : FVec F S256x1 .f32), FVec F S256x256 .bf16 ← k0_part29 a0 h0 a1 h1 a2 h2 a3 h3 a4 h4 a5 h5 a6 h6 a7 h7 a8 h8 a9 h9 a10 h10 a11 h11 a12 h12 a13 h13 a14 h14 a15 h15 a16 h16 s0 s1 s2 s3 s4 c v2 v407 v665 v899
    let v972 : FVec F S256x256 .f32 ← k0_part30 a0 h0 a1 h1 a2 h2 a3 h3 a4 h4 a5 h5 a6 h6 a7 h7 a8 h8 a9 h9 a10 h10 a11 h11 a12 h12 a13 h13 a14 h14 a15 h15 a16 h16 s0 s1 s2 s3 s4 c v920 v931 v932
    k0_part31 a0 h0 a1 h1 a2 h2 a3 h3 a4 h4 a5 h5 a6 h6 a7 h7 a8 h8 a9 h9 a10 h10 a11 h11 a12 h12 a13 h13 a14 h14 a15 h15 a16 h16 s0 s1 s2 s3 s4 c v920 v972
    let v1054 : FVec F S256x128 .bf16 ← k0_part32 a0 h0 a1 h1 a2 h2 a3 h3 a4 h4 a5 h5 a6 h6 a7 h7 a8 h8 a9 h9 a10 h10 a11 h11 a12 h12 a13 h13 a14 h14 a15 h15 a16 h16 s0 s1 s2 s3 s4 c v920
    let ⟨v1092, v1093⟩ : Σ' (v1092 : FVec F S256x1 .f32), FVec F S256x256 .bf16 ← k0_part33 a0 h0 a1 h1 a2 h2 a3 h3 a4 h4 a5 h5 a6 h6 a7 h7 a8 h8 a9 h9 a10 h10 a11 h11 a12 h12 a13 h13 a14 h14 a15 h15 a16 h16 s0 s1 s2 s3 s4 c v920 v1054
    let v1126 : FVec F S64x1024 .bf16 ← k0_part34 a0 h0 a1 h1 a2 h2 a3 h3 a4 h4 a5 h5 a6 h6 a7 h7 a8 h8 a9 h9 a10 h10 a11 h11 a12 h12 a13 h13 a14 h14 a15 h15 a16 h16 s0 s1 s2 s3 s4 c v2 v407 v920 v1092 v1093
    let v1159 : FVec F S64x1024 .f32 ← k0_part35 a0 h0 a1 h1 a2 h2 a3 h3 a4 h4 a5 h5 a6 h6 a7 h7 a8 h8 a9 h9 a10 h10 a11 h11 a12 h12 a13 h13 a14 h14 a15 h15 a16 h16 s0 s1 s2 s3 s4 c v2 v407 v920 v1126
    let ⟨v1175, v1194⟩ : Σ' (v1175 : BitVec 32), FVec F S256x128 .bf16 ← k0_part36 a0 h0 a1 h1 a2 h2 a3 h3 a4 h4 a5 h5 a6 h6 a7 h7 a8 h8 a9 h9 a10 h10 a11 h11 a12 h12 a13 h13 a14 h14 a15 h15 a16 h16 s0 s1 s2 s3 s4 c v2 v1159
    let ⟨v1232, v1233⟩ : Σ' (v1232 : FVec F S256x1 .f32), FVec F S256x256 .bf16 ← k0_part37 a0 h0 a1 h1 a2 h2 a3 h3 a4 h4 a5 h5 a6 h6 a7 h7 a8 h8 a9 h9 a10 h10 a11 h11 a12 h12 a13 h13 a14 h14 a15 h15 a16 h16 s0 s1 s2 s3 s4 c v1175 v1194
    let v1274 : FVec F S256x256 .f32 ← k0_part38 a0 h0 a1 h1 a2 h2 a3 h3 a4 h4 a5 h5 a6 h6 a7 h7 a8 h8 a9 h9 a10 h10 a11 h11 a12 h12 a13 h13 a14 h14 a15 h15 a16 h16 s0 s1 s2 s3 s4 c v1175 v1232 v1233
    let v1315 : Vec F S256x128 .bf16 ← k0_part39 a0 h0 a1 h1 a2 h2 a3 h3 a4 h4 a5 h5 a6 h6 a7 h7 a8 h8 a9 h9 a10 h10 a11 h11 a12 h12 a13 h13 a14 h14 a15 h15 a16 h16 s0 s1 s2 s3 s4 c v1175 v1274
    let v1355 : FVec F S256x128 .bf16 ← k0_part40 a0 h0 a1 h1 a2 h2 a3 h3 a4 h4 a5 h5 a6 h6 a7 h7 a8 h8 a9 h9 a10 h10 a11 h11 a12 h12 a13 h13 a14 h14 a15 h15 a16 h16 s0 s1 s2 s3 s4 c v1175 v1315
    let ⟨v1387, v1389⟩ : Σ' (v1387 : BitVec 32), BitVec 32 ← k0_part41 a0 h0 a1 h1 a2 h2 a3 h3 a4 h4 a5 h5 a6 h6 a7 h7 a8 h8 a9 h9 a10 h10 a11 h11 a12 h12 a13 h13 a14 h14 a15 h15 a16 h16 s0 s1 s2 s3 s4 c v2 v407 v1175 v1355
    let v1419 : BitVec 32 ← k0_part42 a0 h0 a1 h1 a2 h2 a3 h3 a4 h4 a5 h5 a6 h6 a7 h7 a8 h8 a9 h9 a10 h10 a11 h11 a12 h12 a13 h13 a14 h14 a15 h15 a16 h16 s0 s1 s2 s3 s4 c v2 v407 v1175 v1387 v1389
    k v1419) Q := by
  unfold slotAny
  iintro ⟨#HR, HO, HW, H11, H9, H10, H12, ⟨%f0, HB0⟩, HT0, ⟨%f1, HB1⟩, HT1, ⟨%f2, HB2⟩, HT2, ⟨%f3, HB3⟩, HT3, ⟨%f4, HB4⟩, HT4, ⟨%f5, HB5⟩, HT5, ⟨%f6, HB6⟩, HT6, ⟨%f7, HB7⟩, HT7, ⟨%f8, HB8⟩, HT8, ⟨%f9, HB9⟩, HT9, ⟨%f10, HB10⟩, HT10, ⟨%f11, HB11⟩, HT11, ⟨%f12, HB12⟩, HT12, ⟨%f13, HB13⟩, HT13, ⟨%f14, HB14⟩, HT14, ⟨%f15, HB15⟩, HT15, HF⟩
  unfold W1
  sl_exec_parts
  have hH0 : HeadsOk I c (grp c 0) 8 (a12.view.writes (Elt F) a12.view.junk (attn_run.sl.H12_8 I c)) := heads_step I c (grp c 0) 7 _ (k0_off17_eq c 0) _ _ (k0_off18_eq c 0) _ _ _ _ rfl (heads_step I c (grp c 0) 6 _ (k0_off15_eq c 0) _ _ (k0_off16_eq c 0) _ _ _ _ rfl (heads_step I c (grp c 0) 5 _ (k0_off13_eq c 0) _ _ (k0_off14_eq c 0) _ _ _ _ rfl (heads_step I c (grp c 0) 4 _ (k0_off11_eq c 0) _ _ (k0_off12_eq c 0) _ _ _ _ rfl (heads_step I c (grp c 0) 3 _ (k0_off9_eq c 0) _ _ (k0_off10_eq c 0) _ _ _ _ rfl (heads_step I c (grp c 0) 2 _ (k0_off7_eq c 0) _ _ (k0_off8_eq c 0) _ _ _ _ rfl (heads_step I c (grp c 0) 1 _ (k0_off5_eq c 0) _ _ (k0_off6_eq c 0) _ _ _ _ rfl (heads_step I c (grp c 0) 0 _ (k0_off3_eq c 0) _ _ (k0_off4_eq c 0) _ _ _ _ rfl (heads_zero I c (grp c 0) _))))))))
  have hs0 : iprop((slot a13 0).view.loc (c : Thread nD τ) ↦[(slot a13 0).view.set]{fullShare} (attn_run.sl.HB0_w1 I c f0)) ⊢ slotIs a13 c 0 (chunkV I c (tgt c 0)) :=
    slot_step I c 0 0 _ _ _ hH0 _ (k0_off19_eq c 0 0) _ (fun v w => k0_pay76 v w) (fun _ _ => shapeCast_shapeCast _ _ _)
  ihave Hs := hs0 $$ HB0
  iapply (send1 I K c 0 15 rfl (cond_send0 c) _ _ (fun _ => slot_of_off a13 0 _ rfl _) (fun h => slot_of_off a15 c _ (k0_off21_eq c) _) _ (fun h => Fin.ext (dev_send0 c)) _ _ (fun _ => sem_rsS 0 _ rfl _) (fun h => sem_rsR c _ (k0_off20_eq c) _)) $$ [Hs HO HT0]
  · isplitr; · iexact HR
    isplitl [Hs]; · iexact Hs
    isplitl [HO]; · iexact HO
    iexact HT0
  iintro ⟨HS, HO⟩
  unfold W1
  sl_exec_parts
  iapply (send2 I c 0 (cond_own0 c) _ rfl _ _ (k0_off22_eq c) _ _ (fun _ => shapeCast_shapeCast _ _ _)) $$ [HS HW]
  · isplitl [HS]; · iexact HS
    iexact HW
  iintro ⟨HS0, HW⟩
  unfold W1
  sl_exec_parts
  have hs1 : iprop((slot a13 1).view.loc (c : Thread nD τ) ↦[(slot a13 1).view.set]{fullShare} (attn_run.sl.HB1_w1 I c f1)) ⊢ slotIs a13 c 1 (chunkV I c (tgt c 1)) :=
    slot_step I c 0 1 _ _ _ hH0 _ (k0_off19_eq c 0 1) _ (fun v w => k0_pay78 v w) (fun _ _ => shapeCast_shapeCast _ _ _)
  ihave Hs := hs1 $$ HB1
  iapply (send1 I K c 1 14 rfl (cond_send1 c) _ _ (fun _ => slot_of_off a13 1 _ rfl _) (fun h => slot_of_off a15 c _ (k0_off24_eq c) _) _ (fun h => Fin.ext (dev_send1 c)) _ _ (fun _ => sem_rsS 1 _ rfl _) (fun h => sem_rsR c _ (k0_off23_eq c) _)) $$ [Hs HO HT1]
  · isplitr; · iexact HR
    isplitl [Hs]; · iexact Hs
    isplitl [HO]; · iexact HO
    iexact HT1
  iintro ⟨HS, HO⟩
  unfold W1
  sl_exec_parts
  iapply (send2 I c 1 (cond_own1 c) _ rfl _ _ (k0_off25_eq c) _ _ (fun _ => shapeCast_shapeCast _ _ _)) $$ [HS HW]
  · isplitl [HS]; · iexact HS
    iexact HW
  iintro ⟨HS1, HW⟩
  unfold W1
  sl_exec_parts
  have hs2 : iprop((slot a13 2).view.loc (c : Thread nD τ) ↦[(slot a13 2).view.set]{fullShare} (attn_run.sl.HB2_w1 I c f2)) ⊢ slotIs a13 c 2 (chunkV I c (tgt c 2)) :=
    slot_step I c 0 2 _ _ _ hH0 _ (k0_off19_eq c 0 2) _ (fun v w => k0_pay80 v w) (fun _ _ => shapeCast_shapeCast _ _ _)
  ihave Hs := hs2 $$ HB2
  iapply (send1 I K c 2 13 rfl (cond_send2 c) _ _ (fun _ => slot_of_off a13 2 _ rfl _) (fun h => slot_of_off a15 c _ (k0_off27_eq c) _) _ (fun h => Fin.ext (dev_send2 c)) _ _ (fun _ => sem_rsS 2 _ rfl _) (fun h => sem_rsR c _ (k0_off26_eq c) _)) $$ [Hs HO HT2]
  · isplitr; · iexact HR
    isplitl [Hs]; · iexact Hs
    isplitl [HO]; · iexact HO
    iexact HT2
  iintro ⟨HS, HO⟩
  unfold W1
  sl_exec_parts
  iapply (send2 I c 2 (cond_own2 c) _ rfl _ _ (k0_off28_eq c) _ _ (fun _ => shapeCast_shapeCast _ _ _)) $$ [HS HW]
  · isplitl [HS]; · iexact HS
    iexact HW
  iintro ⟨HS2, HW⟩
  unfold W1
  sl_exec_parts
  have hs3 : iprop((slot a13 3).view.loc (c : Thread nD τ) ↦[(slot a13 3).view.set]{fullShare} (attn_run.sl.HB3_w1 I c f3)) ⊢ slotIs a13 c 3 (chunkV I c (tgt c 3)) :=
    slot_step I c 0 3 _ _ _ hH0 _ (k0_off19_eq c 0 3) _ (fun v w => k0_pay82 v w) (fun _ _ => shapeCast_shapeCast _ _ _)
  ihave Hs := hs3 $$ HB3
  iapply (send1 I K c 3 12 rfl (cond_send3 c) _ _ (fun _ => slot_of_off a13 3 _ rfl _) (fun h => slot_of_off a15 c _ (k0_off30_eq c) _) _ (fun h => Fin.ext (dev_send3 c)) _ _ (fun _ => sem_rsS 3 _ rfl _) (fun h => sem_rsR c _ (k0_off29_eq c) _)) $$ [Hs HO HT3]
  · isplitr; · iexact HR
    isplitl [Hs]; · iexact Hs
    isplitl [HO]; · iexact HO
    iexact HT3
  iintro ⟨HS, HO⟩
  unfold W1
  sl_exec_parts
  iapply (send2 I c 3 (cond_own3 c) _ rfl _ _ (k0_off31_eq c) _ _ (fun _ => shapeCast_shapeCast _ _ _)) $$ [HS HW]
  · isplitl [HS]; · iexact HS
    iexact HW
  iintro ⟨HS3, HW⟩
  unfold W1
  sl_exec_parts
  have hH1 : HeadsOk I c (grp c 1) 8 (a12.view.writes (Elt F) a12.view.junk (attn_run.sl.H12_16 I c)) := heads_step I c (grp c 1) 7 _ (k0_off17_eq c 1) _ _ (k0_off18_eq c 1) _ _ _ _ rfl (heads_step I c (grp c 1) 6 _ (k0_off15_eq c 1) _ _ (k0_off16_eq c 1) _ _ _ _ rfl (heads_step I c (grp c 1) 5 _ (k0_off13_eq c 1) _ _ (k0_off14_eq c 1) _ _ _ _ rfl (heads_step I c (grp c 1) 4 _ (k0_off11_eq c 1) _ _ (k0_off12_eq c 1) _ _ _ _ rfl (heads_step I c (grp c 1) 3 _ (k0_off9_eq c 1) _ _ (k0_off10_eq c 1) _ _ _ _ rfl (heads_step I c (grp c 1) 2 _ (k0_off7_eq c 1) _ _ (k0_off8_eq c 1) _ _ _ _ rfl (heads_step I c (grp c 1) 1 _ (k0_off5_eq c 1) _ _ (k0_off6_eq c 1) _ _ _ _ rfl (heads_step I c (grp c 1) 0 _ (k0_off3_eq c 1) _ _ (k0_off4_eq c 1) _ _ _ _ rfl (heads_zero I c (grp c 1) _))))))))
  have hs4 : iprop((slot a13 4).view.loc (c : Thread nD τ) ↦[(slot a13 4).view.set]{fullShare} (attn_run.sl.HB4_w1 I c f4)) ⊢ slotIs a13 c 4 (chunkV I c (tgt c 4)) :=
    slot_step I c 1 0 _ _ _ hH1 _ (k0_off19_eq c 1 0) _ (fun v w => k0_pay100 v w) (fun _ _ => shapeCast_shapeCast _ _ _)
  ihave Hs := hs4 $$ HB4
  iapply (send1 I K c 4 11 rfl (cond_send4 c) _ _ (fun _ => slot_of_off a13 4 _ rfl _) (fun h => slot_of_off a15 c _ (k0_off33_eq c) _) _ (fun h => Fin.ext (dev_send4 c)) _ _ (fun _ => sem_rsS 4 _ rfl _) (fun h => sem_rsR c _ (k0_off32_eq c) _)) $$ [Hs HO HT4]
  · isplitr; · iexact HR
    isplitl [Hs]; · iexact Hs
    isplitl [HO]; · iexact HO
    iexact HT4
  iintro ⟨HS, HO⟩
  unfold W1
  sl_exec_parts
  iapply (send2 I c 4 (cond_own4 c) _ rfl _ _ (k0_off34_eq c) _ _ (fun _ => shapeCast_shapeCast _ _ _)) $$ [HS HW]
  · isplitl [HS]; · iexact HS
    iexact HW
  iintro ⟨HS4, HW⟩
  unfold W1
  sl_exec_parts
  have hs5 : iprop((slot a13 5).view.loc (c : Thread nD τ) ↦[(slot a13 5).view.set]{fullShare} (attn_run.sl.HB5_w1 I c f5)) ⊢ slotIs a13 c 5 (chunkV I c (tgt c 5)) :=
    slot_step I c 1 1 _ _ _ hH1 _ (k0_off19_eq c 1 1) _ (fun v w => k0_pay102 v w) (fun _ _ => shapeCast_shapeCast _ _ _)
  ihave Hs := hs5 $$ HB5
  iapply (send1 I K c 5 10 rfl (cond_send5 c) _ _ (fun _ => slot_of_off a13 5 _ rfl _) (fun h => slot_of_off a15 c _ (k0_off36_eq c) _) _ (fun h => Fin.ext (dev_send5 c)) _ _ (fun _ => sem_rsS 5 _ rfl _) (fun h => sem_rsR c _ (k0_off35_eq c) _)) $$ [Hs HO HT5]
  · isplitr; · iexact HR
    isplitl [Hs]; · iexact Hs
    isplitl [HO]; · iexact HO
    iexact HT5
  iintro ⟨HS, HO⟩
  unfold W1
  sl_exec_parts
  iapply (send2 I c 5 (cond_own5 c) _ rfl _ _ (k0_off37_eq c) _ _ (fun _ => shapeCast_shapeCast _ _ _)) $$ [HS HW]
  · isplitl [HS]; · iexact HS
    iexact HW
  iintro ⟨HS5, HW⟩
  unfold W1
  sl_exec_parts
  have hs6 : iprop((slot a13 6).view.loc (c : Thread nD τ) ↦[(slot a13 6).view.set]{fullShare} (attn_run.sl.HB6_w1 I c f6)) ⊢ slotIs a13 c 6 (chunkV I c (tgt c 6)) :=
    slot_step I c 1 2 _ _ _ hH1 _ (k0_off19_eq c 1 2) _ (fun v w => k0_pay104 v w) (fun _ _ => shapeCast_shapeCast _ _ _)
  ihave Hs := hs6 $$ HB6
  iapply (send1 I K c 6 9 rfl (cond_send6 c) _ _ (fun _ => slot_of_off a13 6 _ rfl _) (fun h => slot_of_off a15 c _ (k0_off39_eq c) _) _ (fun h => Fin.ext (dev_send6 c)) _ _ (fun _ => sem_rsS 6 _ rfl _) (fun h => sem_rsR c _ (k0_off38_eq c) _)) $$ [Hs HO HT6]
  · isplitr; · iexact HR
    isplitl [Hs]; · iexact Hs
    isplitl [HO]; · iexact HO
    iexact HT6
  iintro ⟨HS, HO⟩
  unfold W1
  sl_exec_parts
  iapply (send2 I c 6 (cond_own6 c) _ rfl _ _ (k0_off40_eq c) _ _ (fun _ => shapeCast_shapeCast _ _ _)) $$ [HS HW]
  · isplitl [HS]; · iexact HS
    iexact HW
  iintro ⟨HS6, HW⟩
  unfold W1
  sl_exec_parts
  have hs7 : iprop((slot a13 7).view.loc (c : Thread nD τ) ↦[(slot a13 7).view.set]{fullShare} (attn_run.sl.HB7_w1 I c f7)) ⊢ slotIs a13 c 7 (chunkV I c (tgt c 7)) :=
    slot_step I c 1 3 _ _ _ hH1 _ (k0_off19_eq c 1 3) _ (fun v w => k0_pay106 v w) (fun _ _ => shapeCast_shapeCast _ _ _)
  ihave Hs := hs7 $$ HB7
  iapply (send1 I K c 7 8 rfl (cond_send7 c) _ _ (fun _ => slot_of_off a13 7 _ rfl _) (fun h => slot_of_off a15 c _ (k0_off42_eq c) _) _ (fun h => Fin.ext (dev_send7 c)) _ _ (fun _ => sem_rsS 7 _ rfl _) (fun h => sem_rsR c _ (k0_off41_eq c) _)) $$ [Hs HO HT7]
  · isplitr; · iexact HR
    isplitl [Hs]; · iexact Hs
    isplitl [HO]; · iexact HO
    iexact HT7
  iintro ⟨HS, HO⟩
  unfold W1
  sl_exec_parts
  iapply (send2 I c 7 (cond_own7 c) _ rfl _ _ (k0_off43_eq c) _ _ (fun _ => shapeCast_shapeCast _ _ _)) $$ [HS HW]
  · isplitl [HS]; · iexact HS
    iexact HW
  iintro ⟨HS7, HW⟩
  unfold W1
  sl_exec_parts
  have hH2 : HeadsOk I c (grp c 2) 8 (a12.view.writes (Elt F) a12.view.junk (attn_run.sl.H12_24 I c)) := heads_step I c (grp c 2) 7 _ (k0_off17_eq c 2) _ _ (k0_off18_eq c 2) _ _ _ _ rfl (heads_step I c (grp c 2) 6 _ (k0_off15_eq c 2) _ _ (k0_off16_eq c 2) _ _ _ _ rfl (heads_step I c (grp c 2) 5 _ (k0_off13_eq c 2) _ _ (k0_off14_eq c 2) _ _ _ _ rfl (heads_step I c (grp c 2) 4 _ (k0_off11_eq c 2) _ _ (k0_off12_eq c 2) _ _ _ _ rfl (heads_step I c (grp c 2) 3 _ (k0_off9_eq c 2) _ _ (k0_off10_eq c 2) _ _ _ _ rfl (heads_step I c (grp c 2) 2 _ (k0_off7_eq c 2) _ _ (k0_off8_eq c 2) _ _ _ _ rfl (heads_step I c (grp c 2) 1 _ (k0_off5_eq c 2) _ _ (k0_off6_eq c 2) _ _ _ _ rfl (heads_step I c (grp c 2) 0 _ (k0_off3_eq c 2) _ _ (k0_off4_eq c 2) _ _ _ _ rfl (heads_zero I c (grp c 2) _))))))))
  have hs8 : iprop((slot a13 8).view.loc (c : Thread nD τ) ↦[(slot a13 8).view.set]{fullShare} (attn_run.sl.HB8_w1 I c f8)) ⊢ slotIs a13 c 8 (chunkV I c (tgt c 8)) :=
    slot_step I c 2 0 _ _ _ hH2 _ (k0_off19_eq c 2 0) _ (fun v w => k0_pay124 v w) (fun _ _ => shapeCast_shapeCast _ _ _)
  ihave Hs := hs8 $$ HB8
  iapply (send1 I K c 8 7 rfl (cond_send8 c) _ _ (fun _ => slot_of_off a13 8 _ rfl _) (fun h => slot_of_off a15 c _ (k0_off45_eq c) _) _ (fun h => Fin.ext (dev_send8 c)) _ _ (fun _ => sem_rsS 8 _ rfl _) (fun h => sem_rsR c _ (k0_off44_eq c) _)) $$ [Hs HO HT8]
  · isplitr; · iexact HR
    isplitl [Hs]; · iexact Hs
    isplitl [HO]; · iexact HO
    iexact HT8
  iintro ⟨HS, HO⟩
  unfold W1
  sl_exec_parts
  iapply (send2 I c 8 (cond_own8 c) _ rfl _ _ (k0_off46_eq c) _ _ (fun _ => shapeCast_shapeCast _ _ _)) $$ [HS HW]
  · isplitl [HS]; · iexact HS
    iexact HW
  iintro ⟨HS8, HW⟩
  unfold W1
  sl_exec_parts
  have hs9 : iprop((slot a13 9).view.loc (c : Thread nD τ) ↦[(slot a13 9).view.set]{fullShare} (attn_run.sl.HB9_w1 I c f9)) ⊢ slotIs a13 c 9 (chunkV I c (tgt c 9)) :=
    slot_step I c 2 1 _ _ _ hH2 _ (k0_off19_eq c 2 1) _ (fun v w => k0_pay127 (k0_pay126 v w)) (fun _ _ => shapeCast_shapeCast _ _ _)
  ihave Hs := hs9 $$ HB9
  iapply (send1 I K c 9 6 rfl (cond_send9 c) _ _ (fun _ => slot_of_off a13 9 _ rfl _) (fun h => slot_of_off a15 c _ (k0_off48_eq c) _) _ (fun h => Fin.ext (dev_send9 c)) _ _ (fun _ => sem_rsS 9 _ rfl _) (fun h => sem_rsR c _ (k0_off47_eq c) _)) $$ [Hs HO HT9]
  · isplitr; · iexact HR
    isplitl [Hs]; · iexact Hs
    isplitl [HO]; · iexact HO
    iexact HT9
  iintro ⟨HS, HO⟩
  unfold W1
  sl_exec_parts
  iapply (send2 I c 9 (cond_own9 c) _ rfl _ _ (k0_off49_eq c) _ _ (fun _ => shapeCast_shapeCast _ _ _)) $$ [HS HW]
  · isplitl [HS]; · iexact HS
    iexact HW
  iintro ⟨HS9, HW⟩
  unfold W1
  sl_exec_parts
  have hs10 : iprop((slot a13 10).view.loc (c : Thread nD τ) ↦[(slot a13 10).view.set]{fullShare} (attn_run.sl.HB10_w1 I c f10)) ⊢ slotIs a13 c 10 (chunkV I c (tgt c 10)) :=
    slot_step I c 2 2 _ _ _ hH2 _ (k0_off19_eq c 2 2) _ (fun v w => k0_pay129 v w) (fun _ _ => shapeCast_shapeCast _ _ _)
  ihave Hs := hs10 $$ HB10
  iapply (send1 I K c 10 5 rfl (cond_send10 c) _ _ (fun _ => slot_of_off a13 10 _ rfl _) (fun h => slot_of_off a15 c _ (k0_off51_eq c) _) _ (fun h => Fin.ext (dev_send10 c)) _ _ (fun _ => sem_rsS 10 _ rfl _) (fun h => sem_rsR c _ (k0_off50_eq c) _)) $$ [Hs HO HT10]
  · isplitr; · iexact HR
    isplitl [Hs]; · iexact Hs
    isplitl [HO]; · iexact HO
    iexact HT10
  iintro ⟨HS, HO⟩
  unfold W1
  sl_exec_parts
  iapply (send2 I c 10 (cond_own10 c) _ rfl _ _ (k0_off52_eq c) _ _ (fun _ => shapeCast_shapeCast _ _ _)) $$ [HS HW]
  · isplitl [HS]; · iexact HS
    iexact HW
  iintro ⟨HS10, HW⟩
  unfold W1
  sl_exec_parts
  have hs11 : iprop((slot a13 11).view.loc (c : Thread nD τ) ↦[(slot a13 11).view.set]{fullShare} (attn_run.sl.HB11_w1 I c f11)) ⊢ slotIs a13 c 11 (chunkV I c (tgt c 11)) :=
    slot_step I c 2 3 _ _ _ hH2 _ (k0_off19_eq c 2 3) _ (fun v w => k0_pay132 (k0_pay131 v w)) (fun _ _ => shapeCast_shapeCast _ _ _)
  ihave Hs := hs11 $$ HB11
  iapply (send1 I K c 11 4 rfl (cond_send11 c) _ _ (fun _ => slot_of_off a13 11 _ rfl _) (fun h => slot_of_off a15 c _ (k0_off54_eq c) _) _ (fun h => Fin.ext (dev_send11 c)) _ _ (fun _ => sem_rsS 11 _ rfl _) (fun h => sem_rsR c _ (k0_off53_eq c) _)) $$ [Hs HO HT11]
  · isplitr; · iexact HR
    isplitl [Hs]; · iexact Hs
    isplitl [HO]; · iexact HO
    iexact HT11
  iintro ⟨HS, HO⟩
  unfold W1
  sl_exec_parts
  iapply (send2 I c 11 (cond_own11 c) _ rfl _ _ (k0_off55_eq c) _ _ (fun _ => shapeCast_shapeCast _ _ _)) $$ [HS HW]
  · isplitl [HS]; · iexact HS
    iexact HW
  iintro ⟨HS11, HW⟩
  unfold W1
  sl_exec_parts
  have hH3 : HeadsOk I c (grp c 3) 8 (a12.view.writes (Elt F) a12.view.junk (attn_run.sl.H12_32 I c)) := heads_step I c (grp c 3) 7 _ (k0_off17_eq c 3) _ _ (k0_off18_eq c 3) _ _ _ _ rfl (heads_step I c (grp c 3) 6 _ (k0_off15_eq c 3) _ _ (k0_off16_eq c 3) _ _ _ _ rfl (heads_step I c (grp c 3) 5 _ (k0_off13_eq c 3) _ _ (k0_off14_eq c 3) _ _ _ _ rfl (heads_step I c (grp c 3) 4 _ (k0_off11_eq c 3) _ _ (k0_off12_eq c 3) _ _ _ _ rfl (heads_step I c (grp c 3) 3 _ (k0_off9_eq c 3) _ _ (k0_off10_eq c 3) _ _ _ _ rfl (heads_step I c (grp c 3) 2 _ (k0_off7_eq c 3) _ _ (k0_off8_eq c 3) _ _ _ _ rfl (heads_step I c (grp c 3) 1 _ (k0_off5_eq c 3) _ _ (k0_off6_eq c 3) _ _ _ _ rfl (heads_step I c (grp c 3) 0 _ (k0_off3_eq c 3) _ _ (k0_off4_eq c 3) _ _ _ _ rfl (heads_zero I c (grp c 3) _))))))))
  have hs12 : iprop((slot a13 12).view.loc (c : Thread nD τ) ↦[(slot a13 12).view.set]{fullShare} (attn_run.sl.HB12_w1 I c f12)) ⊢ slotIs a13 c 12 (chunkV I c (tgt c 12)) :=
    slot_step I c 3 0 _ _ _ hH3 _ (k0_off19_eq c 3 0) _ (fun v w => k0_pay148 v w) (fun _ _ => shapeCast_shapeCast _ _ _)
  ihave Hs := hs12 $$ HB12
  iapply (send1 I K c 12 3 rfl (cond_send12 c) _ _ (fun _ => slot_of_off a13 12 _ rfl _) (fun h => slot_of_off a15 c _ (k0_off57_eq c) _) _ (fun h => Fin.ext (dev_send12 c)) _ _ (fun _ => sem_rsS 12 _ rfl _) (fun h => sem_rsR c _ (k0_off56_eq c) _)) $$ [Hs HO HT12]
  · isplitr; · iexact HR
    isplitl [Hs]; · iexact Hs
    isplitl [HO]; · iexact HO
    iexact HT12
  iintro ⟨HS, HO⟩
  unfold W1
  sl_exec_parts
  iapply (send2 I c 12 (cond_own12 c) _ rfl _ _ (k0_off58_eq c) _ _ (fun _ => shapeCast_shapeCast _ _ _)) $$ [HS HW]
  · isplitl [HS]; · iexact HS
    iexact HW
  iintro ⟨HS12, HW⟩
  unfold W1
  sl_exec_parts
  have hs13 : iprop((slot a13 13).view.loc (c : Thread nD τ) ↦[(slot a13 13).view.set]{fullShare} (attn_run.sl.HB13_w1 I c f13)) ⊢ slotIs a13 c 13 (chunkV I c (tgt c 13)) :=
    slot_step I c 3 1 _ _ _ hH3 _ (k0_off19_eq c 3 1) _ (fun v w => k0_pay150 v w) (fun _ _ => shapeCast_shapeCast _ _ _)
  ihave Hs := hs13 $$ HB13
  iapply (send1 I K c 13 2 rfl (cond_send13 c) _ _ (fun _ => slot_of_off a13 13 _ rfl _) (fun h => slot_of_off a15 c _ (k0_off60_eq c) _) _ (fun h => Fin.ext (dev_send13 c)) _ _ (fun _ => sem_rsS 13 _ rfl _) (fun h => sem_rsR c _ (k0_off59_eq c) _)) $$ [Hs HO HT13]
  · isplitr; · iexact HR
    isplitl [Hs]; · iexact Hs
    isplitl [HO]; · iexact HO
    iexact HT13
  iintro ⟨HS, HO⟩
  unfold W1
  sl_exec_parts
  iapply (send2 I c 13 (cond_own13 c) _ rfl _ _ (k0_off61_eq c) _ _ (fun _ => shapeCast_shapeCast _ _ _)) $$ [HS HW]
  · isplitl [HS]; · iexact HS
    iexact HW
  iintro ⟨HS13, HW⟩
  unfold W1
  sl_exec_parts
  have hs14 : iprop((slot a13 14).view.loc (c : Thread nD τ) ↦[(slot a13 14).view.set]{fullShare} (attn_run.sl.HB14_w1 I c f14)) ⊢ slotIs a13 c 14 (chunkV I c (tgt c 14)) :=
    slot_step I c 3 2 _ _ _ hH3 _ (k0_off19_eq c 3 2) _ (fun v w => k0_pay152 v w) (fun _ _ => shapeCast_shapeCast _ _ _)
  ihave Hs := hs14 $$ HB14
  iapply (send1 I K c 14 1 rfl (cond_send14 c) _ _ (fun _ => slot_of_off a13 14 _ rfl _) (fun h => slot_of_off a15 c _ (k0_off63_eq c) _) _ (fun h => Fin.ext (dev_send14 c)) _ _ (fun _ => sem_rsS 14 _ rfl _) (fun h => sem_rsR c _ (k0_off62_eq c) _)) $$ [Hs HO HT14]
  · isplitr; · iexact HR
    isplitl [Hs]; · iexact Hs
    isplitl [HO]; · iexact HO
    iexact HT14
  iintro ⟨HS, HO⟩
  unfold W1
  sl_exec_parts
  iapply (send2 I c 14 (cond_own14 c) _ rfl _ _ (k0_off64_eq c) _ _ (fun _ => shapeCast_shapeCast _ _ _)) $$ [HS HW]
  · isplitl [HS]; · iexact HS
    iexact HW
  iintro ⟨HS14, HW⟩
  unfold W1
  sl_exec_parts
  have hs15 : iprop((slot a13 15).view.loc (c : Thread nD τ) ↦[(slot a13 15).view.set]{fullShare} (attn_run.sl.HB15_w1 I c f15)) ⊢ slotIs a13 c 15 (chunkV I c (tgt c 15)) :=
    slot_step I c 3 3 _ _ _ hH3 _ (k0_off19_eq c 3 3) _ (fun v w => k0_pay154 v w) (fun _ _ => shapeCast_shapeCast _ _ _)
  ihave Hs := hs15 $$ HB15

  iapply (hk _ _)
  isplitr; · iexact HR
  isplitl [HO]; · iexact HO
  isplitl [HW]; · iexact HW
  isplitl [H11]; · iexact H11
  isplitl [H9]; · iexact H9
  isplitl [H10]; · iexact H10
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [Hs]; · iexact Hs
  isplitl [HT15]; · iexact HT15
  iexact HF

end Cert.Attn

end
-- ==== Proof.Spread.lean ====
/-
  The sums sent to every device and written to the result, and the sends waited for.
-/
module

public import proofs.«01_k».proof.Proof.Reduce
public import proofs.«01_k».proof.Proof.Facts
public import Idealize.ShloMosaic.Lib.Pipeline.Value
public import Idealize.ShloMosaic.Lib.Writes

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
variable {F : FTy → Type} [FloatOps F]
local notation "𝕄" => MT nD τ sig Unit (Elt F) ℕ UU ℕ
variable (I : In F) (K : Dev nD × Option (Fin 65) → ℕ) (c : Dev nD)

attribute [local irreducible] k0_cond1 k0_cond2 k0_cond3 k0_cond4 k0_cond5 k0_cond6 k0_cond7 k0_cond8 k0_cond9 k0_cond10 k0_cond11 k0_cond12 k0_cond13 k0_cond14 k0_cond15 k0_cond16 k0_cond17 k0_cond18 k0_cond19 k0_cond20 k0_cond21 k0_cond22 k0_cond23 k0_cond24 k0_cond25 k0_cond26 k0_cond27 k0_cond28 k0_cond29 k0_cond30 k0_cond31 k0_cond32 k0_cond65 k0_cond66 k0_cond67 k0_cond68 k0_cond69 k0_cond70 k0_cond71 k0_cond72 k0_cond73 k0_cond74 k0_cond75 k0_cond76 k0_cond77 k0_cond78 k0_cond79 k0_cond80 k0_dev1 k0_dev2 k0_dev3 k0_dev4 k0_dev5 k0_dev6 k0_dev7 k0_dev8 k0_dev9 k0_dev10 k0_dev11 k0_dev12 k0_dev13 k0_dev14 k0_dev15 k0_dev16 k0_dev17 k0_dev18 k0_dev19 k0_dev20 k0_dev21 k0_dev22 k0_dev23 k0_dev24 k0_dev25 k0_dev26 k0_dev27 k0_dev28 k0_dev29 k0_dev30 k0_dev31 k0_dev32 k0_dev33 k0_dev34 k0_dev35 k0_dev36 k0_dev37 k0_dev38 k0_dev39 k0_dev40 k0_dev41 k0_dev42 k0_dev43 k0_dev44 k0_dev45 k0_dev46 k0_off1 k0_off2 k0_off3 k0_off4 k0_off5 k0_off6 k0_off7 k0_off8 k0_off9 k0_off10 k0_off11 k0_off12 k0_off13 k0_off14 k0_off15 k0_off16 k0_off17 k0_off18 k0_off19 k0_off20 k0_off21 k0_off22 k0_off23 k0_off24 k0_off25 k0_off26 k0_off27 k0_off28 k0_off29 k0_off30 k0_off31 k0_off32 k0_off33 k0_off34 k0_off35 k0_off36 k0_off37 k0_off38 k0_off39 k0_off40 k0_off41 k0_off42 k0_off43 k0_off44 k0_off45 k0_off46 k0_off47 k0_off48 k0_off49 k0_off50 k0_off51 k0_off52 k0_off53 k0_off54 k0_off55 k0_off56 k0_off57 k0_off58 k0_off59 k0_off60 k0_off61 k0_off62 k0_off63 k0_off64 k0_off65 k0_off66 k0_off67 k0_off68 k0_off69 k0_off70 k0_off71 k0_off72 k0_off73 k0_off74 k0_off75 k0_off76 k0_off77 k0_off78 k0_off79 k0_off80 k0_off81 k0_off82 k0_off83 k0_off84 k0_off85 k0_off86

theorem sem_agS (j : Fin 15) (off : Fin 1 → ℕ) (hoff : off = ![j.val]) (inb : ∀ a, off a + S1.size a ≤ S15.size a) :
    (.dma ((s3.slice (Rect.unit (s := S15) off S1.size inb)).squeeze S_ squeezes_S1_S_).sem : SemLoc sig) = osem (iAgS j) := by
  subst hoff; revert j; decide

/-- The sum in the buffer it is sent from, as the sixteen shares of it. -/
theorem red_pieces : iprop(a14.view.loc (c : Thread nD τ) ↦{fullShare} (redV I c : Buf (Elt F) (a14.view.loc (c : Thread nD τ))))
    = bigSep Finset.univ (redPiece I c) :=
  ShareLeaves.pointsTo_leaves Finset.univ _ 4 fullShare

/-- The device's own rows of the result, once stored. -/
theorem own_store (g5 : Buf (Elt F) (a5.view.loc (c : Thread nD τ))) (off : Fin 3 → ℕ) (hoff : off = ![0, 64 * c.val, 0]) (inb : ∀ a, off a + S1x64x1024.size a ≤ S1x1024x1024.size a)
    (w : FVec F S1x64x1024 .bf16) (v : FVec F S64x1024 .bf16) (hw : w = shapeCast S1x64x1024 v shapeCasts_S64x1024_S1x64x1024) (hv : v = redV I c) :
    iprop(a5.view.loc (c : Thread nD τ) ↦{fullShare} (a5.view.writes (Elt F) g5 [⟨Rect.unit (s := S1x1024x1024) off S1x64x1024.size inb, w⟩] : Buf (Elt F) (a5.view.loc (c : Thread nD τ))))
      ⊢ outSt I c 0 := by
  subst hoff hw hv
  unfold outSt
  iintro H
  iexists _
  isplitr
  rotate_left
  · iexact H
  ipureintro
  intro i hi
  exact out_rows I c inb g5 _ (dropUnit_at _ _ (shapeCast_shapeCast _ _ _)) i (.inl (hi.resolve_right (Nat.not_lt_zero _)))

set_option maxHeartbeats 0 in
set_option maxRecDepth 100000 in
/-- The sum sent to the fifteen other devices, theirs waited for and written to the result, and every send waited for. -/
theorem spread_run (g5 : Buf (Elt F) (a5.view.loc (c : Thread nD τ)))
    (v2 : BitVec 32) (hv : IsOwn c v2) (v1543 : Vec F S64x1024 .bf16) (h1543 : v1543 = redV I c) (Q : PUnit → sProp 𝕄) (R : sProp 𝕄)
    (hk : iprop(owesX c 0 ∗ (bigSep Finset.univ (rsBack (F := F) c)) ∗ (bigSep Finset.univ (agGot (F := F) c)) ∗ (bigSep Finset.univ fun j : Fin 15 => atPos ER (ownC c (iAgS j)) 1 ∅ 0)
      ∗ (a14.view.loc (c : Thread nD τ) ↦{fullShare} (redV I c : Buf (Elt F) (a14.view.loc (c : Thread nD τ)))) ∗ outSt I c 16 ∗ R) ⊢ W1 c (.ret ⟨⟩) Q) :
    iprop(records I K ∗ levAts LL lv ∗ owesX c (agO c 15) ∗ (bigSep Finset.univ (sent I c)) ∗ (bigSep Finset.univ fun i : Fin 16 => atPos ER (ownC c (iRsS i)) 0 ∅ 0)
      ∗ (bigSep Finset.univ (agTok (F := F) c)) ∗ (bigSep Finset.univ (agIn (F := F) c)) ∗ (bigSep Finset.univ fun j : Fin 15 => atPos ER (ownC c (iAgS j)) 0 ∅ 0)
      ∗ (a14.view.loc (c : Thread nD τ) ↦{fullShare} (redV I c : Buf (Elt F) (a14.view.loc (c : Thread nD τ)))) ∗ (a5.view.loc (c : Thread nD τ) ↦{fullShare} g5) ∗ R)
      ⊢ W1 c (do
    let v1580 : BitVec 32 ← k0_part47 a0 h0 a1 h1 a2 h2 a3 h3 a4 h4 a5 h5 a6 h6 a7 h7 a8 h8 a9 h9 a10 h10 a11 h11 a12 h12 a13 h13 a14 h14 a15 h15 a16 h16 s0 s1 s2 s3 s4 c v2 v1543
    k0_part48 a0 h0 a1 h1 a2 h2 a3 h3 a4 h4 a5 h5 a6 h6 a7 h7 a8 h8 a9 h9 a10 h10 a11 h11 a12 h12 a13 h13 a14 h14 a15 h15 a16 h16 s0 s1 s2 s3 s4 c v2 v1580
    k0_part49 a0 h0 a1 h1 a2 h2 a3 h3 a4 h4 a5 h5 a6 h6 a7 h7 a8 h8 a9 h9 a10 h10 a11 h11 a12 h12 a13 h13 a14 h14 a15 h15 a16 h16 s0 s1 s2 s3 s4 c v2
    let v1680 : BitVec 32 ← k0_part50 a0 h0 a1 h1 a2 h2 a3 h3 a4 h4 a5 h5 a6 h6 a7 h7 a8 h8 a9 h9 a10 h10 a11 h11 a12 h12 a13 h13 a14 h14 a15 h15 a16 h16 s0 s1 s2 s3 s4 c v2
    let ⟨v1712, c0_i32_1104⟩ : Σ' (v1712 : BitVec 32), BitVec 32 ← k0_part51 a0 h0 a1 h1 a2 h2 a3 h3 a4 h4 a5 h5 a6 h6 a7 h7 a8 h8 a9 h9 a10 h10 a11 h11 a12 h12 a13 h13 a14 h14 a15 h15 a16 h16 s0 s1 s2 s3 s4 c v2 v1680
    let ⟨v1742, c0_i32_1124⟩ : Σ' (v1742 : BitVec 32), BitVec 32 ← k0_part52 a0 h0 a1 h1 a2 h2 a3 h3 a4 h4 a5 h5 a6 h6 a7 h7 a8 h8 a9 h9 a10 h10 a11 h11 a12 h12 a13 h13 a14 h14 a15 h15 a16 h16 s0 s1 s2 s3 s4 v2 v1712 c0_i32_1104
    k0_part53 a0 h0 a1 h1 a2 h2 a3 h3 a4 h4 a5 h5 a6 h6 a7 h7 a8 h8 a9 h9 a10 h10 a11 h11 a12 h12 a13 h13 a14 h14 a15 h15 a16 h16 s0 s1 s2 s3 s4 c v2 v1742 c0_i32_1124
    let v1799 : BitVec 32 ← k0_part54 a0 h0 a1 h1 a2 h2 a3 h3 a4 h4 a5 h5 a6 h6 a7 h7 a8 h8 a9 h9 a10 h10 a11 h11 a12 h12 a13 h13 a14 h14 a15 h15 a16 h16 s0 s1 s2 s3 s4 c v2
    let ⟨v1825, c4_i32_1206⟩ : Σ' (v1825 : BitVec 32), BitVec 32 ← k0_part55 a0 h0 a1 h1 a2 h2 a3 h3 a4 h4 a5 h5 a6 h6 a7 h7 a8 h8 a9 h9 a10 h10 a11 h11 a12 h12 a13 h13 a14 h14 a15 h15 a16 h16 s0 s1 s2 s3 s4 c v2 v1799
    k0_part56 a0 h0 a1 h1 a2 h2 a3 h3 a4 h4 a5 h5 a6 h6 a7 h7 a8 h8 a9 h9 a10 h10 a11 h11 a12 h12 a13 h13 a14 h14 a15 h15 a16 h16 s0 s1 s2 s3 s4 c v2 v1825 c4_i32_1206
    k0_part57 a0 h0 a1 h1 a2 h2 a3 h3 a4 h4 a5 h5 a6 h6 a7 h7 a8 h8 a9 h9 a10 h10 a11 h11 a12 h12 a13 h13 a14 h14 a15 h15 a16 h16 s0 s1 s2 s3 s4 c v2
    let c12_i32_1289 : BitVec 32 ← k0_part58 a0 h0 a1 h1 a2 h2 a3 h3 a4 h4 a5 h5 a6 h6 a7 h7 a8 h8 a9 h9 a10 h10 a11 h11 a12 h12 a13 h13 a14 h14 a15 h15 a16 h16 s0 s1 s2 s3 s4 c v2
    let v1911 : DmaSems sig S1 := s3.slice (Rect.unit (s := S15) ![11] S1.size inb_S15_S1_11)
    let v1912 : DmaSems sig S_ := v1911.squeeze S_ squeezes_S1_S_
    let v1913 : Memref sig .tc .vmem S1x64x1024 .bf16 := a16.slice (Rect.unit (s := S16x64x1024) (k0_off70 c) S1x64x1024.size (k0_off70_inb c)) (fun _ => rfl)
    let v1914 : Memref sig .tc .vmem S64x1024 .bf16 := v1913.squeeze S64x1024 squeezes_S1x64x1024_S64x1024
    Prog.lift (.waitDma2 v1912.sem v1914 a14 ((h16.wordExact_slice rfl _ (k0_off70_wordsbf16 c)).reshape _ _) h14.wordExact)
    let v1917 : DmaSems sig S1 := s3.slice (Rect.unit (s := S15) ![12] S1.size inb_S15_S1_12)
    let v1918 : DmaSems sig S_ := v1917.squeeze S_ squeezes_S1_S_
    let v1919 : Memref sig .tc .vmem S1x64x1024 .bf16 := a16.slice (Rect.unit (s := S16x64x1024) (k0_off70 c) S1x64x1024.size (k0_off70_inb c)) (fun _ => rfl)
    let v1920 : Memref sig .tc .vmem S64x1024 .bf16 := v1919.squeeze S64x1024 squeezes_S1x64x1024_S64x1024
    Prog.lift (.waitDma2 v1918.sem v1920 a14 ((h16.wordExact_slice rfl _ (k0_off70_wordsbf16 c)).reshape _ _) h14.wordExact)
    let v1923 : DmaSems sig S1 := s3.slice (Rect.unit (s := S15) ![13] S1.size inb_S15_S1_13)
    let v1924 : DmaSems sig S_ := v1923.squeeze S_ squeezes_S1_S_
    let v1925 : Memref sig .tc .vmem S1x64x1024 .bf16 := a16.slice (Rect.unit (s := S16x64x1024) (k0_off70 c) S1x64x1024.size (k0_off70_inb c)) (fun _ => rfl)
    let v1926 : Memref sig .tc .vmem S64x1024 .bf16 := v1925.squeeze S64x1024 squeezes_S1x64x1024_S64x1024
    Prog.lift (.waitDma2 v1924.sem v1926 a14 ((h16.wordExact_slice rfl _ (k0_off70_wordsbf16 c)).reshape _ _) h14.wordExact)
    let v1929 : DmaSems sig S1 := s3.slice (Rect.unit (s := S15) ![14] S1.size inb_S15_S1_14)
    let v1930 : DmaSems sig S_ := v1929.squeeze S_ squeezes_S1_S_
    let v1931 : Memref sig .tc .vmem S1x64x1024 .bf16 := a16.slice (Rect.unit (s := S16x64x1024) (k0_off70 c) S1x64x1024.size (k0_off70_inb c)) (fun _ => rfl)
    let v1932 : Memref sig .tc .vmem S64x1024 .bf16 := v1931.squeeze S64x1024 squeezes_S1x64x1024_S64x1024
    Prog.lift (.waitDma2 v1930.sem v1932 a14 ((h16.wordExact_slice rfl _ (k0_off70_wordsbf16 c)).reshape _ _) h14.wordExact)
    pure ⟨⟩) Q := by
  rw [red_pieces, bigSep16 (redPiece I c), bigSep16 (sent I c), bigSep16 (fun i : Fin 16 => (atPos ER (ownC c (iRsS i)) 0 ∅ 0 : sProp 𝕄)), bigSep15 (agTok (F := F) c),
    bigSep16 (agIn (F := F) c), bigSep15 (fun j : Fin 15 => (atPos ER (ownC c (iAgS j)) 0 ∅ 0 : sProp 𝕄))]
  iintro ⟨#HR, #HL, HO, ⟨HS0, HS1, HS2, HS3, HS4, HS5, HS6, HS7, HS8, HS9, HS10, HS11, HS12, HS13, HS14, HS15⟩, ⟨HP0, HP1, HP2, HP3, HP4, HP5, HP6, HP7, HP8, HP9, HP10, HP11, HP12, HP13, HP14, HP15⟩, ⟨HT0, HT1, HT2, HT3, HT4, HT5, HT6, HT7, HT8, HT9, HT10, HT11, HT12, HT13, HT14⟩, ⟨HI0, HI1, HI2, HI3, HI4, HI5, HI6, HI7, HI8, HI9, HI10, HI11, HI12, HI13, HI14, HI15⟩, ⟨HA0, HA1, HA2, HA3, HA4, HA5, HA6, HA7, HA8, HA9, HA10, HA11, HA12, HA13, HA14⟩, ⟨HX0, HX1, HX2, HX3, HX4, HX5, HX6, HX7, HX8, HX9, HX10, HX11, HX12, HX13, HX14, HX15⟩, H5, HF⟩
  unfold W1
  sl_exec_parts
  have h5 := own_store I c g5 _ (k0_off68_eq c) (k0_off68_inb c) (spread_run.sl.v1548 v1543) v1543 rfl h1543
  ihave Hout := h5 $$ H5
  iapply (agSend I K c 0 14 rfl _ (slot_of_off a16 c _ (k0_off70_eq c) _) _ (Fin.ext (dev_sum0 c)) _ _ (sem_agS 0 _ rfl _) (sem_agR c _ (k0_off69_eq c) _)) $$ [HX1 HO HT0]
  · isplitr; · iexact HR
    isplitl [HX1]; · iexact HX1
    isplitl [HO]; · iexact HO
    iexact HT0
  iintro ⟨HC0, HO⟩
  unfold W1
  sl_exec_parts
  iapply (agSend I K c 1 13 rfl _ (slot_of_off a16 c _ (k0_off70_eq c) _) _ (Fin.ext (dev_sum1 c)) _ _ (sem_agS 1 _ rfl _) (sem_agR c _ (k0_off69_eq c) _)) $$ [HX2 HO HT1]
  · isplitr; · iexact HR
    isplitl [HX2]; · iexact HX2
    isplitl [HO]; · iexact HO
    iexact HT1
  iintro ⟨HC1, HO⟩
  unfold W1
  sl_exec_parts
  iapply (agSend I K c 2 12 rfl _ (slot_of_off a16 c _ (k0_off70_eq c) _) _ (Fin.ext (dev_sum2 c)) _ _ (sem_agS 2 _ rfl _) (sem_agR c _ (k0_off69_eq c) _)) $$ [HX3 HO HT2]
  · isplitr; · iexact HR
    isplitl [HX3]; · iexact HX3
    isplitl [HO]; · iexact HO
    iexact HT2
  iintro ⟨HC2, HO⟩
  unfold W1
  sl_exec_parts
  iapply (agSend I K c 3 11 rfl _ (slot_of_off a16 c _ (k0_off70_eq c) _) _ (Fin.ext (dev_sum3 c)) _ _ (sem_agS 3 _ rfl _) (sem_agR c _ (k0_off69_eq c) _)) $$ [HX4 HO HT3]
  · isplitr; · iexact HR
    isplitl [HX4]; · iexact HX4
    isplitl [HO]; · iexact HO
    iexact HT3
  iintro ⟨HC3, HO⟩
  unfold W1
  sl_exec_parts
  iapply (agSend I K c 4 10 rfl _ (slot_of_off a16 c _ (k0_off70_eq c) _) _ (Fin.ext (dev_sum4 c)) _ _ (sem_agS 4 _ rfl _) (sem_agR c _ (k0_off69_eq c) _)) $$ [HX5 HO HT4]
  · isplitr; · iexact HR
    isplitl [HX5]; · iexact HX5
    isplitl [HO]; · iexact HO
    iexact HT4
  iintro ⟨HC4, HO⟩
  unfold W1
  sl_exec_parts
  iapply (agSend I K c 5 9 rfl _ (slot_of_off a16 c _ (k0_off70_eq c) _) _ (Fin.ext (dev_sum5 c)) _ _ (sem_agS 5 _ rfl _) (sem_agR c _ (k0_off69_eq c) _)) $$ [HX6 HO HT5]
  · isplitr; · iexact HR
    isplitl [HX6]; · iexact HX6
    isplitl [HO]; · iexact HO
    iexact HT5
  iintro ⟨HC5, HO⟩
  unfold W1
  sl_exec_parts
  iapply (agSend I K c 6 8 rfl _ (slot_of_off a16 c _ (k0_off70_eq c) _) _ (Fin.ext (dev_sum6 c)) _ _ (sem_agS 6 _ rfl _) (sem_agR c _ (k0_off69_eq c) _)) $$ [HX7 HO HT6]
  · isplitr; · iexact HR
    isplitl [HX7]; · iexact HX7
    isplitl [HO]; · iexact HO
    iexact HT6
  iintro ⟨HC6, HO⟩
  unfold W1
  sl_exec_parts
  iapply (agSend I K c 7 7 rfl _ (slot_of_off a16 c _ (k0_off70_eq c) _) _ (Fin.ext (dev_sum7 c)) _ _ (sem_agS 7 _ rfl _) (sem_agR c _ (k0_off69_eq c) _)) $$ [HX8 HO HT7]
  · isplitr; · iexact HR
    isplitl [HX8]; · iexact HX8
    isplitl [HO]; · iexact HO
    iexact HT7
  iintro ⟨HC7, HO⟩
  unfold W1
  sl_exec_parts
  iapply (agSend I K c 8 6 rfl _ (slot_of_off a16 c _ (k0_off70_eq c) _) _ (Fin.ext (dev_sum8 c)) _ _ (sem_agS 8 _ rfl _) (sem_agR c _ (k0_off69_eq c) _)) $$ [HX9 HO HT8]
  · isplitr; · iexact HR
    isplitl [HX9]; · iexact HX9
    isplitl [HO]; · iexact HO
    iexact HT8
  iintro ⟨HC8, HO⟩
  unfold W1
  sl_exec_parts
  iapply (agSend I K c 9 5 rfl _ (slot_of_off a16 c _ (k0_off70_eq c) _) _ (Fin.ext (dev_sum9 c)) _ _ (sem_agS 9 _ rfl _) (sem_agR c _ (k0_off69_eq c) _)) $$ [HX10 HO HT9]
  · isplitr; · iexact HR
    isplitl [HX10]; · iexact HX10
    isplitl [HO]; · iexact HO
    iexact HT9
  iintro ⟨HC9, HO⟩
  unfold W1
  sl_exec_parts
  iapply (agSend I K c 10 4 rfl _ (slot_of_off a16 c _ (k0_off70_eq c) _) _ (Fin.ext (dev_sum10 c)) _ _ (sem_agS 10 _ rfl _) (sem_agR c _ (k0_off69_eq c) _)) $$ [HX11 HO HT10]
  · isplitr; · iexact HR
    isplitl [HX11]; · iexact HX11
    isplitl [HO]; · iexact HO
    iexact HT10
  iintro ⟨HC10, HO⟩
  unfold W1
  sl_exec_parts
  iapply (agSend I K c 11 3 rfl _ (slot_of_off a16 c _ (k0_off70_eq c) _) _ (Fin.ext (dev_sum11 c)) _ _ (sem_agS 11 _ rfl _) (sem_agR c _ (k0_off69_eq c) _)) $$ [HX12 HO HT11]
  · isplitr; · iexact HR
    isplitl [HX12]; · iexact HX12
    isplitl [HO]; · iexact HO
    iexact HT11
  iintro ⟨HC11, HO⟩
  unfold W1
  sl_exec_parts
  iapply (agSend I K c 12 2 rfl _ (slot_of_off a16 c _ (k0_off70_eq c) _) _ (Fin.ext (dev_sum12 c)) _ _ (sem_agS 12 _ rfl _) (sem_agR c _ (k0_off69_eq c) _)) $$ [HX13 HO HT12]
  · isplitr; · iexact HR
    isplitl [HX13]; · iexact HX13
    isplitl [HO]; · iexact HO
    iexact HT12
  iintro ⟨HC12, HO⟩
  unfold W1
  sl_exec_parts
  iapply (agSend I K c 13 1 rfl _ (slot_of_off a16 c _ (k0_off70_eq c) _) _ (Fin.ext (dev_sum13 c)) _ _ (sem_agS 13 _ rfl _) (sem_agR c _ (k0_off69_eq c) _)) $$ [HX14 HO HT13]
  · isplitr; · iexact HR
    isplitl [HX14]; · iexact HX14
    isplitl [HO]; · iexact HO
    iexact HT13
  iintro ⟨HC13, HO⟩
  unfold W1
  sl_exec_parts
  iapply (agSend I K c 14 0 rfl _ (slot_of_off a16 c _ (k0_off70_eq c) _) _ (Fin.ext (dev_sum14 c)) _ _ (sem_agS 14 _ rfl _) (sem_agR c _ (k0_off69_eq c) _)) $$ [HX15 HO HT14]
  · isplitr; · iexact HR
    isplitl [HX15]; · iexact HX15
    isplitl [HO]; · iexact HO
    iexact HT14
  iintro ⟨HC14, HO⟩
  unfold W1
  sl_exec_parts
  iapply (agWait I K c 0 (hv 0) _ (sem_agR 0 _ rfl _) _ (slot_of_off a16 0 _ rfl _) _ rfl _ _ rfl _ _ (fun _ => shapeCast_shapeCast _ _ _)) $$ [HO Hout HI0]
  · isplitr; · iexact HR
    isplitr; · iexact HL
    isplitl [HO]; · iexact HO
    isplitl [Hout]; · iexact Hout
    iexact HI0
  iintro ⟨HO, Hout, HI0⟩
  unfold W1
  sl_exec_parts
  iapply (agWait I K c 1 (hv 1) _ (sem_agR 1 _ rfl _) _ (slot_of_off a16 1 _ rfl _) _ rfl _ _ rfl _ _ (fun _ => shapeCast_shapeCast _ _ _)) $$ [HO Hout HI1]
  · isplitr; · iexact HR
    isplitr; · iexact HL
    isplitl [HO]; · iexact HO
    isplitl [Hout]; · iexact Hout
    iexact HI1
  iintro ⟨HO, Hout, HI1⟩
  unfold W1
  sl_exec_parts
  iapply (agWait I K c 2 (hv 2) _ (sem_agR 2 _ rfl _) _ (slot_of_off a16 2 _ rfl _) _ rfl _ _ rfl _ _ (fun _ => shapeCast_shapeCast _ _ _)) $$ [HO Hout HI2]
  · isplitr; · iexact HR
    isplitr; · iexact HL
    isplitl [HO]; · iexact HO
    isplitl [Hout]; · iexact Hout
    iexact HI2
  iintro ⟨HO, Hout, HI2⟩
  unfold W1
  sl_exec_parts
  iapply (agWait I K c 3 (hv 3) _ (sem_agR 3 _ rfl _) _ (slot_of_off a16 3 _ rfl _) _ rfl _ _ rfl _ _ (fun _ => shapeCast_shapeCast _ _ _)) $$ [HO Hout HI3]
  · isplitr; · iexact HR
    isplitr; · iexact HL
    isplitl [HO]; · iexact HO
    isplitl [Hout]; · iexact Hout
    iexact HI3
  iintro ⟨HO, Hout, HI3⟩
  unfold W1
  sl_exec_parts
  iapply (agWait I K c 4 (hv 4) _ (sem_agR 4 _ rfl _) _ (slot_of_off a16 4 _ rfl _) _ rfl _ _ rfl _ _ (fun _ => shapeCast_shapeCast _ _ _)) $$ [HO Hout HI4]
  · isplitr; · iexact HR
    isplitr; · iexact HL
    isplitl [HO]; · iexact HO
    isplitl [Hout]; · iexact Hout
    iexact HI4
  iintro ⟨HO, Hout, HI4⟩
  unfold W1
  sl_exec_parts
  iapply (agWait I K c 5 (hv 5) _ (sem_agR 5 _ rfl _) _ (slot_of_off a16 5 _ rfl _) _ rfl _ _ rfl _ _ (fun _ => shapeCast_shapeCast _ _ _)) $$ [HO Hout HI5]
  · isplitr; · iexact HR
    isplitr; · iexact HL
    isplitl [HO]; · iexact HO
    isplitl [Hout]; · iexact Hout
    iexact HI5
  iintro ⟨HO, Hout, HI5⟩
  unfold W1
  sl_exec_parts
  iapply (agWait I K c 6 (hv 6) _ (sem_agR 6 _ rfl _) _ (slot_of_off a16 6 _ rfl _) _ rfl _ _ rfl _ _ (fun _ => shapeCast_shapeCast _ _ _)) $$ [HO Hout HI6]
  · isplitr; · iexact HR
    isplitr; · iexact HL
    isplitl [HO]; · iexact HO
    isplitl [Hout]; · iexact Hout
    iexact HI6
  iintro ⟨HO, Hout, HI6⟩
  unfold W1
  sl_exec_parts
  iapply (agWait I K c 7 (hv 7) _ (sem_agR 7 _ rfl _) _ (slot_of_off a16 7 _ rfl _) _ rfl _ _ rfl _ _ (fun _ => shapeCast_shapeCast _ _ _)) $$ [HO Hout HI7]
  · isplitr; · iexact HR
    isplitr; · iexact HL
    isplitl [HO]; · iexact HO
    isplitl [Hout]; · iexact Hout
    iexact HI7
  iintro ⟨HO, Hout, HI7⟩
  unfold W1
  sl_exec_parts
  iapply (agWait I K c 8 (hv 8) _ (sem_agR 8 _ rfl _) _ (slot_of_off a16 8 _ rfl _) _ rfl _ _ rfl _ _ (fun _ => shapeCast_shapeCast _ _ _)) $$ [HO Hout HI8]
  · isplitr; · iexact HR
    isplitr; · iexact HL
    isplitl [HO]; · iexact HO
    isplitl [Hout]; · iexact Hout
    iexact HI8
  iintro ⟨HO, Hout, HI8⟩
  unfold W1
  sl_exec_parts
  iapply (agWait I K c 9 (hv 9) _ (sem_agR 9 _ rfl _) _ (slot_of_off a16 9 _ rfl _) _ rfl _ _ rfl _ _ (fun _ => shapeCast_shapeCast _ _ _)) $$ [HO Hout HI9]
  · isplitr; · iexact HR
    isplitr; · iexact HL
    isplitl [HO]; · iexact HO
    isplitl [Hout]; · iexact Hout
    iexact HI9
  iintro ⟨HO, Hout, HI9⟩
  unfold W1
  sl_exec_parts
  iapply (agWait I K c 10 (hv 10) _ (sem_agR 10 _ rfl _) _ (slot_of_off a16 10 _ rfl _) _ rfl _ _ rfl _ _ (fun _ => shapeCast_shapeCast _ _ _)) $$ [HO Hout HI10]
  · isplitr; · iexact HR
    isplitr; · iexact HL
    isplitl [HO]; · iexact HO
    isplitl [Hout]; · iexact Hout
    iexact HI10
  iintro ⟨HO, Hout, HI10⟩
  unfold W1
  sl_exec_parts
  iapply (agWait I K c 11 (hv 11) _ (sem_agR 11 _ rfl _) _ (slot_of_off a16 11 _ rfl _) _ rfl _ _ rfl _ _ (fun _ => shapeCast_shapeCast _ _ _)) $$ [HO Hout HI11]
  · isplitr; · iexact HR
    isplitr; · iexact HL
    isplitl [HO]; · iexact HO
    isplitl [Hout]; · iexact Hout
    iexact HI11
  iintro ⟨HO, Hout, HI11⟩
  unfold W1
  sl_exec_parts
  iapply (agWait I K c 12 (hv 12) _ (sem_agR 12 _ rfl _) _ (slot_of_off a16 12 _ rfl _) _ rfl _ _ rfl _ _ (fun _ => shapeCast_shapeCast _ _ _)) $$ [HO Hout HI12]
  · isplitr; · iexact HR
    isplitr; · iexact HL
    isplitl [HO]; · iexact HO
    isplitl [Hout]; · iexact Hout
    iexact HI12
  iintro ⟨HO, Hout, HI12⟩
  unfold W1
  sl_exec_parts
  iapply (agWait I K c 13 (hv 13) _ (sem_agR 13 _ rfl _) _ (slot_of_off a16 13 _ rfl _) _ rfl _ _ rfl _ _ (fun _ => shapeCast_shapeCast _ _ _)) $$ [HO Hout HI13]
  · isplitr; · iexact HR
    isplitr; · iexact HL
    isplitl [HO]; · iexact HO
    isplitl [Hout]; · iexact Hout
    iexact HI13
  iintro ⟨HO, Hout, HI13⟩
  unfold W1
  sl_exec_parts
  iapply (agWait I K c 14 (hv 14) _ (sem_agR 14 _ rfl _) _ (slot_of_off a16 14 _ rfl _) _ rfl _ _ rfl _ _ (fun _ => shapeCast_shapeCast _ _ _)) $$ [HO Hout HI14]
  · isplitr; · iexact HR
    isplitr; · iexact HL
    isplitl [HO]; · iexact HO
    isplitl [Hout]; · iexact Hout
    iexact HI14
  iintro ⟨HO, Hout, HI14⟩
  unfold W1
  sl_exec_parts
  iapply (agWait I K c 15 (hv 15) _ (sem_agR 15 _ rfl _) _ (slot_of_off a16 15 _ rfl _) _ rfl _ _ rfl _ _ (fun _ => shapeCast_shapeCast _ _ _)) $$ [HO Hout HI15]
  · isplitr; · iexact HR
    isplitr; · iexact HL
    isplitl [HO]; · iexact HO
    isplitl [Hout]; · iexact Hout
    iexact HI15
  iintro ⟨HO, Hout, HI15⟩
  unfold W1
  sl_exec_parts
  iapply (rsSWait I K c 0 (cond_sent0 c) _ (sem_rsS 0 _ rfl _) _ _ (slot_of_off a13 0 _ rfl _)) $$ [HO HP0 HS0]
  · isplitr; · iexact HR
    isplitr; · iexact HL
    isplitl [HO]; · iexact HO
    isplitl [HP0]; · iexact HP0
    iexact HS0
  iintro ⟨HO, HS0⟩
  unfold W1
  sl_exec_parts
  iapply (rsSWait I K c 1 (cond_sent1 c) _ (sem_rsS 1 _ rfl _) _ _ (slot_of_off a13 1 _ rfl _)) $$ [HO HP1 HS1]
  · isplitr; · iexact HR
    isplitr; · iexact HL
    isplitl [HO]; · iexact HO
    isplitl [HP1]; · iexact HP1
    iexact HS1
  iintro ⟨HO, HS1⟩
  unfold W1
  sl_exec_parts
  iapply (rsSWait I K c 2 (cond_sent2 c) _ (sem_rsS 2 _ rfl _) _ _ (slot_of_off a13 2 _ rfl _)) $$ [HO HP2 HS2]
  · isplitr; · iexact HR
    isplitr; · iexact HL
    isplitl [HO]; · iexact HO
    isplitl [HP2]; · iexact HP2
    iexact HS2
  iintro ⟨HO, HS2⟩
  unfold W1
  sl_exec_parts
  iapply (rsSWait I K c 3 (cond_sent3 c) _ (sem_rsS 3 _ rfl _) _ _ (slot_of_off a13 3 _ rfl _)) $$ [HO HP3 HS3]
  · isplitr; · iexact HR
    isplitr; · iexact HL
    isplitl [HO]; · iexact HO
    isplitl [HP3]; · iexact HP3
    iexact HS3
  iintro ⟨HO, HS3⟩
  unfold W1
  sl_exec_parts
  iapply (rsSWait I K c 4 (cond_sent4 c) _ (sem_rsS 4 _ rfl _) _ _ (slot_of_off a13 4 _ rfl _)) $$ [HO HP4 HS4]
  · isplitr; · iexact HR
    isplitr; · iexact HL
    isplitl [HO]; · iexact HO
    isplitl [HP4]; · iexact HP4
    iexact HS4
  iintro ⟨HO, HS4⟩
  unfold W1
  sl_exec_parts
  iapply (rsSWait I K c 5 (cond_sent5 c) _ (sem_rsS 5 _ rfl _) _ _ (slot_of_off a13 5 _ rfl _)) $$ [HO HP5 HS5]
  · isplitr; · iexact HR
    isplitr; · iexact HL
    isplitl [HO]; · iexact HO
    isplitl [HP5]; · iexact HP5
    iexact HS5
  iintro ⟨HO, HS5⟩
  unfold W1
  sl_exec_parts
  iapply (rsSWait I K c 6 (cond_sent6 c) _ (sem_rsS 6 _ rfl _) _ _ (slot_of_off a13 6 _ rfl _)) $$ [HO HP6 HS6]
  · isplitr; · iexact HR
    isplitr; · iexact HL
    isplitl [HO]; · iexact HO
    isplitl [HP6]; · iexact HP6
    iexact HS6
  iintro ⟨HO, HS6⟩
  unfold W1
  sl_exec_parts
  iapply (rsSWait I K c 7 (cond_sent7 c) _ (sem_rsS 7 _ rfl _) _ _ (slot_of_off a13 7 _ rfl _)) $$ [HO HP7 HS7]
  · isplitr; · iexact HR
    isplitr; · iexact HL
    isplitl [HO]; · iexact HO
    isplitl [HP7]; · iexact HP7
    iexact HS7
  iintro ⟨HO, HS7⟩
  unfold W1
  sl_exec_parts
  iapply (rsSWait I K c 8 (cond_sent8 c) _ (sem_rsS 8 _ rfl _) _ _ (slot_of_off a13 8 _ rfl _)) $$ [HO HP8 HS8]
  · isplitr; · iexact HR
    isplitr; · iexact HL
    isplitl [HO]; · iexact HO
    isplitl [HP8]; · iexact HP8
    iexact HS8
  iintro ⟨HO, HS8⟩
  unfold W1
  sl_exec_parts
  iapply (rsSWait I K c 9 (cond_sent9 c) _ (sem_rsS 9 _ rfl _) _ _ (slot_of_off a13 9 _ rfl _)) $$ [HO HP9 HS9]
  · isplitr; · iexact HR
    isplitr; · iexact HL
    isplitl [HO]; · iexact HO
    isplitl [HP9]; · iexact HP9
    iexact HS9
  iintro ⟨HO, HS9⟩
  unfold W1
  sl_exec_parts
  iapply (rsSWait I K c 10 (cond_sent10 c) _ (sem_rsS 10 _ rfl _) _ _ (slot_of_off a13 10 _ rfl _)) $$ [HO HP10 HS10]
  · isplitr; · iexact HR
    isplitr; · iexact HL
    isplitl [HO]; · iexact HO
    isplitl [HP10]; · iexact HP10
    iexact HS10
  iintro ⟨HO, HS10⟩
  unfold W1
  sl_exec_parts
  iapply (rsSWait I K c 11 (cond_sent11 c) _ (sem_rsS 11 _ rfl _) _ _ (slot_of_off a13 11 _ rfl _)) $$ [HO HP11 HS11]
  · isplitr; · iexact HR
    isplitr; · iexact HL
    isplitl [HO]; · iexact HO
    isplitl [HP11]; · iexact HP11
    iexact HS11
  iintro ⟨HO, HS11⟩
  unfold W1
  sl_exec_parts
  iapply (rsSWait I K c 12 (cond_sent12 c) _ (sem_rsS 12 _ rfl _) _ _ (slot_of_off a13 12 _ rfl _)) $$ [HO HP12 HS12]
  · isplitr; · iexact HR
    isplitr; · iexact HL
    isplitl [HO]; · iexact HO
    isplitl [HP12]; · iexact HP12
    iexact HS12
  iintro ⟨HO, HS12⟩
  unfold W1
  sl_exec_parts
  iapply (rsSWait I K c 13 (cond_sent13 c) _ (sem_rsS 13 _ rfl _) _ _ (slot_of_off a13 13 _ rfl _)) $$ [HO HP13 HS13]
  · isplitr; · iexact HR
    isplitr; · iexact HL
    isplitl [HO]; · iexact HO
    isplitl [HP13]; · iexact HP13
    iexact HS13
  iintro ⟨HO, HS13⟩
  unfold W1
  sl_exec_parts
  iapply (rsSWait I K c 14 (cond_sent14 c) _ (sem_rsS 14 _ rfl _) _ _ (slot_of_off a13 14 _ rfl _)) $$ [HO HP14 HS14]
  · isplitr; · iexact HR
    isplitr; · iexact HL
    isplitl [HO]; · iexact HO
    isplitl [HP14]; · iexact HP14
    iexact HS14
  iintro ⟨HO, HS14⟩
  unfold W1
  sl_exec_parts
  iapply (rsSWait I K c 15 (cond_sent15 c) _ (sem_rsS 15 _ rfl _) _ _ (slot_of_off a13 15 _ rfl _)) $$ [HO HP15 HS15]
  · isplitr; · iexact HR
    isplitr; · iexact HL
    isplitl [HO]; · iexact HO
    isplitl [HP15]; · iexact HP15
    iexact HS15
  iintro ⟨HO, HS15⟩
  unfold W1
  sl_exec_parts
  iapply (agSWait I K c 0 _ (sem_agS 0 _ rfl _)) $$ [HO HA0 HC0]
  · isplitr; · iexact HR
    isplitr; · iexact HL
    isplitl [HO]; · iexact HO
    isplitl [HA0]; · iexact HA0
    iexact HC0
  iintro ⟨HO, HA0, HX1⟩
  unfold W1
  sl_exec_parts
  iapply (agSWait I K c 1 _ (sem_agS 1 _ rfl _)) $$ [HO HA1 HC1]
  · isplitr; · iexact HR
    isplitr; · iexact HL
    isplitl [HO]; · iexact HO
    isplitl [HA1]; · iexact HA1
    iexact HC1
  iintro ⟨HO, HA1, HX2⟩
  unfold W1
  sl_exec_parts
  iapply (agSWait I K c 2 _ (sem_agS 2 _ rfl _)) $$ [HO HA2 HC2]
  · isplitr; · iexact HR
    isplitr; · iexact HL
    isplitl [HO]; · iexact HO
    isplitl [HA2]; · iexact HA2
    iexact HC2
  iintro ⟨HO, HA2, HX3⟩
  unfold W1
  sl_exec_parts
  iapply (agSWait I K c 3 _ (sem_agS 3 _ rfl _)) $$ [HO HA3 HC3]
  · isplitr; · iexact HR
    isplitr; · iexact HL
    isplitl [HO]; · iexact HO
    isplitl [HA3]; · iexact HA3
    iexact HC3
  iintro ⟨HO, HA3, HX4⟩
  unfold W1
  sl_exec_parts
  iapply (agSWait I K c 4 _ (sem_agS 4 _ rfl _)) $$ [HO HA4 HC4]
  · isplitr; · iexact HR
    isplitr; · iexact HL
    isplitl [HO]; · iexact HO
    isplitl [HA4]; · iexact HA4
    iexact HC4
  iintro ⟨HO, HA4, HX5⟩
  unfold W1
  sl_exec_parts
  iapply (agSWait I K c 5 _ (sem_agS 5 _ rfl _)) $$ [HO HA5 HC5]
  · isplitr; · iexact HR
    isplitr; · iexact HL
    isplitl [HO]; · iexact HO
    isplitl [HA5]; · iexact HA5
    iexact HC5
  iintro ⟨HO, HA5, HX6⟩
  unfold W1
  sl_exec_parts
  iapply (agSWait I K c 6 _ (sem_agS 6 _ rfl _)) $$ [HO HA6 HC6]
  · isplitr; · iexact HR
    isplitr; · iexact HL
    isplitl [HO]; · iexact HO
    isplitl [HA6]; · iexact HA6
    iexact HC6
  iintro ⟨HO, HA6, HX7⟩
  unfold W1
  sl_exec_parts
  iapply (agSWait I K c 7 _ (sem_agS 7 _ rfl _)) $$ [HO HA7 HC7]
  · isplitr; · iexact HR
    isplitr; · iexact HL
    isplitl [HO]; · iexact HO
    isplitl [HA7]; · iexact HA7
    iexact HC7
  iintro ⟨HO, HA7, HX8⟩
  unfold W1
  sl_exec_parts
  iapply (agSWait I K c 8 _ (sem_agS 8 _ rfl _)) $$ [HO HA8 HC8]
  · isplitr; · iexact HR
    isplitr; · iexact HL
    isplitl [HO]; · iexact HO
    isplitl [HA8]; · iexact HA8
    iexact HC8
  iintro ⟨HO, HA8, HX9⟩
  unfold W1
  sl_exec_parts
  iapply (agSWait I K c 9 _ (sem_agS 9 _ rfl _)) $$ [HO HA9 HC9]
  · isplitr; · iexact HR
    isplitr; · iexact HL
    isplitl [HO]; · iexact HO
    isplitl [HA9]; · iexact HA9
    iexact HC9
  iintro ⟨HO, HA9, HX10⟩
  unfold W1
  sl_exec_parts
  iapply (agSWait I K c 10 _ (sem_agS 10 _ rfl _)) $$ [HO HA10 HC10]
  · isplitr; · iexact HR
    isplitr; · iexact HL
    isplitl [HO]; · iexact HO
    isplitl [HA10]; · iexact HA10
    iexact HC10
  iintro ⟨HO, HA10, HX11⟩
  unfold W1
  sl_exec_parts
  iapply (agSWait I K c 11 _ (sem_agS 11 _ rfl _)) $$ [HO HA11 HC11]
  · isplitr; · iexact HR
    isplitr; · iexact HL
    isplitl [HO]; · iexact HO
    isplitl [HA11]; · iexact HA11
    iexact HC11
  iintro ⟨HO, HA11, HX12⟩
  unfold W1
  sl_exec_parts
  iapply (agSWait I K c 12 _ (sem_agS 12 _ rfl _)) $$ [HO HA12 HC12]
  · isplitr; · iexact HR
    isplitr; · iexact HL
    isplitl [HO]; · iexact HO
    isplitl [HA12]; · iexact HA12
    iexact HC12
  iintro ⟨HO, HA12, HX13⟩
  unfold W1
  sl_exec_parts
  iapply (agSWait I K c 13 _ (sem_agS 13 _ rfl _)) $$ [HO HA13 HC13]
  · isplitr; · iexact HR
    isplitr; · iexact HL
    isplitl [HO]; · iexact HO
    isplitl [HA13]; · iexact HA13
    iexact HC13
  iintro ⟨HO, HA13, HX14⟩
  unfold W1
  sl_exec_parts
  iapply (agSWait I K c 14 _ (sem_agS 14 _ rfl _)) $$ [HO HA14 HC14]
  · isplitr; · iexact HR
    isplitr; · iexact HL
    isplitl [HO]; · iexact HO
    isplitl [HA14]; · iexact HA14
    iexact HC14
  iintro ⟨HO, HA14, HX15⟩
  unfold W1
  sl_exec_parts
  unfold W1 at hk
  iapply hk
  isplitl [HO]; · iexact HO
  isplitl [HS0 HS1 HS2 HS3 HS4 HS5 HS6 HS7 HS8 HS9 HS10 HS11 HS12 HS13 HS14 HS15]
  · rw [bigSep16 (rsBack (F := F) c)]
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS15
  isplitl [HI0 HI1 HI2 HI3 HI4 HI5 HI6 HI7 HI8 HI9 HI10 HI11 HI12 HI13 HI14 HI15]
  · rw [bigSep16 (agGot (F := F) c)]
    isplitl [HI0]; · iexact HI0
    isplitl [HI1]; · iexact HI1
    isplitl [HI2]; · iexact HI2
    isplitl [HI3]; · iexact HI3
    isplitl [HI4]; · iexact HI4
    isplitl [HI5]; · iexact HI5
    isplitl [HI6]; · iexact HI6
    isplitl [HI7]; · iexact HI7
    isplitl [HI8]; · iexact HI8
    isplitl [HI9]; · iexact HI9
    isplitl [HI10]; · iexact HI10
    isplitl [HI11]; · iexact HI11
    isplitl [HI12]; · iexact HI12
    isplitl [HI13]; · iexact HI13
    isplitl [HI14]; · iexact HI14
    iexact HI15
  isplitl [HA0 HA1 HA2 HA3 HA4 HA5 HA6 HA7 HA8 HA9 HA10 HA11 HA12 HA13 HA14]
  · rw [bigSep15 (fun j : Fin 15 => (atPos ER (ownC c (iAgS j)) 1 ∅ 0 : sProp 𝕄))]
    isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    isplitl [HA8]; · iexact HA8
    isplitl [HA9]; · iexact HA9
    isplitl [HA10]; · iexact HA10
    isplitl [HA11]; · iexact HA11
    isplitl [HA12]; · iexact HA12
    isplitl [HA13]; · iexact HA13
    iexact HA14
  isplitl [HX0 HX1 HX2 HX3 HX4 HX5 HX6 HX7 HX8 HX9 HX10 HX11 HX12 HX13 HX14 HX15]
  · rw [red_pieces, bigSep16 (redPiece I c)]
    isplitl [HX0]; · iexact HX0
    isplitl [HX1]; · iexact HX1
    isplitl [HX2]; · iexact HX2
    isplitl [HX3]; · iexact HX3
    isplitl [HX4]; · iexact HX4
    isplitl [HX5]; · iexact HX5
    isplitl [HX6]; · iexact HX6
    isplitl [HX7]; · iexact HX7
    isplitl [HX8]; · iexact HX8
    isplitl [HX9]; · iexact HX9
    isplitl [HX10]; · iexact HX10
    isplitl [HX11]; · iexact HX11
    isplitl [HX12]; · iexact HX12
    isplitl [HX13]; · iexact HX13
    isplitl [HX14]; · iexact HX14
    iexact HX15
  isplitl [Hout]; · iexact Hout
  iexact HF

end Cert.Attn

end
-- ==== Proof.Flat.lean ====
/-
  The kernel's body as one sequence of its parts.
-/
module

public import proofs.«01_k».proof.Proof.Base

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxRecDepth 4000 in
/-- The body is its fifty-eight parts and the four last waits, in order. -/
theorem body_eq : cc0_body (F := F) a0 h0 a1 h1 a2 h2 a3 h3 a4 h4 a5 h5 a6 h6 a7 h7 a8 h8 a9 h9 a10 h10 a11 h11 a12 h12 a13 h13 a14 h14 a15 h15 a16 h16 s0 s1 s2 s3 s4 = (do
    let ⟨c, v2, v11, v26⟩ : Σ' (d0 : Dev nD) (v2 : BitVec 32) (v11 : Sems sig S_), BitVec 32 ← k0_part1 a0 h0 a1 h1 a2 h2 a3 h3 a4 h4 a5 h5 a6 h6 a7 h7 a8 h8 a9 h9 a10 h10 a11 h11 a12 h12 a13 h13 a14 h14 a15 h15 a16 h16 s0 s1 s2 s3 s4
    let v50 : BitVec 32 ← k0_part2 a0 h0 a1 h1 a2 h2 a3 h3 a4 h4 a5 h5 a6 h6 a7 h7 a8 h8 a9 h9 a10 h10 a11 h11 a12 h12 a13 h13 a14 h14 a15 h15 a16 h16 s0 s1 s2 s3 s4 c v2 v11 v26
    let ⟨v73, v74⟩ : Σ' (v73 : FVec F S64x1024 .f32), FVec F S64x1024 .f32 ← k0_part3 a0 h0 a1 h1 a2 h2 a3 h3 a4 h4 a5 h5 a6 h6 a7 h7 a8 h8 a9 h9 a10 h10 a11 h11 a12 h12 a13 h13 a14 h14 a15 h15 a16 h16 s0 s1 s2 s3 s4 c v2 v11 v50
    let v102 : FVec F S64x8x128 .bf16 ← k0_part4 a0 h0 a1 h1 a2 h2 a3 h3 a4 h4 a5 h5 a6 h6 a7 h7 a8 h8 a9 h9 a10 h10 a11 h11 a12 h12 a13 h13 a14 h14 a15 h15 a16 h16 s0 s1 s2 s3 s4 v73 v74
    let v128 : FVec F S64x8x128 .bf16 ← k0_part5 a0 h0 a1 h1 a2 h2 a3 h3 a4 h4 a5 h5 a6 h6 a7 h7 a8 h8 a9 h9 a10 h10 a11 h11 a12 h12 a13 h13 a14 h14 a15 h15 a16 h16 s0 s1 s2 s3 s4 v102
    k0_part6 a0 h0 a1 h1 a2 h2 a3 h3 a4 h4 a5 h5 a6 h6 a7 h7 a8 h8 a9 h9 a10 h10 a11 h11 a12 h12 a13 h13 a14 h14 a15 h15 a16 h16 s0 s1 s2 s3 s4 v128
    k0_part7 a0 h0 a1 h1 a2 h2 a3 h3 a4 h4 a5 h5 a6 h6 a7 h7 a8 h8 a9 h9 a10 h10 a11 h11 a12 h12 a13 h13 a14 h14 a15 h15 a16 h16 s0 s1 s2 s3 s4
    let ⟨v213, cst_196⟩ : Σ' (v213 : FVec F S64x1024 .f32), F .f32 ← k0_part8 a0 h0 a1 h1 a2 h2 a3 h3 a4 h4 a5 h5 a6 h6 a7 h7 a8 h8 a9 h9 a10 h10 a11 h11 a12 h12 a13 h13 a14 h14 a15 h15 a16 h16 s0 s1 s2 s3 s4
    let v242 : FVec F S64x8x128 .bf16 ← k0_part9 a0 h0 a1 h1 a2 h2 a3 h3 a4 h4 a5 h5 a6 h6 a7 h7 a8 h8 a9 h9 a10 h10 a11 h11 a12 h12 a13 h13 a14 h14 a15 h15 a16 h16 s0 s1 s2 s3 s4 v213 cst_196
    let ⟨v268, v269⟩ : Σ' (v268 : FVec F S64x8x128 .bf16), Vec F S64x8x128 .bf16 ← k0_part10 a0 h0 a1 h1 a2 h2 a3 h3 a4 h4 a5 h5 a6 h6 a7 h7 a8 h8 a9 h9 a10 h10 a11 h11 a12 h12 a13 h13 a14 h14 a15 h15 a16 h16 s0 s1 s2 s3 s4 v242
    let v299 : FVec F S64x1024 .bf16 ← k0_part11 a0 h0 a1 h1 a2 h2 a3 h3 a4 h4 a5 h5 a6 h6 a7 h7 a8 h8 a9 h9 a10 h10 a11 h11 a12 h12 a13 h13 a14 h14 a15 h15 a16 h16 s0 s1 s2 s3 s4 v268 v269
    k0_part12 a0 h0 a1 h1 a2 h2 a3 h3 a4 h4 a5 h5 a6 h6 a7 h7 a8 h8 a9 h9 a10 h10 a11 h11 a12 h12 a13 h13 a14 h14 a15 h15 a16 h16 s0 s1 s2 s3 s4 v299
    let v353 : FVec F S64x1024 .f32 ← k0_part13 a0 h0 a1 h1 a2 h2 a3 h3 a4 h4 a5 h5 a6 h6 a7 h7 a8 h8 a9 h9 a10 h10 a11 h11 a12 h12 a13 h13 a14 h14 a15 h15 a16 h16 s0 s1 s2 s3 s4
    let v382 : FVec F S64x8x128 .bf16 ← k0_part14 a0 h0 a1 h1 a2 h2 a3 h3 a4 h4 a5 h5 a6 h6 a7 h7 a8 h8 a9 h9 a10 h10 a11 h11 a12 h12 a13 h13 a14 h14 a15 h15 a16 h16 s0 s1 s2 s3 s4 v353
    let ⟨v407, v409⟩ : Σ' (v407 : FVec F S1024x1024 .bf16), BitVec 32 ← k0_part15 a0 h0 a1 h1 a2 h2 a3 h3 a4 h4 a5 h5 a6 h6 a7 h7 a8 h8 a9 h9 a10 h10 a11 h11 a12 h12 a13 h13 a14 h14 a15 h15 a16 h16 s0 s1 s2 s3 s4 c v2 v11 v382
    let ⟨v410, v444, v445, v448, cst_401⟩ : Σ' (v410 : BitVec 32) (v444 : FVec F S256x1 .f32) (v445 : FVec F S256x256 .bf16) (v448 : FVec F S256x128 .bf16), FVec F S256x128 .f32 ← k0_part16 a0 h0 a1 h1 a2 h2 a3 h3 a4 h4 a5 h5 a6 h6 a7 h7 a8 h8 a9 h9 a10 h10 a11 h11 a12 h12 a13 h13 a14 h14 a15 h15 a16 h16 s0 s1 s2 s3 s4 c v409
    let ⟨v486, v488, v489⟩ : Σ' (v486 : FVec F S256x256 .f32) (v488 : FVec F S256x1 .f32), FVec F S256x1 .f32 ← k0_part17 a0 h0 a1 h1 a2 h2 a3 h3 a4 h4 a5 h5 a6 h6 a7 h7 a8 h8 a9 h9 a10 h10 a11 h11 a12 h12 a13 h13 a14 h14 a15 h15 a16 h16 s0 s1 s2 s3 s4 c v410 v444 v445 v448 cst_401
    let ⟨v527, v530⟩ : Σ' (v527 : Vec F S256x128 .bf16), FVec F S256x128 .bf16 ← k0_part18 a0 h0 a1 h1 a2 h2 a3 h3 a4 h4 a5 h5 a6 h6 a7 h7 a8 h8 a9 h9 a10 h10 a11 h11 a12 h12 a13 h13 a14 h14 a15 h15 a16 h16 s0 s1 s2 s3 s4 c v410 v486 v488 v489
    k0_part19 a0 h0 a1 h1 a2 h2 a3 h3 a4 h4 a5 h5 a6 h6 a7 h7 a8 h8 a9 h9 a10 h10 a11 h11 a12 h12 a13 h13 a14 h14 a15 h15 a16 h16 s0 s1 s2 s3 s4 c v410 v527 v530
    let ⟨v605, v607, c0_i32_468⟩ : Σ' (v605 : BitVec 32) (v607 : BitVec 32), BitVec 32 ← k0_part20 a0 h0 a1 h1 a2 h2 a3 h3 a4 h4 a5 h5 a6 h6 a7 h7 a8 h8 a9 h9 a10 h10 a11 h11 a12 h12 a13 h13 a14 h14 a15 h15 a16 h16 s0 s1 s2 s3 s4 c v2 v407 v410
    let ⟨v638, c8_i32_489⟩ : Σ' (v638 : BitVec 32), BitVec 32 ← k0_part21 a0 h0 a1 h1 a2 h2 a3 h3 a4 h4 a5 h5 a6 h6 a7 h7 a8 h8 a9 h9 a10 h10 a11 h11 a12 h12 a13 h13 a14 h14 a15 h15 a16 h16 s0 s1 s2 s3 s4 c v2 v407 v410 v605 v607 c0_i32_468
    let ⟨v665, v667, v670⟩ : Σ' (v665 : BitVec 32) (v667 : Vec F S256x128 .bf16), FVec F S256x128 .bf16 ← k0_part22 a0 h0 a1 h1 a2 h2 a3 h3 a4 h4 a5 h5 a6 h6 a7 h7 a8 h8 a9 h9 a10 h10 a11 h11 a12 h12 a13 h13 a14 h14 a15 h15 a16 h16 s0 s1 s2 s3 s4 c v2 v407 v410 v638 c8_i32_489
    k0_part23 a0 h0 a1 h1 a2 h2 a3 h3 a4 h4 a5 h5 a6 h6 a7 h7 a8 h8 a9 h9 a10 h10 a11 h11 a12 h12 a13 h13 a14 h14 a15 h15 a16 h16 s0 s1 s2 s3 s4 c v665 v667 v670
    let ⟨v750, v751⟩ : Σ' (v750 : FVec F S256x128 .f32), FVec F S256x128 .f32 ← k0_part24 a0 h0 a1 h1 a2 h2 a3 h3 a4 h4 a5 h5 a6 h6 a7 h7 a8 h8 a9 h9 a10 h10 a11 h11 a12 h12 a13 h13 a14 h14 a15 h15 a16 h16 s0 s1 s2 s3 s4 c v665
    let ⟨v791, v792⟩ : Σ' (v791 : FVec F S256x1 .f32), FVec F S256x256 .bf16 ← k0_part25 a0 h0 a1 h1 a2 h2 a3 h3 a4 h4 a5 h5 a6 h6 a7 h7 a8 h8 a9 h9 a10 h10 a11 h11 a12 h12 a13 h13 a14 h14 a15 h15 a16 h16 s0 s1 s2 s3 s4 c v665 v750 v751
    let v832 : FVec F S256x256 .f32 ← k0_part26 a0 h0 a1 h1 a2 h2 a3 h3 a4 h4 a5 h5 a6 h6 a7 h7 a8 h8 a9 h9 a10 h10 a11 h11 a12 h12 a13 h13 a14 h14 a15 h15 a16 h16 s0 s1 s2 s3 s4 c v665 v791 v792
    k0_part27 a0 h0 a1 h1 a2 h2 a3 h3 a4 h4 a5 h5 a6 h6 a7 h7 a8 h8 a9 h9 a10 h10 a11 h11 a12 h12 a13 h13 a14 h14 a15 h15 a16 h16 s0 s1 s2 s3 s4 c v2 v407 v665 v832
    let v899 : BitVec 32 ← k0_part28 a0 h0 a1 h1 a2 h2 a3 h3 a4 h4 a5 h5 a6 h6 a7 h7 a8 h8 a9 h9 a10 h10 a11 h11 a12 h12 a13 h13 a14 h14 a15 h15 a16 h16 s0 s1 s2 s3 s4 c v2 v407 v665
    let ⟨v920, v931, v932⟩ : Σ' (v920 : BitVec 32) (v931 : FVec F S256x1 .f32), FVec F S256x256 .bf16 ← k0_part29 a0 h0 a1 h1 a2 h2 a3 h3 a4 h4 a5 h5 a6 h6 a7 h7 a8 h8 a9 h9 a10 h10 a11 h11 a12 h12 a13 h13 a14 h14 a15 h15 a16 h16 s0 s1 s2 s3 s4 c v2 v407 v665 v899
    let v972 : FVec F S256x256 .f32 ← k0_part30 a0 h0 a1 h1 a2 h2 a3 h3 a4 h4 a5 h5 a6 h6 a7 h7 a8 h8 a9 h9 a10 h10 a11 h11 a12 h12 a13 h13 a14 h14 a15 h15 a16 h16 s0 s1 s2 s3 s4 c v920 v931 v932
    k0_part31 a0 h0 a1 h1 a2 h2 a3 h3 a4 h4 a5 h5 a6 h6 a7 h7 a8 h8 a9 h9 a10 h10 a11 h11 a12 h12 a13 h13 a14 h14 a15 h15 a16 h16 s0 s1 s2 s3 s4 c v920 v972
    let v1054 : FVec F S256x128 .bf16 ← k0_part32 a0 h0 a1 h1 a2 h2 a3 h3 a4 h4 a5 h5 a6 h6 a7 h7 a8 h8 a9 h9 a10 h10 a11 h11 a12 h12 a13 h13 a14 h14 a15 h15 a16 h16 s0 s1 s2 s3 s4 c v920
    let ⟨v1092, v1093⟩ : Σ' (v1092 : FVec F S256x1 .f32), FVec F S256x256 .bf16 ← k0_part33 a0 h0 a1 h1 a2 h2 a3 h3 a4 h4 a5 h5 a6 h6 a7 h7 a8 h8 a9 h9 a10 h10 a11 h11 a12 h12 a13 h13 a14 h14 a15 h15 a16 h16 s0 s1 s2 s3 s4 c v920 v1054
    let v1126 : FVec F S64x1024 .bf16 ← k0_part34 a0 h0 a1 h1 a2 h2 a3 h3 a4 h4 a5 h5 a6 h6 a7 h7 a8 h8 a9 h9 a10 h10 a11 h11 a12 h12 a13 h13 a14 h14 a15 h15 a16 h16 s0 s1 s2 s3 s4 c v2 v407 v920 v1092 v1093
    let v1159 : FVec F S64x1024 .f32 ← k0_part35 a0 h0 a1 h1 a2 h2 a3 h3 a4 h4 a5 h5 a6 h6 a7 h7 a8 h8 a9 h9 a10 h10 a11 h11 a12 h12 a13 h13 a14 h14 a15 h15 a16 h16 s0 s1 s2 s3 s4 c v2 v407 v920 v1126
    let ⟨v1175, v1194⟩ : Σ' (v1175 : BitVec 32), FVec F S256x128 .bf16 ← k0_part36 a0 h0 a1 h1 a2 h2 a3 h3 a4 h4 a5 h5 a6 h6 a7 h7 a8 h8 a9 h9 a10 h10 a11 h11 a12 h12 a13 h13 a14 h14 a15 h15 a16 h16 s0 s1 s2 s3 s4 c v2 v1159
    let ⟨v1232, v1233⟩ : Σ' (v1232 : FVec F S256x1 .f32), FVec F S256x256 .bf16 ← k0_part37 a0 h0 a1 h1 a2 h2 a3 h3 a4 h4 a5 h5 a6 h6 a7 h7 a8 h8 a9 h9 a10 h10 a11 h11 a12 h12 a13 h13 a14 h14 a15 h15 a16 h16 s0 s1 s2 s3 s4 c v1175 v1194
    let v1274 : FVec F S256x256 .f32 ← k0_part38 a0 h0 a1 h1 a2 h2 a3 h3 a4 h4 a5 h5 a6 h6 a7 h7 a8 h8 a9 h9 a10 h10 a11 h11 a12 h12 a13 h13 a14 h14 a15 h15 a16 h16 s0 s1 s2 s3 s4 c v1175 v1232 v1233
    let v1315 : Vec F S256x128 .bf16 ← k0_part39 a0 h0 a1 h1 a2 h2 a3 h3 a4 h4 a5 h5 a6 h6 a7 h7 a8 h8 a9 h9 a10 h10 a11 h11 a12 h12 a13 h13 a14 h14 a15 h15 a16 h16 s0 s1 s2 s3 s4 c v1175 v1274
    let v1355 : FVec F S256x128 .bf16 ← k0_part40 a0 h0 a1 h1 a2 h2 a3 h3 a4 h4 a5 h5 a6 h6 a7 h7 a8 h8 a9 h9 a10 h10 a11 h11 a12 h12 a13 h13 a14 h14 a15 h15 a16 h16 s0 s1 s2 s3 s4 c v1175 v1315
    let ⟨v1387, v1389⟩ : Σ' (v1387 : BitVec 32), BitVec 32 ← k0_part41 a0 h0 a1 h1 a2 h2 a3 h3 a4 h4 a5 h5 a6 h6 a7 h7 a8 h8 a9 h9 a10 h10 a11 h11 a12 h12 a13 h13 a14 h14 a15 h15 a16 h16 s0 s1 s2 s3 s4 c v2 v407 v1175 v1355
    let v1419 : BitVec 32 ← k0_part42 a0 h0 a1 h1 a2 h2 a3 h3 a4 h4 a5 h5 a6 h6 a7 h7 a8 h8 a9 h9 a10 h10 a11 h11 a12 h12 a13 h13 a14 h14 a15 h15 a16 h16 s0 s1 s2 s3 s4 c v2 v407 v1175 v1387 v1389
    let v1449 : BitVec 1 ← k0_part43 a0 h0 a1 h1 a2 h2 a3 h3 a4 h4 a5 h5 a6 h6 a7 h7 a8 h8 a9 h9 a10 h10 a11 h11 a12 h12 a13 h13 a14 h14 a15 h15 a16 h16 s0 s1 s2 s3 s4 c v2 v1419
    let v1478 : FVec F S64x1024 .f32 ← k0_part44 a0 h0 a1 h1 a2 h2 a3 h3 a4 h4 a5 h5 a6 h6 a7 h7 a8 h8 a9 h9 a10 h10 a11 h11 a12 h12 a13 h13 a14 h14 a15 h15 a16 h16 s0 s1 s2 s3 s4 v2 v1449
    let ⟨v1510, v1513⟩ : Σ' (v1510 : FVec F S64x1024 .f32), FVec F S64x1024 .f32 ← k0_part45 a0 h0 a1 h1 a2 h2 a3 h3 a4 h4 a5 h5 a6 h6 a7 h7 a8 h8 a9 h9 a10 h10 a11 h11 a12 h12 a13 h13 a14 h14 a15 h15 a16 h16 s0 s1 s2 s3 s4 v1478
    let v1543 : Vec F S64x1024 .bf16 ← k0_part46 a0 h0 a1 h1 a2 h2 a3 h3 a4 h4 a5 h5 a6 h6 a7 h7 a8 h8 a9 h9 a10 h10 a11 h11 a12 h12 a13 h13 a14 h14 a15 h15 a16 h16 s0 s1 s2 s3 s4 c v2 v1510 v1513
    let v1580 : BitVec 32 ← k0_part47 a0 h0 a1 h1 a2 h2 a3 h3 a4 h4 a5 h5 a6 h6 a7 h7 a8 h8 a9 h9 a10 h10 a11 h11 a12 h12 a13 h13 a14 h14 a15 h15 a16 h16 s0 s1 s2 s3 s4 c v2 v1543
    k0_part48 a0 h0 a1 h1 a2 h2 a3 h3 a4 h4 a5 h5 a6 h6 a7 h7 a8 h8 a9 h9 a10 h10 a11 h11 a12 h12 a13 h13 a14 h14 a15 h15 a16 h16 s0 s1 s2 s3 s4 c v2 v1580
    k0_part49 a0 h0 a1 h1 a2 h2 a3 h3 a4 h4 a5 h5 a6 h6 a7 h7 a8 h8 a9 h9 a10 h10 a11 h11 a12 h12 a13 h13 a14 h14 a15 h15 a16 h16 s0 s1 s2 s3 s4 c v2
    let v1680 : BitVec 32 ← k0_part50 a0 h0 a1 h1 a2 h2 a3 h3 a4 h4 a5 h5 a6 h6 a7 h7 a8 h8 a9 h9 a10 h10 a11 h11 a12 h12 a13 h13 a14 h14 a15 h15 a16 h16 s0 s1 s2 s3 s4 c v2
    let ⟨v1712, c0_i32_1104⟩ : Σ' (v1712 : BitVec 32), BitVec 32 ← k0_part51 a0 h0 a1 h1 a2 h2 a3 h3 a4 h4 a5 h5 a6 h6 a7 h7 a8 h8 a9 h9 a10 h10 a11 h11 a12 h12 a13 h13 a14 h14 a15 h15 a16 h16 s0 s1 s2 s3 s4 c v2 v1680
    let ⟨v1742, c0_i32_1124⟩ : Σ' (v1742 : BitVec 32), BitVec 32 ← k0_part52 a0 h0 a1 h1 a2 h2 a3 h3 a4 h4 a5 h5 a6 h6 a7 h7 a8 h8 a9 h9 a10 h10 a11 h11 a12 h12 a13 h13 a14 h14 a15 h15 a16 h16 s0 s1 s2 s3 s4 v2 v1712 c0_i32_1104
    k0_part53 a0 h0 a1 h1 a2 h2 a3 h3 a4 h4 a5 h5 a6 h6 a7 h7 a8 h8 a9 h9 a10 h10 a11 h11 a12 h12 a13 h13 a14 h14 a15 h15 a16 h16 s0 s1 s2 s3 s4 c v2 v1742 c0_i32_1124
    let v1799 : BitVec 32 ← k0_part54 a0 h0 a1 h1 a2 h2 a3 h3 a4 h4 a5 h5 a6 h6 a7 h7 a8 h8 a9 h9 a10 h10 a11 h11 a12 h12 a13 h13 a14 h14 a15 h15 a16 h16 s0 s1 s2 s3 s4 c v2
    let ⟨v1825, c4_i32_1206⟩ : Σ' (v1825 : BitVec 32), BitVec 32 ← k0_part55 a0 h0 a1 h1 a2 h2 a3 h3 a4 h4 a5 h5 a6 h6 a7 h7 a8 h8 a9 h9 a10 h10 a11 h11 a12 h12 a13 h13 a14 h14 a15 h15 a16 h16 s0 s1 s2 s3 s4 c v2 v1799
    k0_part56 a0 h0 a1 h1 a2 h2 a3 h3 a4 h4 a5 h5 a6 h6 a7 h7 a8 h8 a9 h9 a10 h10 a11 h11 a12 h12 a13 h13 a14 h14 a15 h15 a16 h16 s0 s1 s2 s3 s4 c v2 v1825 c4_i32_1206
    k0_part57 a0 h0 a1 h1 a2 h2 a3 h3 a4 h4 a5 h5 a6 h6 a7 h7 a8 h8 a9 h9 a10 h10 a11 h11 a12 h12 a13 h13 a14 h14 a15 h15 a16 h16 s0 s1 s2 s3 s4 c v2
    let c12_i32_1289 : BitVec 32 ← k0_part58 a0 h0 a1 h1 a2 h2 a3 h3 a4 h4 a5 h5 a6 h6 a7 h7 a8 h8 a9 h9 a10 h10 a11 h11 a12 h12 a13 h13 a14 h14 a15 h15 a16 h16 s0 s1 s2 s3 s4 c v2
    let v1911 : DmaSems sig S1 := s3.slice (Rect.unit (s := S15) ![11] S1.size inb_S15_S1_11)
    let v1912 : DmaSems sig S_ := v1911.squeeze S_ squeezes_S1_S_
    let v1913 : Memref sig .tc .vmem S1x64x1024 .bf16 := a16.slice (Rect.unit (s := S16x64x1024) (k0_off70 c) S1x64x1024.size (k0_off70_inb c)) (fun _ => rfl)
    let v1914 : Memref sig .tc .vmem S64x1024 .bf16 := v1913.squeeze S64x1024 squeezes_S1x64x1024_S64x1024
    Prog.lift (.waitDma2 v1912.sem v1914 a14 ((h16.wordExact_slice rfl _ (k0_off70_wordsbf16 c)).reshape _ _) h14.wordExact)
    let v1917 : DmaSems sig S1 := s3.slice (Rect.unit (s := S15) ![12] S1.size inb_S15_S1_12)
    let v1918 : DmaSems sig S_ := v1917.squeeze S_ squeezes_S1_S_
    let v1919 : Memref sig .tc .vmem S1x64x1024 .bf16 := a16.slice (Rect.unit (s := S16x64x1024) (k0_off70 c) S1x64x1024.size (k0_off70_inb c)) (fun _ => rfl)
    let v1920 : Memref sig .tc .vmem S64x1024 .bf16 := v1919.squeeze S64x1024 squeezes_S1x64x1024_S64x1024
    Prog.lift (.waitDma2 v1918.sem v1920 a14 ((h16.wordExact_slice rfl _ (k0_off70_wordsbf16 c)).reshape _ _) h14.wordExact)
    let v1923 : DmaSems sig S1 := s3.slice (Rect.unit (s := S15) ![13] S1.size inb_S15_S1_13)
    let v1924 : DmaSems sig S_ := v1923.squeeze S_ squeezes_S1_S_
    let v1925 : Memref sig .tc .vmem S1x64x1024 .bf16 := a16.slice (Rect.unit (s := S16x64x1024) (k0_off70 c) S1x64x1024.size (k0_off70_inb c)) (fun _ => rfl)
    let v1926 : Memref sig .tc .vmem S64x1024 .bf16 := v1925.squeeze S64x1024 squeezes_S1x64x1024_S64x1024
    Prog.lift (.waitDma2 v1924.sem v1926 a14 ((h16.wordExact_slice rfl _ (k0_off70_wordsbf16 c)).reshape _ _) h14.wordExact)
    let v1929 : DmaSems sig S1 := s3.slice (Rect.unit (s := S15) ![14] S1.size inb_S15_S1_14)
    let v1930 : DmaSems sig S_ := v1929.squeeze S_ squeezes_S1_S_
    let v1931 : Memref sig .tc .vmem S1x64x1024 .bf16 := a16.slice (Rect.unit (s := S16x64x1024) (k0_off70 c) S1x64x1024.size (k0_off70_inb c)) (fun _ => rfl)
    let v1932 : Memref sig .tc .vmem S64x1024 .bf16 := v1931.squeeze S64x1024 squeezes_S1x64x1024_S64x1024
    Prog.lift (.waitDma2 v1930.sem v1932 a14 ((h16.wordExact_slice rfl _ (k0_off70_wordsbf16 c)).reshape _ _) h14.wordExact)
    pure ⟨⟩) := by
  unfold cc0_body k0_part59

  refine (bind_assoc _ _ _).trans (congrArg _ (funext fun x => ?_)); obtain ⟨y0, y1, y2, y3⟩ := x; dsimp only
  refine (bind_assoc _ _ _).trans (congrArg _ (funext fun x2 => ?_))
  refine (bind_assoc _ _ _).trans (congrArg _ (funext fun x => ?_)); obtain ⟨y4, y5⟩ := x; dsimp only
  refine (bind_assoc _ _ _).trans (congrArg _ (funext fun x4 => ?_))
  refine (bind_assoc _ _ _).trans (congrArg _ (funext fun x5 => ?_))
  refine (bind_assoc _ _ _).trans (congrArg _ (funext fun x6 => ?_))
  refine (bind_assoc _ _ _).trans (congrArg _ (funext fun x7 => ?_))
  refine (bind_assoc _ _ _).trans (congrArg _ (funext fun x => ?_)); obtain ⟨y6, y7⟩ := x; dsimp only
  refine (bind_assoc _ _ _).trans (congrArg _ (funext fun x9 => ?_))
  refine (bind_assoc _ _ _).trans (congrArg _ (funext fun x => ?_)); obtain ⟨y8, y9⟩ := x; dsimp only
  refine (bind_assoc _ _ _).trans (congrArg _ (funext fun x11 => ?_))
  refine (bind_assoc _ _ _).trans (congrArg _ (funext fun x12 => ?_))
  refine (bind_assoc _ _ _).trans (congrArg _ (funext fun x13 => ?_))
  refine (bind_assoc _ _ _).trans (congrArg _ (funext fun x14 => ?_))
  refine (bind_assoc _ _ _).trans (congrArg _ (funext fun x => ?_)); obtain ⟨y10, y11⟩ := x; dsimp only
  refine (bind_assoc _ _ _).trans (congrArg _ (funext fun x => ?_)); obtain ⟨y12, y13, y14, y15, y16⟩ := x; dsimp only
  refine (bind_assoc _ _ _).trans (congrArg _ (funext fun x => ?_)); obtain ⟨y17, y18, y19⟩ := x; dsimp only
  refine (bind_assoc _ _ _).trans (congrArg _ (funext fun x => ?_)); obtain ⟨y20, y21⟩ := x; dsimp only
  refine (bind_assoc _ _ _).trans (congrArg _ (funext fun x19 => ?_))
  refine (bind_assoc _ _ _).trans (congrArg _ (funext fun x => ?_)); obtain ⟨y22, y23, y24⟩ := x; dsimp only
  refine (bind_assoc _ _ _).trans (congrArg _ (funext fun x => ?_)); obtain ⟨y25, y26⟩ := x; dsimp only
  refine (bind_assoc _ _ _).trans (congrArg _ (funext fun x => ?_)); obtain ⟨y27, y28, y29⟩ := x; dsimp only
  refine (bind_assoc _ _ _).trans (congrArg _ (funext fun x23 => ?_))
  refine (bind_assoc _ _ _).trans (congrArg _ (funext fun x => ?_)); obtain ⟨y30, y31⟩ := x; dsimp only
  refine (bind_assoc _ _ _).trans (congrArg _ (funext fun x => ?_)); obtain ⟨y32, y33⟩ := x; dsimp only
  refine (bind_assoc _ _ _).trans (congrArg _ (funext fun x26 => ?_))
  refine (bind_assoc _ _ _).trans (congrArg _ (funext fun x27 => ?_))
  refine (bind_assoc _ _ _).trans (congrArg _ (funext fun x28 => ?_))
  refine (bind_assoc _ _ _).trans (congrArg _ (funext fun x => ?_)); obtain ⟨y34, y35, y36⟩ := x; dsimp only
  refine (bind_assoc _ _ _).trans (congrArg _ (funext fun x30 => ?_))
  refine (bind_assoc _ _ _).trans (congrArg _ (funext fun x31 => ?_))
  refine (bind_assoc _ _ _).trans (congrArg _ (funext fun x32 => ?_))
  refine (bind_assoc _ _ _).trans (congrArg _ (funext fun x => ?_)); obtain ⟨y37, y38⟩ := x; dsimp only
  refine (bind_assoc _ _ _).trans (congrArg _ (funext fun x34 => ?_))
  refine (bind_assoc _ _ _).trans (congrArg _ (funext fun x35 => ?_))
  refine (bind_assoc _ _ _).trans (congrArg _ (funext fun x => ?_)); obtain ⟨y39, y40⟩ := x; dsimp only
  refine (bind_assoc _ _ _).trans (congrArg _ (funext fun x => ?_)); obtain ⟨y41, y42⟩ := x; dsimp only
  refine (bind_assoc _ _ _).trans (congrArg _ (funext fun x38 => ?_))
  refine (bind_assoc _ _ _).trans (congrArg _ (funext fun x39 => ?_))
  refine (bind_assoc _ _ _).trans (congrArg _ (funext fun x40 => ?_))
  refine (bind_assoc _ _ _).trans (congrArg _ (funext fun x => ?_)); obtain ⟨y43, y44⟩ := x; dsimp only
  refine (bind_assoc _ _ _).trans (congrArg _ (funext fun x42 => ?_))
  refine (bind_assoc _ _ _).trans (congrArg _ (funext fun x43 => ?_))
  refine (bind_assoc _ _ _).trans (congrArg _ (funext fun x44 => ?_))
  refine (bind_assoc _ _ _).trans (congrArg _ (funext fun x => ?_)); obtain ⟨y45, y46⟩ := x; dsimp only
  refine (bind_assoc _ _ _).trans (congrArg _ (funext fun x46 => ?_))
  refine (bind_assoc _ _ _).trans (congrArg _ (funext fun x47 => ?_))
  refine (bind_assoc _ _ _).trans (congrArg _ (funext fun x48 => ?_))
  refine (bind_assoc _ _ _).trans (congrArg _ (funext fun x49 => ?_))
  refine (bind_assoc _ _ _).trans (congrArg _ (funext fun x50 => ?_))
  refine (bind_assoc _ _ _).trans (congrArg _ (funext fun x => ?_)); obtain ⟨y47, y48⟩ := x; dsimp only
  refine (bind_assoc _ _ _).trans (congrArg _ (funext fun x => ?_)); obtain ⟨y49, y50⟩ := x; dsimp only
  refine (bind_assoc _ _ _).trans (congrArg _ (funext fun x53 => ?_))
  refine (bind_assoc _ _ _).trans (congrArg _ (funext fun x54 => ?_))
  refine (bind_assoc _ _ _).trans (congrArg _ (funext fun x => ?_)); obtain ⟨y51, y52⟩ := x; dsimp only
  refine (bind_assoc _ _ _).trans (congrArg _ (funext fun x56 => ?_))
  refine (bind_assoc _ _ _).trans (congrArg _ (funext fun x57 => ?_))
  refine (bind_assoc _ _ _).trans (congrArg _ (funext fun x58 => ?_))
  exact pure_bind _ _

/-! ## The four stages of the body -/

/-- The sums sent round and written, from the device's own sum on. -/
def prog4 (c : Dev nD) (v2 : BitVec 32) (v1543 : Vec F S64x1024 .bf16) : Prog (TpuEff nD τ sig (Elt F) Λ₀ .tc) PUnit := do
    let v1580 : BitVec 32 ← k0_part47 a0 h0 a1 h1 a2 h2 a3 h3 a4 h4 a5 h5 a6 h6 a7 h7 a8 h8 a9 h9 a10 h10 a11 h11 a12 h12 a13 h13 a14 h14 a15 h15 a16 h16 s0 s1 s2 s3 s4 c v2 v1543
    k0_part48 a0 h0 a1 h1 a2 h2 a3 h3 a4 h4 a5 h5 a6 h6 a7 h7 a8 h8 a9 h9 a10 h10 a11 h11 a12 h12 a13 h13 a14 h14 a15 h15 a16 h16 s0 s1 s2 s3 s4 c v2 v1580
    k0_part49 a0 h0 a1 h1 a2 h2 a3 h3 a4 h4 a5 h5 a6 h6 a7 h7 a8 h8 a9 h9 a10 h10 a11 h11 a12 h12 a13 h13 a14 h14 a15 h15 a16 h16 s0 s1 s2 s3 s4 c v2
    let v1680 : BitVec 32 ← k0_part50 a0 h0 a1 h1 a2 h2 a3 h3 a4 h4 a5 h5 a6 h6 a7 h7 a8 h8 a9 h9 a10 h10 a11 h11 a12 h12 a13 h13 a14 h14 a15 h15 a16 h16 s0 s1 s2 s3 s4 c v2
    let ⟨v1712, c0_i32_1104⟩ : Σ' (v1712 : BitVec 32), BitVec 32 ← k0_part51 a0 h0 a1 h1 a2 h2 a3 h3 a4 h4 a5 h5 a6 h6 a7 h7 a8 h8 a9 h9 a10 h10 a11 h11 a12 h12 a13 h13 a14 h14 a15 h15 a16 h16 s0 s1 s2 s3 s4 c v2 v1680
    let ⟨v1742, c0_i32_1124⟩ : Σ' (v1742 : BitVec 32), BitVec 32 ← k0_part52 a0 h0 a1 h1 a2 h2 a3 h3 a4 h4 a5 h5 a6 h6 a7 h7 a8 h8 a9 h9 a10 h10 a11 h11 a12 h12 a13 h13 a14 h14 a15 h15 a16 h16 s0 s1 s2 s3 s4 v2 v1712 c0_i32_1104
    k0_part53 a0 h0 a1 h1 a2 h2 a3 h3 a4 h4 a5 h5 a6 h6 a7 h7 a8 h8 a9 h9 a10 h10 a11 h11 a12 h12 a13 h13 a14 h14 a15 h15 a16 h16 s0 s1 s2 s3 s4 c v2 v1742 c0_i32_1124
    let v1799 : BitVec 32 ← k0_part54 a0 h0 a1 h1 a2 h2 a3 h3 a4 h4 a5 h5 a6 h6 a7 h7 a8 h8 a9 h9 a10 h10 a11 h11 a12 h12 a13 h13 a14 h14 a15 h15 a16 h16 s0 s1 s2 s3 s4 c v2
    let ⟨v1825, c4_i32_1206⟩ : Σ' (v1825 : BitVec 32), BitVec 32 ← k0_part55 a0 h0 a1 h1 a2 h2 a3 h3 a4 h4 a5 h5 a6 h6 a7 h7 a8 h8 a9 h9 a10 h10 a11 h11 a12 h12 a13 h13 a14 h14 a15 h15 a16 h16 s0 s1 s2 s3 s4 c v2 v1799
    k0_part56 a0 h0 a1 h1 a2 h2 a3 h3 a4 h4 a5 h5 a6 h6 a7 h7 a8 h8 a9 h9 a10 h10 a11 h11 a12 h12 a13 h13 a14 h14 a15 h15 a16 h16 s0 s1 s2 s3 s4 c v2 v1825 c4_i32_1206
    k0_part57 a0 h0 a1 h1 a2 h2 a3 h3 a4 h4 a5 h5 a6 h6 a7 h7 a8 h8 a9 h9 a10 h10 a11 h11 a12 h12 a13 h13 a14 h14 a15 h15 a16 h16 s0 s1 s2 s3 s4 c v2
    let c12_i32_1289 : BitVec 32 ← k0_part58 a0 h0 a1 h1 a2 h2 a3 h3 a4 h4 a5 h5 a6 h6 a7 h7 a8 h8 a9 h9 a10 h10 a11 h11 a12 h12 a13 h13 a14 h14 a15 h15 a16 h16 s0 s1 s2 s3 s4 c v2
    let v1911 : DmaSems sig S1 := s3.slice (Rect.unit (s := S15) ![11] S1.size inb_S15_S1_11)
    let v1912 : DmaSems sig S_ := v1911.squeeze S_ squeezes_S1_S_
    let v1913 : Memref sig .tc .vmem S1x64x1024 .bf16 := a16.slice (Rect.unit (s := S16x64x1024) (k0_off70 c) S1x64x1024.size (k0_off70_inb c)) (fun _ => rfl)
    let v1914 : Memref sig .tc .vmem S64x1024 .bf16 := v1913.squeeze S64x1024 squeezes_S1x64x1024_S64x1024
    Prog.lift (.waitDma2 v1912.sem v1914 a14 ((h16.wordExact_slice rfl _ (k0_off70_wordsbf16 c)).reshape _ _) h14.wordExact)
    let v1917 : DmaSems sig S1 := s3.slice (Rect.unit (s := S15) ![12] S1.size inb_S15_S1_12)
    let v1918 : DmaSems sig S_ := v1917.squeeze S_ squeezes_S1_S_
    let v1919 : Memref sig .tc .vmem S1x64x1024 .bf16 := a16.slice (Rect.unit (s := S16x64x1024) (k0_off70 c) S1x64x1024.size (k0_off70_inb c)) (fun _ => rfl)
    let v1920 : Memref sig .tc .vmem S64x1024 .bf16 := v1919.squeeze S64x1024 squeezes_S1x64x1024_S64x1024
    Prog.lift (.waitDma2 v1918.sem v1920 a14 ((h16.wordExact_slice rfl _ (k0_off70_wordsbf16 c)).reshape _ _) h14.wordExact)
    let v1923 : DmaSems sig S1 := s3.slice (Rect.unit (s := S15) ![13] S1.size inb_S15_S1_13)
    let v1924 : DmaSems sig S_ := v1923.squeeze S_ squeezes_S1_S_
    let v1925 : Memref sig .tc .vmem S1x64x1024 .bf16 := a16.slice (Rect.unit (s := S16x64x1024) (k0_off70 c) S1x64x1024.size (k0_off70_inb c)) (fun _ => rfl)
    let v1926 : Memref sig .tc .vmem S64x1024 .bf16 := v1925.squeeze S64x1024 squeezes_S1x64x1024_S64x1024
    Prog.lift (.waitDma2 v1924.sem v1926 a14 ((h16.wordExact_slice rfl _ (k0_off70_wordsbf16 c)).reshape _ _) h14.wordExact)
    let v1929 : DmaSems sig S1 := s3.slice (Rect.unit (s := S15) ![14] S1.size inb_S15_S1_14)
    let v1930 : DmaSems sig S_ := v1929.squeeze S_ squeezes_S1_S_
    let v1931 : Memref sig .tc .vmem S1x64x1024 .bf16 := a16.slice (Rect.unit (s := S16x64x1024) (k0_off70 c) S1x64x1024.size (k0_off70_inb c)) (fun _ => rfl)
    let v1932 : Memref sig .tc .vmem S64x1024 .bf16 := v1931.squeeze S64x1024 squeezes_S1x64x1024_S64x1024
    Prog.lift (.waitDma2 v1930.sem v1932 a14 ((h16.wordExact_slice rfl _ (k0_off70_wordsbf16 c)).reshape _ _) h14.wordExact)
    pure ⟨⟩

/-- The parts waited for and summed, then the rest. -/
def prog3 (c : Dev nD) (v2 v1419 : BitVec 32) : Prog (TpuEff nD τ sig (Elt F) Λ₀ .tc) PUnit := do
    let v1449 : BitVec 1 ← k0_part43 a0 h0 a1 h1 a2 h2 a3 h3 a4 h4 a5 h5 a6 h6 a7 h7 a8 h8 a9 h9 a10 h10 a11 h11 a12 h12 a13 h13 a14 h14 a15 h15 a16 h16 s0 s1 s2 s3 s4 c v2 v1419
    let v1478 : FVec F S64x1024 .f32 ← k0_part44 a0 h0 a1 h1 a2 h2 a3 h3 a4 h4 a5 h5 a6 h6 a7 h7 a8 h8 a9 h9 a10 h10 a11 h11 a12 h12 a13 h13 a14 h14 a15 h15 a16 h16 s0 s1 s2 s3 s4 v2 v1449
    let ⟨v1510, v1513⟩ : Σ' (v1510 : FVec F S64x1024 .f32), FVec F S64x1024 .f32 ← k0_part45 a0 h0 a1 h1 a2 h2 a3 h3 a4 h4 a5 h5 a6 h6 a7 h7 a8 h8 a9 h9 a10 h10 a11 h11 a12 h12 a13 h13 a14 h14 a15 h15 a16 h16 s0 s1 s2 s3 s4 v1478
    let v1543 : Vec F S64x1024 .bf16 ← k0_part46 a0 h0 a1 h1 a2 h2 a3 h3 a4 h4 a5 h5 a6 h6 a7 h7 a8 h8 a9 h9 a10 h10 a11 h11 a12 h12 a13 h13 a14 h14 a15 h15 a16 h16 s0 s1 s2 s3 s4 c v2 v1510 v1513
    prog4 c v2 v1543

/-- The attention and the sends of its parts, then the rest. -/
def prog2 (c : Dev nD) (v2 : BitVec 32) (v407 : FVec F S1024x1024 .bf16) (v409 : BitVec 32) : Prog (TpuEff nD τ sig (Elt F) Λ₀ .tc) PUnit := do
    let ⟨v410, v444, v445, v448, cst_401⟩ : Σ' (v410 : BitVec 32) (v444 : FVec F S256x1 .f32) (v445 : FVec F S256x256 .bf16) (v448 : FVec F S256x128 .bf16), FVec F S256x128 .f32 ← k0_part16 a0 h0 a1 h1 a2 h2 a3 h3 a4 h4 a5 h5 a6 h6 a7 h7 a8 h8 a9 h9 a10 h10 a11 h11 a12 h12 a13 h13 a14 h14 a15 h15 a16 h16 s0 s1 s2 s3 s4 c v409
    let ⟨v486, v488, v489⟩ : Σ' (v486 : FVec F S256x256 .f32) (v488 : FVec F S256x1 .f32), FVec F S256x1 .f32 ← k0_part17 a0 h0 a1 h1 a2 h2 a3 h3 a4 h4 a5 h5 a6 h6 a7 h7 a8 h8 a9 h9 a10 h10 a11 h11 a12 h12 a13 h13 a14 h14 a15 h15 a16 h16 s0 s1 s2 s3 s4 c v410 v444 v445 v448 cst_401
    let ⟨v527, v530⟩ : Σ' (v527 : Vec F S256x128 .bf16), FVec F S256x128 .bf16 ← k0_part18 a0 h0 a1 h1 a2 h2 a3 h3 a4 h4 a5 h5 a6 h6 a7 h7 a8 h8 a9 h9 a10 h10 a11 h11 a12 h12 a13 h13 a14 h14 a15 h15 a16 h16 s0 s1 s2 s3 s4 c v410 v486 v488 v489
    k0_part19 a0 h0 a1 h1 a2 h2 a3 h3 a4 h4 a5 h5 a6 h6 a7 h7 a8 h8 a9 h9 a10 h10 a11 h11 a12 h12 a13 h13 a14 h14 a15 h15 a16 h16 s0 s1 s2 s3 s4 c v410 v527 v530
    let ⟨v605, v607, c0_i32_468⟩ : Σ' (v605 : BitVec 32) (v607 : BitVec 32), BitVec 32 ← k0_part20 a0 h0 a1 h1 a2 h2 a3 h3 a4 h4 a5 h5 a6 h6 a7 h7 a8 h8 a9 h9 a10 h10 a11 h11 a12 h12 a13 h13 a14 h14 a15 h15 a16 h16 s0 s1 s2 s3 s4 c v2 v407 v410
    let ⟨v638, c8_i32_489⟩ : Σ' (v638 : BitVec 32), BitVec 32 ← k0_part21 a0 h0 a1 h1 a2 h2 a3 h3 a4 h4 a5 h5 a6 h6 a7 h7 a8 h8 a9 h9 a10 h10 a11 h11 a12 h12 a13 h13 a14 h14 a15 h15 a16 h16 s0 s1 s2 s3 s4 c v2 v407 v410 v605 v607 c0_i32_468
    let ⟨v665, v667, v670⟩ : Σ' (v665 : BitVec 32) (v667 : Vec F S256x128 .bf16), FVec F S256x128 .bf16 ← k0_part22 a0 h0 a1 h1 a2 h2 a3 h3 a4 h4 a5 h5 a6 h6 a7 h7 a8 h8 a9 h9 a10 h10 a11 h11 a12 h12 a13 h13 a14 h14 a15 h15 a16 h16 s0 s1 s2 s3 s4 c v2 v407 v410 v638 c8_i32_489
    k0_part23 a0 h0 a1 h1 a2 h2 a3 h3 a4 h4 a5 h5 a6 h6 a7 h7 a8 h8 a9 h9 a10 h10 a11 h11 a12 h12 a13 h13 a14 h14 a15 h15 a16 h16 s0 s1 s2 s3 s4 c v665 v667 v670
    let ⟨v750, v751⟩ : Σ' (v750 : FVec F S256x128 .f32), FVec F S256x128 .f32 ← k0_part24 a0 h0 a1 h1 a2 h2 a3 h3 a4 h4 a5 h5 a6 h6 a7 h7 a8 h8 a9 h9 a10 h10 a11 h11 a12 h12 a13 h13 a14 h14 a15 h15 a16 h16 s0 s1 s2 s3 s4 c v665
    let ⟨v791, v792⟩ : Σ' (v791 : FVec F S256x1 .f32), FVec F S256x256 .bf16 ← k0_part25 a0 h0 a1 h1 a2 h2 a3 h3 a4 h4 a5 h5 a6 h6 a7 h7 a8 h8 a9 h9 a10 h10 a11 h11 a12 h12 a13 h13 a14 h14 a15 h15 a16 h16 s0 s1 s2 s3 s4 c v665 v750 v751
    let v832 : FVec F S256x256 .f32 ← k0_part26 a0 h0 a1 h1 a2 h2 a3 h3 a4 h4 a5 h5 a6 h6 a7 h7 a8 h8 a9 h9 a10 h10 a11 h11 a12 h12 a13 h13 a14 h14 a15 h15 a16 h16 s0 s1 s2 s3 s4 c v665 v791 v792
    k0_part27 a0 h0 a1 h1 a2 h2 a3 h3 a4 h4 a5 h5 a6 h6 a7 h7 a8 h8 a9 h9 a10 h10 a11 h11 a12 h12 a13 h13 a14 h14 a15 h15 a16 h16 s0 s1 s2 s3 s4 c v2 v407 v665 v832
    let v899 : BitVec 32 ← k0_part28 a0 h0 a1 h1 a2 h2 a3 h3 a4 h4 a5 h5 a6 h6 a7 h7 a8 h8 a9 h9 a10 h10 a11 h11 a12 h12 a13 h13 a14 h14 a15 h15 a16 h16 s0 s1 s2 s3 s4 c v2 v407 v665
    let ⟨v920, v931, v932⟩ : Σ' (v920 : BitVec 32) (v931 : FVec F S256x1 .f32), FVec F S256x256 .bf16 ← k0_part29 a0 h0 a1 h1 a2 h2 a3 h3 a4 h4 a5 h5 a6 h6 a7 h7 a8 h8 a9 h9 a10 h10 a11 h11 a12 h12 a13 h13 a14 h14 a15 h15 a16 h16 s0 s1 s2 s3 s4 c v2 v407 v665 v899
    let v972 : FVec F S256x256 .f32 ← k0_part30 a0 h0 a1 h1 a2 h2 a3 h3 a4 h4 a5 h5 a6 h6 a7 h7 a8 h8 a9 h9 a10 h10 a11 h11 a12 h12 a13 h13 a14 h14 a15 h15 a16 h16 s0 s1 s2 s3 s4 c v920 v931 v932
    k0_part31 a0 h0 a1 h1 a2 h2 a3 h3 a4 h4 a5 h5 a6 h6 a7 h7 a8 h8 a9 h9 a10 h10 a11 h11 a12 h12 a13 h13 a14 h14 a15 h15 a16 h16 s0 s1 s2 s3 s4 c v920 v972
    let v1054 : FVec F S256x128 .bf16 ← k0_part32 a0 h0 a1 h1 a2 h2 a3 h3 a4 h4 a5 h5 a6 h6 a7 h7 a8 h8 a9 h9 a10 h10 a11 h11 a12 h12 a13 h13 a14 h14 a15 h15 a16 h16 s0 s1 s2 s3 s4 c v920
    let ⟨v1092, v1093⟩ : Σ' (v1092 : FVec F S256x1 .f32), FVec F S256x256 .bf16 ← k0_part33 a0 h0 a1 h1 a2 h2 a3 h3 a4 h4 a5 h5 a6 h6 a7 h7 a8 h8 a9 h9 a10 h10 a11 h11 a12 h12 a13 h13 a14 h14 a15 h15 a16 h16 s0 s1 s2 s3 s4 c v920 v1054
    let v1126 : FVec F S64x1024 .bf16 ← k0_part34 a0 h0 a1 h1 a2 h2 a3 h3 a4 h4 a5 h5 a6 h6 a7 h7 a8 h8 a9 h9 a10 h10 a11 h11 a12 h12 a13 h13 a14 h14 a15 h15 a16 h16 s0 s1 s2 s3 s4 c v2 v407 v920 v1092 v1093
    let v1159 : FVec F S64x1024 .f32 ← k0_part35 a0 h0 a1 h1 a2 h2 a3 h3 a4 h4 a5 h5 a6 h6 a7 h7 a8 h8 a9 h9 a10 h10 a11 h11 a12 h12 a13 h13 a14 h14 a15 h15 a16 h16 s0 s1 s2 s3 s4 c v2 v407 v920 v1126
    let ⟨v1175, v1194⟩ : Σ' (v1175 : BitVec 32), FVec F S256x128 .bf16 ← k0_part36 a0 h0 a1 h1 a2 h2 a3 h3 a4 h4 a5 h5 a6 h6 a7 h7 a8 h8 a9 h9 a10 h10 a11 h11 a12 h12 a13 h13 a14 h14 a15 h15 a16 h16 s0 s1 s2 s3 s4 c v2 v1159
    let ⟨v1232, v1233⟩ : Σ' (v1232 : FVec F S256x1 .f32), FVec F S256x256 .bf16 ← k0_part37 a0 h0 a1 h1 a2 h2 a3 h3 a4 h4 a5 h5 a6 h6 a7 h7 a8 h8 a9 h9 a10 h10 a11 h11 a12 h12 a13 h13 a14 h14 a15 h15 a16 h16 s0 s1 s2 s3 s4 c v1175 v1194
    let v1274 : FVec F S256x256 .f32 ← k0_part38 a0 h0 a1 h1 a2 h2 a3 h3 a4 h4 a5 h5 a6 h6 a7 h7 a8 h8 a9 h9 a10 h10 a11 h11 a12 h12 a13 h13 a14 h14 a15 h15 a16 h16 s0 s1 s2 s3 s4 c v1175 v1232 v1233
    let v1315 : Vec F S256x128 .bf16 ← k0_part39 a0 h0 a1 h1 a2 h2 a3 h3 a4 h4 a5 h5 a6 h6 a7 h7 a8 h8 a9 h9 a10 h10 a11 h11 a12 h12 a13 h13 a14 h14 a15 h15 a16 h16 s0 s1 s2 s3 s4 c v1175 v1274
    let v1355 : FVec F S256x128 .bf16 ← k0_part40 a0 h0 a1 h1 a2 h2 a3 h3 a4 h4 a5 h5 a6 h6 a7 h7 a8 h8 a9 h9 a10 h10 a11 h11 a12 h12 a13 h13 a14 h14 a15 h15 a16 h16 s0 s1 s2 s3 s4 c v1175 v1315
    let ⟨v1387, v1389⟩ : Σ' (v1387 : BitVec 32), BitVec 32 ← k0_part41 a0 h0 a1 h1 a2 h2 a3 h3 a4 h4 a5 h5 a6 h6 a7 h7 a8 h8 a9 h9 a10 h10 a11 h11 a12 h12 a13 h13 a14 h14 a15 h15 a16 h16 s0 s1 s2 s3 s4 c v2 v407 v1175 v1355
    let v1419 : BitVec 32 ← k0_part42 a0 h0 a1 h1 a2 h2 a3 h3 a4 h4 a5 h5 a6 h6 a7 h7 a8 h8 a9 h9 a10 h10 a11 h11 a12 h12 a13 h13 a14 h14 a15 h15 a16 h16 s0 s1 s2 s3 s4 c v2 v407 v1175 v1387 v1389
    prog3 c v2 v1419

theorem body_stages : cc0_body (F := F) a0 h0 a1 h1 a2 h2 a3 h3 a4 h4 a5 h5 a6 h6 a7 h7 a8 h8 a9 h9 a10 h10 a11 h11 a12 h12 a13 h13 a14 h14 a15 h15 a16 h16 s0 s1 s2 s3 s4 = (do
    let ⟨c, v2, v11, v26⟩ : Σ' (d0 : Dev nD) (v2 : BitVec 32) (v11 : Sems sig S_), BitVec 32 ← k0_part1 a0 h0 a1 h1 a2 h2 a3 h3 a4 h4 a5 h5 a6 h6 a7 h7 a8 h8 a9 h9 a10 h10 a11 h11 a12 h12 a13 h13 a14 h14 a15 h15 a16 h16 s0 s1 s2 s3 s4
    let v50 : BitVec 32 ← k0_part2 a0 h0 a1 h1 a2 h2 a3 h3 a4 h4 a5 h5 a6 h6 a7 h7 a8 h8 a9 h9 a10 h10 a11 h11 a12 h12 a13 h13 a14 h14 a15 h15 a16 h16 s0 s1 s2 s3 s4 c v2 v11 v26
    let ⟨v73, v74⟩ : Σ' (v73 : FVec F S64x1024 .f32), FVec F S64x1024 .f32 ← k0_part3 a0 h0 a1 h1 a2 h2 a3 h3 a4 h4 a5 h5 a6 h6 a7 h7 a8 h8 a9 h9 a10 h10 a11 h11 a12 h12 a13 h13 a14 h14 a15 h15 a16 h16 s0 s1 s2 s3 s4 c v2 v11 v50
    let v102 : FVec F S64x8x128 .bf16 ← k0_part4 a0 h0 a1 h1 a2 h2 a3 h3 a4 h4 a5 h5 a6 h6 a7 h7 a8 h8 a9 h9 a10 h10 a11 h11 a12 h12 a13 h13 a14 h14 a15 h15 a16 h16 s0 s1 s2 s3 s4 v73 v74
    let v128 : FVec F S64x8x128 .bf16 ← k0_part5 a0 h0 a1 h1 a2 h2 a3 h3 a4 h4 a5 h5 a6 h6 a7 h7 a8 h8 a9 h9 a10 h10 a11 h11 a12 h12 a13 h13 a14 h14 a15 h15 a16 h16 s0 s1 s2 s3 s4 v102
    k0_part6 a0 h0 a1 h1 a2 h2 a3 h3 a4 h4 a5 h5 a6 h6 a7 h7 a8 h8 a9 h9 a10 h10 a11 h11 a12 h12 a13 h13 a14 h14 a15 h15 a16 h16 s0 s1 s2 s3 s4 v128
    k0_part7 a0 h0 a1 h1 a2 h2 a3 h3 a4 h4 a5 h5 a6 h6 a7 h7 a8 h8 a9 h9 a10 h10 a11 h11 a12 h12 a13 h13 a14 h14 a15 h15 a16 h16 s0 s1 s2 s3 s4
    let ⟨v213, cst_196⟩ : Σ' (v213 : FVec F S64x1024 .f32), F .f32 ← k0_part8 a0 h0 a1 h1 a2 h2 a3 h3 a4 h4 a5 h5 a6 h6 a7 h7 a8 h8 a9 h9 a10 h10 a11 h11 a12 h12 a13 h13 a14 h14 a15 h15 a16 h16 s0 s1 s2 s3 s4
    let v242 : FVec F S64x8x128 .bf16 ← k0_part9 a0 h0 a1 h1 a2 h2 a3 h3 a4 h4 a5 h5 a6 h6 a7 h7 a8 h8 a9 h9 a10 h10 a11 h11 a12 h12 a13 h13 a14 h14 a15 h15 a16 h16 s0 s1 s2 s3 s4 v213 cst_196
    let ⟨v268, v269⟩ : Σ' (v268 : FVec F S64x8x128 .bf16), Vec F S64x8x128 .bf16 ← k0_part10 a0 h0 a1 h1 a2 h2 a3 h3 a4 h4 a5 h5 a6 h6 a7 h7 a8 h8 a9 h9 a10 h10 a11 h11 a12 h12 a13 h13 a14 h14 a15 h15 a16 h16 s0 s1 s2 s3 s4 v242
    let v299 : FVec F S64x1024 .bf16 ← k0_part11 a0 h0 a1 h1 a2 h2 a3 h3 a4 h4 a5 h5 a6 h6 a7 h7 a8 h8 a9 h9 a10 h10 a11 h11 a12 h12 a13 h13 a14 h14 a15 h15 a16 h16 s0 s1 s2 s3 s4 v268 v269
    k0_part12 a0 h0 a1 h1 a2 h2 a3 h3 a4 h4 a5 h5 a6 h6 a7 h7 a8 h8 a9 h9 a10 h10 a11 h11 a12 h12 a13 h13 a14 h14 a15 h15 a16 h16 s0 s1 s2 s3 s4 v299
    let v353 : FVec F S64x1024 .f32 ← k0_part13 a0 h0 a1 h1 a2 h2 a3 h3 a4 h4 a5 h5 a6 h6 a7 h7 a8 h8 a9 h9 a10 h10 a11 h11 a12 h12 a13 h13 a14 h14 a15 h15 a16 h16 s0 s1 s2 s3 s4
    let v382 : FVec F S64x8x128 .bf16 ← k0_part14 a0 h0 a1 h1 a2 h2 a3 h3 a4 h4 a5 h5 a6 h6 a7 h7 a8 h8 a9 h9 a10 h10 a11 h11 a12 h12 a13 h13 a14 h14 a15 h15 a16 h16 s0 s1 s2 s3 s4 v353
    let ⟨v407, v409⟩ : Σ' (v407 : FVec F S1024x1024 .bf16), BitVec 32 ← k0_part15 a0 h0 a1 h1 a2 h2 a3 h3 a4 h4 a5 h5 a6 h6 a7 h7 a8 h8 a9 h9 a10 h10 a11 h11 a12 h12 a13 h13 a14 h14 a15 h15 a16 h16 s0 s1 s2 s3 s4 c v2 v11 v382
    prog2 c v2 v407 v409) := body_eq

end Cert.Attn

end
-- ==== Proof.Body.lean ====
/-
  The whole run of one device, from what the launch deals it to what it gives back.
-/
module

public import proofs.«01_k».proof.Proof.Deal
public import proofs.«01_k».proof.Proof.AttnRun
public import proofs.«01_k».proof.Proof.Spread
public import proofs.«01_k».proof.Proof.Flat

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]

local notation "𝕄" => MT nD τ sig Unit (Elt F) ℕ UU ℕ
attribute [local irreducible] k0_cond1 k0_cond2 k0_cond3 k0_cond4 k0_cond5 k0_cond6 k0_cond7 k0_cond8 k0_cond9 k0_cond10 k0_cond11 k0_cond12 k0_cond13 k0_cond14 k0_cond15 k0_cond16 k0_cond17 k0_cond18 k0_cond19 k0_cond20 k0_cond21 k0_cond22 k0_cond23 k0_cond24 k0_cond25 k0_cond26 k0_cond27 k0_cond28 k0_cond29 k0_cond30 k0_cond31 k0_cond32 k0_cond65 k0_cond66 k0_cond67 k0_cond68 k0_cond69 k0_cond70 k0_cond71 k0_cond72 k0_cond73 k0_cond74 k0_cond75 k0_cond76 k0_cond77 k0_cond78 k0_cond79 k0_cond80 k0_dev1 k0_dev2 k0_dev3 k0_dev4 k0_dev5 k0_dev6 k0_dev7 k0_dev8 k0_dev9 k0_dev10 k0_dev11 k0_dev12 k0_dev13 k0_dev14 k0_dev15 k0_dev16 k0_dev17 k0_dev18 k0_dev19 k0_dev20 k0_dev21 k0_dev22 k0_dev23 k0_dev24 k0_dev25 k0_dev26 k0_dev27 k0_dev28 k0_dev29 k0_dev30 k0_dev31 k0_dev32 k0_dev33 k0_dev34 k0_dev35 k0_dev36 k0_dev37 k0_dev38 k0_dev39 k0_dev40 k0_dev41 k0_dev42 k0_dev43 k0_dev44 k0_dev45 k0_dev46 k0_off1 k0_off2 k0_off3 k0_off4 k0_off5 k0_off6 k0_off7 k0_off8 k0_off9 k0_off10 k0_off11 k0_off12 k0_off13 k0_off14 k0_off15 k0_off16 k0_off17 k0_off18 k0_off19 k0_off20 k0_off21 k0_off22 k0_off23 k0_off24 k0_off25 k0_off26 k0_off27 k0_off28 k0_off29 k0_off30 k0_off31 k0_off32 k0_off33 k0_off34 k0_off35 k0_off36 k0_off37 k0_off38 k0_off39 k0_off40 k0_off41 k0_off42 k0_off43 k0_off44 k0_off45 k0_off46 k0_off47 k0_off48 k0_off49 k0_off50 k0_off51 k0_off52 k0_off53 k0_off54 k0_off55 k0_off56 k0_off57 k0_off58 k0_off59 k0_off60 k0_off61 k0_off62 k0_off63 k0_off64 k0_off65 k0_off66 k0_off67 k0_off68 k0_off69 k0_off70 k0_off71 k0_off72 k0_off73 k0_off74 k0_off75 k0_off76 k0_off77 k0_off78 k0_off79 k0_off80 k0_off81 k0_off82 k0_off83 k0_off84 k0_off85 k0_off86
variable (I : In F) (K : Dev nD × Option (Fin 65) → ℕ) (c : Dev nD)

/-! ## What passes between the stages -/

/-- A buffer, all of it, at any contents. -/
def anyB {sp : Space} {s : Shape} {e : EltTy} (b : Memref sig .tc sp s e) : sProp 𝕄 :=
  iprop(∃ f : Buf (Elt F) (b.view.loc (c : Thread nD τ)), b.view.loc (c : Thread nD τ) ↦{fullShare} f)

theorem anyB_intro {sp : Space} {s : Shape} {e : EltTy} (b : Memref sig .tc sp s e) (f : Buf (Elt F) (b.view.loc (c : Thread nD τ))) :
    iprop(b.view.loc (c : Thread nD τ) ↦{fullShare} f) ⊢ anyB c b := by
  unfold anyB; iintro H; iexists f; iexact H

/-- The three staged arguments, unchanged. -/
def stat : sProp 𝕄 := iprop((a0.view.loc (c : Thread nD τ) ↦{fullShare} (I.x c : Buf (Elt F) (a0.view.loc (c : Thread nD τ))))
  ∗ (a2.view.loc (c : Thread nD τ) ↦{fullShare} (I.k c : Buf (Elt F) (a2.view.loc (c : Thread nD τ))))
  ∗ (a3.view.loc (c : Thread nD τ) ↦{fullShare} (I.v c : Buf (Elt F) (a3.view.loc (c : Thread nD τ)))))

def wqAll : sProp 𝕄 := iprop(a1.view.loc (c : Thread nD τ) ↦{fullShare} (I.wq c : Buf (Elt F) (a1.view.loc (c : Thread nD τ))))
def woAll : sProp 𝕄 := iprop(a4.view.loc (c : Thread nD τ) ↦{fullShare} (I.wo c : Buf (Elt F) (a4.view.loc (c : Thread nD τ))))
def wqPart : sProp 𝕄 := iprop((wqSrc c).view.loc (c : Thread nD τ) ↦[(wqSrc c).view.set]{fullShare} (I.wq c : Buf (Elt F) ((wqSrc c).view.loc (c : Thread nD τ))))
def woPart : sProp 𝕄 := iprop((woSrc c).view.loc (c : Thread nD τ) ↦[(woSrc c).view.set]{fullShare} (I.wo c : Buf (Elt F) ((woSrc c).view.loc (c : Thread nD τ))))
/-- The part of the query weights outside the device's columns. -/
def wqRest : sProp 𝕄 := iprop(a1.view.loc (c : Thread nD τ) ↦[Finset.univ \ (wqSrc c).view.set]{fullShare} (I.wq c : Buf (Elt F) (a1.view.loc (c : Thread nD τ))))
/-- The part of the output weights outside the device's rows. -/
def woRest : sProp 𝕄 := iprop(a4.view.loc (c : Thread nD τ) ↦[Finset.univ \ (woSrc c).view.set]{fullShare} (I.wo c : Buf (Elt F) (a4.view.loc (c : Thread nD τ))))

theorem wq_split : wqAll I c ⊢ iprop(wqPart I c ∗ wqRest I c) := by
  unfold wqAll wqPart wqRest
  exact (pointsTo_split_subset (ℓ := a1.view.loc (c : Thread nD τ)) (Finset.subset_univ (wqSrc c).view.set)).1
theorem wq_join : iprop(wqPart I c ∗ wqRest I c) ⊢ wqAll I c := by
  unfold wqAll wqPart wqRest
  exact (pointsTo_split_subset (ℓ := a1.view.loc (c : Thread nD τ)) (Finset.subset_univ (wqSrc c).view.set)).2
theorem wo_split : woAll I c ⊢ iprop(woPart I c ∗ woRest I c) := by
  unfold woAll woPart woRest
  exact (pointsTo_split_subset (ℓ := a4.view.loc (c : Thread nD τ)) (Finset.subset_univ (woSrc c).view.set)).1
theorem wo_join : iprop(woPart I c ∗ woRest I c) ⊢ woAll I c := by
  unfold woAll woPart woRest
  exact (pointsTo_split_subset (ℓ := a4.view.loc (c : Thread nD τ)) (Finset.subset_univ (woSrc c).view.set)).2

/-- The eleven buffers of the kernel's own. -/
def scr : sProp 𝕄 := iprop(anyB c a6 ∗ anyB c a7 ∗ anyB c a8 ∗ anyB c a9 ∗ anyB c a10 ∗ anyB c a11 ∗ anyB c a12 ∗ anyB c a13 ∗ anyB c a14 ∗ anyB c a15 ∗ anyB c a16)

/-- The positions of a device's cells, before its run. -/
def posOf : sProp 𝕄 := iprop((bigSep Finset.univ fun i : Fin 65 => atPos ER (ownC c i) 0 ∅ 0) ∗ atPos ER (barCell c) 0 ∅ 0)

/-- What a device's run starts from. -/
def bodyPre (g5 : Buf (Elt F) (a5.view.loc (c : Thread nD τ))) : sProp 𝕄 :=
  iprop(records I K ∗ levAts LL lv ∗ owesX c (barO c 15) ∗ toksOf c ∗ posOf c ∗ cred (tallyAt (barCell c) () 15) ∗ credOf c
    ∗ stat I c ∗ (a5.view.loc (c : Thread nD τ) ↦{fullShare} g5) ∗ scr c ∗ wqAll I c ∗ woAll I c)

/-- What it ends with. -/
def bodyPost : sProp 𝕄 :=
  iprop(owesX c 0 ∗ stat I c ∗ outSt I c 16 ∗ scr c ∗ wqAll I c ∗ woAll I c
    ∗ (bigSep Finset.univ fun i : Fin 65 => semVal (ownC c i) 0) ∗ semVal (barCell c) 0)

/-- What is done with once the weights are copied and the barrier is passed. -/
def done1 (Kq : sProp 𝕄) : sProp 𝕄 :=
  iprop(stat I c ∗ anyB c a6 ∗ anyB c a7 ∗ anyB c a8 ∗ wqAll I c ∗ woAll I c ∗ (bigSep Finset.univ fun i : Fin 2 => atPos ER (ownC c (iLoc i)) 1 ∅ 0)
    ∗ atPos ER (barCell c) 1 ∅ 0 ∗ slotRest a13 c ∗ slotRest a15 c ∗ slotRest a16 c ∗ slotAny a16 c c ∗ Kq)
/-- What is done with once the attention is over. -/
def done2 (Kq : sProp 𝕄) : sProp 𝕄 := iprop(anyB c a9 ∗ anyB c a10 ∗ anyB c a11 ∗ anyB c a12 ∗ done1 I c Kq)

def posRsS : sProp 𝕄 := bigSep Finset.univ fun i : Fin 16 => atPos ER (ownC c (iRsS i)) 0 ∅ 0
def posAgS : sProp 𝕄 := bigSep Finset.univ fun j : Fin 15 => atPos ER (ownC c (iAgS j)) 0 ∅ 0

/-! ## The last stage -/

theorem rsBack_split : (bigSep Finset.univ (rsBack (F := F) c)) ⊢ iprop((bigSep Finset.univ fun i : Fin 16 => if tgt c i = c then atPos ER (ownC c (iRsS i)) 0 ∅ 0 else atPos ER (ownC c (iRsS i)) 1 ∅ 0)
    ∗ bigSep Finset.univ (slotAny (F := F) a13 c)) := by
  rw [← bigSep_sep', show rsBack (F := F) c = _ from funext (rsBack_eq c)]

theorem any_slots (b : Memref sig .tc .vmem S16x64x1024 .bf16) : iprop(bigSep Finset.univ (slotAny (F := F) b c) ∗ slotRest b c) ⊢ anyB c b := by
  unfold anyB
  unfold slotRest
  iintro ⟨H, %f, H1⟩
  iapply (slots_join b c f)
  isplitl [H]; · iexact H
  unfold slotRest; iexists f; iexact H1

theorem finish (Q : PUnit → sProp 𝕄) :
    iprop(owesX c 0 ∗ (bigSep Finset.univ (rsBack (F := F) c)) ∗ (bigSep Finset.univ (agGot (F := F) c)) ∗ (bigSep Finset.univ fun j : Fin 15 => atPos ER (ownC c (iAgS j)) 1 ∅ 0)
      ∗ (a14.view.loc (c : Thread nD τ) ↦{fullShare} (redV I c : Buf (Elt F) (a14.view.loc (c : Thread nD τ)))) ∗ outSt I c 16
      ∗ (records I K ∗ (bigSep Finset.univ fun s => iprop(rsEnd (F := F) c s ∗ slotAny a15 c s)) ∗ done2 I c iprop(bodyPost I c -∗ Q ⟨⟩))) ⊢ W1 c (.ret ⟨⟩) Q := by
  unfold done2 done1
  iintro ⟨HO, Hb, Hg, HA, H14, Hout, #HR, He, H9, H10, H11, H12, Hst, H6, H7, H8, Hwq, Hwo, HL, HB, R13, R15, R16, HS16, HK⟩
  ihave Hb := (rsBack_split c) $$ Hb
  icases Hb with ⟨Hb, S13⟩
  ihave Hg := (agGot_end c) $$ [Hg HS16]
  · isplitl [Hg] <;> iassumption
  icases Hg with ⟨Hg, S16⟩
  ihave He := (Entails.of_eq (bigSep_sep' Finset.univ (rsEnd (F := F) c) (slotAny a15 c))) $$ He
  icases He with ⟨He, S15⟩
  imod (close_all I K c) $$ [HL Hb He HA Hg] with HZ
  · isplitr; · iexact HR
    isplitl [HL]; · iexact HL
    isplitl [Hb]; · iexact Hb
    isplitl [He]; · iexact He
    isplitl [HA] <;> iassumption
  imod (close_bar I K c) $$ [HB] with HZB
  · isplitr; · iexact HR
    iexact HB
  rw [wp_ret]; imodintro
  iapply HK
  unfold bodyPost scr
  isplitl [HO]; · iexact HO
  isplitl [Hst]; · iexact Hst
  isplitl [Hout]; · iexact Hout
  isplitl [H6 H7 H8 H9 H10 H11 H12 S13 R13 H14 S15 R15 S16 R16]
  · isplitl [H6]; · iexact H6
    isplitl [H7]; · iexact H7
    isplitl [H8]; · iexact H8
    isplitl [H9]; · iexact H9
    isplitl [H10]; · iexact H10
    isplitl [H11]; · iexact H11
    isplitl [H12]; · iexact H12
    isplitl [S13 R13]; · iapply (any_slots c a13); isplitl [S13] <;> iassumption
    isplitl [H14]; · iapply (anyB_intro c a14 _); iexact H14
    isplitl [S15 R15]; · iapply (any_slots c a15); isplitl [S15] <;> iassumption
    iapply (any_slots c a16); isplitl [S16] <;> iassumption
  isplitl [Hwq]; · iexact Hwq
  isplitl [Hwo]; · iexact Hwo
  isplitl [HZ] <;> iassumption

/-! ## The stages, last to first -/

theorem stage4 (g5 : Buf (Elt F) (a5.view.loc (c : Thread nD τ))) (v2 : BitVec 32) (hv : IsOwn c v2) (v1543 : Vec F S64x1024 .bf16) (h : v1543 = redV I c) (Q : PUnit → sProp 𝕄) :
    iprop(records I K ∗ levAts LL lv ∗ owesX c (rsO c 0) ∗ sent I c 15 ∗ (bigSep Finset.univ fun s => iprop(rsEnd (F := F) c s ∗ slotAny a15 c s))
      ∗ (a14.view.loc (c : Thread nD τ) ↦{fullShare} (redV I c : Buf (Elt F) (a14.view.loc (c : Thread nD τ)))) ∗ (a5.view.loc (c : Thread nD τ) ↦{fullShare} g5)
      ∗ ((sent I c 0 ∗ sent I c 1 ∗ sent I c 2 ∗ sent I c 3 ∗ sent I c 4 ∗ sent I c 5 ∗ sent I c 6 ∗ sent I c 7 ∗ sent I c 8 ∗ sent I c 9 ∗ sent I c 10 ∗ sent I c 11 ∗ sent I c 12 ∗ sent I c 13 ∗ sent I c 14) ∗ posRsS c ∗ bigSep Finset.univ (agTok (F := F) c) ∗ bigSep Finset.univ (agIn (F := F) c) ∗ posAgS c ∗ done2 I c iprop(bodyPost I c -∗ Q ⟨⟩)))
      ⊢ W1 c (prog4 c v2 v1543) Q := by
  unfold prog4
  refine BIBase.Entails.trans ?_ (spread_run I K c g5 v2 hv v1543 h Q (iprop(records I K ∗ (bigSep Finset.univ fun s => iprop(rsEnd (F := F) c s ∗ slotAny a15 c s)) ∗ done2 I c iprop(bodyPost I c -∗ Q ⟨⟩))) (finish I K c Q))
  unfold posRsS posAgS
  rw [bigSep16 (sent I c)]
  iintro ⟨#HR, HL, HO, HS15, He, H14, H5, ⟨X0, X1, X2, X3, X4, X5, X6, X7, X8, X9, X10, X11, X12, X13, X14⟩, HP, HT, HI, HA, HD⟩
  isplitr; · iexact HR
  isplitl [HL]; · iexact HL
  isplitl [HO]; · iexact HO
  isplitl [X0 X1 X2 X3 X4 X5 X6 X7 X8 X9 X10 X11 X12 X13 X14 HS15]
  · isplitl [X0]; · iexact X0
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X8]; · iexact X8
    isplitl [X9]; · iexact X9
    isplitl [X10]; · iexact X10
    isplitl [X11]; · iexact X11
    isplitl [X12]; · iexact X12
    isplitl [X13]; · iexact X13
    isplitl [X14]; · iexact X14
    iexact HS15
  isplitl [HP]; · iexact HP
  isplitl [HT]; · iexact HT
  isplitl [HI]; · iexact HI
  isplitl [HA]; · iexact HA
  isplitl [H14]; · iexact H14
  isplitl [H5]; · iexact H5
  isplitr; · iexact HR
  isplitl [He]; · iexact He
  iexact HD

theorem stage3 (g5 : Buf (Elt F) (a5.view.loc (c : Thread nD τ))) (g14 : Buf (Elt F) (a14.view.loc (c : Thread nD τ))) (v2 : BitVec 32) (hv : IsOwn c v2) (v1419 : BitVec 32) (Q : PUnit → sProp 𝕄) :
    iprop(records I K ∗ levAts LL lv ∗ owesX c (rsO c 1) ∗ ownSt I c 15 ∗ slotIs a13 c 15 (chunkV I c (tgt c 15)) ∗ sendTok c 15 ∗ bigSep Finset.univ (rsIn (F := F) c)
      ∗ (a14.view.loc (c : Thread nD τ) ↦{fullShare} g14) ∗ (a5.view.loc (c : Thread nD τ) ↦{fullShare} g5)
      ∗ ((sent I c 0 ∗ sent I c 1 ∗ sent I c 2 ∗ sent I c 3 ∗ sent I c 4 ∗ sent I c 5 ∗ sent I c 6 ∗ sent I c 7 ∗ sent I c 8 ∗ sent I c 9 ∗ sent I c 10 ∗ sent I c 11 ∗ sent I c 12 ∗ sent I c 13 ∗ sent I c 14) ∗ posRsS c ∗ bigSep Finset.univ (agTok (F := F) c) ∗ bigSep Finset.univ (agIn (F := F) c) ∗ posAgS c ∗ done2 I c iprop(bodyPost I c -∗ Q ⟨⟩)))
      ⊢ W1 c (prog3 c v2 v1419) Q := by
  unfold prog3
  exact reduce_run I K c g5 g14 v2 v1419 hv (fun v => prog4 c v2 v) Q _ fun v h => stage4 I K c g5 v2 hv v h Q

theorem stage2 (g5 : Buf (Elt F) (a5.view.loc (c : Thread nD τ))) (g12 : Buf (Elt F) (a12.view.loc (c : Thread nD τ))) (g14 : Buf (Elt F) (a14.view.loc (c : Thread nD τ)))
    (v2 : BitVec 32) (hv : IsOwn c v2) (v409 : BitVec 32) (Q : PUnit → sProp 𝕄) :
    iprop(records I K ∗ owesX c (rsO c 16) ∗ slotAny a15 c c ∗ (a11.view.loc (c : Thread nD τ) ↦{fullShare} (qV I c : Buf (Elt F) (a11.view.loc (c : Thread nD τ))))
      ∗ (a9.view.loc (c : Thread nD τ) ↦{fullShare} (kgV (I.k c) : Buf (Elt F) (a9.view.loc (c : Thread nD τ))))
      ∗ (a10.view.loc (c : Thread nD τ) ↦{fullShare} (kgV (I.v c) : Buf (Elt F) (a10.view.loc (c : Thread nD τ))))
      ∗ (a12.view.loc (c : Thread nD τ) ↦{fullShare} g12) ∗ bigSep Finset.univ (slotAny (F := F) a13 c) ∗ bigSep Finset.univ (sendTok (F := F) c)
      ∗ levAts LL lv ∗ bigSep Finset.univ (rsIn (F := F) c) ∗ (a14.view.loc (c : Thread nD τ) ↦{fullShare} g14) ∗ (a5.view.loc (c : Thread nD τ) ↦{fullShare} g5)
      ∗ posRsS c ∗ bigSep Finset.univ (agTok (F := F) c) ∗ bigSep Finset.univ (agIn (F := F) c) ∗ posAgS c ∗ done1 I c iprop(bodyPost I c -∗ Q ⟨⟩))
      ⊢ W1 c (prog2 c v2 (k0_pay59 (woV c (I.wo c))) v409) Q := by
  unfold prog2
  refine BIBase.Entails.trans ?_ (attn_run I K c g12 v2 v409 (fun v1419 => prog3 c v2 v1419) Q
    (iprop(levAts LL lv ∗ bigSep Finset.univ (rsIn (F := F) c) ∗ (a14.view.loc (c : Thread nD τ) ↦{fullShare} g14) ∗ (a5.view.loc (c : Thread nD τ) ↦{fullShare} g5)
      ∗ posRsS c ∗ bigSep Finset.univ (agTok (F := F) c) ∗ bigSep Finset.univ (agIn (F := F) c) ∗ posAgS c ∗ done1 I c iprop(bodyPost I c -∗ Q ⟨⟩)))
    fun v1419 g => BIBase.Entails.trans ?_ (stage3 I K c g5 g14 v2 hv v1419 Q))
  · rw [bigSep16 (slotAny (F := F) a13 c), bigSep16 (sendTok (F := F) c)]
    unfold ownSt
    rw [if_neg (Nat.not_lt_zero _)]
    iintro ⟨#HR, HO, Hown, H11, H9, H10, H12, ⟨M0, M1, M2, M3, M4, M5, M6, M7, M8, M9, M10, M11, M12, M13, M14, M15⟩, ⟨T0, T1, T2, T3, T4, T5, T6, T7, T8, T9, T10, T11, T12, T13, T14, T15⟩, HF⟩
    isplitr; · iexact HR
    isplitl [HO]; · iexact HO
    isplitl [Hown]; · iexact Hown
    isplitl [H11]; · iexact H11
    isplitl [H9]; · iexact H9
    isplitl [H10]; · iexact H10
    isplitl [H12]; · iexact H12
    isplitl [M0]; · iexact M0
    isplitl [T0]; · iexact T0
    isplitl [M1]; · iexact M1
    isplitl [T1]; · iexact T1
    isplitl [M2]; · iexact M2
    isplitl [T2]; · iexact T2
    isplitl [M3]; · iexact M3
    isplitl [T3]; · iexact T3
    isplitl [M4]; · iexact M4
    isplitl [T4]; · iexact T4
    isplitl [M5]; · iexact M5
    isplitl [T5]; · iexact T5
    isplitl [M6]; · iexact M6
    isplitl [T6]; · iexact T6
    isplitl [M7]; · iexact M7
    isplitl [T7]; · iexact T7
    isplitl [M8]; · iexact M8
    isplitl [T8]; · iexact T8
    isplitl [M9]; · iexact M9
    isplitl [T9]; · iexact T9
    isplitl [M10]; · iexact M10
    isplitl [T10]; · iexact T10
    isplitl [M11]; · iexact M11
    isplitl [T11]; · iexact T11
    isplitl [M12]; · iexact M12
    isplitl [T12]; · iexact T12
    isplitl [M13]; · iexact M13
    isplitl [T13]; · iexact T13
    isplitl [M14]; · iexact M14
    isplitl [T14]; · iexact T14
    isplitl [M15]; · iexact M15
    isplitl [T15]; · iexact T15
    iexact HF
  · unfold done2
    iintro ⟨#HR, HO, Hown, H11, H9, H10, H12, X0, X1, X2, X3, X4, X5, X6, X7, X8, X9, X10, X11, X12, X13, X14, HSL, HT15, HL, HI, H14, H5, HP, HT, HAI, HPA, HD⟩
    isplitr; · iexact HR
    isplitl [HL]; · iexact HL
    isplitl [HO]; · iexact HO
    isplitl [Hown]; · iexact Hown
    isplitl [HSL]; · iexact HSL
    isplitl [HT15]; · iexact HT15
    isplitl [HI]; · iexact HI
    isplitl [H14]; · iexact H14
    isplitl [H5]; · iexact H5
    isplitl [X0 X1 X2 X3 X4 X5 X6 X7 X8 X9 X10 X11 X12 X13 X14]
    · isplitl [X0]; · iexact X0
      isplitl [X1]; · iexact X1
      isplitl [X2]; · iexact X2
      isplitl [X3]; · iexact X3
      isplitl [X4]; · iexact X4
      isplitl [X5]; · iexact X5
      isplitl [X6]; · iexact X6
      isplitl [X7]; · iexact X7
      isplitl [X8]; · iexact X8
      isplitl [X9]; · iexact X9
      isplitl [X10]; · iexact X10
      isplitl [X11]; · iexact X11
      isplitl [X12]; · iexact X12
      isplitl [X13]; · iexact X13
      iexact X14
    isplitl [HP]; · iexact HP
    isplitl [HT]; · iexact HT
    isplitl [HAI]; · iexact HAI
    isplitl [HPA]; · iexact HPA
    isplitl [H9]; · iapply (anyB_intro c a9 _); iexact H9
    isplitl [H10]; · iapply (anyB_intro c a10 _); iexact H10
    isplitl [H11]; · iapply (anyB_intro c a11 _); iexact H11
    isplitl [H12]; · iapply (anyB_intro c a12 g); iexact H12
    iexact HD

end Cert.Attn

end
-- ==== Proof.Start.lean ====
/-
  The whole run of one device, from what the launch deals it to what it gives back.
-/
module

public import proofs.«01_k».proof.Proof.Body

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]

local notation "𝕄" => MT nD τ sig Unit (Elt F) ℕ UU ℕ
attribute [local irreducible] k0_cond1 k0_cond2 k0_cond3 k0_cond4 k0_cond5 k0_cond6 k0_cond7 k0_cond8 k0_cond9 k0_cond10 k0_cond11 k0_cond12 k0_cond13 k0_cond14 k0_cond15 k0_cond16 k0_cond17 k0_cond18 k0_cond19 k0_cond20 k0_cond21 k0_cond22 k0_cond23 k0_cond24 k0_cond25 k0_cond26 k0_cond27 k0_cond28 k0_cond29 k0_cond30 k0_cond31 k0_cond32 k0_cond65 k0_cond66 k0_cond67 k0_cond68 k0_cond69 k0_cond70 k0_cond71 k0_cond72 k0_cond73 k0_cond74 k0_cond75 k0_cond76 k0_cond77 k0_cond78 k0_cond79 k0_cond80 k0_dev1 k0_dev2 k0_dev3 k0_dev4 k0_dev5 k0_dev6 k0_dev7 k0_dev8 k0_dev9 k0_dev10 k0_dev11 k0_dev12 k0_dev13 k0_dev14 k0_dev15 k0_dev16 k0_dev17 k0_dev18 k0_dev19 k0_dev20 k0_dev21 k0_dev22 k0_dev23 k0_dev24 k0_dev25 k0_dev26 k0_dev27 k0_dev28 k0_dev29 k0_dev30 k0_dev31 k0_dev32 k0_dev33 k0_dev34 k0_dev35 k0_dev36 k0_dev37 k0_dev38 k0_dev39 k0_dev40 k0_dev41 k0_dev42 k0_dev43 k0_dev44 k0_dev45 k0_dev46 k0_off1 k0_off2 k0_off3 k0_off4 k0_off5 k0_off6 k0_off7 k0_off8 k0_off9 k0_off10 k0_off11 k0_off12 k0_off13 k0_off14 k0_off15 k0_off16 k0_off17 k0_off18 k0_off19 k0_off20 k0_off21 k0_off22 k0_off23 k0_off24 k0_off25 k0_off26 k0_off27 k0_off28 k0_off29 k0_off30 k0_off31 k0_off32 k0_off33 k0_off34 k0_off35 k0_off36 k0_off37 k0_off38 k0_off39 k0_off40 k0_off41 k0_off42 k0_off43 k0_off44 k0_off45 k0_off46 k0_off47 k0_off48 k0_off49 k0_off50 k0_off51 k0_off52 k0_off53 k0_off54 k0_off55 k0_off56 k0_off57 k0_off58 k0_off59 k0_off60 k0_off61 k0_off62 k0_off63 k0_off64 k0_off65 k0_off66 k0_off67 k0_off68 k0_off69 k0_off70 k0_off71 k0_off72 k0_off73 k0_off74 k0_off75 k0_off76 k0_off77 k0_off78 k0_off79 k0_off80 k0_off81 k0_off82 k0_off83 k0_off84 k0_off85 k0_off86
variable (I : In F) (K : Dev nD × Option (Fin 65) → ℕ) (c : Dev nD)

/-- The first part's device is the one the program runs on. -/
theorem part1_dev {α : Type} (k : (Σ' (d0 : Dev nD) (v2 : BitVec 32) (v11 : Sems sig S_), BitVec 32) → Prog (TpuEff nD τ sig (Elt F) Λ₀ .tc) α) (Q : α → sProp 𝕄) :
    W1 c (k0_part1 a0 h0 a1 h1 a2 h2 a3 h3 a4 h4 a5 h5 a6 h6 a7 h7 a8 h8 a9 h9 a10 h10 a11 h11 a12 h12 a13 h13 a14 h14 a15 h15 a16 h16 s0 s1 s2 s3 s4 >>= fun y => k ⟨c, y.2⟩) Q ⊢ W1 c (k0_part1 a0 h0 a1 h1 a2 h2 a3 h3 a4 h4 a5 h5 a6 h6 a7 h7 a8 h8 a9 h9 a10 h10 a11 h11 a12 h12 a13 h13 a14 h14 a15 h15 a16 h16 s0 s1 s2 s3 s4 >>= k) Q := by
  unfold k0_part1
  simp only [semSignalWord, Prog.lift, Prog.bind_op, Prog.bind_ret, Prog.pure_eq_ret, wp_deviceId]
  exact Entails.refl

theorem stage1 (g5 : Buf (Elt F) (a5.view.loc (c : Thread nD τ))) (g8 : Buf (Elt F) (a8.view.loc (c : Thread nD τ))) (g9 : Buf (Elt F) (a9.view.loc (c : Thread nD τ))) (g10 : Buf (Elt F) (a10.view.loc (c : Thread nD τ))) (g11 : Buf (Elt F) (a11.view.loc (c : Thread nD τ))) (g12 : Buf (Elt F) (a12.view.loc (c : Thread nD τ))) (g14 : Buf (Elt F) (a14.view.loc (c : Thread nD τ))) (Q : PUnit → sProp 𝕄) :
    iprop(records I K ∗ levAts LL lv ∗ owesX c (barO c 15) ∗ (bigSep Finset.univ fun j : Fin 15 => barTok c j.succ) ∗ (a0.view.loc (c : Thread nD τ) ↦{fullShare} (I.x c : Buf (Elt F) (a0.view.loc (c : Thread nD τ)))) ∗ (a2.view.loc (c : Thread nD τ) ↦{fullShare} (I.k c : Buf (Elt F) (a2.view.loc (c : Thread nD τ)))) ∗ (a3.view.loc (c : Thread nD τ) ↦{fullShare} (I.v c : Buf (Elt F) (a3.view.loc (c : Thread nD τ))))
      ∗ (a8.view.loc (c : Thread nD τ) ↦{fullShare} (g8 : Buf (Elt F) (a8.view.loc (c : Thread nD τ)))) ∗ (a9.view.loc (c : Thread nD τ) ↦{fullShare} (g9 : Buf (Elt F) (a9.view.loc (c : Thread nD τ)))) ∗ (a10.view.loc (c : Thread nD τ) ↦{fullShare} (g10 : Buf (Elt F) (a10.view.loc (c : Thread nD τ)))) ∗ (a11.view.loc (c : Thread nD τ) ↦{fullShare} (g11 : Buf (Elt F) (a11.view.loc (c : Thread nD τ)))) ∗ (∃ f : Buf (Elt F) (a6.view.loc (c : Thread nD τ)), a6.view.loc (c : Thread nD τ) ↦{fullShare} f)
      ∗ (∃ f : Buf (Elt F) (a7.view.loc (c : Thread nD τ)), a7.view.loc (c : Thread nD τ) ↦{fullShare} f)
      ∗ wqPart I c ∗ woPart I c ∗ dutyTok ER (ownC c (iLoc 0)) 0 c ∗ dutyTok ER (ownC c (iLoc 1)) 0 c
      ∗ (bigSep Finset.univ fun i : Fin 2 => atPos ER (ownC c (iLoc i)) 0 ∅ 0) ∗ cred (tallyAt (barCell c) () 15) ∗ atPos ER (barCell c) 0 ∅ 0
      ∗ iprop((a5.view.loc (c : Thread nD τ) ↦{fullShare} (g5 : Buf (Elt F) (a5.view.loc (c : Thread nD τ)))) ∗ (a12.view.loc (c : Thread nD τ) ↦{fullShare} (g12 : Buf (Elt F) (a12.view.loc (c : Thread nD τ)))) ∗ (a14.view.loc (c : Thread nD τ) ↦{fullShare} (g14 : Buf (Elt F) (a14.view.loc (c : Thread nD τ)))) ∗ bigSep Finset.univ (slotAny (F := F) a13 c) ∗ slotRest a13 c ∗ slotRest a15 c ∗ slotRest a16 c ∗ slotAny a15 c c ∗ slotAny a16 c c
      ∗ wqRest I c ∗ woRest I c ∗ tokRs c ∗ tokAg c ∗ posRsS c ∗ posAgS c ∗ bigSep Finset.univ (rsIn (F := F) c) ∗ bigSep Finset.univ (agIn (F := F) c) ∗ (bodyPost I c -∗ Q ⟨⟩)))
      ⊢ W1 c (cc0_body a0 h0 a1 h1 a2 h2 a3 h3 a4 h4 a5 h5 a6 h6 a7 h7 a8 h8 a9 h9 a10 h10 a11 h11 a12 h12 a13 h13 a14 h14 a15 h15 a16 h16 s0 s1 s2 s3 s4) Q := by
  rw [body_stages]
  refine BIBase.Entails.trans ?_ (part1_dev c _ Q)
  refine BIBase.Entails.trans (gather_run I K c g8 g9 g10 g11 (fun v2 v407 v409 => prog2 c v2 v407 v409) Q
    iprop((a5.view.loc (c : Thread nD τ) ↦{fullShare} (g5 : Buf (Elt F) (a5.view.loc (c : Thread nD τ)))) ∗ (a12.view.loc (c : Thread nD τ) ↦{fullShare} (g12 : Buf (Elt F) (a12.view.loc (c : Thread nD τ)))) ∗ (a14.view.loc (c : Thread nD τ) ↦{fullShare} (g14 : Buf (Elt F) (a14.view.loc (c : Thread nD τ)))) ∗ bigSep Finset.univ (slotAny (F := F) a13 c) ∗ slotRest a13 c ∗ slotRest a15 c ∗ slotRest a16 c ∗ slotAny a15 c c ∗ slotAny a16 c c
      ∗ wqRest I c ∗ woRest I c ∗ tokRs c ∗ tokAg c ∗ posRsS c ∗ posAgS c ∗ bigSep Finset.univ (rsIn (F := F) c) ∗ bigSep Finset.univ (agIn (F := F) c) ∗ (bodyPost I c -∗ Q ⟨⟩))
    (fun v2 v407 v409 h2 h407 => ?_)) (Entails.of_eq (congrArg (fun p => W1 c p Q) (congrArg (bind _) (funext ?_))))
  rotate_left
  · rintro ⟨y0, y1, y2, y3⟩; rfl
  subst h2 h407
  refine BIBase.Entails.trans ?_ (stage2 I K c g5 g12 g14 _ (isOwn c) v409 Q)
  unfold done1
  rw [payC_loc0 I c, payC_loc1 I c]
  iintro ⟨#HR, HL, HO, Hx, Hk, Hv, H8, H9, H10, H11, ⟨H6, Hwq⟩, ⟨H7, Hwo⟩, HPL, HPB, HE, H5, H12, H14, S13, R13, R15, R16, Hown, HS16, Rwq, Rwo, HTR, HTA, HPS, HPA, HRI, HAI, HK⟩
  ihave HT := (send_toks c) $$ [HTR HTA HE]
  · isplitl [HTR]; · iexact HTR
    isplitl [HTA] <;> iassumption
  icases HT with ⟨HTR, HTA⟩
  isplitr; · iexact HR
  isplitl [HO]; · iexact HO
  isplitl [Hown]; · iexact Hown
  isplitl [H11]; · iexact H11
  isplitl [H9]; · iexact H9
  isplitl [H10]; · iexact H10
  isplitl [H12]; · iexact H12
  isplitl [S13]; · iexact S13
  isplitl [HTR]; · iexact HTR
  isplitl [HL]; · iexact HL
  isplitl [HRI]; · iexact HRI
  isplitl [H14]; · iexact H14
  isplitl [H5]; · iexact H5
  isplitl [HPS]; · iexact HPS
  isplitl [HTA]; · iexact HTA
  isplitl [HAI]; · iexact HAI
  isplitl [HPA]; · iexact HPA
  isplitl [Hx Hk Hv]
  · unfold stat
    isplitl [Hx]; · iexact Hx
    isplitl [Hk]; · iexact Hk
    iexact Hv
  isplitl [H6]; · iapply (anyB_intro c a6 _); iexact H6
  isplitl [H7]; · iapply (anyB_intro c a7 _); iexact H7
  isplitl [H8]; · iapply (anyB_intro c a8 _); iexact H8
  isplitl [Hwq Rwq]
  · iapply (wq_join I c); unfold wqPart; isplitl [Hwq] <;> iassumption
  isplitl [Hwo Rwo]
  · iapply (wo_join I c); unfold woPart; isplitl [Hwo] <;> iassumption
  isplitl [HPL]; · iexact HPL
  isplitl [HPB]; · iexact HPB
  isplitl [R13]; · iexact R13
  isplitl [R15]; · iexact R15
  isplitl [R16]; · iexact R16
  isplitl [HS16]; · iexact HS16
  iexact HK

theorem sound_body (g5 : Buf (Elt F) (a5.view.loc (c : Thread nD τ))) (Q : PUnit → sProp 𝕄) :
    iprop(bodyPre I K c g5 ∗ (bodyPost I c -∗ Q ⟨⟩)) ⊢ W1 c (cc0_body a0 h0 a1 h1 a2 h2 a3 h3 a4 h4 a5 h5 a6 h6 a7 h7 a8 h8 a9 h9 a10 h10 a11 h11 a12 h12 a13 h13 a14 h14 a15 h15 a16 h16 s0 s1 s2 s3 s4) Q := by
  unfold bodyPre scr posOf anyB
  iintro ⟨⟨#HR, HL, HO, HT, ⟨HP, HPB⟩, HcB, Hc, Hst, H5, ⟨H6, H7, ⟨%g8, H8⟩, ⟨%g9, H9⟩, ⟨%g10, H10⟩, ⟨%g11, H11⟩, ⟨%g12, H12⟩, H13, ⟨%g14, H14⟩, H15, H16⟩, Hwq, Hwo⟩, HK⟩
  ihave HT := (toks_deal c) $$ HT
  icases HT with ⟨HTB, ⟨HT0, HT1⟩, HTR, HTA⟩
  ihave HP := (Entails.of_eq (split65 fun i : Fin 65 => (atPos ER (ownC c i) 0 ∅ 0 : sProp 𝕄))) $$ HP
  icases HP with ⟨HPL, HPS, HPR, HPA, HPG⟩
  ihave Hc := (cred_deal c) $$ [Hc HPR HPG]
  · isplitl [HPR]; · iexact HPR
    isplitl [HPG] <;> iassumption
  icases Hc with ⟨HRI, HAI⟩
  ihave H13 := (slots_split a13 c) $$ H13
  icases H13 with ⟨S13, R13⟩
  ihave H15 := (slots_split a15 c) $$ H15
  icases H15 with ⟨S15, R15⟩
  ihave H16 := (slots_split a16 c) $$ H16
  icases H16 with ⟨S16, R16⟩
  ihave HB := (bar_toks c) $$ [HTB S15 S16]
  · isplitl [HTB]; · iexact HTB
    isplitl [S15] <;> iassumption
  icases HB with ⟨HB, Hown, HS16⟩
  ihave Hwq := (wq_split I c) $$ Hwq
  icases Hwq with ⟨Hwq, Rwq⟩
  ihave Hwo := (wo_split I c) $$ Hwo
  icases Hwo with ⟨Hwo, Rwo⟩
  iapply (stage1 I K c g5 g8 g9 g10 g11 g12 g14 Q)
  unfold stat
  icases Hst with ⟨Hx, Hk, Hv⟩
  isplitr; · iexact HR
  isplitl [HL]; · iexact HL
  isplitl [HO]; · iexact HO
  isplitl [HB]; · iexact HB
  isplitl [Hx]; · iexact Hx
  isplitl [Hk]; · iexact Hk
  isplitl [Hv]; · iexact Hv
  isplitl [H8]; · iexact H8
  isplitl [H9]; · iexact H9
  isplitl [H10]; · iexact H10
  isplitl [H11]; · iexact H11
  isplitl [H6]; · iexact H6
  isplitl [H7]; · iexact H7
  isplitl [Hwq]; · iexact Hwq
  isplitl [Hwo]; · iexact Hwo
  isplitl [HT0]; · iexact HT0
  isplitl [HT1]; · iexact HT1
  isplitl [HPL]; · iexact HPL
  isplitl [HcB]; · iexact HcB
  isplitl [HPB]; · iexact HPB
  isplitl [H5]; · iexact H5
  isplitl [H12]; · iexact H12
  isplitl [H14]; · iexact H14
  isplitl [S13]; · iexact S13
  isplitl [R13]; · iexact R13
  isplitl [R15]; · iexact R15
  isplitl [R16]; · iexact R16
  isplitl [Hown]; · iexact Hown
  isplitl [HS16]; · iexact HS16
  isplitl [Rwq]; · iexact Rwq
  isplitl [Rwo]; · iexact Rwo
  isplitl [HTR]; · iexact HTR
  isplitl [HTA]; · iexact HTA
  isplitl [HPS]; · unfold posRsS; iexact HPS
  isplitl [HPA]; · unfold posAgS; iexact HPA
  isplitl [HRI]; · iexact HRI
  isplitl [HAI]; · iexact HAI
  iexact HK

end Cert.Attn

end
-- ==== Proof.Credits.lean ====
/-
  What the devices owe at launch, cell by cell, and so the credits each device starts with.
-/
module

public import proofs.«01_k».proof.Proof.Deal

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]

local notation "𝕄" => MT nD τ sig Unit (Elt F) ℕ UU ℕ

theorem bar_cell_iff {a b : Dev nD} : barCell a = barCell b ↔ a = b :=
  ⟨fun h => congrArg (fun g : GSem nD τ sig => g.1.1) h, fun h => h ▸ rfl⟩

theorem osem_inj : Function.Injective osem := by
  intro i j h
  have h' := congrArg decode h
  rw [SemLoc.dma.injEq, Fin.mk.injEq] at h
  exact Fin.ext (by omega)

theorem own_cell_iff {a b : Dev nD} {i j : Fin 65} : ownC a i = ownC b j ↔ a = b ∧ i = j :=
  ⟨fun h => ⟨congrArg (fun g : GSem nD τ sig => g.1.1) h, osem_inj (congrArg Prod.snd h)⟩, fun h => by rw [h.1, h.2]⟩

theorem bar_ne_own {a b : Dev nD} {i : Fin 65} : barCell a ≠ ownC b i := fun h => by cases congrArg Prod.snd h

theorem rsR_inj {a b : Fin 16} : iRsR a = iRsR b ↔ a = b := ⟨fun h => by have := congrArg Fin.val h; exact Fin.ext (by simp only at this; omega), fun h => h ▸ rfl⟩
theorem agR_inj {a b : Fin 16} : iAgR a = iAgR b ↔ a = b := ⟨fun h => by have := congrArg Fin.val h; exact Fin.ext (by simp only at this; omega), fun h => h ▸ rfl⟩
theorem rsR_ne_agR {a b : Fin 16} : iRsR a ≠ iAgR b := fun h => by have := congrArg Fin.val h; simp only at this; omega

/-- The step of a countdown from sixteen. -/
abbrev dn (k : ℕ) : Fin 16 := ⟨(15 - k) % 16, Nat.mod_lt _ (by decide)⟩

section Owed
variable (d c : Dev nD)

theorem rsO_bar (n : ℕ) : rsO d n (barCell c) () = 0 := by
  by_contra h
  obtain ⟨e, h | h⟩ := rsO_pos (Nat.pos_of_ne_zero h)
  · exact bar_ne_own h
  · exact bar_ne_own h

theorem agO_rsR (s : Fin 16) (n : ℕ) : agO d n (ownC c (iRsR s)) () = 0 := by
  by_contra h
  obtain ⟨e, h⟩ := agO_pos (Nat.pos_of_ne_zero h)
  exact rsR_ne_agR (own_cell_iff.1 h).2

theorem barO_bar (n : ℕ) : barO d n (barCell c) () = ∑ k ∈ Finset.range n, if c = peer d (dn k) then 1 else 0 := by
  induction n with
  | zero => exact rsO_bar d c 16
  | succ n ih =>
    rw [Finset.sum_range_succ, ← ih]
    show (barO d n + _) _ _ = _
    rw [Pi.add_apply, Finsupp.add_apply, tallyAt_apply]
    simp only [bar_cell_iff, and_true]

theorem barO_own (i : Fin 65) (n : ℕ) : barO d n (ownC c i) () = rsO d 16 (ownC c i) () := by
  induction n with
  | zero => rfl
  | succ n ih =>
    rw [← ih]
    show (barO d n + _) _ _ = _
    rw [Pi.add_apply, Finsupp.add_apply, tallyAt_apply, if_neg (fun h => bar_ne_own h.1.symm), Nat.add_zero]

theorem rsO_rsR (s : Fin 16) (n : ℕ) : rsO d n (ownC c (iRsR s)) ()
    = NB * ∑ k ∈ Finset.range n, if tgt d (dn k) ≠ d ∧ c = tgt d (dn k) ∧ s = d then 1 else 0 := by
  induction n with
  | zero => exact agO_rsR d c s 15
  | succ n ih =>
    rw [Finset.sum_range_succ, Nat.mul_add, ← ih]
    show (rsO d n + _) _ _ = _
    rw [Pi.add_apply, Finsupp.add_apply]
    congr 1
    by_cases h : tgt d (dn n) = d
    · rw [if_pos h, if_neg (fun h' => h'.1 h)]; rfl
    · rw [if_neg h, tallyAt_apply]
      simp only [own_cell_iff, rsR_inj, and_true]
      by_cases h' : c = tgt d (dn n) ∧ s = d
      · rw [if_pos h', if_pos ⟨h, h'⟩, Nat.mul_one]
      · rw [if_neg h', if_neg (fun x => h' x.2), Nat.mul_zero]

theorem rsO_agR (s : Fin 16) (n : ℕ) : rsO d n (ownC c (iAgR s)) () = agO d 15 (ownC c (iAgR s)) () := by
  induction n with
  | zero => rfl
  | succ n ih =>
    rw [← ih]
    show (rsO d n + _) _ _ = _
    rw [Pi.add_apply, Finsupp.add_apply]
    by_cases h : tgt d (dn n) = d
    · rw [if_pos h]; rfl
    · rw [if_neg h, tallyAt_apply, if_neg (fun h => rsR_ne_agR (own_cell_iff.1 h.1).2.symm), Nat.add_zero]

theorem agO_agR (s : Fin 16) (n : ℕ) : agO d n (ownC c (iAgR s)) ()
    = NB * ∑ k ∈ Finset.range n, if c = peer d (dn k) ∧ s = d then 1 else 0 := by
  induction n with
  | zero => rfl
  | succ n ih =>
    rw [Finset.sum_range_succ, Nat.mul_add, ← ih]
    show (agO d n + _) _ _ = _
    rw [Pi.add_apply, Finsupp.add_apply, tallyAt_apply]
    congr 1
    simp only [own_cell_iff, agR_inj, and_true]
    by_cases h' : c = peer d (dn n) ∧ s = d
    · rw [if_pos h', if_pos h', Nat.mul_one]
    · rw [if_neg h', if_neg h', Nat.mul_zero]

theorem count_peer : ∀ d c : Fin 16, (∑ k ∈ Finset.range 15, if c = peer d (dn k) then 1 else 0) = if d = c then 0 else 1 := by
  decide +kernel
theorem count_tgt : ∀ d c : Fin 16, (∑ k ∈ Finset.range 16, if tgt d (dn k) ≠ d ∧ c = tgt d (dn k) then 1 else 0) = if d = c then 0 else 1 := by
  decide +kernel

theorem owed_bar : barO d 15 (barCell c) () = if d = c then 0 else 1 := by rw [barO_bar]; exact count_peer d c

theorem owed_rsR (s : Fin 16) : barO d 15 (ownC c (iRsR s)) () = if d = s then (if s = c then 0 else NB) else 0 := by
  rw [barO_own, rsO_rsR]
  by_cases h : d = s
  · subst h
    simp only [and_true, if_true]
    rw [count_tgt d c]; split <;> simp
  · rw [if_neg h, Finset.sum_eq_zero fun k _ => if_neg fun h' => h h'.2.2.symm]; rfl

theorem owed_agR (s : Fin 16) : barO d 15 (ownC c (iAgR s)) () = if d = s then (if s = c then 0 else NB) else 0 := by
  rw [barO_own, rsO_agR, agO_agR]
  by_cases h : d = s
  · subst h
    simp only [and_true, if_true]
    rw [count_peer d c]; split <;> simp
  · rw [if_neg h, Finset.sum_eq_zero fun k _ => if_neg fun h' => h h'.2.symm]; rfl

end Owed

/-- What the devices owe at launch. -/
def O₀ (d : Dev nD) : Tallies := barO d 15

theorem launch_cell (g : GSem nD τ sig) (n : ℕ) (h : ∑ d : Dev nD, O₀ d g () = n) :
    tallyOn g (launchCredit (Pipeline.owing O₀) 0 g) = (tallyAt g () n : Tallies) := by
  unfold tallyAt; refine congrArg _ (Finsupp.ext fun u => ?_); cases u
  rw [Pipeline.launchCredit_owing, Finsupp.single_eq_same, h]

theorem launch_bar (c : Dev nD) :
    tallyOn (barCell c) (launchCredit (Pipeline.owing O₀) 0 (barCell c)) = (tallyAt (barCell c) () 15 : Tallies) :=
  launch_cell _ _ (by
    unfold O₀
    rw [Finset.sum_congr rfl fun d _ => owed_bar d c]
    exact (show ∀ c : Fin 16, (∑ d : Fin 16, if d = c then 0 else 1) = 15 by decide) c)

theorem launch_rsR (c : Dev nD) (s : Fin 16) (h : s ≠ c) :
    tallyOn (ownC c (iRsR s)) (launchCredit (Pipeline.owing O₀) 0 (ownC c (iRsR s))) = (tallyAt (ownC c (iRsR s)) () NB : Tallies) :=
  launch_cell _ _ (by
    unfold O₀
    rw [Finset.sum_congr rfl fun d _ => owed_rsR d c s, if_neg h, Finset.sum_ite_eq' Finset.univ s fun _ => NB, if_pos (Finset.mem_univ _)])

theorem launch_agR (c : Dev nD) (s : Fin 16) (h : s ≠ c) :
    tallyOn (ownC c (iAgR s)) (launchCredit (Pipeline.owing O₀) 0 (ownC c (iAgR s))) = (tallyAt (ownC c (iAgR s)) () NB : Tallies) :=
  launch_cell _ _ (by
    unfold O₀
    rw [Finset.sum_congr rfl fun d _ => owed_agR d c s, if_neg h, Finset.sum_ite_eq' Finset.univ s fun _ => NB, if_pos (Finset.mem_univ _)])

/-- The launch credit of one semaphore of device `c`. -/
def lc (c : Dev nD) (sm : SemLoc sig) : sProp 𝕄 := cred (tallyOn ((c : Thread nD τ), sm) (launchCredit (Pipeline.owing O₀) 0 ((c : Thread nD τ), sm)))

theorem lc_others (c : Dev nD) : bigSep (Finset.univ.erase (SemLoc.reg barS)) (lc (F := F) c) ⊢ bigSep Finset.univ fun i : Fin 65 => lc (F := F) c (osem i) := by
  have h : (Finset.univ.map ⟨osem, osem_inj⟩ : Finset (SemLoc sig)) ⊆ Finset.univ.erase (SemLoc.reg barS) := by
    intro x hx
    obtain ⟨i, -, rfl⟩ := Finset.mem_map.1 hx
    exact Finset.mem_erase.2 (And.intro (fun h => nomatch (h : SemLoc.dma _ = SemLoc.reg barS)) (Finset.mem_univ _))
  refine (bigSep_subset h).trans ?_
  rw [bigSep_map]; exact BI.Entails.refl _

theorem lc_rs (c : Dev nD) : (bigSep Finset.univ fun s : Fin 16 => lc (F := F) c (osem (iRsR s)))
    ⊢ bigSep (Finset.univ.erase c) fun s : Fin 16 => cred (tallyAt (ownC c (iRsR s)) () NB) :=
  (bigSep_subset (Finset.erase_subset c _)).trans (at_each _ _ _ fun s hs => by
    show lc (F := F) c (osem (iRsR s)) ⊢ _
    unfold lc; rw [launch_rsR c s (Finset.ne_of_mem_erase hs)])
theorem lc_ag (c : Dev nD) : (bigSep Finset.univ fun s : Fin 16 => lc (F := F) c (osem (iAgR s)))
    ⊢ bigSep (Finset.univ.erase c) fun s : Fin 16 => cred (tallyAt (ownC c (iAgR s)) () NB) :=
  (bigSep_subset (Finset.erase_subset c _)).trans (at_each _ _ _ fun s hs => by
    show lc (F := F) c (osem (iAgR s)) ⊢ _
    unfold lc; rw [launch_agR c s (Finset.ne_of_mem_erase hs)])

theorem creds (c : Dev nD) : (Pipeline.launchCred O₀ c : sProp 𝕄) ⊢ iprop(cred (tallyAt (barCell c) () 15) ∗ credOf c) := by
  have e : (Pipeline.launchCred O₀ c : sProp 𝕄) = bigSep Finset.univ (lc (F := F) c) := rfl
  rw [e, bigSep_univ_at _ (SemLoc.reg barS), show lc (F := F) c (SemLoc.reg barS) = cred (tallyAt (barCell c) () 15) by unfold lc; rw [launch_bar]]
  iintro ⟨H0, H1⟩
  isplitl [H0]; · iexact H0
  ihave H := (lc_others c) $$ H1
  ihave H := (Entails.of_eq (split65 fun i : Fin 65 => lc (F := F) c (osem i))) $$ H
  icases H with ⟨-, -, H2, -, H3⟩
  unfold credOf
  rw [bigSep_sep']
  isplitl [H2]
  · iapply (lc_rs c); iexact H2
  · iapply (lc_ag c); iexact H3

end Cert.Attn

end
-- ==== Proof.Launch.lean ====
/-
  The launch: every device's run together, from any memory with zero semaphores.
-/
module

public import proofs.«01_k».proof.Proof.Start
public import proofs.«01_k».proof.Proof.Credits
public import Idealize.ShloMosaic.Lib.Pipeline.CollectiveSegs

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
variable {F : FTy → Type} [FloatOps F]

local notation "𝕄" => MT nD τ sig Unit (Elt F) ℕ UU ℕ

variable (m : (ℓ : Loc nD τ sig) → Buf (Elt F) ℓ) (ρ : Dev nD → PrngReg)

/-- The state a run starts from. -/
def st₀ : MemSt nD τ sig (Elt F) := ⟨m, fun _ => 0, ρ⟩

/-- The arguments a run starts from. -/
def inp : In F where
  x c := (win0_0.blk (0 : Fin 1)).view.read (Elt F) (m ((c : Thread nD τ).loc main_arg0))
  wq c := m ((c : Thread nD τ).loc main_arg1)
  k c := (win0_1.blk (0 : Fin 1)).view.read (Elt F) (m ((c : Thread nD τ).loc main_arg2))
  v c := (win0_2.blk (0 : Fin 1)).view.read (Elt F) (m ((c : Thread nD τ).loc main_arg3))
  wo c := m ((c : Thread nD τ).loc main_arg4)

/-- What a device starts its run with beside its buffers. -/
def start (c : Dev nD) : sProp 𝕄 :=
  iprop((∃ K, records (inp m) K) ∗ toksOf c ∗ posOf c ∗ cred (tallyAt (barCell c) () 15) ∗ credOf c ∗ levAts LL lv ∗ wqAll (inp m) c ∗ woAll (inp m) c)

def Φ₀ (c : Dev nD) : sProp 𝕄 := iprop(start m c ∗ scr c)
/-- What it ends its run with beside its windows. -/
def Φ₁ (c : Dev nD) : sProp 𝕄 :=
  iprop(scr c ∗ wqAll (inp m) c ∗ woAll (inp m) c ∗ (bigSep Finset.univ fun i : Fin 65 => semVal (ownC c i) 0) ∗ semVal (barCell c) 0)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => (inp m).x c
    | ⟨1, _⟩ => (inp m).k c
    | ⟨2, _⟩ => (inp m).v c
    | ⟨3, _⟩ => outV (inp m)
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem fetch_in (w : Fin 4) (hw : w ≠ 3) (t : Fin cfg0.N) : (cfg0.win w).fetch t = true := by
  rw [show t = t0_0 from fin_N0 t]
  revert w; decide

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def obPre (c : Dev nD) : sProp 𝕄 :=
  iprop(Φ₀ m c ∗ (dats m ρ 0 c).owesAt () (t0_0 : Fin cfg0.N).castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def obPost (c : Dev nD) : sProp 𝕄 :=
  iprop(Φ₁ m c ∗ (dats m ρ 0 c).owesAt () (t0_0 : Fin cfg0.N).succ ∗ stg c cc0_stg0_0 ((inp m).x c) ∗ stg c cc0_stg1_0 ((inp m).k c)
    ∗ stg c cc0_stg2_0 ((inp m).v c) ∗ stg c cc0_stg3_0 (outV (inp m)))

/-- The output's buffer holds the result once every row is written. -/
theorem out_done (I : In F) (c : Dev nD) : outSt I c 16 ⊢ stg c cc0_stg3_0 (outV I) := by
  unfold outSt
  iintro ⟨%f, %hf, H⟩
  iexists f
  isplitr
  · ipureintro
    funext i
    exact hf i (.inr (by have : (i 1).val < 1024 := (i 1).isLt; omega))
  iexact H

/-- The staged arguments hold what the windows' blocks held. -/
theorem before_x (c : Dev nD) (d) : (dats m ρ 0 c).before (0 : Fin 4) t0_0 d = (inp m).x c := by
  unfold Dat.before; rw [if_pos (fetch_in 0 (by decide) t0_0)]; rfl
theorem before_k (c : Dev nD) (d) : (dats m ρ 0 c).before (1 : Fin 4) t0_0 d = (inp m).k c := by
  unfold Dat.before; rw [if_pos (fetch_in 1 (by decide) t0_0)]; rfl
theorem before_v (c : Dev nD) (d) : (dats m ρ 0 c).before (2 : Fin 4) t0_0 d = (inp m).v c := by
  unfold Dat.before; rw [if_pos (fetch_in 2 (by decide) t0_0)]; rfl

theorem ob_in (c : Dev nD) : obPre m ρ c ⊢ iprop(∃ K g5, bodyPre (inp m) K c g5) := by
  unfold obPre Φ₀ start
  unfold Dat.owesAt Pipeline.owesWithin
  simp only [before_x, before_k, before_v]
  iintro ⟨⟨⟨⟨%K, HR⟩, HT, HP, HcB, Hc, HL, Hwq, Hwo⟩, Hscr⟩, ⟨%W, %hW, HO⟩, ⟨%d0, %g0, %hg0, Hx⟩, ⟨%d1, %g1, %hg1, Hk⟩, ⟨%d2, %g2, %hg2, Hv⟩, ⟨%d3, %g3, %hg3, Ho⟩⟩
  subst hg0 hg1 hg2
  iexists K, g3
  unfold bodyPre stat owesX
  isplitl [HR]; · iexact HR
  isplitl [HL]; · iexact HL
  isplitl [HO]; · iexists W; iexact HO
  isplitl [HT]; · iexact HT
  isplitl [HP]; · iexact HP
  isplitl [HcB]; · iexact HcB
  isplitl [Hc]; · iexact Hc
  isplitl [Hx Hk Hv]
  · isplitl [Hx]; · iexact Hx
    isplitl [Hk]; · iexact Hk
    iexact Hv
  isplitl [Ho]; · iexact Ho
  isplitl [Hscr]; · iexact Hscr
  isplitl [Hwq] <;> iassumption

theorem ob_out (c : Dev nD) : bodyPost (inp m) c ⊢ obPost m ρ c := by
  unfold bodyPost obPost Φ₁ stat owesX
  unfold Dat.owesAt Pipeline.owesWithin
  iintro ⟨⟨%W, HO⟩, ⟨Hx, Hk, Hv⟩, Ho, Hscr, Hwq, Hwo, Hs, Hb⟩
  isplitl [Hscr Hwq Hwo Hs Hb]
  · isplitl [Hscr]; · iexact Hscr
    isplitl [Hwq]; · iexact Hwq
    isplitl [Hwo]; · iexact Hwo
    isplitl [Hs] <;> iassumption
  isplitl [HO]
  · iexists W; isplitr; · ipureintro; exact fun _ _ => Or.inl trivial
    iexact HO
  isplitl [Hx]
  · iexists _; isplitr; rotate_left; · iexact Hx
    ipureintro; rfl
  isplitl [Hk]
  · iexists _; isplitr; rotate_left; · iexact Hk
    ipureintro; rfl
  isplitl [Hv]
  · iexists _; isplitr; rotate_left; · iexact Hv
    ipureintro; rfl
  iapply (out_done (inp m) c); iexact Ho

attribute [local irreducible] k0_cond1 k0_cond2 k0_cond3 k0_cond4 k0_cond5 k0_cond6 k0_cond7 k0_cond8 k0_cond9 k0_cond10 k0_cond11 k0_cond12 k0_cond13 k0_cond14 k0_cond15 k0_cond16 k0_cond17 k0_cond18 k0_cond19 k0_cond20 k0_cond21 k0_cond22 k0_cond23 k0_cond24 k0_cond25 k0_cond26 k0_cond27 k0_cond28
set_option maxRecDepth 20000 in
theorem body_obligation (c : Dev nD) : BodyObligation (dats (F := F) m ρ 0 c) (defs₀ (F := F)) 𝒱₀ () Set.univ := fun t => by
  rw [show t = t0_0 from fin_N0 t]
  rw [bigSep_W, bigSep_W]
  simp only [owns_whole_eq]
  show obPre m ρ c ⊢ W1 c (cc0_body a0 h0 a1 h1 a2 h2 a3 h3 a4 h4 a5 h5 a6 h6 a7 h7 a8 h8 a9 h9 a10 h10 a11 h11 a12 h12 a13 h13 a14 h14 a15 h15 a16 h16 s0 s1 s2 s3 s4) (fun _ => obPost m ρ c)
  iintro H
  ihave H := (ob_in m ρ c) $$ H
  icases H with ⟨%K, %g5, H⟩
  iapply (sound_body (inp m) K c g5 fun _ => obPost m ρ c)
  isplitl [H]; · iexact H
  iintro H
  iapply (ob_out m ρ c); iexact H

/-! ## The launch -/

theorem ownSemFacts : Pipeline.OwnSemFacts cfg0.spec osem := by decide

theorem share_eq (c : Dev nD) (w : Fin cfg0.W) : (dats m ρ 0 c).share w = fullShare := by unfold Dat.share; split <;> rfl

theorem gc_inj : Function.Injective gc := by
  rintro ⟨c, _ | i⟩ ⟨d, _ | j⟩ h
  · rw [bar_cell_iff.1 h]
  · exact absurd h bar_ne_own
  · exact absurd h.symm bar_ne_own
  · obtain ⟨rfl, rfl⟩ := own_cell_iff.1 h; rfl
def allCells : Finset (GSem nD τ sig) := Finset.univ.map ⟨gc, gc_inj⟩

/-- A token, by its payer and its cell. -/
abbrev tokOf (x : Dev nD × (Dev nD × Option (Fin 65))) : GSem nD τ sig × ℕ × Dev nD := (gc x.2, 0, x.1)
theorem tokOf_inj : Function.Injective tokOf := by
  rintro ⟨d, x⟩ ⟨e, y⟩ h
  have h1 : d = e := congrArg (fun t : GSem nD τ sig × ℕ × Dev nD => t.2.2) h
  have h2 : x = y := gc_inj (congrArg (fun t : GSem nD τ sig × ℕ × Dev nD => t.1) h)
  rw [h1, h2]
def allToks : Finset (GSem nD τ sig × ℕ × Dev nD) := Finset.univ.map ⟨tokOf, tokOf_inj⟩

def u₀ : UU := (Rounds.initOf (Pipeline.cells cfgs cellOf_inj) (Pipeline.launchToks cfgs cellOf_inj), Rounds.initOf allCells allToks)

/-- The cells of one device: the counters' states, the positions and the marks of the rounds begun. -/
def G (c : Dev nD) : sProp 𝕄 :=
  iprop((bigSep Finset.univ fun o : Option (Fin 65) => roundState ER (Rd (inp m)) (gc (c, o)) 0)
    ∗ (bigSep Finset.univ fun o : Option (Fin 65) => atPos ER (gc (c, o)) 0 ∅ 0)
    ∗ (bigSep Finset.univ fun o : Option (Fin 65) => reached ER (gc (c, o)) 0) ∗ toksOf c)

/-- After the cells are allocated. -/
def G' (c : Dev nD) : sProp 𝕄 := iprop((∃ K, records (inp m) K) ∗ toksOf c ∗ posOf c)

theorem cells_deal (Φ : GSem nD τ sig → sProp 𝕄) : bigSep allCells Φ = bigSep Finset.univ fun c : Dev nD => bigSep Finset.univ fun o : Option (Fin 65) => Φ (gc (c, o)) := by
  unfold allCells; rw [bigSep_map, bigSep_univ_prod]; rfl
theorem toks_all : bigSep allToks (fun x => (dutyTok ER x.1 x.2.1 x.2.2 : sProp 𝕄)) = bigSep Finset.univ fun c : Dev nD => toksOf c := by
  unfold allToks; rw [bigSep_map, bigSep_univ_prod]; rfl

theorem fund_all : BI.own (ER (Rounds.initOf allCells allToks)) ⊢ (|==> bigSep Finset.univ (G m) : sProp 𝕄) := by
  iintro HX
  imod (Rounds.fund ER (Rd (inp m)) allCells allToks) $$ HX with ⟨Hst, Hr, Hat, Htok⟩
  imodintro
  ihave Hst := (Entails.of_eq (cells_deal fun g => roundState ER (Rd (inp m)) g 0)) $$ Hst
  ihave Hat := (Entails.of_eq (cells_deal fun g => atPos ER g 0 ∅ 0)) $$ Hat
  ihave Hr := (Entails.of_eq (cells_deal fun g => reached ER g 0)) $$ Hr
  ihave Htok := (Entails.of_eq toks_all) $$ Htok
  unfold G; simp only [bigSep_sep']
  isplitl [Hst]; · iexact Hst
  isplitl [Hat]; · iexact Hat
  isplitl [Hr] <;> iassumption

theorem unscopedSems0_eq (c : Dev nD) : (unscopedSems0 c : sProp 𝕄) = semVal (barCell c) 0 := by
  unfold unscopedSems0; rw [bigSep_eq_bigSepL_of_eq [SemLoc.reg barS] (by decide) (by decide)]; rfl

theorem own0_eq (c : Dev nD) : (Pipeline.ownSems0 (Ix := Unit) (Name := ℕ) (U := UU) (Lvl := ℕ) (Val := Elt F) (τ := τ) osem c : sProp 𝕄)
    = bigSep Finset.univ fun i : Fin 65 => semVal (ownC c i) 0 := rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun o : Option (Fin 65) => semVal (gc (c, o)) 0 : sProp 𝕄) := by
  rw [own0_eq, unscopedSems0_eq, bigSep_option]

theorem invs_alloc (I : In F) (c : Dev nD) : iprop((bigSep Finset.univ fun o : Option (Fin 65) => semVal (gc (c, o)) 0) ∗ bigSep Finset.univ fun o : Option (Fin 65) => roundState ER (Rd I) (gc (c, o)) 0)
    ⊢ (|={Set.univ}=> bigSep Finset.univ fun o => iprop(∃ κ : ℕ, cellInv ER (Rd I) κ (gc (c, o))) : sProp 𝕄) := by
  rw [← bigSep_sep']
  exact (bigSep_mono fun k _ => (Rounds.body_intro ER (Rd I) (gc (c, k))).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun o => iprop(∃ κ : ℕ, cellInv ER (Rd (inp m)) κ (gc (c, o))))
          ∗ (bigSep Finset.univ fun o : Option (Fin 65) => reached ER (gc (c, o)) 0) ∗ toksOf c ∗ posOf c) := by
  unfold G posOf
  iintro ⟨Hos, Hus, Hst, Hat, Hr, Htok⟩
  ihave Hv := (sems0_eq (F := F) c) $$ [Hos Hus]
  · isplitl [Hos] <;> iassumption
  imod (invs_alloc (inp m) c) $$ [Hv Hst] with Hinv
  · isplitl [Hv] <;> iassumption
  imodintro
  isplitl [Hinv]; · iexact Hinv
  isplitl [Hr]; · iexact Hr
  isplitl [Htok]; · iexact Htok
  ihave Hat := (Entails.of_eq (bigSep_option fun o => (atPos ER (gc (c, o)) 0 ∅ 0 : sProp 𝕄))) $$ Hat
  iexact Hat

theorem dealt (K : Dev nD × Option (Fin 65) → ℕ) (c : Dev nD) : iprop(records (inp m) K ∗ (toksOf c ∗ posOf c)) ⊢ G' m c := by
  unfold G'
  iintro ⟨#HR, HT, HP⟩
  isplitr; · iexists K; iexact HR
  isplitl [HT] <;> iassumption

theorem regroup :
    (bigSep Finset.univ fun c : Dev nD => iprop((bigSep Finset.univ fun o => iprop(∃ κ : ℕ, cellInv ER (Rd (inp m)) κ (gc (c, o))))
          ∗ (bigSep Finset.univ fun o : Option (Fin 65) => reached ER (gc (c, o)) 0) ∗ toksOf c ∗ posOf c) : sProp 𝕄)
      ⊢ bigSep Finset.univ (G' m) := by
  rw [bigSep_sep', bigSep_sep', ← bigSep_univ_prod (fun x : Dev nD × Option (Fin 65) => iprop(∃ κ : ℕ, cellInv ER (Rd (inp m)) κ (gc x))),
    ← bigSep_univ_prod (fun x : Dev nD × Option (Fin 65) => (reached ER (gc x) 0 : sProp 𝕄))]
  iintro ⟨HI, #HR, Htok⟩
  ihave HK := (BI.bigSep_exists_pi Finset.univ (fun (x : Dev nD × Option (Fin 65)) (κ : ℕ) => (cellInv ER (Rd (inp m)) κ (gc x) : sProp 𝕄))) $$ HI
  icases HK with ⟨%K, #HI⟩
  iapply (bigSep_with Finset.univ (records (inp m) K) fun c _ => dealt m K c)
  isplitr
  · unfold records; isplitl; · iexact HI
    iexact HR
  · iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts LL lv
        ∗ Pipeline.launchCred O₀ c ∗ prngReg c (ρ c) ∗ G' m c)
      ⊢ |={Set.univ}=> iprop(start m c ∗ emp) := by
  rw [Pipeline.unscopedRestP_none, unscopedRest0_eq]
  unfold start G' wqAll woAll
  iintro ⟨⟨Hwq, Hwo⟩, HL, Hcr, -, HR, HT, HP⟩
  ihave Hc := (creds (F := F) c) $$ Hcr
  icases Hc with ⟨H1, HN⟩
  imodintro
  isplitl
  · isplitl [HR]; · iexact HR
    isplitl [HT]; · iexact HT
    isplitl [HP]; · iexact HP
    isplitl [H1]; · iexact H1
    isplitl [HN]; · iexact HN
    isplitl [HL]; · iexact HL
    isplitl [Hwq]; · iexact Hwq
    iexact Hwo
  · iempintro

theorem scr_eq (c : Dev nD) : (Pipeline.scopedRest cfg0.spec c : sProp 𝕄) = scr c := by
  rw [scopedRest0_eq]; rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_eq]
  unfold Φ₀
  iintro ⟨Hs, -, Hr⟩
  isplitl [Hs] <;> iassumption

/-- What a device keeps past its run: its barrier's counter and the two arguments read in place. -/
def kept (c : Dev nD) : sProp 𝕄 := iprop(unscopedSems0 c ∗ wqAll (inp m) c ∗ woAll (inp m) c)

theorem phi1_exit (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl, scr_eq, own0_eq]
  unfold Φ₁ kept
  rw [unscopedSems0_eq]
  iintro ⟨Hr, Hwq, Hwo, Hs, Hb⟩
  isplitl [Hb Hwq Hwo]
  · isplitl [Hb]; · iexact Hb
    isplitl [Hwq] <;> iassumption
  isplitl [Hs] <;> iassumption

theorem decode_stage (w : Fin 4) (s : Fin (spec0 w).nbuf) : decode (.dma ((spec0 w).sem s)) = none := by
  revert w; decide

theorem mayWait_stage (c : Dev nD) (q : DmaSem sig) (hq : decode (.dma q) = none) (O : Tallies) (hO : O = O₀ c ∨ O = 0) :
    (levAts LL lv : sProp 𝕄) ⊢ MayWait (c : Thread nD τ) (.dma q) () O := by
  rcases hO with rfl | rfl
  · refine Pipeline.mayWait_of_levAts (by rw [LL_tc]; exact Finset.mem_singleton_self _) fun g u hg => ?_
    show u ∈ LL g ∧ lvC (decode (.dma q)) < lvC (decode g.2)
    rw [hq]
    obtain ⟨d, hd | hd | hd⟩ := barO_pos hg
    · rw [hd]; exact ⟨by rw [LL_tc]; exact Finset.mem_singleton_self _, by rw [decode_agR]; show 0 < 3; decide⟩
    · rw [hd]; exact ⟨by rw [LL_tc]; exact Finset.mem_singleton_self _, by rw [decode_rsR]; show 0 < 2; decide⟩
    · rw [hd]; exact ⟨by rw [LL_tc]; exact Finset.mem_singleton_self _, by show 0 < 1; decide⟩
  · rw [MayWait_zero]; iintro -; iempintro

theorem waits (c : Dev nD) : (levAts LL lv : sProp 𝕄) ⊢ Pipeline.cellsWaits cfgs (dats m ρ) () 0 c :=
  Pipeline.cellsWaits_intro cfgs (dats m ρ) () 0 c fun w s t =>
    mayWait_stage c _ (decode_stage w s) _ (by
      rcases t with ⟨_ | _, ht⟩
      · exact Or.inl rfl
      · exact Or.inr rfl)

/-! ### The run -/

/-- The windows' arrays after the run. -/
def finalA (c : Dev nD) (w : Fin cfg0.W) : Buf (Elt F) ((cfg0.win w).arr.view.loc (c : Thread nD τ)) := (dats m ρ 0 c).arrAt w cfg0.N

/-- The two arguments read in place, unchanged. -/
def Wkept (c : Dev nD) (s : MemSt nD τ sig (Elt F)) : Prop :=
  s.mem ((c : Thread nD τ).loc main_arg1) = m ((c : Thread nD τ).loc main_arg1) ∧ s.mem ((c : Thread nD τ).loc main_arg4) = m ((c : Thread nD τ).loc main_arg4)

def QC : PUnit × MemSt nD τ sig (Elt F) → Prop := fun r =>
  ∀ c : Dev nD, (∀ w : Fin cfg0.W, r.2.mem ((cfg0.win w).arr.view.loc (c : Thread nD τ)) = finalA m ρ c w) ∧ Wkept m c r.2

theorem kept_read (c : Dev nD) (s' : Phys nD τ sig (Elt F)) : iprop(kept m c ∗ emp ∗ SI s')
    ⊢ (|={Set.univ}=> iprop(⌜(∀ sm : SemLoc sig, sm.isScoped .tc = false → s'.mem.sem ((c.tc : Thread nD τ), sm) = 0) ∧ Wkept m c s'.mem⌝ ∗ SI s') : sProp 𝕄) := by
  unfold kept wqAll woAll
  iintro ⟨⟨Hu, Hwq, Hwo⟩, -, HSI⟩
  icombine HSI Hwq gives %h1
  icombine HSI Hwo gives %h4
  imod (Pipeline.unscopedSems0_read (X := unscopedSems0 c) (c := c) fupd_intro s') $$ [Hu HSI] with ⟨%h, HSI⟩
  · isplitl [Hu] <;> iassumption
  imodintro
  isplitr
  · ipureintro; exact ⟨h, Buf.eq_of_forall_mem_univ h1, Buf.eq_of_forall_mem_univ h4⟩
  iexact HSI

set_option maxRecDepth 8000 in
/-- From any memory with zero semaphores: every weakly fair execution of the sixteen devices ends, the windows' arrays
    hold what the run leaves in them, the two arguments read in place are unchanged and every semaphore is zero again. -/
theorem run_main : θ_run defs (onTc (τ := τ) (main (F := F))) (st₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := LL) (lv := lv) (hL := LL_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := kept m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ Wkept m c s)
    (hY := fun c s' => kept_read m c s')
    (hQ := fun _ h hs => ⟨fun c => ⟨fun w => (h c).1 w, (h c).2.2.2⟩, sem_eq_zero hs fun c => (h c).2.2.1⟩)

theorem finalA_in (c : Dev nD) (w : Fin cfg0.W) (hw : (cfg0.win w).isOut = false) :
    finalA m ρ c w = (st₀ m ρ).mem ((cfg0.win w).arr.view.loc (c : Thread nD τ)) :=
  (dats (F := F) m ρ 0 c).arrAt_in w hw _

end Cert.Attn

end
-- ==== Proof.Result.lean ====
/-
  The kernel's run read at its arguments, and its result array.
-/
module

public import proofs.«01_k».proof.Proof.Launch

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]

variable (m : (ℓ : Loc nD τ sig) → Buf (Elt F) ℓ) (ρ : Dev nD → PrngReg)

/-- The arguments of every device end unchanged, and every semaphore ends at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c).1 0).trans (finalA_in m ρ c 0 rfl), (h.1 c).2.1, ((h.1 c).1 1).trans (finalA_in m ρ c 1 rfl),
      ((h.1 c).1 2).trans (finalA_in m ρ c 2 rfl), (h.1 c).2.2⟩, h.2⟩) (run_main m ρ)

end Cert.Attn

end
-- ==== Proof.SameText.lean ====
/-
  The program printed at the bits and the one printed at the extended reals have the same text.
-/
module
public import proofs.«01_k».proof.Proof.Gen.Kernel
public import proofs.«01_k».proof.Proof.Gen.KernelIdeal
public import Idealize.ShloMosaic.PureOps.BitExact
@[expose] public section
open Idealize.ShloMosaic
namespace Cert.SameText
set_option maxRecDepth 20000
variable {F : FTy → Type} [FloatOps F]
/-- The two programs' bodies agree. -/
theorem defs₀_eq : Cert.Kernel.defs₀ (F := F) = Cert.KernelIdeal.defs₀ (F := F) := by
  refine congrArg Defs.onTc (funext fun l => funext fun a => ?_)
  match l, a with
  | 0, (t, s) => exact rfl
/-- And so do their tables of bodies. -/
theorem defs_eq : Cert.Kernel.defs (F := F) = Cert.KernelIdeal.defs (F := F) :=
  congrArg (Pipeline.defs Cert.KernelIdeal.pcfgs) defs₀_eq
end Cert.SameText
end
-- ==== Proof.RefSpec.lean ====
/-
  The reference's result as a composition of named values.
-/
module

public import proofs.«01_k».proof.Proof.Gen.ReferenceIdeal.Run
public import Idealize.ShloMosaic.Lib.Pointwise

@[expose] public section

noncomputable section

namespace Cert.RefSpec

open Cert.ReferenceIdeal Cert.ReferenceIdeal.Gen
open Idealize.ShloMosaic

variable {F : FTy → Type} [FloatOps F]

/-- The number of the block of 64 that a position lies in. -/
def blkV : IVec S1024 32 :=
  select (andi (cmpi .ne (signi (iotaInDim S1024 32 0)) (broadcastInDim S1024 ![] bcast_S_S1024 (signi (id (constantI S_ 32 64#32)))))
    (cmpi .ne (Host.remsi (iotaInDim S1024 32 0) (broadcastInDim S1024 ![] bcast_S_S1024 (id (constantI S_ 32 64#32))))
      (broadcastInDim S1024 ![] bcast_S_S1024 (constantI S_ 32 0#32))))
    (subi (Host.divsi (iotaInDim S1024 32 0) (broadcastInDim S1024 ![] bcast_S_S1024 (id (constantI S_ 32 64#32))))
      (broadcastInDim S1024 ![] bcast_S_S1024 (constantI S_ 32 1#32)))
    (Host.divsi (iotaInDim S1024 32 0) (broadcastInDim S1024 ![] bcast_S_S1024 (id (constantI S_ 32 64#32))))

/-- The divisor of the remainder. -/
def fourV : IVec S_ 32 :=
  select (cmpi .eq (id (constantI S_ 32 4#32)) (constantI S_ 32 0#32)) (constantI S_ 32 1#32) (id (constantI S_ 32 4#32))

/-- The remainder of a row of numbers by four. -/
def remRow (v : IVec S1x1024 32) : IVec S1x1024 32 :=
  select (andi (cmpi .ne (cmpi .slt (Host.remsi v (broadcastInDim S1x1024 ![] bcast_S_S1x1024 fourV)) (broadcastInDim S1x1024 ![] bcast_S_S1x1024 (constantI S_ 32 0#32)))
      (broadcastInDim S1x1024 ![] bcast_S_S1x1024 (cmpi .slt fourV (constantI S_ 32 0#32))))
      (cmpi .ne (Host.remsi v (broadcastInDim S1x1024 ![] bcast_S_S1x1024 fourV)) (broadcastInDim S1x1024 ![] bcast_S_S1x1024 (constantI S_ 32 0#32))))
    (addi (Host.remsi v (broadcastInDim S1x1024 ![] bcast_S_S1x1024 fourV)) (broadcastInDim S1x1024 ![] bcast_S_S1x1024 fourV))
    (Host.remsi v (broadcastInDim S1x1024 ![] bcast_S_S1x1024 fourV))

/-- The remainder of a column of numbers by four. -/
def remCol (v : IVec S1024x1 32) : IVec S1024x1 32 :=
  select (andi (cmpi .ne (cmpi .slt (Host.remsi v (broadcastInDim S1024x1 ![] bcast_S_S1024x1 fourV)) (broadcastInDim S1024x1 ![] bcast_S_S1024x1 (constantI S_ 32 0#32)))
      (broadcastInDim S1024x1 ![] bcast_S_S1024x1 (cmpi .slt fourV (constantI S_ 32 0#32))))
      (cmpi .ne (Host.remsi v (broadcastInDim S1024x1 ![] bcast_S_S1024x1 fourV)) (broadcastInDim S1024x1 ![] bcast_S_S1024x1 (constantI S_ 32 0#32))))
    (addi (Host.remsi v (broadcastInDim S1024x1 ![] bcast_S_S1024x1 fourV)) (broadcastInDim S1024x1 ![] bcast_S_S1024x1 fourV))
    (Host.remsi v (broadcastInDim S1024x1 ![] bcast_S_S1024x1 fourV))

/-- The mask, of the block numbers of the positions. -/
def maskOf (b : IVec S1024 32) : IVec S1024x1024 1 :=
  ori (cmpi .eq (broadcastInDim S1024x1024 ![0, 1] bcast_S1024x1_S1024x1024_0_1 (broadcastInDim S1024x1 ![0] bcast_S1024_S1024x1_0 b))
      (broadcastInDim S1024x1024 ![0, 1] bcast_S1x1024_S1024x1024_0_1 (broadcastInDim S1x1024 ![1] bcast_S1024_S1x1024_1 b)))
    (cmpi .eq (broadcastInDim S1024x1024 ![0, 1] bcast_S1x1024_S1024x1024_0_1 (remRow (broadcastInDim S1x1024 ![1] bcast_S1024_S1x1024_1 b)))
      (broadcastInDim S1024x1024 ![0, 1] bcast_S1024x1_S1024x1024_0_1 (remCol (broadcastInDim S1024x1 ![0] bcast_S1024_S1024x1_0 b))))

/-- The queries. -/
def qR (x : FVec F S1x1024x1024 .f32) (wq : FVec F S1024x16384 .f32) : FVec F S1x1024x128x128 .f32 :=
  shapeCast S1x1024x128x128 (Host.dotGeneral dot_S1x1024x1024_S1024x16384_S1x1024x16384_2_0_01_1_n_n none x wq) shapeCasts_S1x1024x16384_S1x1024x128x128

/-- The masked scores. -/
def scR (mk : IVec S1024x1024 1) (q k : FVec F S1x1024x128x128 .f32) : FVec F S1x128x1024x1024 .f32 :=
  select (broadcastInDim S1x128x1024x1024 ![0, 1, 2, 3] bcast_S1x1x1024x1024_S1x128x1024x1024_0_1_2_3
      (broadcastInDim S1x1x1024x1024 ![2, 3] bcast_S1024x1024_S1x1x1024x1024_2_3 mk))
    (mulf (Host.dotGeneral dot_S1x1024x128x128_S1x1024x128x128_S1x128x1024x1024_3_3_1_1_02_02 none q k)
      (broadcastInDim S1x128x1024x1024 ![] bcast_S_S1x128x1024x1024 (constant S_ .f32 0x3DB504F3#32)))
    (broadcastInDim S1x128x1024x1024 ![] bcast_S_S1x128x1024x1024 (id (constant S_ .f32 0xFF800000#32)))

/-- The exponentials of the scores less their row's greatest. -/
def exR (s : FVec F S1x128x1024x1024 .f32) : FVec F S1x128x1024x1024 .f32 :=
  Host.exp (subf s (broadcastInDim S1x128x1024x1024 ![0, 1, 2, 3] bcast_S1x128x1024x1_S1x128x1024x1024_0_1_2_3
    (broadcastInDim S1x128x1024x1 ![0, 1, 2] bcast_S1x128x1024_S1x128x1024x1_0_1_2
      (Host.reduce FloatOps.maximumf s (constant S_ .f32 0xFF800000#32) reducesTo_S1x128x1024x1024_S1x128x1024_d3 h_S_))))

/-- Whether a row has a position that is not masked. -/
def keepR (mk : IVec S1024x1024 1) : IVec S1x1x1024x1 1 :=
  broadcastInDim S1x1x1024x1 ![2] bcast_S1024_S1x1x1024x1_2 (Host.reduce IntOp.ori mk (constantI S_ 1 0#1) reducesTo_S1024x1024_S1024_d1 h_S_)

/-- The rows' sums. -/
def smR (keep : IVec S1x1x1024x1 1) (e : FVec F S1x128x1024x1024 .f32) : FVec F S1x128x1024x1 .f32 :=
  select (broadcastInDim S1x128x1024x1 ![0, 1, 2, 3] bcast_S1x1x1024x1_S1x128x1024x1_0_1_2_3 keep)
    (broadcastInDim S1x128x1024x1 ![0, 1, 2] bcast_S1x128x1024_S1x128x1024x1_0_1_2
      (Host.reduceAdd e (constant S_ .f32 0x00000000#32) reducesTo_S1x128x1024x1024_S1x128x1024_d3 h_S_))
    (broadcastInDim S1x128x1024x1 ![] bcast_S_S1x128x1024x1 (id (constant S_ .f32 0x3F800000#32)))

/-- The weights. -/
def wtR (keep : IVec S1x1x1024x1 1) (e : FVec F S1x128x1024x1024 .f32) : FVec F S1x128x1024x1024 .f32 :=
  select (broadcastInDim S1x128x1024x1024 ![0, 1, 2, 3] bcast_S1x1x1024x1_S1x128x1024x1024_0_1_2_3 keep)
    (Host.divf e (broadcastInDim S1x128x1024x1024 ![0, 1, 2, 3] bcast_S1x128x1024x1_S1x128x1024x1024_0_1_2_3 (smR keep e)))
    (broadcastInDim S1x128x1024x1024 ![] bcast_S_S1x128x1024x1024 (id (constant S_ .f32 0x00000000#32)))

/-- The result of the weights. -/
def outR (v : FVec F S1x1024x128x128 .f32) (w : FVec F S1x128x1024x1024 .f32) (wo : FVec F S16384x1024 .f32) : FVec F S1x1024x1024 .bf16 :=
  truncf .bf16 (Host.dotGeneral dot_S1x1024x16384_S16384x1024_S1x1024x1024_2_0_01_1_n_n none
    (shapeCast S1x1024x16384 (transpose S1x1024x128x128 [0, 3, 1, 2]
      (Host.dotGeneral dot_S1x1024x128x128_S1x128x1024x1024_S1x128x128x1024_1_3_3_2_02_01 none v w)
      transposes_S1x128x128x1024_S1x1024x128x128_0_3_1_2) shapeCasts_S1x1024x128x128_S1x1024x16384) wo) bitsLt_bf16_f32

/-- The reference's result. -/
def refV (x : FVec F S1x1024x1024 .f32) (wq : FVec F S1024x16384 .f32) (k v : FVec F S1x1024x128x128 .f32) (wo : FVec F S16384x1024 .f32) :
    FVec F S1x1024x1024 .bf16 :=
  outR v (wtR (keepR (maskOf blkV)) (exR (scR (maskOf blkV) (qR x wq) k))) wo

set_option maxRecDepth 8192 in
/-- The generated run's result is that value of the arguments. -/
theorem res_eq (m : (ℓ : Loc nD τ sig) → Buf (Elt F) ℓ) (c : Dev nD) :
    Cert.ReferenceIdeal.Value.res_out0 m c = refV (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.RefSpec

end
-- ==== Proof.Soft.lean ====
/-
  The weighted average with exponential weights, over extended reals: with finite scores, the reference's form (the
  row's greatest score taken off, masked positions at minus infinity, each weight divided by the sum) and the kernel's
  form (only the positions not masked, nothing taken off, one division at the end) are the same.
-/
module

public import proofs.«01_k».proof.Proof.Spec
public import Idealize.ShloMosaic.Lib.IdealHost

@[expose] public section

noncomputable section

namespace Cert.Soft

open Idealize.ShloMosaic
open Cert.Attn (srcRow)

/-- The extended real of a finite sum of reals is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A non-negative real factor goes into a sum of extended reals. -/
theorem mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hc) (EReal.coe_ne_top c) _ _

/-- The parts of a gathered row's number. -/
theorem row_div (g : Fin 4) (t : Fin 256) :
    (256 * g.val + t.val) / 256 = g.val ∧ (256 * g.val + t.val) / 64 % 4 = t.val / 64 ∧ (256 * g.val + t.val) % 64 = t.val % 64 := by
  have := g.isLt; have := t.isLt
  refine ⟨by omega, by omega, by omega⟩

/-- The positions of one residue of blocks, listed by the rows gathered for it. -/
theorem sum_group {β : Type} [AddCommMonoid β] (g : Fin 4) (f : Fin 1024 → β) :
    (∑ j : Fin 1024, if g.val = j.val / 64 % 4 then f j else 0) = ∑ t : Fin 256, f (srcRow ⟨256 * g.val + t.val, by omega⟩) := by
  rw [← Finset.sum_filter]
  refine (Finset.sum_bij' (i := fun t _ => srcRow ⟨256 * g.val + t.val, by omega⟩)
    (j := fun j _ => (⟨64 * (j.val / 256) + j.val % 64, by omega⟩ : Fin 256)) ?_ ?_ ?_ ?_ ?_).symm
  · intro t _
    have := g.isLt; have := t.isLt
    have h1 := row_div g t
    simp only [srcRow, Finset.mem_filter, Finset.mem_univ, true_and, h1.1, h1.2.1, h1.2.2]
    omega
  · intro j _
    exact Finset.mem_univ _
  · intro t _
    have := g.isLt; have := t.isLt
    have h1 := row_div g t
    apply Fin.ext
    simp only [srcRow, h1.1, h1.2.1, h1.2.2]
    omega
  · intro j hj
    have := g.isLt; have := j.isLt
    have hj' := (Finset.mem_filter.mp hj).2
    have h1 := row_div g ⟨64 * (j.val / 256) + j.val % 64, by omega⟩
    apply Fin.ext
    simp only [srcRow, h1.1, h1.2.1, h1.2.2]
    omega
  · intro t _
    rfl

/-- A row's greatest score is a real number, when some position is not masked. -/
theorem max_real {n : ℕ} (M : Fin n → Prop) [DecidablePred M] (r : Fin n → ℝ) (i : Fin n) (hi : M i) :
    ∃ μ : ℝ, (Finset.univ.fold max (⊥ : EReal) fun j => if M j then (r j : EReal) else ⊥) = μ := by
  set m := Finset.univ.fold max (⊥ : EReal) fun j => if M j then (r j : EReal) else ⊥ with hm
  have h1 : m ≠ ⊤ := by
    refine ne_of_lt ((Finset.fold_max_lt _).mpr ⟨bot_lt_top, fun x _ => ?_⟩)
    split
    · exact EReal.coe_lt_top _
    · exact bot_lt_top
  have h2 : m ≠ ⊥ := by
    refine ne_of_gt ((Finset.lt_fold_max _).mpr (Or.inr ⟨i, Finset.mem_univ _, ?_⟩))
    rw [if_pos hi]
    exact EReal.bot_lt_coe _
  exact ⟨m.toReal, (EReal.coe_toReal h1 h2).symm⟩

/-- One weight of the reference. -/
theorem soft_ref {n : ℕ} (M : Fin n → Prop) [DecidablePred M] (r : Fin n → ℝ) (i : Fin n) (hi : M i)
    (z : Fin n → EReal) (hz : ∀ j, z j = if M j then (r j : EReal) else ⊥) (j : Fin n) :
    Ideal.div (Ideal.exp (z j - Finset.univ.fold max ⊥ z)) (∑ k, Ideal.exp (z k - Finset.univ.fold max ⊥ z))
      = ((if M j then Real.exp (r j) / ∑ k, (if M k then Real.exp (r k) else 0) else 0 : ℝ) : EReal) := by
  obtain ⟨μ, hμ⟩ := max_real M r i hi
  obtain rfl : z = fun j => if M j then (r j : EReal) else ⊥ := funext hz
  rw [hμ]
  have he : ∀ k, Ideal.exp ((if M k then (r k : EReal) else ⊥) - (μ : EReal)) = ((if M k then Real.exp (r k - μ) else 0 : ℝ) : EReal) := by
    intro k
    split
    · rw [← EReal.coe_sub]; rfl
    · rw [EReal.bot_sub]; rfl
  simp only [he]
  rw [← coe_sum]
  have hpos : ∀ ν : ℝ, 0 < ∑ k, (if M k then Real.exp (r k - ν) else 0) := fun ν =>
    Finset.sum_pos' (fun k _ => by split <;> positivity) ⟨i, Finset.mem_univ _, by rw [if_pos hi]; positivity⟩
  rw [Ideal.div, if_neg (by exact_mod_cast (hpos μ).ne'), ← EReal.coe_inv, ← EReal.coe_mul]
  congr 1
  have hs : ∑ k, (if M k then Real.exp (r k - μ) else 0) = (∑ k, (if M k then Real.exp (r k) else 0)) * Real.exp (-μ) := by
    rw [Finset.sum_mul]
    refine Finset.sum_congr rfl fun k _ => ?_
    split
    · rw [← Real.exp_add, sub_eq_add_neg]
    · rw [zero_mul]
  have h0 := (hpos 0).ne'
  simp only [sub_zero] at h0
  rw [hs]
  split
  · rw [sub_eq_add_neg, Real.exp_add]
    have := (Real.exp_pos (-μ)).ne'
    field_simp
  · rw [zero_mul]

/-- The kernel's quotient, at one entry. -/
theorem soft_ker {n : ℕ} (r : Fin (n + 1) → ℝ) (v : Fin (n + 1) → EReal) :
    (∑ t, Ideal.exp (r t : EReal) * v t) * Ideal.div 1 (∑ t, Ideal.exp (r t : EReal))
      = ∑ t, v t * ((Real.exp (r t) / ∑ k, Real.exp (r k) : ℝ) : EReal) := by
  have hpos : 0 < ∑ k, Real.exp (r k) := Finset.sum_pos (fun k _ => Real.exp_pos _) Finset.univ_nonempty
  have he : ∀ t, Ideal.exp (r t : EReal) = (Real.exp (r t) : EReal) := fun _ => rfl
  simp only [he]
  rw [← coe_sum, Ideal.div, if_neg (by exact_mod_cast hpos.ne'), one_mul, ← EReal.coe_inv, mul_comm, mul_sum _ _ (inv_nonneg.mpr hpos.le)]
  refine Finset.sum_congr rfl fun t _ => ?_
  rw [← mul_assoc, ← EReal.coe_mul, mul_comm, div_eq_inv_mul]

/-- The two forms agree: the reference's weights over all positions, and the kernel's over the rows gathered. -/
theorem soft_eq (g : Fin 4) (r : Fin 1024 → ℝ) (v : Fin 1024 → EReal) :
    (∑ j : Fin 1024, v j * ((if g.val = j.val / 64 % 4 then Real.exp (r j) / ∑ k : Fin 1024, (if g.val = k.val / 64 % 4 then Real.exp (r k) else 0) else 0 : ℝ) : EReal))
      = (∑ t : Fin 256, Ideal.exp (r (srcRow ⟨256 * g.val + t.val, by omega⟩) : EReal) * v (srcRow ⟨256 * g.val + t.val, by omega⟩))
          * Ideal.div 1 (∑ t : Fin 256, Ideal.exp (r (srcRow ⟨256 * g.val + t.val, by omega⟩) : EReal)) := by
  rw [soft_ker (n := 255) (fun t => r (srcRow ⟨256 * g.val + t.val, by omega⟩)) (fun t => v (srcRow ⟨256 * g.val + t.val, by omega⟩)),
    sum_group g (fun k => Real.exp (r k)), ← sum_group g (fun j => v j * ((Real.exp (r j) / _ : ℝ) : EReal))]
  refine Finset.sum_congr rfl fun j _ => ?_
  split
  · rfl
  · rw [EReal.coe_zero, mul_zero]

end Cert.Soft

end
-- ==== Proof.RefVal.lean ====
/-
  The reference's values at an index, over extended reals.
-/
module

public import proofs.«01_k».proof.Proof.RefSpec
public import proofs.«01_k».proof.Proof.Soft
public import Idealize.ShloMosaic.Lib.ValueIdx

@[expose] public section

noncomputable section

namespace Cert.RefSpec

open Cert.ReferenceIdeal Cert.ReferenceIdeal.Gen
open Idealize.ShloMosaic

/-- The pattern of minus infinity. -/
theorem ofBits_bot : Ideal.ofBits .f32 0xFF800000#32 = (⊥ : EReal) := by
  simp [Ideal.ofBits, Ideal.ieee]

/-- The score's factor is a real number. -/
theorem ofBits_scale : ∃ s : ℝ, Ideal.ofBits .f32 0x3DB504F3#32 = (s : EReal) := by
  simp only [Ideal.ofBits, Ideal.ieee]
  rw [if_neg (by decide), if_neg (by decide)]
  exact ⟨_, rfl⟩

/-! ### The mask -/

/-- The sign of an integer. -/
def sgnS (i : BitVec 32) : BitVec 32 := if i = 0 then 0 else if i.msb = true then -1 else 1

/-- The block number of one position, as the reference computes it. -/
def blkS (i : BitVec 32) : BitVec 32 :=
  Scalar.select (IntOp.andi (IntOp.cmpi .ne (sgnS i) (sgnS 64#32)) (IntOp.cmpi .ne (IntOp.remsi .host i 64#32) 0#32))
    (IntOp.subi (IntOp.divsi .host i 64#32) 1#32) (IntOp.divsi .host i 64#32)

/-- The remainder by four, as the reference computes it. -/
def remS (i : BitVec 32) : BitVec 32 :=
  Scalar.select (IntOp.andi (IntOp.cmpi .ne (IntOp.cmpi .slt (IntOp.remsi .host i 4#32) 0#32) (IntOp.cmpi .slt 4#32 0#32))
      (IntOp.cmpi .ne (IntOp.remsi .host i 4#32) 0#32))
    (IntOp.addi (IntOp.remsi .host i 4#32) 4#32) (IntOp.remsi .host i 4#32)

/-- The divisor is four. -/
theorem fourV_apply (i : S_.Idx) : fourV i = 4#32 := rfl

theorem blkV_apply (i : Fin 1024) : blkV (ix1 i) = blkS (BitVec.ofNat 32 i.val) := by
  pointwise [blkV]
  rfl

theorem maskOf_apply (b : IVec S1024 32) (i j : Fin 1024) :
    maskOf b (ix2 i j) = IntOp.ori (IntOp.cmpi .eq (b (ix1 i)) (b (ix1 j))) (IntOp.cmpi .eq (remS (b (ix1 j))) (remS (b (ix1 i)))) := by
  pointwise [maskOf, remRow, remCol]
  simp only [fourV_apply]
  rfl

theorem blkS_eq : ∀ i : Fin 1024, blkS (BitVec.ofNat 32 i.val) = BitVec.ofNat 32 (i.val / 64) := by
  decide +kernel

theorem mask_blk : ∀ a b : Fin 16, IntOp.ori (IntOp.cmpi .eq (BitVec.ofNat 32 a.val) (BitVec.ofNat 32 b.val))
    (IntOp.cmpi .eq (remS (BitVec.ofNat 32 b.val)) (remS (BitVec.ofNat 32 a.val))) = if a.val % 4 = b.val % 4 then 1#1 else 0#1 := by
  decide +kernel

/-- The mask leaves a pair of positions whose block numbers agree modulo four. -/
theorem mask_apply (i j : Fin 1024) : maskOf blkV (ix2 i j) = if i.val / 64 % 4 = j.val / 64 % 4 then 1#1 else 0#1 := by
  rw [maskOf_apply, blkV_apply, blkV_apply, blkS_eq, blkS_eq]
  exact mask_blk ⟨i.val / 64, by omega⟩ ⟨j.val / 64, by omega⟩

/-- A disjunction with a true member is true. -/
theorem fold_ori {n : ℕ} (op : BitVec 1 → BitVec 1 → BitVec 1) [Std.Commutative op] [Std.Associative op] (h : ∀ y, op 1#1 y = 1#1)
    (f : Fin n → BitVec 1) (i : Fin n) (hi : f i = 1#1) : Finset.univ.fold op 0#1 f = 1#1 := by
  rw [← Finset.insert_erase (Finset.mem_univ i), Finset.fold_insert (Finset.notMem_erase _ _), hi, h]

/-- Every row is kept: a position is never masked from itself. -/
theorem keep_apply (i : Fin 1024) : keepR (maskOf blkV) (ix4 0 0 i 0) = 1#1 := by
  pointwise [keepR]
  refine fold_ori _ (by decide) _ i ?_
  rw [mask_apply, if_pos rfl]

/-! ### The scores, the weights and the result -/

theorem qR_apply (x : FVec Ideal S1x1024x1024 .f32) (wq : FVec Ideal S1024x16384 .f32) (i : Fin 1024) (h d : Fin 128) :
    qR x wq (ix4 0 i h d) = ∑ k : Fin 1024, x (ix3 0 i k) * wq (ix2 k ⟨h.val * 128 + d.val, by omega⟩) := by
  pointwise [qR]

theorem scR_apply (m : IVec S1024x1024 1) (q k : FVec Ideal S1x1024x128x128 .f32) (i j : Fin 1024) (h : Fin 128) :
    scR m q k (ix4 0 h i j) = Scalar.select (m (ix2 i j)) ((∑ d : Fin 128, q (ix4 0 i h d) * k (ix4 0 j h d)) * Ideal.ofBits .f32 0x3DB504F3#32)
      (⊥ : EReal) := by
  pointwise [scR]
  rw [← ofBits_bot]
  rfl

theorem exR_apply (s : FVec Ideal S1x128x1024x1024 .f32) (i j : Fin 1024) (h : Fin 128) :
    exR s (ix4 0 h i j) = Ideal.exp (s (ix4 0 h i j) - Finset.univ.fold max (⊥ : EReal) fun x => s (ix4 0 h i x)) := by
  pointwise [exR]
  rw [ofBits_bot]

theorem wtR_apply (k : IVec S1x1x1024x1 1) (e : FVec Ideal S1x128x1024x1024 .f32) (i j : Fin 1024) (h : Fin 128) (hk : k (ix4 0 0 i 0) = 1#1) :
    wtR k e (ix4 0 h i j) = Ideal.div (e (ix4 0 h i j)) (∑ x : Fin 1024, e (ix4 0 h i x)) := by
  pointwise [wtR, smR]
  rw [hk]
  rfl

theorem outR_apply (v : FVec Ideal S1x1024x128x128 .f32) (w : FVec Ideal S1x128x1024x1024 .f32) (wo : FVec Ideal S16384x1024 .f32) (i n : Fin 1024) :
    outR v w wo (ix3 0 i n) = ∑ x : Fin 16384, (∑ j : Fin 1024, v (ix4 0 j ⟨x.val / 128, by omega⟩ ⟨x.val % 128, by omega⟩) * w (ix4 0 ⟨x.val / 128, by omega⟩ i j)) * wo (ix2 x n) := by
  pointwise [outR]

/-- The reference's result at an index, given its scores as real numbers. -/
theorem refV_apply (x : FVec Ideal S1x1024x1024 .f32) (wq : FVec Ideal S1024x16384 .f32) (k v : FVec Ideal S1x1024x128x128 .f32)
    (wo : FVec Ideal S16384x1024 .f32) (r : Fin 128 → Fin 1024 → Fin 1024 → ℝ)
    (hr : ∀ h i j, (∑ d : Fin 128, qR x wq (ix4 0 i h d) * k (ix4 0 j h d)) * Ideal.ofBits .f32 0x3DB504F3#32 = (r h i j : EReal)) (i n : Fin 1024) :
    refV x wq k v wo (ix3 0 i n) = ∑ c : Fin 16384,
      (∑ j : Fin 1024, v (ix4 0 j ⟨c.val / 128, by omega⟩ ⟨c.val % 128, by omega⟩)
        * ((if i.val / 64 % 4 = j.val / 64 % 4 then Real.exp (r ⟨c.val / 128, by omega⟩ i j)
              / ∑ k : Fin 1024, (if i.val / 64 % 4 = k.val / 64 % 4 then Real.exp (r ⟨c.val / 128, by omega⟩ i k) else 0) else 0 : ℝ) : EReal))
        * wo (ix2 c n) := by
  unfold refV
  rw [outR_apply]
  refine Finset.sum_congr rfl fun c _ => ?_
  refine congrArg (· * _) (Finset.sum_congr rfl fun j _ => ?_)
  refine congrArg (_ * ·) ?_
  rw [wtR_apply _ _ _ _ _ (keep_apply i)]
  simp only [exR_apply]
  refine Cert.Soft.soft_ref (fun j : Fin 1024 => i.val / 64 % 4 = j.val / 64 % 4) (r ⟨c.val / 128, by omega⟩ i) i rfl _ (fun j => ?_) j
  rw [scR_apply, mask_apply, hr]
  split <;> rfl

end Cert.RefSpec

end
-- ==== Proof.KerVal.lean ====
/-
  The kernel's values at an index, over extended reals.
-/
module

public import proofs.«01_k».proof.Proof.Spec
public import proofs.«01_k».proof.Proof.Soft
public import Idealize.ShloMosaic.Lib.Pointwise
@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

theorem pay60_apply (q : Vec Ideal S256x128 .bf16) (k v : Vec Ideal S256x1x128 .bf16) (r : Fin 256) (d : Fin 128) :
    k0_pay60 q k v (ix2 r d) = (∑ t : Fin 256, Ideal.exp (∑ e : Fin 128, q (ix2 r e) * k (ix3 t 0 e)) * v (ix3 t 0 d))
      * Ideal.div 1 (∑ t : Fin 256, Ideal.exp (∑ e : Fin 128, q (ix2 r e) * k (ix3 t 0 e))) := by
  pointwise [k0_pay60]

theorem qV_apply (I : In Ideal) (c : Dev nD) (r n : Fin 1024) :
    qV I c (ix2 r n) = ∑ e : Fin 1024, (I.x c (ix3 0 (srcRow r) e) * Ideal.ofBits .f32 0x3DB504F3#32)
      * I.wq c (ix2 e ⟨1024 * c.val + n.val, by have : c.val < 16 := c.isLt; omega⟩) := by
  pointwise [qV, k0_pay58, xgV]
  rfl

theorem proj_apply (wo : FVec Ideal S1024x1024 .f32) (rows : FVec Ideal S64x1024 .bf16) (r : Fin 64) (n : Fin 1024) :
    projV (k0_pay59 wo) rows (ix2 r n) = ∑ e : Fin 1024, rows (ix2 r e) * wo (ix2 e n) := by
  pointwise [projV, k0_pay59]

/-- The context at a gathered row. -/
theorem ctxV_apply (I : In Ideal) (c : Dev nD) (p n : Fin 1024) :
    ctxV I c (ix2 p n) =
      (∑ t : Fin 256, Ideal.exp (∑ e : Fin 128, qV I c (ix2 p ⟨128 * (n.val / 128) + e.val, by omega⟩)
          * I.k c (ix4 0 (srcRow ⟨256 * (p.val / 256) + t.val, by omega⟩) ⟨n.val / 128, by omega⟩ e))
        * I.v c (ix4 0 (srcRow ⟨256 * (p.val / 256) + t.val, by omega⟩) ⟨n.val / 128, by omega⟩ ⟨n.val % 128, by omega⟩))
      * Ideal.div 1 (∑ t : Fin 256, Ideal.exp (∑ e : Fin 128, qV I c (ix2 p ⟨128 * (n.val / 128) + e.val, by omega⟩)
          * I.k c (ix4 0 (srcRow ⟨256 * (p.val / 256) + t.val, by omega⟩) ⟨n.val / 128, by omega⟩ e))) := by
  refine (pay60_apply _ _ _ _ _).trans ?_
  have hq : ∀ e : Fin 128, qWin (qV I c) ⟨p.val / 256, by omega⟩ ⟨n.val / 128, by omega⟩ (ix2 ⟨p.val % 256, by omega⟩ e)
      = qV I c (ix2 p ⟨128 * (n.val / 128) + e.val, by omega⟩) := fun e => by
    refine congrArg (qV I c) (congrArg (fun a => ix2 a _) (Fin.ext ?_))
    show 256 * (p.val / 256) + p.val % 256 = p.val
    omega
  simp only [ix2_0, ix2_1, hq]
  rfl

/-- The parts of devices `0, …, n` summed in order are their sum. -/
theorem accV_apply (p : Dev nD → FVec Ideal S64x1024 .bf16) (i : S64x1024.Idx) (n : ℕ) (h : n < 16) :
    accV p n h i = ∑ s : Fin (n + 1), p ⟨s.val, by have := s.isLt; simp only [nD]; omega⟩ i := by
  induction n with
  | zero =>
    rw [Fin.sum_univ_one]
    rfl
  | succ n ih =>
    rw [Fin.sum_univ_castSucc]
    refine Eq.trans ?_ (congrArg (· + _) (ih (by omega)))
    rfl

/-- The result at an index. -/
theorem outV_apply (I : In Ideal) (i n : Fin 1024) :
    outV I (ix3 0 i n) = ∑ s : Fin 16, ∑ e : Fin 1024,
      ctxV I s (ix2 ⟨256 * (i.val / 64 % 4) + 64 * (i.val / 256) + i.val % 64, by omega⟩ e)
        * I.wo s (ix2 ⟨1024 * s.val + e.val, by omega⟩ n) := by
  refine (accV_apply _ _ 15 (by decide)).trans (Finset.sum_congr rfl fun s _ => ?_)
  refine (proj_apply _ _ _ _).trans (Finset.sum_congr rfl fun e _ => ?_)
  refine congrArg₂ (· * ·) (congrArg (ctxV I s) (congrArg (fun a => ix2 a e) (Fin.ext ?_))) rfl
  show 256 * (i.val / 64 % 4) + 64 * (i.val / 64 / 4) + i.val % 64
    = 256 * (i.val / 64 % 4) + 64 * (i.val / 256) + i.val % 64
  omega

end Cert.Attn

end
-- ==== Proof.Value.lean ====
/-
  The kernel's result and the reference's are the same, when the input, the query weights and the keys are finite.
-/
module

public import proofs.«01_k».proof.Proof.RefVal
public import proofs.«01_k».proof.Proof.KerVal

@[expose] public section

noncomputable section

namespace Cert.Attn

open Cert.KernelIdeal Cert.KernelIdeal.Gen
open Idealize.ShloMosaic

/-- The columns of the query weights, by device and column of that device. -/
theorem sum_split {β : Type} [AddCommMonoid β] (f : Fin 16384 → β) :
    ∑ c : Fin 16384, f c = ∑ s : Fin 16, ∑ e : Fin 1024, f ⟨1024 * s.val + e.val, by omega⟩ := by
  rw [← (finProdFinEquiv (m := 16) (n := 1024)).sum_comp f, Fintype.sum_prod_type]
  refine Finset.sum_congr rfl fun s _ => Finset.sum_congr rfl fun e _ => congrArg f (Fin.ext ?_)
  show e.val + 1024 * s.val = 1024 * s.val + e.val
  omega

/-- The score of head `h`, of row `i` and position `j`, as a real number. -/
def score (X : Fin 1024 → Fin 1024 → ℝ) (W : Fin 1024 → Fin 16384 → ℝ) (K : Fin 1024 → Fin 128 → Fin 128 → ℝ) (S : ℝ)
    (h : Fin 128) (i j : Fin 1024) : ℝ :=
  (∑ d : Fin 128, (∑ e : Fin 1024, X i e * W e ⟨h.val * 128 + d.val, by omega⟩) * K j h d) * S

/-- The source of the gathered row that the output's row `i` is computed from is row `i`. -/
theorem srcRow_out (i : Fin 1024) : srcRow ⟨256 * (i.val / 64 % 4) + 64 * (i.val / 256) + i.val % 64, by omega⟩ = i := by
  apply Fin.ext
  have h1 : (256 * (i.val / 64 % 4) + 64 * (i.val / 256) + i.val % 64) / 256 = i.val / 64 % 4 := by omega
  have h2 : (256 * (i.val / 64 % 4) + 64 * (i.val / 256) + i.val % 64) / 64 % 4 = i.val / 256 := by omega
  have h3 : (256 * (i.val / 64 % 4) + 64 * (i.val / 256) + i.val % 64) % 64 = i.val % 64 := by omega
  simp only [srcRow, h1, h2, h3]
  omega

/-- The kernel's score is that real number. -/
theorem score_ker (I : In Ideal) (X : Fin 1024 → Fin 1024 → ℝ) (W : Fin 1024 → Fin 16384 → ℝ) (K : Fin 1024 → Fin 128 → Fin 128 → ℝ) (S : ℝ)
    (c : Fin 16) (hX : ∀ i e, I.x c (ix3 0 i e) = (X i e : EReal)) (hW : ∀ e n, I.wq c (ix2 e n) = (W e n : EReal))
    (hK : ∀ j (h : Fin 8) e, I.k c (ix4 0 j h e) = (K j ⟨8 * c.val + h.val, by omega⟩ e : EReal))
    (hS : Ideal.ofBits .f32 0x3DB504F3#32 = (S : EReal)) (p j : Fin 1024) (h : Fin 8) :
    (∑ e : Fin 128, qV I c (ix2 p ⟨128 * h.val + e.val, by omega⟩) * I.k c (ix4 0 j h e) : EReal)
      = (score X W K S ⟨8 * c.val + h.val, by omega⟩ (srcRow p) j : EReal) := by
  simp only [qV_apply, hX, hW, hK, hS, ← EReal.coe_mul, ← Cert.Soft.coe_sum]
  refine congrArg _ ?_
  unfold score
  rw [Finset.sum_mul]
  refine Finset.sum_congr rfl fun d _ => ?_
  rw [mul_right_comm]
  refine congrArg (fun a : ℝ => a * K j ⟨8 * c.val + h.val, by omega⟩ d) ?_
  rw [Finset.sum_mul]
  refine Finset.sum_congr rfl fun e _ => ?_
  rw [mul_right_comm]
  refine congrArg (fun a => X (srcRow p) e * W e a * S) (Fin.ext ?_)
  show 1024 * c.val + (128 * h.val + d.val) = (8 * c.val + h.val) * 128 + d.val
  omega

/-- The results agree. -/
theorem value_eq (I : In Ideal) (x : FVec Ideal ReferenceIdeal.S1x1024x1024 .f32) (wq : FVec Ideal ReferenceIdeal.S1024x16384 .f32)
    (k v : FVec Ideal ReferenceIdeal.S1x1024x128x128 .f32) (wo : FVec Ideal ReferenceIdeal.S16384x1024 .f32)
    (hx : ∀ c, I.x c = x) (hwq : ∀ c, I.wq c = wq) (hwo : ∀ c, I.wo c = wo)
    (hk : ∀ (c : Fin 16) j (h : Fin 8) e, I.k c (ix4 0 j h e) = k (ix4 0 j ⟨8 * c.val + h.val, by omega⟩ e))
    (hv : ∀ (c : Fin 16) j (h : Fin 8) e, I.v c (ix4 0 j h e) = v (ix4 0 j ⟨8 * c.val + h.val, by omega⟩ e))
    (fx : ∀ i e, ∃ r : ℝ, x (ix3 0 i e) = (r : EReal)) (fw : ∀ e n, ∃ r : ℝ, wq (ix2 e n) = (r : EReal))
    (fk : ∀ j h e, ∃ r : ℝ, k (ix4 0 j h e) = (r : EReal)) : outV I = Cert.RefSpec.refV x wq k v wo := by
  choose X hX using fx
  choose W hW using fw
  choose K hK using fk
  obtain ⟨S, hS⟩ := Cert.RefSpec.ofBits_scale
  have hr : ∀ h i j, (∑ d : Fin 128, Cert.RefSpec.qR x wq (ix4 0 i h d) * k (ix4 0 j h d)) * Ideal.ofBits .f32 0x3DB504F3#32
      = (score X W K S h i j : EReal) := fun h i j => by
    simp only [Cert.RefSpec.qR_apply, hX, hW, hK, hS, ← EReal.coe_mul, ← Cert.Soft.coe_sum]
    rfl
  funext a
  obtain ⟨i, n, rfl⟩ : ∃ (i n : Fin 1024), a = ix3 0 i n := ⟨a 1, a 2, by
    funext q
    fin_cases q
    · exact Subsingleton.elim (α := Fin 1) _ _
    · rfl
    · rfl⟩
  rw [outV_apply]
  refine Eq.trans ?_ (Cert.RefSpec.refV_apply x wq k v wo _ hr i n).symm
  rw [sum_split]
  refine Finset.sum_congr rfl fun s _ => Finset.sum_congr rfl fun e _ => ?_
  rw [hwo]
  refine congrArg (· * _) ?_
  rw [ctxV_apply]
  have hs : ∀ p j, (∑ d : Fin 128, qV I s (ix2 p ⟨128 * (e.val / 128) + d.val, by omega⟩) * I.k s (ix4 0 j ⟨e.val / 128, by omega⟩ d) : EReal)
      = (score X W K S ⟨8 * s.val + e.val / 128, by omega⟩ (srcRow p) j : EReal) := fun p j =>
    score_ker I X W K S s (fun i e => by rw [hx, hX]) (fun e n => by rw [hwq, hW]) (fun j h e => by rw [hk, hK]) hS p j ⟨e.val / 128, by omega⟩
  simp only [hs, hv, srcRow_out]
  have h1 : (1024 * s.val + e.val) / 128 = 8 * s.val + e.val / 128 := by omega
  have h2 : (1024 * s.val + e.val) % 128 = e.val % 128 := by omega
  have h3 : (256 * (i.val / 64 % 4) + 64 * (i.val / 256) + i.val % 64) / 256 = i.val / 64 % 4 := by omega
  simp only [h1, h2, h3]
  exact (Cert.Soft.soft_eq ⟨i.val / 64 % 4, by omega⟩ (score X W K S ⟨8 * s.val + e.val / 128, by omega⟩ i)
    (fun j => v (ix4 0 j ⟨8 * s.val + e.val / 128, by omega⟩ ⟨e.val % 128, by omega⟩))).symm

end Cert.Attn

end
-- ==== Proof.Out.lean ====
/-
  The kernel's run read at its result array.
-/
module

public import proofs.«01_k».proof.Proof.Launch
public import proofs.«01_k».proof.Proof.Value
@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

/-- The block of the result's window is the whole array. -/
theorem emb_out (i : S1x1024x1024.Idx) : ((cfg0.win (3 : Fin 4)).blk (0 : Fin 1)).view.emb i = i := by
  funext q
  apply Fin.ext
  show _ + 1 * (i q).val = (i q).val
  rw [one_mul]
  exact (congrArg (· + _) (Nat.zero_mul _)).trans (Nat.zero_add _)

/-- The block of argument 0 is the whole array. -/
theorem inp_x (c : Dev nD) : (inp m).x c = m ((c : Thread nD τ).loc main_arg0) := by
  funext i
  show m ((c : Thread nD τ).loc main_arg0) _ = _
  refine congrArg _ ?_
  funext q
  apply Fin.ext
  show _ + 1 * (i q).val = (i q).val
  rw [one_mul]
  exact (congrArg (· + _) (Nat.zero_mul _)).trans (Nat.zero_add _)

/-- The block of argument 2 is the whole array. -/
theorem inp_k (c : Dev nD) : (inp m).k c = m ((c : Thread nD τ).loc main_arg2) := by
  funext i
  show m ((c : Thread nD τ).loc main_arg2) _ = _
  refine congrArg _ ?_
  funext q
  apply Fin.ext
  show _ + 1 * (i q).val = (i q).val
  rw [one_mul]
  exact (congrArg (· + _) (Nat.zero_mul _)).trans (Nat.zero_add _)

/-- The block of argument 3 is the whole array. -/
theorem inp_v (c : Dev nD) : (inp m).v c = m ((c : Thread nD τ).loc main_arg3) := by
  funext i
  show m ((c : Thread nD τ).loc main_arg3) _ = _
  refine congrArg _ ?_
  funext q
  apply Fin.ext
  show _ + 1 * (i q).val = (i q).val
  rw [one_mul]
  exact (congrArg (· + _) (Nat.zero_mul _)).trans (Nat.zero_add _)

/-- The result's array ends holding the result. -/
theorem finalA_out (c : Dev nD) : finalA m ρ c (3 : Fin 4) = outV (inp m) := by
  refine ((dats m ρ 0 c).arrAt_succ (3 : Fin 4) (0 : Fin 1)).trans ?_
  rw [if_pos (by rfl)]
  funext i
  conv_lhs => rw [← emb_out i]
  refine (View.write_emb_of_mem _ _ (Finset.mem_univ _)).trans ?_
  rfl

/-- The run: the result, and the arguments unchanged. -/
theorem run_value : θ_run defs (onTc (τ := τ) (main (F := F))) ⟨m, fun _ => 0, ρ⟩ (fun r => ∀ c : Dev nD,
      r.2.mem ((c.tc : Thread nD τ).loc main_v1) = outV (inp m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h.1 c).1 (3 : Fin 4)).trans (finalA_out m ρ c), ((h.1 c).1 0).trans (finalA_in m ρ c 0 rfl), (h.1 c).2.1,
      ((h.1 c).1 1).trans (finalA_in m ρ c 1 rfl), ((h.1 c).1 2).trans (finalA_in m ρ c 2 rfl), (h.1 c).2.2⟩) (run_main m ρ)

end Cert.Attn

end
-- ==== Proof.Finite.lean ====
/-
  The precondition read at an element: the input, the query weights and the keys hold real numbers.
-/
module

public import proofs.«01_k».proof.Defs
public import Idealize.ShloMosaic.Lib.ReduceAll
public import Idealize.ShloMosaic.Lib.Pointwise
public import Idealize.ShloMosaic.Lib.ValueIdx

@[expose] public section

noncomputable section

namespace Cert.Finite

open Idealize.ShloMosaic

/-- The side conditions of the precondition, over one device's blocks. -/
theorem factsK : Cert.Pre_finite_KernelIdeal.Facts where
  bcast_S_S1x1024x1024 := by decide
  reducesTo_S1x1024x1024_S_d0_1_2 := by decide
  h_S_ := by decide
  bcast_S_S1024x16384 := by decide
  reducesTo_S1024x16384_S_d0_1 := by decide
  bcast_S_S1x1024x8x128 := by decide
  reducesTo_S1x1024x8x128_S_d0_1_2_3 := by decide

/-- The same, over the whole arrays. -/
theorem factsR : Cert.Pre_finite_ReferenceIdeal.Facts where
  bcast_S_S1x1024x1024 := by decide
  reducesTo_S1x1024x1024_S_d0_1_2 := by decide
  h_S_ := by decide
  bcast_S_S1024x16384 := by decide
  reducesTo_S1024x16384_S_d0_1 := by decide
  bcast_S_S1x1024x128x128 := by decide
  reducesTo_S1x1024x128x128_S_d0_1_2_3 := by decide

/-- An extended real whose absolute value is below plus infinity is a real number. -/
theorem real_of_lt (x : EReal) (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  induction x using EReal.rec with
  | bot => simp [Ideal.cmp] at h
  | coe r => exact ⟨r, rfl⟩
  | top => simp [Ideal.cmp] at h

/-- All of an array's elements are real numbers, when the precondition's test of it holds. -/
theorem real_of_all {s : Shape} {axes : List (Fin s.rank)} (x : FVec Ideal s .f32) (b : (⟨0, ![]⟩ : Shape).BroadcastsInDim s ![])
    (h : s.ReducesTo axes ⟨0, ![]⟩) (hu : 0 < (⟨0, ![]⟩ : Shape).numel) (j : (⟨0, ![]⟩ : Shape).Idx)
    (e : Host.reduce IntOp.andi (cmpf .olt (Host.absf x) (broadcastInDim s ![] b (constant ⟨0, ![]⟩ .f32 0x7F800000#32))) (constantI ⟨0, ![]⟩ 1 1#1) h hu j = 1#1)
    (i : s.Idx) : ∃ r : ℝ, x i = (r : EReal) :=
  haveI : Subsingleton (⟨0, ![]⟩ : Shape).Idx := ⟨fun _ _ => funext fun q => q.elim0⟩
  real_of_lt _ (Host.reduce_andi_all _ _ h hu j e i)

section
variable [Cert.Pre_finite_KernelIdeal.Facts]
open Cert.Pre_finite_KernelIdeal

/-- The precondition's tests, of arrays. -/
theorem fn_real (x : FVec Ideal S1x1024x1024 .f32) (w : FVec Ideal S1024x16384 .f32) (k v : FVec Ideal S1x1024x8x128 .f32) (o : FVec Ideal S16384x1024 .f32)
    (h : (fn (F := Ideal) x w k v o).1 = (fun _ => 1#1) ∧ (fn (F := Ideal) x w k v o).2.1 = (fun _ => 1#1) ∧ (fn (F := Ideal) x w k v o).2.2 = (fun _ => 1#1)) :
    (∀ i, ∃ r : ℝ, x i = (r : EReal)) ∧ (∀ i, ∃ r : ℝ, w i = (r : EReal)) ∧ (∀ i, ∃ r : ℝ, k i = (r : EReal)) := by
  rw [fn] at h
  obtain ⟨h1, h2, h3⟩ := h
  dsimp only at h1 h2 h3
  exact ⟨real_of_all x Facts.bcast_S_S1x1024x1024 Facts.reducesTo_S1x1024x1024_S_d0_1_2 Facts.h_S_ ix0 (congrFun h1 ix0),
    real_of_all w Facts.bcast_S_S1024x16384 Facts.reducesTo_S1024x16384_S_d0_1 Facts.h_S_ ix0 (congrFun h2 ix0),
    real_of_all k Facts.bcast_S_S1x1024x8x128 Facts.reducesTo_S1x1024x8x128_S_d0_1_2_3 Facts.h_S_ ix0 (congrFun h3 ix0)⟩

end

/-- What the precondition says of one device's blocks. -/
theorem real_of_pre (m : (ℓ : Loc Cert.KernelIdeal.nD Cert.KernelIdeal.τ Cert.KernelIdeal.sig) → Buf (Elt Ideal) ℓ)
    (h : Cert.Pre_KernelIdeal_finite_KernelIdeal (hPre_finite_KernelIdeal := factsK) m) (c : Dev Cert.KernelIdeal.nD) :
    (∀ i : Cert.KernelIdeal.S1x1024x1024.Idx, ∃ r : ℝ, m ((c.tc : Thread Cert.KernelIdeal.nD Cert.KernelIdeal.τ).loc Cert.KernelIdeal.main_arg0) i = (r : EReal))
    ∧ (∀ i : Cert.KernelIdeal.S1024x16384.Idx, ∃ r : ℝ, m ((c.tc : Thread Cert.KernelIdeal.nD Cert.KernelIdeal.τ).loc Cert.KernelIdeal.main_arg1) i = (r : EReal))
    ∧ (∀ i : Cert.KernelIdeal.S1x1024x8x128.Idx, ∃ r : ℝ, m ((c.tc : Thread Cert.KernelIdeal.nD Cert.KernelIdeal.τ).loc Cert.KernelIdeal.main_arg2) i = (r : EReal)) :=
  letI := factsK
  fn_real _ _ _ _ _ (h c)

end Cert.Finite

end
-- ==== Proof.lean ====
/-
  The proof of the certificate's claim: the frames of the kernel at its bits and over extended reals and of the
  reference, and the equality of the two results over extended reals for finite input, query weights and keys.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import proofs.«01_k».proof.Proof.SameText
public import proofs.«01_k».proof.Proof.Out
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The kernel's run at its bits: the one run, proved for any floating point, read at the arguments. -/
theorem frame_kernel : Cert.quiescent_Kernel := fun m ρ _ =>
  (congrArg (fun d => (θ_run d (onTc (τ := Cert.Kernel.τ) (Cert.Kernel.main (F := Bits))) ⟨m, fun _ => 0, ρ⟩) (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)) Cert.SameText.defs_eq).mpr (Cert.Attn.run_frame (F := Bits) m ρ)

/-- The same run over the extended reals. -/
theorem frame_kernelIdeal : Cert.quiescent_KernelIdeal := fun m ρ _ => Cert.Attn.run_frame (F := Ideal) m ρ

/-- The reference's run; it declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- A block of heads, at an index: device `c`'s head `h` is head `8 c + h` of the whole. -/
theorem block_heads {α : Type} (v : (⟨4, ![1, 1024, 128, 128]⟩ : Shape).Idx → α) (c : Fin 16) (j : Fin 1024) (h : Fin 8) (e : Fin 128) :
    Layout.block ⟨4, ![1, 1024, 8, 128]⟩ ⟨4, ![1, 1024, 128, 128]⟩ 2 16 c v (by decide) (ix4 0 j h e) = v (ix4 0 j ⟨8 * c.val + h.val, by omega⟩ e) := by
  refine congrArg v ?_
  funext q
  fin_cases q
  · rfl
  · rfl
  · apply Fin.ext
    show c.val * 8 + h.val = 8 * c.val + h.val
    omega
  · rfl

/-- The kernel and the reference end with the same result. -/
theorem algebraic_kernel : Cert.algebraic_KernelIdeal_ReferenceIdeal_pre_finite_KernelIdeal
    (hKernelIdeal := Cert.KernelIdeal.Gen.facts) (hReferenceIdeal := Cert.ReferenceIdeal.Gen.facts) (hPre_finite_KernelIdeal := Cert.Finite.factsK) := by
  intro m g m' g' hpre hargs
  have hv := Cert.Attn.value_eq (Cert.Attn.inp m) _ _ _ _ _
    (fun c => (Cert.Attn.inp_x m c).trans (hargs c).1) (fun c => (hargs c).2.1) (fun c => (hargs c).2.2.2.2)
    (fun c j h e => (congrFun ((Cert.Attn.inp_k m c).trans (hargs c).2.2.1) (ix4 0 j h e)).trans (block_heads _ c j h e))
    (fun c j h e => (congrFun ((Cert.Attn.inp_v m c).trans (hargs c).2.2.2.1) (ix4 0 j h e)).trans (block_heads _ c j h e))
    (fun i e => by
      obtain ⟨r, hr⟩ := (Cert.Finite.real_of_pre m hpre 0).1 (ix3 0 i e)
      exact ⟨r, (congrFun (hargs 0).1 (ix3 0 i e)).symm.trans hr⟩)
    (fun e n => by
      obtain ⟨r, hr⟩ := (Cert.Finite.real_of_pre m hpre 0).2.1 (ix2 e n)
      exact ⟨r, (congrFun (hargs 0).2.1 (ix2 e n)).symm.trans hr⟩)
    (fun j h e => by
      have hc : h.val / 8 < 16 := by omega
      have hh : h.val % 8 < 8 := by omega
      obtain ⟨r, hr⟩ := (Cert.Finite.real_of_pre m hpre ⟨h.val / 8, hc⟩).2.2 (ix4 0 j ⟨h.val % 8, hh⟩ e)
      refine ⟨r, Eq.trans ?_ hr⟩
      refine Eq.trans ?_ ((congrFun (hargs ⟨h.val / 8, hc⟩).2.2.1 (ix4 0 j ⟨h.val % 8, hh⟩ e)).trans (block_heads _ _ _ _ _)).symm
      refine congrArg _ (congrArg (fun a => ix4 0 j a e) (Fin.ext ?_))
      show h.val = 8 * (h.val / 8) + h.val % 8
      omega)
  refine ⟨Cert.ReferenceIdeal.Value.res_out0 m' 0, ?_, ?_⟩
  · refine (θ_run Cert.KernelIdeal.defs _ _).mono (fun r h c => ⟨(h c).1.trans (hv.trans (Cert.RefSpec.res_eq m' 0).symm), (h c).2⟩) (Cert.Attn.run_value (F := Ideal) m g)
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts, Cert.Finite.factsK, Cert.Finite.factsR,
  frame_kernel, frame_kernelIdeal, fun m ρ _ => frame_kernelIdeal m ρ trivial, frame_referenceIdeal, fun m ρ _ => frame_referenceIdeal m ρ trivial,
  trivial, algebraic_kernel⟩

end Cert.Proof

end
